-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_smooth_nonzero [hPre_smooth_nonzero : Cert.Pre_smooth_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_smooth_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_smooth_nonzero [hPre_smooth_nonzero : Cert.Pre_smooth_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_smooth_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_smooth_nonzero [hKernelIdeal : Cert.KernelIdeal.Facts] [hPre_smooth_nonzero : Cert.Pre_smooth_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_smooth_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_smooth_nonzero [hReferenceIdeal : Cert.ReferenceIdeal.Facts] [hPre_smooth_nonzero : Cert.Pre_smooth_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_smooth_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_smooth_nonzero [hKernelIdeal : Cert.KernelIdeal.Facts] [hReferenceIdeal : Cert.ReferenceIdeal.Facts] [hPre_smooth_nonzero : Cert.Pre_smooth_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_smooth_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)) (v6 : (c : Dev Cert.KernelIdeal.nD) → Buf (Elt Ideal) ((c.tc : Thread Cert.KernelIdeal.nD Cert.KernelIdeal.τ).loc Cert.KernelIdeal.main_v12_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_v12_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_v20) = v4 c
          ∧ r.2.mem ((c.tc : Thread Cert.ReferenceIdeal.nD Cert.ReferenceIdeal.τ).loc Cert.ReferenceIdeal.main_v21) = v5 c
          ∧ r.2.mem ((c.tc : Thread Cert.ReferenceIdeal.nD Cert.ReferenceIdeal.τ).loc Cert.ReferenceIdeal.main_v22) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_smooth_nonzero : Cert.Pre_smooth_nonzero.Facts),
    quiescent_Kernel (hKernel := hKernel)
    ∧ quiescent_KernelIdeal (hKernelIdeal := hKernelIdeal)
    ∧ quiescent_KernelIdeal_pre_smooth_nonzero (hKernelIdeal := hKernelIdeal) (hPre_smooth_nonzero := hPre_smooth_nonzero)
    ∧ quiescent_ReferenceIdeal (hReferenceIdeal := hReferenceIdeal)
    ∧ quiescent_ReferenceIdeal_pre_smooth_nonzero (hReferenceIdeal := hReferenceIdeal) (hPre_smooth_nonzero := hPre_smooth_nonzero)
    ∧ preserves_Kernel_KernelIdeal
    ∧ algebraic_KernelIdeal_ReferenceIdeal_pre_smooth_nonzero (hKernelIdeal := hKernelIdeal) (hReferenceIdeal := hReferenceIdeal) (hPre_smooth_nonzero := hPre_smooth_nonzero)
-- ==== Pre_smooth_nonzero.lean ====
abbrev S32x512x1024 : Shape := ⟨3, ![32, 512, 1024]⟩
abbrev S32x512 : Shape := ⟨2, ![32, 512]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : IVec S32x512x1024 8) (main_arg1 : FVec F S32x512 .f32) (main_arg2 : FVec F S32x512x1024 .bf16) (main_arg3 : FVec F S1024 .f32) (main_arg4 : IVec S1024x1024 8) (main_arg5 : FVec F S1024 .f32) (main_arg6 : FVec F S1024 .f32) (main_arg7 : FVec F S1024 .f32) (main_arg8 : FVec F S1024 .f32) (main_arg9 : IVec S1024x4096 8) (main_arg10 : FVec F S4096 .f32) (main_arg11 : FVec F S4096 .f32) (main_arg12 : IVec S4096x1024 8) (main_arg13 : FVec F S1024 .f32) (main_arg14 : FVec F S1024 .f32) (main_arg15 : FVec F S1024 .f32) (main_arg16 : FVec F S1024 .f32) (main_arg17 : FVec F S1024 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .une main_arg3 main_v0
  let main_c : IVec S_ 1 := constantI S_ 1 1#1
  let main_v2 : IVec S_ 1 := (fun x v => Host.reduce IntOp.andi x v reducesTo_S1024_S_d0 h_S_) main_v1 main_c
  main_v2
-- ==== Kernel.lean ====
abbrev S32x512x1024 : Shape := ⟨3, ![32, 512, 1024]⟩
abbrev S32x512 : Shape := ⟨2, ![32, 512]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S1x1024 : Shape := ⟨2, ![1, 1024]⟩
abbrev S1x4096 : Shape := ⟨2, ![1, 4096]⟩
abbrev S1x32 : Shape := ⟨2, ![1, 32]⟩
abbrev S32x512x4096 : Shape := ⟨3, ![32, 512, 4096]⟩
abbrev S1x512x1024 : Shape := ⟨3, ![1, 512, 1024]⟩
abbrev S1x512x4096 : Shape := ⟨3, ![1, 512, 4096]⟩
abbrev S8x4096 : Shape := ⟨2, ![8, 4096]⟩
abbrev S512x1024 : Shape := ⟨2, ![512, 1024]⟩
abbrev S512x4096 : Shape := ⟨2, ![512, 4096]⟩
abbrev S256x1024 : Shape := ⟨2, ![256, 1024]⟩
abbrev S256x4096 : Shape := ⟨2, ![256, 4096]⟩
abbrev S1x512 : Shape := ⟨2, ![1, 512]⟩
abbrev S128x512 : Shape := ⟨2, ![128, 512]⟩
abbrev S512x128 : Shape := ⟨2, ![512, 128]⟩
abbrev S512x1 : Shape := ⟨2, ![512, 1]⟩
abbrev S1x256x1024 : Shape := ⟨3, ![1, 256, 1024]⟩
abbrev S1024x256 : Shape := ⟨2, ![1024, 256]⟩
abbrev S256x256 : Shape := ⟨2, ![256, 256]⟩
abbrev S256x1 : Shape := ⟨2, ![256, 1]⟩
abbrev S1x256 : Shape := ⟨2, ![1, 256]⟩
abbrev S1x256x256 : Shape := ⟨3, ![1, 256, 256]⟩
abbrev S256 : Shape := ⟨1, ![256]⟩
abbrev S256x128 : Shape := ⟨2, ![256, 128]⟩
abbrev S128x256 : Shape := ⟨2, ![128, 256]⟩
abbrev S4096x256 : Shape := ⟨2, ![4096, 256]⟩
abbrev S1 : Shape := ⟨1, ![1]⟩
abbrev S1x1 : Shape := ⟨2, ![1, 1]⟩

abbrev nBuf : Space → Nat
  | .hbm => 37
  | .vmem => 40
  | .smem => 0
  | _ => 0

abbrev bufTy : (tb : Table) → Fin (tcTables nBuf tb) → BufTy
  | .hbm, ⟨0, _⟩ => ⟨S32x512x1024, .i8⟩
  | .hbm, ⟨1, _⟩ => ⟨S32x512, .f32⟩
  | .hbm, ⟨2, _⟩ => ⟨S32x512x1024, .bf16⟩
  | .hbm, ⟨3, _⟩ => ⟨S1024, .f32⟩
  | .hbm, ⟨4, _⟩ => ⟨S1024x1024, .i8⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .i8⟩
  | .hbm, ⟨10, _⟩ => ⟨S4096, .f32⟩
  | .hbm, ⟨11, _⟩ => ⟨S4096, .f32⟩
  | .hbm, ⟨12, _⟩ => ⟨S4096x1024, .i8⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x4096, .f32⟩
  | .hbm, ⟨24, _⟩ => ⟨S1x4096, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S32x512x1024, .bf16⟩
  | .hbm, ⟨31, _⟩ => ⟨S32x512x1024, .bf16⟩
  | .hbm, ⟨32, _⟩ => ⟨S1x32, .f32⟩
  | .hbm, ⟨33, _⟩ => ⟨S32x512x1024, .i8⟩
  | .hbm, ⟨34, _⟩ => ⟨S32x512, .f32⟩
  | .hbm, ⟨35, _⟩ => ⟨S32x512x4096, .i8⟩
  | .hbm, ⟨36, _⟩ => ⟨S32x512, .f32⟩
  | .local _ .vmem, ⟨0, _⟩ => ⟨S1x512x1024, .i8⟩
  | .local _ .vmem, ⟨1, _⟩ => ⟨S1x512x1024, .i8⟩
  | .local _ .vmem, ⟨2, _⟩ => ⟨S32x512, .f32⟩
  | .local _ .vmem, ⟨3, _⟩ => ⟨S1x512x1024, .bf16⟩
  | .local _ .vmem, ⟨4, _⟩ => ⟨S1x512x1024, .bf16⟩
  | .local _ .vmem, ⟨5, _⟩ => ⟨S1024x1024, .i8⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x4096, .i8⟩
  | .local _ .vmem, ⟨12, _⟩ => ⟨S1x4096, .f32⟩
  | .local _ .vmem, ⟨13, _⟩ => ⟨S1x4096, .f32⟩
  | .local _ .vmem, ⟨14, _⟩ => ⟨S4096x1024, .i8⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x32, .f32⟩
  | .local _ .vmem, ⟨25, _⟩ => ⟨S1x512x1024, .i8⟩
  | .local _ .vmem, ⟨26, _⟩ => ⟨S1x512x1024, .i8⟩
  | .local _ .vmem, ⟨27, _⟩ => ⟨S32x512, .f32⟩
  | .local _ .vmem, ⟨28, _⟩ => ⟨S1x512x4096, .i8⟩
  | .local _ .vmem, ⟨29, _⟩ => ⟨S1x512x4096, .i8⟩
  | .local _ .vmem, ⟨30, _⟩ => ⟨S32x512, .f32⟩
  | .local _ .vmem, ⟨31, _⟩ => ⟨S1024x1024, .bf16⟩
  | .local _ .vmem, ⟨32, _⟩ => ⟨S1024x4096, .bf16⟩
  | .local _ .vmem, ⟨33, _⟩ => ⟨S4096x1024, .bf16⟩
  | .local _ .vmem, ⟨34, _⟩ => ⟨S8x4096, .f32⟩
  | .local _ .vmem, ⟨35, _⟩ => ⟨S512x1024, .f32⟩
  | .local _ .vmem, ⟨36, _⟩ => ⟨S512x1024, .f32⟩
  | .local _ .vmem, ⟨37, _⟩ => ⟨S512x1024, .bf16⟩
  | .local _ .vmem, ⟨38, _⟩ => ⟨S512x4096, .f32⟩
  | .local _ .vmem, ⟨39, _⟩ => ⟨S512x4096, .bf16⟩
  | _, _ => ⟨S32x512x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12_0 : Ref sig .tc := ⟨.hbm, 30, rfl⟩
abbrev main_v12_1 : Ref sig .tc := ⟨.hbm, 31, rfl⟩
abbrev main_v12_2 : Ref sig .tc := ⟨.hbm, 32, rfl⟩
abbrev main_v12_3 : Ref sig .tc := ⟨.hbm, 33, rfl⟩
abbrev main_v12_4 : Ref sig .tc := ⟨.hbm, 34, rfl⟩
abbrev main_v12_5 : Ref sig .tc := ⟨.hbm, 35, rfl⟩
abbrev main_v12_6 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg21_1 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_scratch8 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem21_0 : DmaSem sig := 25
abbrev cc0_sem21_1 : DmaSem sig := 26
abbrev cc0_sem22_0 : DmaSem sig := 27
abbrev cc0_sem23_0 : DmaSem sig := 28
abbrev cc0_sem23_1 : DmaSem sig := 29
abbrev cc0_sem24_0 : DmaSem sig := 30

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v246 : Index := Scalar.indexCast arg0
  let c0_132 : Index := 0#32
  ![v246.toNat, 0]
def k0_off3 (i : grid0.Coords) : Fin 2 → Nat :=
  let arg0 : BitVec 32 := BitVec.ofNat 32 (i 0).val
  let v665 : Index := Scalar.indexCast arg0
  let c256_357 : Index := 256#32
  ![v665.toNat, 256]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4096x1024 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S1x32 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x512x1024 .i8 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S32x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S1x512x4096 .i8 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S32x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S32x512x1024 : Shape := ⟨3, ![32, 512, 1024]⟩
abbrev S32x512 : Shape := ⟨2, ![32, 512]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S16384x1024 : Shape := ⟨2, ![16384, 1024]⟩
abbrev S16384x1 : Shape := ⟨2, ![16384, 1]⟩
abbrev S1x1024 : Shape := ⟨2, ![1, 1024]⟩
abbrev S1x4096 : Shape := ⟨2, ![1, 4096]⟩
abbrev S32x1 : Shape := ⟨2, ![32, 1]⟩
abbrev S16384x4096 : Shape := ⟨2, ![16384, 4096]⟩
abbrev S16384 : Shape := ⟨1, ![16384]⟩
abbrev S32x1x1024 : Shape := ⟨3, ![32, 1, 1024]⟩
abbrev S32x1024 : Shape := ⟨2, ![32, 1024]⟩
abbrev S32 : Shape := ⟨1, ![32]⟩
abbrev S1x32 : Shape := ⟨2, ![1, 32]⟩
abbrev S32x512x4096 : Shape := ⟨3, ![32, 512, 4096]⟩

abbrev nBuf : Space → Nat
  | .hbm => 47
  | .vmem => 25
  | .smem => 0
  | _ => 0

abbrev bufTy : (tb : Table) → Fin (tcTables nBuf tb) → BufTy
  | .hbm, ⟨0, _⟩ => ⟨S32x512x1024, .i8⟩
  | .hbm, ⟨1, _⟩ => ⟨S32x512, .f32⟩
  | .hbm, ⟨2, _⟩ => ⟨S32x512x1024, .bf16⟩
  | .hbm, ⟨3, _⟩ => ⟨S1024, .f32⟩
  | .hbm, ⟨4, _⟩ => ⟨S1024x1024, .i8⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x4096, .i8⟩
  | .hbm, ⟨10, _⟩ => ⟨S4096, .f32⟩
  | .hbm, ⟨11, _⟩ => ⟨S4096, .f32⟩
  | .hbm, ⟨12, _⟩ => ⟨S4096x1024, .i8⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S16384x1024, .i8⟩
  | .hbm, ⟨19, _⟩ => ⟨S16384x1, .f32⟩
  | .hbm, ⟨20, _⟩ => ⟨S16384x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x4096, .f32⟩
  | .hbm, ⟨27, _⟩ => ⟨S1x4096, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S16384x1024, .bf16⟩
  | .hbm, ⟨34, _⟩ => ⟨S16384x1024, .bf16⟩
  | .hbm, ⟨35, _⟩ => ⟨S32x1, .f32⟩
  | .hbm, ⟨36, _⟩ => ⟨S16384x1024, .i8⟩
  | .hbm, ⟨37, _⟩ => ⟨S16384x1, .f32⟩
  | .hbm, ⟨38, _⟩ => ⟨S16384x4096, .i8⟩
  | .hbm, ⟨39, _⟩ => ⟨S16384x1, .f32⟩
  | .hbm, ⟨40, _⟩ => ⟨S32x512x1024, .bf16⟩
  | .hbm, ⟨41, _⟩ => ⟨S32x512x1024, .bf16⟩
  | .hbm, ⟨42, _⟩ => ⟨S1x32, .f32⟩
  | .hbm, ⟨43, _⟩ => ⟨S32x512x1024, .i8⟩
  | .hbm, ⟨44, _⟩ => ⟨S32x512, .f32⟩
  | .hbm, ⟨45, _⟩ => ⟨S32x512x4096, .i8⟩
  | .hbm, ⟨46, _⟩ => ⟨S32x512, .f32⟩
  | .local _ .vmem, ⟨0, _⟩ => ⟨S16384x1024, .i8⟩
  | .local _ .vmem, ⟨1, _⟩ => ⟨S16384x1, .f32⟩
  | .local _ .vmem, ⟨2, _⟩ => ⟨S16384x1024, .bf16⟩
  | .local _ .vmem, ⟨3, _⟩ => ⟨S1x1024, .f32⟩
  | .local _ .vmem, ⟨4, _⟩ => ⟨S1024x1024, .i8⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x4096, .i8⟩
  | .local _ .vmem, ⟨10, _⟩ => ⟨S1x4096, .f32⟩
  | .local _ .vmem, ⟨11, _⟩ => ⟨S1x4096, .f32⟩
  | .local _ .vmem, ⟨12, _⟩ => ⟨S4096x1024, .i8⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S16384x1024, .bf16⟩
  | .local _ .vmem, ⟨19, _⟩ => ⟨S16384x1024, .bf16⟩
  | .local _ .vmem, ⟨20, _⟩ => ⟨S32x1, .f32⟩
  | .local _ .vmem, ⟨21, _⟩ => ⟨S16384x1024, .i8⟩
  | .local _ .vmem, ⟨22, _⟩ => ⟨S16384x1, .f32⟩
  | .local _ .vmem, ⟨23, _⟩ => ⟨S16384x4096, .i8⟩
  | .local _ .vmem, ⟨24, _⟩ => ⟨S16384x1, .f32⟩
  | _, _ => ⟨S32x512x1024, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15_0 : Ref sig .tc := ⟨.hbm, 33, rfl⟩
abbrev main_v15_1 : Ref sig .tc := ⟨.hbm, 34, rfl⟩
abbrev main_v15_2 : Ref sig .tc := ⟨.hbm, 35, rfl⟩
abbrev main_v15_3 : Ref sig .tc := ⟨.hbm, 36, rfl⟩
abbrev main_v15_4 : Ref sig .tc := ⟨.hbm, 37, rfl⟩
abbrev main_v15_5 : Ref sig .tc := ⟨.hbm, 38, rfl⟩
abbrev main_v15_6 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F] [Named F]

def κ : String → Option EReal := fun
  | "sqrt2" => some ((Real.sqrt 2 : ℝ) : EReal)
  | _ => none

abbrev grid0 : Pipeline.Grid := .none

abbrev stage0_0 : Fin 1 → Memref sig .tc .vmem S16384x1024 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x1024 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16384x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S16384x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S32x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S16384x1024 .i8 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S16384x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S16384x4096 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S16384x1 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== Proof.RunK.lean ====
/-
  The body of `Kernel`, run once at symbolic operands: what it leaves in the outputs' staging buffers and in the
  scratch buffers the next grid point reads, as values over what it found.
-/
module

public import proofs.«01_k».proof.Proof.Gen.Kernel.Launch
public import proofs.«01_k».proof.Proof.Gen.Kernel.Skeleton
public import Idealize.ShloMosaic.Lib.Pipeline.FrameBody
public import Idealize.ShloMosaic.Lib.Tactic

@[expose] public section

set_option maxRecDepth 16384

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the outputs' staging buffers and in the four scratch buffers the next point reads, with
    the proof that it runs to its return leaving exactly that. -/
noncomputable def kernelRun (c : Dev nD) (i : grid0.Coords) (M1 : Memref sig .tc .vmem S1x512x1024 .i8) (h1 : M1.IsWhole) (M2 : Memref sig .tc .vmem S32x512 .f32) (h2 : M2.IsWhole) (M3 : Memref sig .tc .vmem S1x512x1024 .bf16) (h3 : M3.IsWhole) (M4 : Memref sig .tc .vmem S1024x1024 .i8) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x1024 .f32) (h9 : M9.IsWhole) (M10 : Memref sig .tc .vmem S1024x4096 .i8) (h10 : M10.IsWhole) (M11 : Memref sig .tc .vmem S1x4096 .f32) (h11 : M11.IsWhole) (M12 : Memref sig .tc .vmem S1x4096 .f32) (h12 : M12.IsWhole) (M13 : Memref sig .tc .vmem S4096x1024 .i8) (h13 : M13.IsWhole) (M14 : Memref sig .tc .vmem S1x1024 .f32) (h14 : M14.IsWhole) (M15 : Memref sig .tc .vmem S1x1024 .f32) (h15 : M15.IsWhole) (M16 : Memref sig .tc .vmem S1x1024 .f32) (h16 : M16.IsWhole) (M17 : Memref sig .tc .vmem S1x1024 .f32) (h17 : M17.IsWhole) (M18 : Memref sig .tc .vmem S1x1024 .f32) (h18 : M18.IsWhole) (M19 : Memref sig .tc .vmem S1x512x1024 .bf16) (h19 : M19.IsWhole) (M20 : Memref sig .tc .vmem S1x512x1024 .bf16) (h20 : M20.IsWhole) (M21 : Memref sig .tc .vmem S1x32 .f32) (h21 : M21.IsWhole) (M22 : Memref sig .tc .vmem S1x512x1024 .i8) (h22 : M22.IsWhole) (M23 : Memref sig .tc .vmem S32x512 .f32) (h23 : M23.IsWhole) (M24 : Memref sig .tc .vmem S1x512x4096 .i8) (h24 : M24.IsWhole) (M25 : Memref sig .tc .vmem S32x512 .f32) (h25 : M25.IsWhole) (M26 : Memref sig .tc .vmem S1024x1024 .bf16) (h26 : M26.IsWhole) (M27 : Memref sig .tc .vmem S1024x4096 .bf16) (h27 : M27.IsWhole) (M28 : Memref sig .tc .vmem S4096x1024 .bf16) (h28 : M28.IsWhole) (M29 : Memref sig .tc .vmem S8x4096 .f32) (h29 : M29.IsWhole) (M30 : Memref sig .tc .vmem S512x1024 .f32) (h30 : M30.IsWhole) (M31 : Memref sig .tc .vmem S512x1024 .f32) (h31 : M31.IsWhole) (M32 : Memref sig .tc .vmem S512x1024 .bf16) (h32 : M32.IsWhole) (M33 : Memref sig .tc .vmem S512x4096 .f32) (h33 : M33.IsWhole) (M34 : Memref sig .tc .vmem S512x4096 .bf16) (h34 : M34.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f21 : Bf (F := F) c M21) (f23 : Bf (F := F) c M23) (f25 : Bf (F := F) c M25) (f26 : Bf (F := F) c M26) (f27 : Bf (F := F) c M27) (f28 : Bf (F := F) c M28) (f29 : Bf (F := F) c M29) :
    { W : Bf (F := F) c M19 × Bf (F := F) c M20 × Bf (F := F) c M21 × Bf (F := F) c M22 × Bf (F := F) c M23 × Bf (F := F) c M24 × Bf (F := F) c M25 × Bf (F := F) c M26 × Bf (F := F) c M27 × Bf (F := F) c M28 × Bf (F := F) c M29 //
      ∀ (f19 : Bf (F := F) c M19) (f20 : Bf (F := F) c M20) (f22 : Bf (F := F) c M22) (f24 : Bf (F := F) c M24) (f30 : Bf (F := F) c M30) (f31 : Bf (F := F) c M31) (f32 : Bf (F := F) c M32) (f33 : Bf (F := F) c M33) (f34 : Bf (F := F) c M34) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ pt c M30 f30 ∗ pt c M31 f31 ∗ pt c M32 f32 ∗ pt c M33 f33 ∗ pt c M34 f34
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 W.1 ∗ pt c M20 W.2.1 ∗ pt c M21 W.2.2.1 ∗ pt c M22 W.2.2.2.1 ∗ pt c M23 W.2.2.2.2.1 ∗ pt c M24 W.2.2.2.2.2.1 ∗ pt c M25 W.2.2.2.2.2.2.1 ∗ pt c M26 W.2.2.2.2.2.2.2.1 ∗ pt c M27 W.2.2.2.2.2.2.2.2.1 ∗ pt c M28 W.2.2.2.2.2.2.2.2.2.1 ∗ pt c M29 W.2.2.2.2.2.2.2.2.2.2 ∗ (∃ f, pt c M30 f) ∗ (∃ f, pt c M31 f) ∗ (∃ f, pt c M32 f) ∗ (∃ f, pt c M33 f) ∗ (∃ f, pt c M34 f)) -∗ Q ⟨⟩))
        ⊢ wp frame (wpE (defs₀ (F := F)) Variants.none c none) E
            (cc0_out_proj_ffn i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q } := by
  refine ⟨⟨?_, ?_, ?_, ?_, ?_, ?_, ?_, ?_, ?_, ?_, ?_⟩, fun f19 f20 f22 f24 f30 f31 f32 f33 f34 E Q => ?run⟩
  case run =>
    iintro ⟨H1, H2, H3, H4, H5, H6, H7, H8, H9, H10, H11, H12, H13, H14, H15, H16, H17, H18, H19, H20, H21, H22, H23, H24, H25, H26, H27, H28, H29, H30, H31, H32, H33, H34, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists _; iexact H30
    isplitl [H31]; · iexists _; iexact H31
    isplitl [H32]; · iexists _; iexact H32
    isplitl [H33]; · iexists _; iexact H33
    iexists _; iexact H34

end Cert.Proof.K

end
-- ==== Proof.OwnsK.lean ====
/-
  `Kernel`'s body run once, stated over what the staging buffers are owned at.
-/
module

public import proofs.«01_k».proof.Proof.RunK
public import Idealize.ShloMosaic.Lib.Pipeline.Frame

@[expose] public section

set_option maxRecDepth 16384

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Ownership of a whole memref's contents, in the form the run takes and returns. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [Memref.IsWhole.set_eq_univ h]

/-- What the run leaves, from what the staging buffers are owned at and what the kept scratch holds. -/
def runW (c : Dev nD) (i : grid0.Coords) (M1 : Memref sig .tc .vmem S1x512x1024 .i8) (h1 : M1.IsWhole) (M2 : Memref sig .tc .vmem S32x512 .f32) (h2 : M2.IsWhole) (M3 : Memref sig .tc .vmem S1x512x1024 .bf16) (h3 : M3.IsWhole) (M4 : Memref sig .tc .vmem S1024x1024 .i8) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x1024 .f32) (h9 : M9.IsWhole) (M10 : Memref sig .tc .vmem S1024x4096 .i8) (h10 : M10.IsWhole) (M11 : Memref sig .tc .vmem S1x4096 .f32) (h11 : M11.IsWhole) (M12 : Memref sig .tc .vmem S1x4096 .f32) (h12 : M12.IsWhole) (M13 : Memref sig .tc .vmem S4096x1024 .i8) (h13 : M13.IsWhole) (M14 : Memref sig .tc .vmem S1x1024 .f32) (h14 : M14.IsWhole) (M15 : Memref sig .tc .vmem S1x1024 .f32) (h15 : M15.IsWhole) (M16 : Memref sig .tc .vmem S1x1024 .f32) (h16 : M16.IsWhole) (M17 : Memref sig .tc .vmem S1x1024 .f32) (h17 : M17.IsWhole) (M18 : Memref sig .tc .vmem S1x1024 .f32) (h18 : M18.IsWhole) (M19 : Memref sig .tc .vmem S1x512x1024 .bf16) (h19 : M19.IsWhole) (M20 : Memref sig .tc .vmem S1x512x1024 .bf16) (h20 : M20.IsWhole) (M21 : Memref sig .tc .vmem S1x32 .f32) (h21 : M21.IsWhole) (M22 : Memref sig .tc .vmem S1x512x1024 .i8) (h22 : M22.IsWhole) (M23 : Memref sig .tc .vmem S32x512 .f32) (h23 : M23.IsWhole) (M24 : Memref sig .tc .vmem S1x512x4096 .i8) (h24 : M24.IsWhole) (M25 : Memref sig .tc .vmem S32x512 .f32) (h25 : M25.IsWhole) (M26 : Memref sig .tc .vmem S1024x1024 .bf16) (h26 : M26.IsWhole) (M27 : Memref sig .tc .vmem S1024x4096 .bf16) (h27 : M27.IsWhole) (M28 : Memref sig .tc .vmem S4096x1024 .bf16) (h28 : M28.IsWhole) (M29 : Memref sig .tc .vmem S8x4096 .f32) (h29 : M29.IsWhole) (M30 : Memref sig .tc .vmem S512x1024 .f32) (h30 : M30.IsWhole) (M31 : Memref sig .tc .vmem S512x1024 .f32) (h31 : M31.IsWhole) (M32 : Memref sig .tc .vmem S512x1024 .bf16) (h32 : M32.IsWhole) (M33 : Memref sig .tc .vmem S512x4096 .f32) (h33 : M33.IsWhole) (M34 : Memref sig .tc .vmem S512x4096 .bf16) (h34 : M34.IsWhole)
    (X1 : S1x512x1024.Idx → Elt F .i8) (X2 : S32x512.Idx → Elt F .f32) (X3 : S1x512x1024.Idx → Elt F .bf16) (X4 : S1024x1024.Idx → Elt F .i8) (X5 : S1x1024.Idx → Elt F .f32) (X6 : S1x1024.Idx → Elt F .f32) (X7 : S1x1024.Idx → Elt F .f32) (X8 : S1x1024.Idx → Elt F .f32) (X9 : S1x1024.Idx → Elt F .f32) (X10 : S1024x4096.Idx → Elt F .i8) (X11 : S1x4096.Idx → Elt F .f32) (X12 : S1x4096.Idx → Elt F .f32) (X13 : S4096x1024.Idx → Elt F .i8) (X14 : S1x1024.Idx → Elt F .f32) (X15 : S1x1024.Idx → Elt F .f32) (X16 : S1x1024.Idx → Elt F .f32) (X17 : S1x1024.Idx → Elt F .f32) (X18 : S1x1024.Idx → Elt F .f32) (X21 : S1x32.Idx → Elt F .f32) (X23 : S32x512.Idx → Elt F .f32) (X25 : S32x512.Idx → Elt F .f32)
    (f26 : Bf (F := F) c M26) (f27 : Bf (F := F) c M27) (f28 : Bf (F := F) c M28) (f29 : Bf (F := F) c M29) :=
  (kernelRun (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h18.unread X18) (h21.unread X21) (h23.unread X23) (h25.unread X25) f26 f27 f28 f29).1

set_option maxHeartbeats 8000000 in
/-- The body's run over owned staging buffers. -/
theorem run_owns (c : Dev nD) (i : grid0.Coords) (M1 : Memref sig .tc .vmem S1x512x1024 .i8) (h1 : M1.IsWhole) (M2 : Memref sig .tc .vmem S32x512 .f32) (h2 : M2.IsWhole) (M3 : Memref sig .tc .vmem S1x512x1024 .bf16) (h3 : M3.IsWhole) (M4 : Memref sig .tc .vmem S1024x1024 .i8) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x1024 .f32) (h9 : M9.IsWhole) (M10 : Memref sig .tc .vmem S1024x4096 .i8) (h10 : M10.IsWhole) (M11 : Memref sig .tc .vmem S1x4096 .f32) (h11 : M11.IsWhole) (M12 : Memref sig .tc .vmem S1x4096 .f32) (h12 : M12.IsWhole) (M13 : Memref sig .tc .vmem S4096x1024 .i8) (h13 : M13.IsWhole) (M14 : Memref sig .tc .vmem S1x1024 .f32) (h14 : M14.IsWhole) (M15 : Memref sig .tc .vmem S1x1024 .f32) (h15 : M15.IsWhole) (M16 : Memref sig .tc .vmem S1x1024 .f32) (h16 : M16.IsWhole) (M17 : Memref sig .tc .vmem S1x1024 .f32) (h17 : M17.IsWhole) (M18 : Memref sig .tc .vmem S1x1024 .f32) (h18 : M18.IsWhole) (M19 : Memref sig .tc .vmem S1x512x1024 .bf16) (h19 : M19.IsWhole) (M20 : Memref sig .tc .vmem S1x512x1024 .bf16) (h20 : M20.IsWhole) (M21 : Memref sig .tc .vmem S1x32 .f32) (h21 : M21.IsWhole) (M22 : Memref sig .tc .vmem S1x512x1024 .i8) (h22 : M22.IsWhole) (M23 : Memref sig .tc .vmem S32x512 .f32) (h23 : M23.IsWhole) (M24 : Memref sig .tc .vmem S1x512x4096 .i8) (h24 : M24.IsWhole) (M25 : Memref sig .tc .vmem S32x512 .f32) (h25 : M25.IsWhole) (M26 : Memref sig .tc .vmem S1024x1024 .bf16) (h26 : M26.IsWhole) (M27 : Memref sig .tc .vmem S1024x4096 .bf16) (h27 : M27.IsWhole) (M28 : Memref sig .tc .vmem S4096x1024 .bf16) (h28 : M28.IsWhole) (M29 : Memref sig .tc .vmem S8x4096 .f32) (h29 : M29.IsWhole) (M30 : Memref sig .tc .vmem S512x1024 .f32) (h30 : M30.IsWhole) (M31 : Memref sig .tc .vmem S512x1024 .f32) (h31 : M31.IsWhole) (M32 : Memref sig .tc .vmem S512x1024 .bf16) (h32 : M32.IsWhole) (M33 : Memref sig .tc .vmem S512x4096 .f32) (h33 : M33.IsWhole) (M34 : Memref sig .tc .vmem S512x4096 .bf16) (h34 : M34.IsWhole)
    (X1 : S1x512x1024.Idx → Elt F .i8) (X2 : S32x512.Idx → Elt F .f32) (X3 : S1x512x1024.Idx → Elt F .bf16) (X4 : S1024x1024.Idx → Elt F .i8) (X5 : S1x1024.Idx → Elt F .f32) (X6 : S1x1024.Idx → Elt F .f32) (X7 : S1x1024.Idx → Elt F .f32) (X8 : S1x1024.Idx → Elt F .f32) (X9 : S1x1024.Idx → Elt F .f32) (X10 : S1024x4096.Idx → Elt F .i8) (X11 : S1x4096.Idx → Elt F .f32) (X12 : S1x4096.Idx → Elt F .f32) (X13 : S4096x1024.Idx → Elt F .i8) (X14 : S1x1024.Idx → Elt F .f32) (X15 : S1x1024.Idx → Elt F .f32) (X16 : S1x1024.Idx → Elt F .f32) (X17 : S1x1024.Idx → Elt F .f32) (X18 : S1x1024.Idx → Elt F .f32) (X19 : S1x512x1024.Idx → Elt F .bf16) (X20 : S1x512x1024.Idx → Elt F .bf16) (X21 : S1x32.Idx → Elt F .f32) (X22 : S1x512x1024.Idx → Elt F .i8) (X23 : S32x512.Idx → Elt F .f32) (X24 : S1x512x4096.Idx → Elt F .i8) (X25 : S32x512.Idx → Elt F .f32)
    (f26 : Bf (F := F) c M26) (f27 : Bf (F := F) c M27) (f28 : Bf (F := F) c M28) (f29 : Bf (F := F) c M29) (f30 : Bf (F := F) c M30) (f31 : Bf (F := F) c M31) (f32 : Bf (F := F) c M32) (f33 : Bf (F := F) c M33) (f34 : Bf (F := F) c M34) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare X19 ∗ owns (c : Thread nD τ) M20 fullShare X20 ∗ owns (c : Thread nD τ) M21 fullShare X21 ∗ owns (c : Thread nD τ) M22 fullShare X22 ∗ owns (c : Thread nD τ) M23 fullShare X23 ∗ owns (c : Thread nD τ) M24 fullShare X24 ∗ owns (c : Thread nD τ) M25 fullShare X25 ∗ pt c M26 f26 ∗ pt c M27 f27 ∗ pt c M28 f28 ∗ pt c M29 f29 ∗ pt c M30 f30 ∗ pt c M31 f31 ∗ pt c M32 f32 ∗ pt c M33 f33 ∗ pt c M34 f34
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare (M19.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).1) ∗ owns (c : Thread nD τ) M20 fullShare (M20.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.1) ∗ owns (c : Thread nD τ) M21 fullShare (M21.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.1) ∗ owns (c : Thread nD τ) M22 fullShare (M22.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.1) ∗ owns (c : Thread nD τ) M23 fullShare (M23.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.1) ∗ owns (c : Thread nD τ) M24 fullShare (M24.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.1) ∗ owns (c : Thread nD τ) M25 fullShare (M25.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.1)
          ∗ pt c M26 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.1 ∗ pt c M27 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.1 ∗ pt c M28 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.2.1 ∗ pt c M29 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.2.2 ∗ (∃ f, pt (F := F) c M30 f) ∗ (∃ f, pt (F := F) c M31 f) ∗ (∃ f, pt (F := F) c M32 f) ∗ (∃ f, pt (F := F) c M33 f) ∗ (∃ f, pt (F := F) c M34 f)) -∗ Q ⟨⟩))
      ⊢ wp frame (wpE (defs₀ (F := F)) Variants.none c none) E
          (cc0_out_proj_ffn i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q := by
  generalize hW : runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29 = W
  rw [owns_pt c M1 h1 X1, owns_pt c M2 h2 X2, owns_pt c M3 h3 X3, owns_pt c M4 h4 X4, owns_pt c M5 h5 X5, owns_pt c M6 h6 X6, owns_pt c M7 h7 X7, owns_pt c M8 h8 X8, owns_pt c M9 h9 X9, owns_pt c M10 h10 X10, owns_pt c M11 h11 X11, owns_pt c M12 h12 X12, owns_pt c M13 h13 X13, owns_pt c M14 h14 X14, owns_pt c M15 h15 X15, owns_pt c M16 h16 X16, owns_pt c M17 h17 X17, owns_pt c M18 h18 X18, owns_pt c M19 h19 X19, owns_pt c M20 h20 X20, owns_pt c M21 h21 X21, owns_pt c M22 h22 X22, owns_pt c M23 h23 X23, owns_pt c M24 h24 X24, owns_pt c M25 h25 X25]
  iintro ⟨⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩, ⟨%g18, %e18, H18⟩, ⟨%g19, %e19, H19⟩, ⟨%g20, %e20, H20⟩, ⟨%g21, %e21, H21⟩, ⟨%g22, %e22, H22⟩, ⟨%g23, %e23, H23⟩, ⟨%g24, %e24, H24⟩, ⟨%g25, %e25, H25⟩, H26, H27, H28, H29, H30, H31, H32, H33, H34, Hk⟩
  subst hW
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  obtain rfl := h20.eq_unread e20
  obtain rfl := h21.eq_unread e21
  obtain rfl := h22.eq_unread e22
  obtain rfl := h23.eq_unread e23
  obtain rfl := h24.eq_unread e24
  obtain rfl := h25.eq_unread e25
  iapply ((kernelRun (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h18.unread X18) (h21.unread X21) (h23.unread X23) (h25.unread X25) f26 f27 f28 f29).2 (h19.unread X19) (h20.unread X20) (h22.unread X22) (h24.unread X24) f30 f31 f32 f33 f34 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H1, H2, H3, H4, H5, H6, H7, H8, H9, H10, H11, H12, H13, H14, H15, H16, H17, H18, H19, H20, H21, H22, H23, H24, H25, H26, H27, H28, H29, H30, H31, H32, H33, H34⟩
  iapply Hk
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _; isplitr; · ipureintro; exact e15
    iexact H15
  isplitl [H16]
  · iexists _; isplitr; · ipureintro; exact e16
    iexact H16
  isplitl [H17]
  · iexists _; isplitr; · ipureintro; exact e17
    iexact H17
  isplitl [H18]
  · iexists _; isplitr; · ipureintro; exact e18
    iexact H18
  isplitl [H19]
  · rw [owns_pt c M19 h19]; iexists _; isplitr; · ipureintro; rfl
    iexact H19
  isplitl [H20]
  · rw [owns_pt c M20 h20]; iexists _; isplitr; · ipureintro; rfl
    iexact H20
  isplitl [H21]
  · rw [owns_pt c M21 h21]; iexists _; isplitr; · ipureintro; rfl
    iexact H21
  isplitl [H22]
  · rw [owns_pt c M22 h22]; iexists _; isplitr; · ipureintro; rfl
    iexact H22
  isplitl [H23]
  · rw [owns_pt c M23 h23]; iexists _; isplitr; · ipureintro; rfl
    iexact H23
  isplitl [H24]
  · rw [owns_pt c M24 h24]; iexists _; isplitr; · ipureintro; rfl
    iexact H24
  isplitl [H25]
  · rw [owns_pt c M25 h25]; iexists _; isplitr; · ipureintro; rfl
    iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

end Cert.Proof.K

end
-- ==== Proof.AtK.lean ====
/-
  `Kernel`: the body run at one grid point, over what the pipeline hands it, any frame kept beside it, what it leaves
  named once.
-/
module

public import proofs.«01_k».proof.Proof.OwnsK
public import proofs.«01_k».proof.Proof.Gen.Kernel.Frame
public import Idealize.ShloMosaic.Lib.Pipeline.Frame

@[expose] public section

set_option maxRecDepth 16384

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the run leaves at point `t`, from what the staging buffers are owned at and what the kept scratch holds. -/
def Wt (c : Dev nD) (t : Fin cfg0.N) (Y : (w : Fin cfg0.W) → (cfg0.win w).block.Idx → Elt F (cfg0.win w).elt)
    (g26 : Buf (Elt F) ((c : Thread nD τ).loc cc0_scratch0)) (g27 : Buf (Elt F) ((c : Thread nD τ).loc cc0_scratch1)) (g28 : Buf (Elt F) ((c : Thread nD τ).loc cc0_scratch2)) (g29 : Buf (Elt F) ((c : Thread nD τ).loc cc0_scratch3)) :=
  runW (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) (Y 17) (Y 20) (Y 22) (Y 24) g26 g27 g28 g29

set_option maxHeartbeats 8000000 in
/-- The body at point `t` over owned staging buffers and held scratch, with a frame `R`. -/
theorem run_at (c : Dev nD) (t : Fin cfg0.N) (Y : (w : Fin cfg0.W) → (cfg0.win w).block.Idx → Elt F (cfg0.win w).elt)
    (g26 : Buf (Elt F) ((c : Thread nD τ).loc cc0_scratch0)) (g27 : Buf (Elt F) ((c : Thread nD τ).loc cc0_scratch1)) (g28 : Buf (Elt F) ((c : Thread nD τ).loc cc0_scratch2)) (g29 : Buf (Elt F) ((c : Thread nD τ).loc cc0_scratch3)) (g30 : Buf (Elt F) ((c : Thread nD τ).loc cc0_scratch4)) (g31 : Buf (Elt F) ((c : Thread nD τ).loc cc0_scratch5)) (g32 : Buf (Elt F) ((c : Thread nD τ).loc cc0_scratch6)) (g33 : Buf (Elt F) ((c : Thread nD τ).loc cc0_scratch7)) (g34 : Buf (Elt F) ((c : Thread nD τ).loc cc0_scratch8)) (R : sProp 𝕄) (Q : PUnit → sProp 𝕄)
    (hQ : ∀ W, W = Wt (F := F) c t Y g26 g27 g28 g29 →
      iprop((owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17)
        ∗ owns (c : Thread nD τ) (win0_18.stage (cfg0.slots t 18)) fullShare ((win0_18.stage (cfg0.slots t 18)).view.read (Elt F) W.1) ∗ owns (c : Thread nD τ) (win0_19.stage (cfg0.slots t 19)) fullShare ((win0_19.stage (cfg0.slots t 19)).view.read (Elt F) W.2.1) ∗ owns (c : Thread nD τ) (win0_20.stage (cfg0.slots t 20)) fullShare ((win0_20.stage (cfg0.slots t 20)).view.read (Elt F) W.2.2.1) ∗ owns (c : Thread nD τ) (win0_21.stage (cfg0.slots t 21)) fullShare ((win0_21.stage (cfg0.slots t 21)).view.read (Elt F) W.2.2.2.1) ∗ owns (c : Thread nD τ) (win0_22.stage (cfg0.slots t 22)) fullShare ((win0_22.stage (cfg0.slots t 22)).view.read (Elt F) W.2.2.2.2.1) ∗ owns (c : Thread nD τ) (win0_23.stage (cfg0.slots t 23)) fullShare ((win0_23.stage (cfg0.slots t 23)).view.read (Elt F) W.2.2.2.2.2.1) ∗ owns (c : Thread nD τ) (win0_24.stage (cfg0.slots t 24)) fullShare ((win0_24.stage (cfg0.slots t 24)).view.read (Elt F) W.2.2.2.2.2.2.1))
        ∗ ((((c : Thread nD τ).loc cc0_scratch0) ↦{fullShare} W.2.2.2.2.2.2.2.1) ∗ (((c : Thread nD τ).loc cc0_scratch1) ↦{fullShare} W.2.2.2.2.2.2.2.2.1) ∗ (((c : Thread nD τ).loc cc0_scratch2) ↦{fullShare} W.2.2.2.2.2.2.2.2.2.1) ∗ (((c : Thread nD τ).loc cc0_scratch3) ↦{fullShare} W.2.2.2.2.2.2.2.2.2.2) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f)) ∗ R) ⊢ Q ⟨⟩) :
    iprop((owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17) ∗ owns (c : Thread nD τ) (win0_18.stage (cfg0.slots t 18)) fullShare (Y 18) ∗ owns (c : Thread nD τ) (win0_19.stage (cfg0.slots t 19)) fullShare (Y 19) ∗ owns (c : Thread nD τ) (win0_20.stage (cfg0.slots t 20)) fullShare (Y 20) ∗ owns (c : Thread nD τ) (win0_21.stage (cfg0.slots t 21)) fullShare (Y 21) ∗ owns (c : Thread nD τ) (win0_22.stage (cfg0.slots t 22)) fullShare (Y 22) ∗ owns (c : Thread nD τ) (win0_23.stage (cfg0.slots t 23)) fullShare (Y 23) ∗ owns (c : Thread nD τ) (win0_24.stage (cfg0.slots t 24)) fullShare (Y 24))
        ∗ ((((c : Thread nD τ).loc cc0_scratch0) ↦{fullShare} g26) ∗ (((c : Thread nD τ).loc cc0_scratch1) ↦{fullShare} g27) ∗ (((c : Thread nD τ).loc cc0_scratch2) ↦{fullShare} g28) ∗ (((c : Thread nD τ).loc cc0_scratch3) ↦{fullShare} g29) ∗ (((c : Thread nD τ).loc cc0_scratch4) ↦{fullShare} g30) ∗ (((c : Thread nD τ).loc cc0_scratch5) ↦{fullShare} g31) ∗ (((c : Thread nD τ).loc cc0_scratch6) ↦{fullShare} g32) ∗ (((c : Thread nD τ).loc cc0_scratch7) ↦{fullShare} g33) ∗ (((c : Thread nD τ).loc cc0_scratch8) ↦{fullShare} g34)) ∗ R)
      ⊢ wp frame (wpE (defs₀ (F := F)) Variants.none c none) Set.univ (bodyAt0 t) Q := by
  have h := run_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) (Y 24) g26 g27 g28 g29 g30 g31 g32 g33 g34 Set.univ Q
  have hQ' := hQ _ rfl
  clear hQ
  unfold Wt at hQ'
  generalize runW (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) (Y 17) (Y 20) (Y 22) (Y 24) g26 g27 g28 g29 = W at h hQ'
  refine BIBase.Entails.trans ?_ h
  iintro ⟨⟨H1, H2, H3, H4, H5, H6, H7, H8, H9, H10, H11, H12, H13, H14, H15, H16, H17, H18, H19, H20, H21, H22, H23, H24, H25⟩, ⟨H26, H27, H28, H29, H30, H31, H32, H33, H34⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H1, H2, H3, H4, H5, H6, H7, H8, H9, H10, H11, H12, H13, H14, H15, H16, H17, H18, H19, H20, H21, H22, H23, H24, H25, H26, H27, H28, H29, H30, H31, H32, H33, H34⟩
  iapply hQ'
  isplitl [H1 H2 H3 H4 H5 H6 H7 H8 H9 H10 H11 H12 H13 H14 H15 H16 H17 H18 H19 H20 H21 H22 H23 H24 H25]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [H26 H27 H28 H29 H30 H31 H32 H33 H34]
  · isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  iexact HR

end Cert.Proof.K

end
-- ==== Proof.FrameK.lean ====
/-
  `Kernel`'s frame: the body run of `OwnsK` under proof data that keeps every input block as found and says nothing of
  what the outputs hold.
-/
module

public import proofs.«01_k».proof.Proof.AtK
public import proofs.«01_k».proof.Proof.Gen.Kernel.Frame
public import Idealize.ShloMosaic.Lib.Pipeline.Frame

@[expose] public section

set_option maxRecDepth 16384

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The proof data: inputs are left as found, the outputs unnamed. -/
def rdatF (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

set_option maxHeartbeats 8000000 in
/-- The body obligation, from the body run. -/
theorem body_obligation (c : Dev nD) : (rdatF (F := F) m c).BodyObligation (defs₀ (F := F)) Variants.none () Set.univ := fun t Y hY => by
  rw [bigSep_W0, bigSep_W0, defs₀_row]
  rw [show (rdatF m c).Φ t.succ = Pipeline.ΦA spec0 c from rfl, show (rdatF m c).Φ t.castSucc = Pipeline.ΦA spec0 c from rfl,
    show (rdatF m c).owesAt () t.succ = (rdatF m c).owesAt () t.castSucc from rfl]
  unfold Pipeline.ΦA; rw [scopedRest0_eq]
  iintro ⟨⟨⟨⟨%g26, H26⟩, ⟨%g27, H27⟩, ⟨%g28, H28⟩, ⟨%g29, H29⟩, ⟨%g30, H30⟩, ⟨%g31, H31⟩, ⟨%g32, H32⟩, ⟨%g33, H33⟩, ⟨%g34, H34⟩⟩, Hg⟩, Ho, HY⟩
  iapply (run_at (F := F) c t Y g26 g27 g28 g29 g30 g31 g32 g33 g34 (iprop((∃ r, prngReg c r) ∗ (rdatF (F := F) m c).owesAt () t.castSucc)) _ ?hQ)
  case hQ =>
    intro W hW
    clear hW
    iintro ⟨⟨H1, H2, H3, H4, H5, H6, H7, H8, H9, H10, H11, H12, H13, H14, H15, H16, H17, H18, H19, H20, H21, H22, H23, H24, H25⟩, ⟨H26, H27, H28, H29, H30, H31, H32, H33, H34⟩, Hg, Ho⟩
    isplitl [H26 H27 H28 H29 H30 H31 H32 H33 H34 Hg]
    · isplitl [H26 H27 H28 H29 H30 H31 H32 H33 H34]
      · isplitl [H26]; · iexists _; iexact H26
        isplitl [H27]; · iexists _; iexact H27
        isplitl [H28]; · iexists _; iexact H28
        isplitl [H29]; · iexists _; iexact H29
        isplitl [H30]; · iexact H30
        isplitl [H31]; · iexact H31
        isplitl [H32]; · iexact H32
        isplitl [H33]; · iexact H33
        iexact H34
      iexact Hg
    isplitl [Ho]; · iexact Ho
    isplitl [H1]
    · iexists (Y 0)
      isplitr; swap; · iexact H1
      ipureintro; exact fun _ => rfl
    isplitl [H2]
    · iexists (Y 1)
      isplitr; swap; · iexact H2
      ipureintro; exact fun _ => rfl
    isplitl [H3]
    · iexists (Y 2)
      isplitr; swap; · iexact H3
      ipureintro; exact fun _ => rfl
    isplitl [H4]
    · iexists (Y 3)
      isplitr; swap; · iexact H4
      ipureintro; exact fun _ => rfl
    isplitl [H5]
    · iexists (Y 4)
      isplitr; swap; · iexact H5
      ipureintro; exact fun _ => rfl
    isplitl [H6]
    · iexists (Y 5)
      isplitr; swap; · iexact H6
      ipureintro; exact fun _ => rfl
    isplitl [H7]
    · iexists (Y 6)
      isplitr; swap; · iexact H7
      ipureintro; exact fun _ => rfl
    isplitl [H8]
    · iexists (Y 7)
      isplitr; swap; · iexact H8
      ipureintro; exact fun _ => rfl
    isplitl [H9]
    · iexists (Y 8)
      isplitr; swap; · iexact H9
      ipureintro; exact fun _ => rfl
    isplitl [H10]
    · iexists (Y 9)
      isplitr; swap; · iexact H10
      ipureintro; exact fun _ => rfl
    isplitl [H11]
    · iexists (Y 10)
      isplitr; swap; · iexact H11
      ipureintro; exact fun _ => rfl
    isplitl [H12]
    · iexists (Y 11)
      isplitr; swap; · iexact H12
      ipureintro; exact fun _ => rfl
    isplitl [H13]
    · iexists (Y 12)
      isplitr; swap; · iexact H13
      ipureintro; exact fun _ => rfl
    isplitl [H14]
    · iexists (Y 13)
      isplitr; swap; · iexact H14
      ipureintro; exact fun _ => rfl
    isplitl [H15]
    · iexists (Y 14)
      isplitr; swap; · iexact H15
      ipureintro; exact fun _ => rfl
    isplitl [H16]
    · iexists (Y 15)
      isplitr; swap; · iexact H16
      ipureintro; exact fun _ => rfl
    isplitl [H17]
    · iexists (Y 16)
      isplitr; swap; · iexact H17
      ipureintro; exact fun _ => rfl
    isplitl [H18]
    · iexists (Y 17)
      isplitr; swap; · iexact H18
      ipureintro; exact fun _ => rfl
    isplitl [H19]
    · iexists _
      isplitr; swap; · iexact H19
      ipureintro; exact fun h => absurd h (by decide)
    isplitl [H20]
    · iexists _
      isplitr; swap; · iexact H20
      ipureintro; exact fun h => absurd h (by decide)
    isplitl [H21]
    · iexists _
      isplitr; swap; · iexact H21
      ipureintro; exact fun h => absurd h (by decide)
    isplitl [H22]
    · iexists _
      isplitr; swap; · iexact H22
      ipureintro; exact fun h => absurd h (by decide)
    isplitl [H23]
    · iexists _
      isplitr; swap; · iexact H23
      ipureintro; exact fun h => absurd h (by decide)
    isplitl [H24]
    · iexists _
      isplitr; swap; · iexact H24
      ipureintro; exact fun h => absurd h (by decide)
    iexists _
    isplitr; swap; · iexact H25
    ipureintro; exact fun h => absurd h (by decide)
  isplitl [HY]; · iexact HY
  isplitl [H26 H27 H28 H29 H30 H31 H32 H33 H34]
  · isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  isplitl [Hg]; · iexact Hg
  iexact Ho

set_option backward.isDefEq.respectTransparency.types false in
/-- Every weakly fair execution of @main terminates; every array ends as the proof data says and every counter at zero. -/
theorem run_mainF : θ_run defs (onTc (τ := τ) (main (F := F))) (s₀ m ρ)
    (fun r => Pipeline.RDat.FramePost cfg0 (rdatF m) (V m) r ∧ r.2.sem = fun _ => 0) :=
  Pipeline.RDat.θ_run_frame_track (Q' := _) cfgs (0 : Fin 1) launch0 defs₀ Variants.none (rdatF m) m ρ main
    (hbody := body_obligation m) (hshare := fun c w => (rdatF m c).share_full (fun _ => rfl) w)
    (howed := fun _ _ => rfl) (V := V m) (hmain := hmain m Variants.none) (hA := fun _ _ => rfl)
    (hin := fun _ => .rfl) (hout := fun _ => .rfl)

/-- The frame: the argument arrays end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨(h.1.arr_in c 0 rfl).trans (V_main_arg0 m c),
      (h.1.arr_in c 1 rfl).trans (V_main_arg1 m c),
      (h.1.arr_in c 2 rfl).trans (V_main_arg2 m c),
      ((h.1 c).2 main_arg3 (Pipeline.mem_restRefs_of main_arg3 (by decide) (by decide))).trans (V_main_arg3 m c),
      (h.1.arr_in c 3 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 9 rfl).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      (h.1.arr_in c 12 rfl).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩) (run_mainF m ρ)

end Cert.Proof.K

end
-- ==== Proof.RunKI.lean ====
/-
  The body of `KernelIdeal`, run once at symbolic operands: what it leaves in the outputs' staging buffers and in the
  scratch buffers the next grid point reads, as values over what it found.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- What the body leaves in the outputs' staging buffers and in the four scratch buffers the next point reads, with
    the proof that it runs to its return leaving exactly that. -/
noncomputable def kernelRun (c : Dev nD) (i : grid0.Coords) (M1 : Memref sig .tc .vmem S1x512x1024 .i8) (h1 : M1.IsWhole) (M2 : Memref sig .tc .vmem S32x512 .f32) (h2 : M2.IsWhole) (M3 : Memref sig .tc .vmem S1x512x1024 .bf16) (h3 : M3.IsWhole) (M4 : Memref sig .tc .vmem S1024x1024 .i8) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x1024 .f32) (h9 : M9.IsWhole) (M10 : Memref sig .tc .vmem S1024x4096 .i8) (h10 : M10.IsWhole) (M11 : Memref sig .tc .vmem S1x4096 .f32) (h11 : M11.IsWhole) (M12 : Memref sig .tc .vmem S1x4096 .f32) (h12 : M12.IsWhole) (M13 : Memref sig .tc .vmem S4096x1024 .i8) (h13 : M13.IsWhole) (M14 : Memref sig .tc .vmem S1x1024 .f32) (h14 : M14.IsWhole) (M15 : Memref sig .tc .vmem S1x1024 .f32) (h15 : M15.IsWhole) (M16 : Memref sig .tc .vmem S1x1024 .f32) (h16 : M16.IsWhole) (M17 : Memref sig .tc .vmem S1x1024 .f32) (h17 : M17.IsWhole) (M18 : Memref sig .tc .vmem S1x1024 .f32) (h18 : M18.IsWhole) (M19 : Memref sig .tc .vmem S1x512x1024 .bf16) (h19 : M19.IsWhole) (M20 : Memref sig .tc .vmem S1x512x1024 .bf16) (h20 : M20.IsWhole) (M21 : Memref sig .tc .vmem S1x32 .f32) (h21 : M21.IsWhole) (M22 : Memref sig .tc .vmem S1x512x1024 .i8) (h22 : M22.IsWhole) (M23 : Memref sig .tc .vmem S32x512 .f32) (h23 : M23.IsWhole) (M24 : Memref sig .tc .vmem S1x512x4096 .i8) (h24 : M24.IsWhole) (M25 : Memref sig .tc .vmem S32x512 .f32) (h25 : M25.IsWhole) (M26 : Memref sig .tc .vmem S1024x1024 .bf16) (h26 : M26.IsWhole) (M27 : Memref sig .tc .vmem S1024x4096 .bf16) (h27 : M27.IsWhole) (M28 : Memref sig .tc .vmem S4096x1024 .bf16) (h28 : M28.IsWhole) (M29 : Memref sig .tc .vmem S8x4096 .f32) (h29 : M29.IsWhole) (M30 : Memref sig .tc .vmem S512x1024 .f32) (h30 : M30.IsWhole) (M31 : Memref sig .tc .vmem S512x1024 .f32) (h31 : M31.IsWhole) (M32 : Memref sig .tc .vmem S512x1024 .bf16) (h32 : M32.IsWhole) (M33 : Memref sig .tc .vmem S512x4096 .f32) (h33 : M33.IsWhole) (M34 : Memref sig .tc .vmem S512x4096 .bf16) (h34 : M34.IsWhole)
    (f1 : Bf (F := F) c M1) (f2 : Bf (F := F) c M2) (f3 : Bf (F := F) c M3) (f4 : Bf (F := F) c M4) (f5 : Bf (F := F) c M5) (f6 : Bf (F := F) c M6) (f7 : Bf (F := F) c M7) (f8 : Bf (F := F) c M8) (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17) (f18 : Bf (F := F) c M18) (f21 : Bf (F := F) c M21) (f23 : Bf (F := F) c M23) (f25 : Bf (F := F) c M25) (f26 : Bf (F := F) c M26) (f27 : Bf (F := F) c M27) (f28 : Bf (F := F) c M28) (f29 : Bf (F := F) c M29) :
    { W : Bf (F := F) c M19 × Bf (F := F) c M20 × Bf (F := F) c M21 × Bf (F := F) c M22 × Bf (F := F) c M23 × Bf (F := F) c M24 × Bf (F := F) c M25 × Bf (F := F) c M26 × Bf (F := F) c M27 × Bf (F := F) c M28 × Bf (F := F) c M29 //
      ∀ (f19 : Bf (F := F) c M19) (f20 : Bf (F := F) c M20) (f22 : Bf (F := F) c M22) (f24 : Bf (F := F) c M24) (f30 : Bf (F := F) c M30) (f31 : Bf (F := F) c M31) (f32 : Bf (F := F) c M32) (f33 : Bf (F := F) c M33) (f34 : Bf (F := F) c M34) (E : Set ℕ) (Q : PUnit → sProp 𝕄),
        iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 f19 ∗ pt c M20 f20 ∗ pt c M21 f21 ∗ pt c M22 f22 ∗ pt c M23 f23 ∗ pt c M24 f24 ∗ pt c M25 f25 ∗ pt c M26 f26 ∗ pt c M27 f27 ∗ pt c M28 f28 ∗ pt c M29 f29 ∗ pt c M30 f30 ∗ pt c M31 f31 ∗ pt c M32 f32 ∗ pt c M33 f33 ∗ pt c M34 f34
          ∗ (iprop(pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17 ∗ pt c M18 f18 ∗ pt c M19 W.1 ∗ pt c M20 W.2.1 ∗ pt c M21 W.2.2.1 ∗ pt c M22 W.2.2.2.1 ∗ pt c M23 W.2.2.2.2.1 ∗ pt c M24 W.2.2.2.2.2.1 ∗ pt c M25 W.2.2.2.2.2.2.1 ∗ pt c M26 W.2.2.2.2.2.2.2.1 ∗ pt c M27 W.2.2.2.2.2.2.2.2.1 ∗ pt c M28 W.2.2.2.2.2.2.2.2.2.1 ∗ pt c M29 W.2.2.2.2.2.2.2.2.2.2 ∗ (∃ f, pt c M30 f) ∗ (∃ f, pt c M31 f) ∗ (∃ f, pt c M32 f) ∗ (∃ f, pt c M33 f) ∗ (∃ f, pt c M34 f)) -∗ Q ⟨⟩))
        ⊢ wp frame (wpE (defs₀ (F := F)) Variants.none c none) E
            (cc0_out_proj_ffn i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q } := by
  refine ⟨⟨?_, ?_, ?_, ?_, ?_, ?_, ?_, ?_, ?_, ?_, ?_⟩, fun f19 f20 f22 f24 f30 f31 f32 f33 f34 E Q => ?run⟩
  case run =>
    iintro ⟨H1, H2, H3, H4, H5, H6, H7, H8, H9, H10, H11, H12, H13, H14, H15, H16, H17, H18, H19, H20, H21, H22, H23, H24, H25, H26, H27, H28, H29, H30, H31, H32, H33, H34, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexists _; iexact H30
    isplitl [H31]; · iexists _; iexact H31
    isplitl [H32]; · iexists _; iexact H32
    isplitl [H33]; · iexists _; iexact H33
    iexists _; iexact H34

end Cert.Proof.KI

end
-- ==== Proof.OwnsKI.lean ====
/-
  `KernelIdeal`'s body run once, stated over what the staging buffers are owned at.
-/
module

public import proofs.«01_k».proof.Proof.RunKI
public import Idealize.ShloMosaic.Lib.Pipeline.Frame

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Ownership of a whole memref's contents, in the form the run takes and returns. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns pt
  rw [Memref.IsWhole.set_eq_univ h]

/-- What the run leaves, from what the staging buffers are owned at and what the kept scratch holds. -/
def runW (c : Dev nD) (i : grid0.Coords) (M1 : Memref sig .tc .vmem S1x512x1024 .i8) (h1 : M1.IsWhole) (M2 : Memref sig .tc .vmem S32x512 .f32) (h2 : M2.IsWhole) (M3 : Memref sig .tc .vmem S1x512x1024 .bf16) (h3 : M3.IsWhole) (M4 : Memref sig .tc .vmem S1024x1024 .i8) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x1024 .f32) (h9 : M9.IsWhole) (M10 : Memref sig .tc .vmem S1024x4096 .i8) (h10 : M10.IsWhole) (M11 : Memref sig .tc .vmem S1x4096 .f32) (h11 : M11.IsWhole) (M12 : Memref sig .tc .vmem S1x4096 .f32) (h12 : M12.IsWhole) (M13 : Memref sig .tc .vmem S4096x1024 .i8) (h13 : M13.IsWhole) (M14 : Memref sig .tc .vmem S1x1024 .f32) (h14 : M14.IsWhole) (M15 : Memref sig .tc .vmem S1x1024 .f32) (h15 : M15.IsWhole) (M16 : Memref sig .tc .vmem S1x1024 .f32) (h16 : M16.IsWhole) (M17 : Memref sig .tc .vmem S1x1024 .f32) (h17 : M17.IsWhole) (M18 : Memref sig .tc .vmem S1x1024 .f32) (h18 : M18.IsWhole) (M19 : Memref sig .tc .vmem S1x512x1024 .bf16) (h19 : M19.IsWhole) (M20 : Memref sig .tc .vmem S1x512x1024 .bf16) (h20 : M20.IsWhole) (M21 : Memref sig .tc .vmem S1x32 .f32) (h21 : M21.IsWhole) (M22 : Memref sig .tc .vmem S1x512x1024 .i8) (h22 : M22.IsWhole) (M23 : Memref sig .tc .vmem S32x512 .f32) (h23 : M23.IsWhole) (M24 : Memref sig .tc .vmem S1x512x4096 .i8) (h24 : M24.IsWhole) (M25 : Memref sig .tc .vmem S32x512 .f32) (h25 : M25.IsWhole) (M26 : Memref sig .tc .vmem S1024x1024 .bf16) (h26 : M26.IsWhole) (M27 : Memref sig .tc .vmem S1024x4096 .bf16) (h27 : M27.IsWhole) (M28 : Memref sig .tc .vmem S4096x1024 .bf16) (h28 : M28.IsWhole) (M29 : Memref sig .tc .vmem S8x4096 .f32) (h29 : M29.IsWhole) (M30 : Memref sig .tc .vmem S512x1024 .f32) (h30 : M30.IsWhole) (M31 : Memref sig .tc .vmem S512x1024 .f32) (h31 : M31.IsWhole) (M32 : Memref sig .tc .vmem S512x1024 .bf16) (h32 : M32.IsWhole) (M33 : Memref sig .tc .vmem S512x4096 .f32) (h33 : M33.IsWhole) (M34 : Memref sig .tc .vmem S512x4096 .bf16) (h34 : M34.IsWhole)
    (X1 : S1x512x1024.Idx → Elt F .i8) (X2 : S32x512.Idx → Elt F .f32) (X3 : S1x512x1024.Idx → Elt F .bf16) (X4 : S1024x1024.Idx → Elt F .i8) (X5 : S1x1024.Idx → Elt F .f32) (X6 : S1x1024.Idx → Elt F .f32) (X7 : S1x1024.Idx → Elt F .f32) (X8 : S1x1024.Idx → Elt F .f32) (X9 : S1x1024.Idx → Elt F .f32) (X10 : S1024x4096.Idx → Elt F .i8) (X11 : S1x4096.Idx → Elt F .f32) (X12 : S1x4096.Idx → Elt F .f32) (X13 : S4096x1024.Idx → Elt F .i8) (X14 : S1x1024.Idx → Elt F .f32) (X15 : S1x1024.Idx → Elt F .f32) (X16 : S1x1024.Idx → Elt F .f32) (X17 : S1x1024.Idx → Elt F .f32) (X18 : S1x1024.Idx → Elt F .f32) (X21 : S1x32.Idx → Elt F .f32) (X23 : S32x512.Idx → Elt F .f32) (X25 : S32x512.Idx → Elt F .f32)
    (f26 : Bf (F := F) c M26) (f27 : Bf (F := F) c M27) (f28 : Bf (F := F) c M28) (f29 : Bf (F := F) c M29) :=
  (kernelRun (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h18.unread X18) (h21.unread X21) (h23.unread X23) (h25.unread X25) f26 f27 f28 f29).1

set_option maxHeartbeats 8000000 in
/-- The body's run over owned staging buffers. -/
theorem run_owns (c : Dev nD) (i : grid0.Coords) (M1 : Memref sig .tc .vmem S1x512x1024 .i8) (h1 : M1.IsWhole) (M2 : Memref sig .tc .vmem S32x512 .f32) (h2 : M2.IsWhole) (M3 : Memref sig .tc .vmem S1x512x1024 .bf16) (h3 : M3.IsWhole) (M4 : Memref sig .tc .vmem S1024x1024 .i8) (h4 : M4.IsWhole) (M5 : Memref sig .tc .vmem S1x1024 .f32) (h5 : M5.IsWhole) (M6 : Memref sig .tc .vmem S1x1024 .f32) (h6 : M6.IsWhole) (M7 : Memref sig .tc .vmem S1x1024 .f32) (h7 : M7.IsWhole) (M8 : Memref sig .tc .vmem S1x1024 .f32) (h8 : M8.IsWhole) (M9 : Memref sig .tc .vmem S1x1024 .f32) (h9 : M9.IsWhole) (M10 : Memref sig .tc .vmem S1024x4096 .i8) (h10 : M10.IsWhole) (M11 : Memref sig .tc .vmem S1x4096 .f32) (h11 : M11.IsWhole) (M12 : Memref sig .tc .vmem S1x4096 .f32) (h12 : M12.IsWhole) (M13 : Memref sig .tc .vmem S4096x1024 .i8) (h13 : M13.IsWhole) (M14 : Memref sig .tc .vmem S1x1024 .f32) (h14 : M14.IsWhole) (M15 : Memref sig .tc .vmem S1x1024 .f32) (h15 : M15.IsWhole) (M16 : Memref sig .tc .vmem S1x1024 .f32) (h16 : M16.IsWhole) (M17 : Memref sig .tc .vmem S1x1024 .f32) (h17 : M17.IsWhole) (M18 : Memref sig .tc .vmem S1x1024 .f32) (h18 : M18.IsWhole) (M19 : Memref sig .tc .vmem S1x512x1024 .bf16) (h19 : M19.IsWhole) (M20 : Memref sig .tc .vmem S1x512x1024 .bf16) (h20 : M20.IsWhole) (M21 : Memref sig .tc .vmem S1x32 .f32) (h21 : M21.IsWhole) (M22 : Memref sig .tc .vmem S1x512x1024 .i8) (h22 : M22.IsWhole) (M23 : Memref sig .tc .vmem S32x512 .f32) (h23 : M23.IsWhole) (M24 : Memref sig .tc .vmem S1x512x4096 .i8) (h24 : M24.IsWhole) (M25 : Memref sig .tc .vmem S32x512 .f32) (h25 : M25.IsWhole) (M26 : Memref sig .tc .vmem S1024x1024 .bf16) (h26 : M26.IsWhole) (M27 : Memref sig .tc .vmem S1024x4096 .bf16) (h27 : M27.IsWhole) (M28 : Memref sig .tc .vmem S4096x1024 .bf16) (h28 : M28.IsWhole) (M29 : Memref sig .tc .vmem S8x4096 .f32) (h29 : M29.IsWhole) (M30 : Memref sig .tc .vmem S512x1024 .f32) (h30 : M30.IsWhole) (M31 : Memref sig .tc .vmem S512x1024 .f32) (h31 : M31.IsWhole) (M32 : Memref sig .tc .vmem S512x1024 .bf16) (h32 : M32.IsWhole) (M33 : Memref sig .tc .vmem S512x4096 .f32) (h33 : M33.IsWhole) (M34 : Memref sig .tc .vmem S512x4096 .bf16) (h34 : M34.IsWhole)
    (X1 : S1x512x1024.Idx → Elt F .i8) (X2 : S32x512.Idx → Elt F .f32) (X3 : S1x512x1024.Idx → Elt F .bf16) (X4 : S1024x1024.Idx → Elt F .i8) (X5 : S1x1024.Idx → Elt F .f32) (X6 : S1x1024.Idx → Elt F .f32) (X7 : S1x1024.Idx → Elt F .f32) (X8 : S1x1024.Idx → Elt F .f32) (X9 : S1x1024.Idx → Elt F .f32) (X10 : S1024x4096.Idx → Elt F .i8) (X11 : S1x4096.Idx → Elt F .f32) (X12 : S1x4096.Idx → Elt F .f32) (X13 : S4096x1024.Idx → Elt F .i8) (X14 : S1x1024.Idx → Elt F .f32) (X15 : S1x1024.Idx → Elt F .f32) (X16 : S1x1024.Idx → Elt F .f32) (X17 : S1x1024.Idx → Elt F .f32) (X18 : S1x1024.Idx → Elt F .f32) (X19 : S1x512x1024.Idx → Elt F .bf16) (X20 : S1x512x1024.Idx → Elt F .bf16) (X21 : S1x32.Idx → Elt F .f32) (X22 : S1x512x1024.Idx → Elt F .i8) (X23 : S32x512.Idx → Elt F .f32) (X24 : S1x512x4096.Idx → Elt F .i8) (X25 : S32x512.Idx → Elt F .f32)
    (f26 : Bf (F := F) c M26) (f27 : Bf (F := F) c M27) (f28 : Bf (F := F) c M28) (f29 : Bf (F := F) c M29) (f30 : Bf (F := F) c M30) (f31 : Bf (F := F) c M31) (f32 : Bf (F := F) c M32) (f33 : Bf (F := F) c M33) (f34 : Bf (F := F) c M34) (E : Set ℕ) (Q : PUnit → sProp 𝕄) :
    iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare X19 ∗ owns (c : Thread nD τ) M20 fullShare X20 ∗ owns (c : Thread nD τ) M21 fullShare X21 ∗ owns (c : Thread nD τ) M22 fullShare X22 ∗ owns (c : Thread nD τ) M23 fullShare X23 ∗ owns (c : Thread nD τ) M24 fullShare X24 ∗ owns (c : Thread nD τ) M25 fullShare X25 ∗ pt c M26 f26 ∗ pt c M27 f27 ∗ pt c M28 f28 ∗ pt c M29 f29 ∗ pt c M30 f30 ∗ pt c M31 f31 ∗ pt c M32 f32 ∗ pt c M33 f33 ∗ pt c M34 f34
      ∗ (iprop(owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗ owns (c : Thread nD τ) M15 fullShare X15 ∗ owns (c : Thread nD τ) M16 fullShare X16 ∗ owns (c : Thread nD τ) M17 fullShare X17 ∗ owns (c : Thread nD τ) M18 fullShare X18 ∗ owns (c : Thread nD τ) M19 fullShare (M19.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).1) ∗ owns (c : Thread nD τ) M20 fullShare (M20.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.1) ∗ owns (c : Thread nD τ) M21 fullShare (M21.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.1) ∗ owns (c : Thread nD τ) M22 fullShare (M22.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.1) ∗ owns (c : Thread nD τ) M23 fullShare (M23.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.1) ∗ owns (c : Thread nD τ) M24 fullShare (M24.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.1) ∗ owns (c : Thread nD τ) M25 fullShare (M25.view.read (Elt F) (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.1)
          ∗ pt c M26 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.1 ∗ pt c M27 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.1 ∗ pt c M28 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.2.1 ∗ pt c M29 (runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.2.2 ∗ (∃ f, pt (F := F) c M30 f) ∗ (∃ f, pt (F := F) c M31 f) ∗ (∃ f, pt (F := F) c M32 f) ∗ (∃ f, pt (F := F) c M33 f) ∗ (∃ f, pt (F := F) c M34 f)) -∗ Q ⟨⟩))
      ⊢ wp frame (wpE (defs₀ (F := F)) Variants.none c none) E
          (cc0_out_proj_ffn i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34) Q := by
  generalize hW : runW c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29 = W
  rw [owns_pt c M1 h1 X1, owns_pt c M2 h2 X2, owns_pt c M3 h3 X3, owns_pt c M4 h4 X4, owns_pt c M5 h5 X5, owns_pt c M6 h6 X6, owns_pt c M7 h7 X7, owns_pt c M8 h8 X8, owns_pt c M9 h9 X9, owns_pt c M10 h10 X10, owns_pt c M11 h11 X11, owns_pt c M12 h12 X12, owns_pt c M13 h13 X13, owns_pt c M14 h14 X14, owns_pt c M15 h15 X15, owns_pt c M16 h16 X16, owns_pt c M17 h17 X17, owns_pt c M18 h18 X18, owns_pt c M19 h19 X19, owns_pt c M20 h20 X20, owns_pt c M21 h21 X21, owns_pt c M22 h22 X22, owns_pt c M23 h23 X23, owns_pt c M24 h24 X24, owns_pt c M25 h25 X25]
  iintro ⟨⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩, ⟨%g14, %e14, H14⟩, ⟨%g15, %e15, H15⟩, ⟨%g16, %e16, H16⟩, ⟨%g17, %e17, H17⟩, ⟨%g18, %e18, H18⟩, ⟨%g19, %e19, H19⟩, ⟨%g20, %e20, H20⟩, ⟨%g21, %e21, H21⟩, ⟨%g22, %e22, H22⟩, ⟨%g23, %e23, H23⟩, ⟨%g24, %e24, H24⟩, ⟨%g25, %e25, H25⟩, H26, H27, H28, H29, H30, H31, H32, H33, H34, Hk⟩
  subst hW
  obtain rfl := h1.eq_unread e1
  obtain rfl := h2.eq_unread e2
  obtain rfl := h3.eq_unread e3
  obtain rfl := h4.eq_unread e4
  obtain rfl := h5.eq_unread e5
  obtain rfl := h6.eq_unread e6
  obtain rfl := h7.eq_unread e7
  obtain rfl := h8.eq_unread e8
  obtain rfl := h9.eq_unread e9
  obtain rfl := h10.eq_unread e10
  obtain rfl := h11.eq_unread e11
  obtain rfl := h12.eq_unread e12
  obtain rfl := h13.eq_unread e13
  obtain rfl := h14.eq_unread e14
  obtain rfl := h15.eq_unread e15
  obtain rfl := h16.eq_unread e16
  obtain rfl := h17.eq_unread e17
  obtain rfl := h18.eq_unread e18
  obtain rfl := h19.eq_unread e19
  obtain rfl := h20.eq_unread e20
  obtain rfl := h21.eq_unread e21
  obtain rfl := h22.eq_unread e22
  obtain rfl := h23.eq_unread e23
  obtain rfl := h24.eq_unread e24
  obtain rfl := h25.eq_unread e25
  iapply ((kernelRun (F := F) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h18.unread X18) (h21.unread X21) (h23.unread X23) (h25.unread X25) f26 f27 f28 f29).2 (h19.unread X19) (h20.unread X20) (h22.unread X22) (h24.unread X24) f30 f31 f32 f33 f34 E Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H1, H2, H3, H4, H5, H6, H7, H8, H9, H10, H11, H12, H13, H14, H15, H16, H17, H18, H19, H20, H21, H22, H23, H24, H25, H26, H27, H28, H29, H30, H31, H32, H33, H34⟩
  iapply Hk
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [H14]
  · iexists _; isplitr; · ipureintro; exact e14
    iexact H14
  isplitl [H15]
  · iexists _; isplitr; · ipureintro; exact e15
    iexact H15
  isplitl [H16]
  · iexists _; isplitr; · ipureintro; exact e16
    iexact H16
  isplitl [H17]
  · iexists _; isplitr; · ipureintro; exact e17
    iexact H17
  isplitl [H18]
  · iexists _; isplitr; · ipureintro; exact e18
    iexact H18
  isplitl [H19]
  · rw [owns_pt c M19 h19]; iexists _; isplitr; · ipureintro; rfl
    iexact H19
  isplitl [H20]
  · rw [owns_pt c M20 h20]; iexists _; isplitr; · ipureintro; rfl
    iexact H20
  isplitl [H21]
  · rw [owns_pt c M21 h21]; iexists _; isplitr; · ipureintro; rfl
    iexact H21
  isplitl [H22]
  · rw [owns_pt c M22 h22]; iexists _; isplitr; · ipureintro; rfl
    iexact H22
  isplitl [H23]
  · rw [owns_pt c M23 h23]; iexists _; isplitr; · ipureintro; rfl
    iexact H23
  isplitl [H24]
  · rw [owns_pt c M24 h24]; iexists _; isplitr; · ipureintro; rfl
    iexact H24
  isplitl [H25]
  · rw [owns_pt c M25 h25]; iexists _; isplitr; · ipureintro; rfl
    iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  iexact H34

end Cert.Proof.KI

end
-- ==== Proof.AtKI.lean ====
/-
  `KernelIdeal`: the body run at one grid point, over what the pipeline hands it, any frame kept beside it, what it leaves
  named once.
-/
module

public import proofs.«01_k».proof.Proof.OwnsKI
public import proofs.«01_k».proof.Proof.Gen.KernelIdeal.Frame
public import Idealize.ShloMosaic.Lib.Pipeline.Frame

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- What the run leaves at point `t`, from what the staging buffers are owned at and what the kept scratch holds. -/
def Wt (c : Dev nD) (t : Fin cfg0.N) (Y : (w : Fin cfg0.W) → (cfg0.win w).block.Idx → Elt F (cfg0.win w).elt)
    (g26 : Buf (Elt F) ((c : Thread nD τ).loc cc0_scratch0)) (g27 : Buf (Elt F) ((c : Thread nD τ).loc cc0_scratch1)) (g28 : Buf (Elt F) ((c : Thread nD τ).loc cc0_scratch2)) (g29 : Buf (Elt F) ((c : Thread nD τ).loc cc0_scratch3)) :=
  runW (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) (Y 17) (Y 20) (Y 22) (Y 24) g26 g27 g28 g29

set_option maxHeartbeats 8000000 in
/-- The body at point `t` over owned staging buffers and held scratch, with a frame `R`. -/
theorem run_at (c : Dev nD) (t : Fin cfg0.N) (Y : (w : Fin cfg0.W) → (cfg0.win w).block.Idx → Elt F (cfg0.win w).elt)
    (g26 : Buf (Elt F) ((c : Thread nD τ).loc cc0_scratch0)) (g27 : Buf (Elt F) ((c : Thread nD τ).loc cc0_scratch1)) (g28 : Buf (Elt F) ((c : Thread nD τ).loc cc0_scratch2)) (g29 : Buf (Elt F) ((c : Thread nD τ).loc cc0_scratch3)) (g30 : Buf (Elt F) ((c : Thread nD τ).loc cc0_scratch4)) (g31 : Buf (Elt F) ((c : Thread nD τ).loc cc0_scratch5)) (g32 : Buf (Elt F) ((c : Thread nD τ).loc cc0_scratch6)) (g33 : Buf (Elt F) ((c : Thread nD τ).loc cc0_scratch7)) (g34 : Buf (Elt F) ((c : Thread nD τ).loc cc0_scratch8)) (R : sProp 𝕄) (Q : PUnit → sProp 𝕄)
    (hQ : ∀ W, W = Wt (F := F) c t Y g26 g27 g28 g29 →
      iprop((owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17)
        ∗ owns (c : Thread nD τ) (win0_18.stage (cfg0.slots t 18)) fullShare ((win0_18.stage (cfg0.slots t 18)).view.read (Elt F) W.1) ∗ owns (c : Thread nD τ) (win0_19.stage (cfg0.slots t 19)) fullShare ((win0_19.stage (cfg0.slots t 19)).view.read (Elt F) W.2.1) ∗ owns (c : Thread nD τ) (win0_20.stage (cfg0.slots t 20)) fullShare ((win0_20.stage (cfg0.slots t 20)).view.read (Elt F) W.2.2.1) ∗ owns (c : Thread nD τ) (win0_21.stage (cfg0.slots t 21)) fullShare ((win0_21.stage (cfg0.slots t 21)).view.read (Elt F) W.2.2.2.1) ∗ owns (c : Thread nD τ) (win0_22.stage (cfg0.slots t 22)) fullShare ((win0_22.stage (cfg0.slots t 22)).view.read (Elt F) W.2.2.2.2.1) ∗ owns (c : Thread nD τ) (win0_23.stage (cfg0.slots t 23)) fullShare ((win0_23.stage (cfg0.slots t 23)).view.read (Elt F) W.2.2.2.2.2.1) ∗ owns (c : Thread nD τ) (win0_24.stage (cfg0.slots t 24)) fullShare ((win0_24.stage (cfg0.slots t 24)).view.read (Elt F) W.2.2.2.2.2.2.1))
        ∗ ((((c : Thread nD τ).loc cc0_scratch0) ↦{fullShare} W.2.2.2.2.2.2.2.1) ∗ (((c : Thread nD τ).loc cc0_scratch1) ↦{fullShare} W.2.2.2.2.2.2.2.2.1) ∗ (((c : Thread nD τ).loc cc0_scratch2) ↦{fullShare} W.2.2.2.2.2.2.2.2.2.1) ∗ (((c : Thread nD τ).loc cc0_scratch3) ↦{fullShare} W.2.2.2.2.2.2.2.2.2.2) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f) ∗ (∃ f : Buf (Elt F) ((c : Thread nD τ).loc cc0_scratch8), ((c : Thread nD τ).loc cc0_scratch8) ↦{fullShare} f)) ∗ R) ⊢ Q ⟨⟩) :
    iprop((owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8) ∗ owns (c : Thread nD τ) (win0_9.stage (cfg0.slots t 9)) fullShare (Y 9) ∗ owns (c : Thread nD τ) (win0_10.stage (cfg0.slots t 10)) fullShare (Y 10) ∗ owns (c : Thread nD τ) (win0_11.stage (cfg0.slots t 11)) fullShare (Y 11) ∗ owns (c : Thread nD τ) (win0_12.stage (cfg0.slots t 12)) fullShare (Y 12) ∗ owns (c : Thread nD τ) (win0_13.stage (cfg0.slots t 13)) fullShare (Y 13) ∗ owns (c : Thread nD τ) (win0_14.stage (cfg0.slots t 14)) fullShare (Y 14) ∗ owns (c : Thread nD τ) (win0_15.stage (cfg0.slots t 15)) fullShare (Y 15) ∗ owns (c : Thread nD τ) (win0_16.stage (cfg0.slots t 16)) fullShare (Y 16) ∗ owns (c : Thread nD τ) (win0_17.stage (cfg0.slots t 17)) fullShare (Y 17) ∗ owns (c : Thread nD τ) (win0_18.stage (cfg0.slots t 18)) fullShare (Y 18) ∗ owns (c : Thread nD τ) (win0_19.stage (cfg0.slots t 19)) fullShare (Y 19) ∗ owns (c : Thread nD τ) (win0_20.stage (cfg0.slots t 20)) fullShare (Y 20) ∗ owns (c : Thread nD τ) (win0_21.stage (cfg0.slots t 21)) fullShare (Y 21) ∗ owns (c : Thread nD τ) (win0_22.stage (cfg0.slots t 22)) fullShare (Y 22) ∗ owns (c : Thread nD τ) (win0_23.stage (cfg0.slots t 23)) fullShare (Y 23) ∗ owns (c : Thread nD τ) (win0_24.stage (cfg0.slots t 24)) fullShare (Y 24))
        ∗ ((((c : Thread nD τ).loc cc0_scratch0) ↦{fullShare} g26) ∗ (((c : Thread nD τ).loc cc0_scratch1) ↦{fullShare} g27) ∗ (((c : Thread nD τ).loc cc0_scratch2) ↦{fullShare} g28) ∗ (((c : Thread nD τ).loc cc0_scratch3) ↦{fullShare} g29) ∗ (((c : Thread nD τ).loc cc0_scratch4) ↦{fullShare} g30) ∗ (((c : Thread nD τ).loc cc0_scratch5) ↦{fullShare} g31) ∗ (((c : Thread nD τ).loc cc0_scratch6) ↦{fullShare} g32) ∗ (((c : Thread nD τ).loc cc0_scratch7) ↦{fullShare} g33) ∗ (((c : Thread nD τ).loc cc0_scratch8) ↦{fullShare} g34)) ∗ R)
      ⊢ wp frame (wpE (defs₀ (F := F)) Variants.none c none) Set.univ (bodyAt0 t) Q := by
  have h := run_owns (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22) (Y 23) (Y 24) g26 g27 g28 g29 g30 g31 g32 g33 g34 Set.univ Q
  have hQ' := hQ _ rfl
  clear hQ
  unfold Wt at hQ'
  generalize runW (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Y 0) (Y 1) (Y 2) (Y 3) (Y 4) (Y 5) (Y 6) (Y 7) (Y 8) (Y 9) (Y 10) (Y 11) (Y 12) (Y 13) (Y 14) (Y 15) (Y 16) (Y 17) (Y 20) (Y 22) (Y 24) g26 g27 g28 g29 = W at h hQ'
  refine BIBase.Entails.trans ?_ h
  iintro ⟨⟨H1, H2, H3, H4, H5, H6, H7, H8, H9, H10, H11, H12, H13, H14, H15, H16, H17, H18, H19, H20, H21, H22, H23, H24, H25⟩, ⟨H26, H27, H28, H29, H30, H31, H32, H33, H34⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  iintro ⟨H1, H2, H3, H4, H5, H6, H7, H8, H9, H10, H11, H12, H13, H14, H15, H16, H17, H18, H19, H20, H21, H22, H23, H24, H25, H26, H27, H28, H29, H30, H31, H32, H33, H34⟩
  iapply hQ'
  isplitl [H1 H2 H3 H4 H5 H6 H7 H8 H9 H10 H11 H12 H13 H14 H15 H16 H17 H18 H19 H20 H21 H22 H23 H24 H25]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    iexact H25
  isplitl [H26 H27 H28 H29 H30 H31 H32 H33 H34]
  · isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  iexact HR

end Cert.Proof.KI

end
-- ==== Proof.FrameKI.lean ====
/-
  `KernelIdeal`'s frame: the body run of `OwnsKI` under proof data that keeps every input block as found and says nothing of
  what the outputs hold.
-/
module

public import proofs.«01_k».proof.Proof.AtKI
public import proofs.«01_k».proof.Proof.Gen.KernelIdeal.Frame
public import Idealize.ShloMosaic.Lib.Pipeline.Frame

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The proof data: inputs are left as found, the outputs unnamed. -/
def rdatF (c : Dev nD) : Pipeline.RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

set_option maxHeartbeats 8000000 in
/-- The body obligation, from the body run. -/
theorem body_obligation (c : Dev nD) : (rdatF (F := F) m c).BodyObligation (defs₀ (F := F)) Variants.none () Set.univ := fun t Y hY => by
  rw [bigSep_W0, bigSep_W0, defs₀_row]
  rw [show (rdatF m c).Φ t.succ = Pipeline.ΦA spec0 c from rfl, show (rdatF m c).Φ t.castSucc = Pipeline.ΦA spec0 c from rfl,
    show (rdatF m c).owesAt () t.succ = (rdatF m c).owesAt () t.castSucc from rfl]
  unfold Pipeline.ΦA; rw [scopedRest0_eq]
  iintro ⟨⟨⟨⟨%g26, H26⟩, ⟨%g27, H27⟩, ⟨%g28, H28⟩, ⟨%g29, H29⟩, ⟨%g30, H30⟩, ⟨%g31, H31⟩, ⟨%g32, H32⟩, ⟨%g33, H33⟩, ⟨%g34, H34⟩⟩, Hg⟩, Ho, HY⟩
  iapply (run_at (F := F) c t Y g26 g27 g28 g29 g30 g31 g32 g33 g34 (iprop((∃ r, prngReg c r) ∗ (rdatF (F := F) m c).owesAt () t.castSucc)) _ ?hQ)
  case hQ =>
    intro W hW
    clear hW
    iintro ⟨⟨H1, H2, H3, H4, H5, H6, H7, H8, H9, H10, H11, H12, H13, H14, H15, H16, H17, H18, H19, H20, H21, H22, H23, H24, H25⟩, ⟨H26, H27, H28, H29, H30, H31, H32, H33, H34⟩, Hg, Ho⟩
    isplitl [H26 H27 H28 H29 H30 H31 H32 H33 H34 Hg]
    · isplitl [H26 H27 H28 H29 H30 H31 H32 H33 H34]
      · isplitl [H26]; · iexists _; iexact H26
        isplitl [H27]; · iexists _; iexact H27
        isplitl [H28]; · iexists _; iexact H28
        isplitl [H29]; · iexists _; iexact H29
        isplitl [H30]; · iexact H30
        isplitl [H31]; · iexact H31
        isplitl [H32]; · iexact H32
        isplitl [H33]; · iexact H33
        iexact H34
      iexact Hg
    isplitl [Ho]; · iexact Ho
    isplitl [H1]
    · iexists (Y 0)
      isplitr; swap; · iexact H1
      ipureintro; exact fun _ => rfl
    isplitl [H2]
    · iexists (Y 1)
      isplitr; swap; · iexact H2
      ipureintro; exact fun _ => rfl
    isplitl [H3]
    · iexists (Y 2)
      isplitr; swap; · iexact H3
      ipureintro; exact fun _ => rfl
    isplitl [H4]
    · iexists (Y 3)
      isplitr; swap; · iexact H4
      ipureintro; exact fun _ => rfl
    isplitl [H5]
    · iexists (Y 4)
      isplitr; swap; · iexact H5
      ipureintro; exact fun _ => rfl
    isplitl [H6]
    · iexists (Y 5)
      isplitr; swap; · iexact H6
      ipureintro; exact fun _ => rfl
    isplitl [H7]
    · iexists (Y 6)
      isplitr; swap; · iexact H7
      ipureintro; exact fun _ => rfl
    isplitl [H8]
    · iexists (Y 7)
      isplitr; swap; · iexact H8
      ipureintro; exact fun _ => rfl
    isplitl [H9]
    · iexists (Y 8)
      isplitr; swap; · iexact H9
      ipureintro; exact fun _ => rfl
    isplitl [H10]
    · iexists (Y 9)
      isplitr; swap; · iexact H10
      ipureintro; exact fun _ => rfl
    isplitl [H11]
    · iexists (Y 10)
      isplitr; swap; · iexact H11
      ipureintro; exact fun _ => rfl
    isplitl [H12]
    · iexists (Y 11)
      isplitr; swap; · iexact H12
      ipureintro; exact fun _ => rfl
    isplitl [H13]
    · iexists (Y 12)
      isplitr; swap; · iexact H13
      ipureintro; exact fun _ => rfl
    isplitl [H14]
    · iexists (Y 13)
      isplitr; swap; · iexact H14
      ipureintro; exact fun _ => rfl
    isplitl [H15]
    · iexists (Y 14)
      isplitr; swap; · iexact H15
      ipureintro; exact fun _ => rfl
    isplitl [H16]
    · iexists (Y 15)
      isplitr; swap; · iexact H16
      ipureintro; exact fun _ => rfl
    isplitl [H17]
    · iexists (Y 16)
      isplitr; swap; · iexact H17
      ipureintro; exact fun _ => rfl
    isplitl [H18]
    · iexists (Y 17)
      isplitr; swap; · iexact H18
      ipureintro; exact fun _ => rfl
    isplitl [H19]
    · iexists _
      isplitr; swap; · iexact H19
      ipureintro; exact fun h => absurd h (by decide)
    isplitl [H20]
    · iexists _
      isplitr; swap; · iexact H20
      ipureintro; exact fun h => absurd h (by decide)
    isplitl [H21]
    · iexists _
      isplitr; swap; · iexact H21
      ipureintro; exact fun h => absurd h (by decide)
    isplitl [H22]
    · iexists _
      isplitr; swap; · iexact H22
      ipureintro; exact fun h => absurd h (by decide)
    isplitl [H23]
    · iexists _
      isplitr; swap; · iexact H23
      ipureintro; exact fun h => absurd h (by decide)
    isplitl [H24]
    · iexists _
      isplitr; swap; · iexact H24
      ipureintro; exact fun h => absurd h (by decide)
    iexists _
    isplitr; swap; · iexact H25
    ipureintro; exact fun h => absurd h (by decide)
  isplitl [HY]; · iexact HY
  isplitl [H26 H27 H28 H29 H30 H31 H32 H33 H34]
  · isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  isplitl [Hg]; · iexact Hg
  iexact Ho

set_option backward.isDefEq.respectTransparency.types false in
/-- Every weakly fair execution of @main terminates; every array ends as the proof data says and every counter at zero. -/
theorem run_mainF : θ_run defs (onTc (τ := τ) (main (F := F))) (s₀ m ρ)
    (fun r => Pipeline.RDat.FramePost cfg0 (rdatF m) (V m) r ∧ r.2.sem = fun _ => 0) :=
  Pipeline.RDat.θ_run_frame_track (Q' := _) cfgs (0 : Fin 1) launch0 defs₀ Variants.none (rdatF m) m ρ main
    (hbody := body_obligation m) (hshare := fun c w => (rdatF m c).share_full (fun _ => rfl) w)
    (howed := fun _ _ => rfl) (V := V m) (hmain := hmain m Variants.none) (hA := fun _ _ => rfl)
    (hin := fun _ => .rfl) (hout := fun _ => .rfl)

/-- The frame: the argument arrays end unchanged and the machine is quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  (θ_run defs _ _).mono (fun r h => ⟨fun c => ⟨(h.1.arr_in c 0 rfl).trans (V_main_arg0 m c),
      (h.1.arr_in c 1 rfl).trans (V_main_arg1 m c),
      (h.1.arr_in c 2 rfl).trans (V_main_arg2 m c),
      ((h.1 c).2 main_arg3 (Pipeline.mem_restRefs_of main_arg3 (by decide) (by decide))).trans (V_main_arg3 m c),
      (h.1.arr_in c 3 rfl).trans (V_main_arg4 m c),
      ((h.1 c).2 main_arg5 (Pipeline.mem_restRefs_of main_arg5 (by decide) (by decide))).trans (V_main_arg5 m c),
      ((h.1 c).2 main_arg6 (Pipeline.mem_restRefs_of main_arg6 (by decide) (by decide))).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c),
      (h.1.arr_in c 9 rfl).trans (V_main_arg9 m c),
      ((h.1 c).2 main_arg10 (Pipeline.mem_restRefs_of main_arg10 (by decide) (by decide))).trans (V_main_arg10 m c),
      ((h.1 c).2 main_arg11 (Pipeline.mem_restRefs_of main_arg11 (by decide) (by decide))).trans (V_main_arg11 m c),
      (h.1.arr_in c 12 rfl).trans (V_main_arg12 m c),
      ((h.1 c).2 main_arg13 (Pipeline.mem_restRefs_of main_arg13 (by decide) (by decide))).trans (V_main_arg13 m c),
      ((h.1 c).2 main_arg14 (Pipeline.mem_restRefs_of main_arg14 (by decide) (by decide))).trans (V_main_arg14 m c),
      ((h.1 c).2 main_arg15 (Pipeline.mem_restRefs_of main_arg15 (by decide) (by decide))).trans (V_main_arg15 m c),
      ((h.1 c).2 main_arg16 (Pipeline.mem_restRefs_of main_arg16 (by decide) (by decide))).trans (V_main_arg16 m c),
      ((h.1 c).2 main_arg17 (Pipeline.mem_restRefs_of main_arg17 (by decide) (by decide))).trans (V_main_arg17 m c)⟩, h.2⟩) (run_mainF m ρ)

end Cert.Proof.KI

end
-- ==== Proof.Model.lean ====
/-
  The layer over the extended reals, one token row at a time, as the kernel computes it; and the laws that take the
  reference's spelling of each step to it.
-/
module

public import Idealize.ShloMosaic.PureOps.Ideal
public import Idealize.ShloMosaic.PureOps.Ideal.Laws
public import Idealize.ShloMosaic.Lib.Pointwise
public import Idealize.ShloMosaic.Lib.IdealHost

@[expose] public section

noncomputable section

namespace Cert.Proof.Model

open Idealize.ShloMosaic

/-- The layer's weights, scales, biases and gains. -/
structure Par where
  wo : Fin 1024 → Fin 1024 → EReal
  wso : Fin 1024 → EReal
  bo : Fin 1024 → EReal
  g1 : Fin 1024 → EReal
  b1 : Fin 1024 → EReal
  sm : Fin 1024 → EReal
  wu : Fin 1024 → Fin 4096 → EReal
  wsu : Fin 4096 → EReal
  bu : Fin 4096 → EReal
  wd : Fin 4096 → Fin 1024 → EReal
  wsd : Fin 1024 → EReal
  bd : Fin 1024 → EReal
  g2 : Fin 1024 → EReal
  b2 : Fin 1024 → EReal
  wc : Fin 1024 → EReal

/-- One token: its context codes, their scale, its residual input. -/
structure Row where
  cc : Fin 1024 → EReal
  cs : EReal
  x : Fin 1024 → EReal

/-- The constants, by their patterns: 2⁻¹⁰, the layer norm's epsilon, ±127; and the reciprocal root of two. -/
abbrev q : EReal := Ideal.ofBits .f32 0x3A800000#32
abbrev eps : EReal := Ideal.ofBits .f32 0x2B8CBCCC#32
abbrev hi : EReal := Ideal.ofBits .f32 0x42FE0000#32
abbrev lo : EReal := Ideal.ofBits .f32 0xC2FE0000#32
abbrev rt : EReal := (((Real.sqrt 2)⁻¹ : ℝ) : EReal)
abbrev ninf : EReal := Ideal.ofBits .f32 0xFF800000#32

/-- The layer norm of a row. -/
def ln (a g b : Fin 1024 → EReal) (j : Fin 1024) : EReal :=
  (a j - (∑ k, a k) * q) * Ideal.rsqrt ((∑ k, (a k - (∑ i, a i) * q) * (a k - (∑ i, a i) * q)) * q + eps) * g j + b j

/-- The largest magnitude of a row. -/
def amax {n : ℕ} (v : Fin n → EReal) : EReal := Finset.univ.fold max ninf fun k => max (v k) (-(v k))

/-- The scale of a row whose largest magnitude is `a`. -/
def scale (a : EReal) : EReal := if 0 < a then Ideal.div a hi else 1

/-- A rounded and clamped code. -/
def code (x : EReal) : EReal := min hi (max lo (Ideal.liftRound Ideal.roundHalfEven x))

variable (p : Par) (r : Row)

def A (j : Fin 1024) : EReal := (∑ k, r.cc k * p.wo k j) * r.cs * p.wso j + p.bo j + r.x j
def H1 (j : Fin 1024) : EReal := ln (A p r) p.g1 p.b1 j
def Vq (j : Fin 1024) : EReal := H1 p r j * Ideal.div 1 (p.sm j)
def HS : EReal := scale (amax (Vq p r))
def HC (j : Fin 1024) : EReal := code (Vq p r j * Ideal.div 1 (HS p r))
def Z (j : Fin 4096) : EReal := (∑ k, HC p r k * p.wu k j) * HS p r * (p.wsu j * rt) + p.bu j * rt
def G (j : Fin 4096) : EReal := Z p r j * (1 + Ideal.erf (Z p r j))
def GA : EReal := amax (G p r)
def GS : EReal := scale (GA p r * rt)
def GC (j : Fin 4096) : EReal := code (G p r j * Ideal.div rt (GS p r))
def D (j : Fin 1024) : EReal := (∑ k, GC p r k * p.wd k j) * GS p r * p.wsd j + p.bd j + H1 p r j
def Y (j : Fin 1024) : EReal := ln (D p r) p.g2 p.b2 j
def SC : EReal := ∑ k, Y p r k * p.wc k

/-! ## The constants' values -/

theorem q_eq : q = (((1 : ℝ) / 1024 : ℝ) : EReal) := by
  simp [q, Ideal.ofBits, Ideal.ieee, -EReal.coe_mul, -EReal.coe_neg]; norm_num
theorem n1024_eq : Ideal.ofBits .f32 0x44800000#32 = ((1024 : ℝ) : EReal) := by
  simp [Ideal.ofBits, Ideal.ieee, -EReal.coe_mul, -EReal.coe_neg]; norm_num
theorem hi_eq : hi = ((127 : ℝ) : EReal) := by
  simp [hi, Ideal.ofBits, Ideal.ieee, -EReal.coe_mul, -EReal.coe_neg]; norm_num
theorem lo_eq : lo = ((-127 : ℝ) : EReal) := by
  simp [lo, Ideal.ofBits, Ideal.ieee, -EReal.coe_mul, -EReal.coe_neg]; norm_num
theorem half_eq : Ideal.ofBits .f32 0x3F000000#32 = (((1 : ℝ) / 2 : ℝ) : EReal) := by
  simp [Ideal.ofBits, Ideal.ieee, -EReal.coe_mul, -EReal.coe_neg]; norm_num
theorem ninf_eq : ninf = ⊥ := by simp [ninf, Ideal.ofBits, Ideal.ieee]

/-! ## The laws -/

theorem div_n1024 (x : EReal) : Ideal.div x (Ideal.ofBits .f32 0x44800000#32) = x * q := by
  rw [n1024_eq, Ideal.div_coe (by norm_num), q_eq]

theorem div_eq_mul {y : EReal} (h : y ≠ 0) (x : EReal) : Ideal.div x y = x * Ideal.div 1 y := by
  rw [Ideal.div, Ideal.div, if_neg h, if_neg h, one_mul]

theorem rt_pos : (0 : ℝ) < (Real.sqrt 2)⁻¹ := inv_pos.mpr (Real.sqrt_pos.mpr (by norm_num))

theorem rt_mul_rt : rt * rt = (((1 : ℝ) / 2 : ℝ) : EReal) := by
  have : (Real.sqrt 2)⁻¹ * (Real.sqrt 2)⁻¹ = (1 : ℝ) / 2 := by
    rw [← mul_inv, Real.mul_self_sqrt (by norm_num)]; norm_num
  rw [rt, ← EReal.coe_mul, this]

theorem div_sqrt2 (x : EReal) : Ideal.div x ((Real.sqrt 2 : ℝ) : EReal) = x * rt := by
  rw [Ideal.div_coe (Real.sqrt_ne_zero'.mpr (by norm_num)), one_div]

theorem div_rt (s x : EReal) (h : s ≠ 0) : Ideal.div (x * rt) s = x * Ideal.div rt s := by
  rw [Ideal.div, Ideal.div, if_neg h, if_neg h, mul_assoc]

theorem scale_ne_zero (a : EReal) : scale a ≠ 0 := by
  unfold scale
  split_ifs with h
  · rw [hi_eq, Ideal.div_coe (by norm_num)]
    intro h0
    rcases mul_eq_zero.mp h0 with h1 | h1
    · exact absurd h1 (ne_of_gt h)
    · norm_num at h1
  · exact one_ne_zero

/-- A code's machine word reads back as the code. -/
theorem code_word (x : EReal) : (((Ideal.fptosi 8 (code x)).toInt : ℝ) : EReal) = code x := by
  have key : ∃ n : ℤ, -127 ≤ n ∧ n ≤ 127 ∧ code x = ((n : ℝ) : EReal) := by
    unfold code
    rw [hi_eq, lo_eq]
    have hneg : ((-127 : ℝ) : EReal) = -((127 : ℝ) : EReal) := rfl
    induction x with
    | bot => exact ⟨-127, by norm_num, by norm_num, by
        rw [Ideal.liftRound_bot, max_eq_left bot_le, min_eq_right (by exact_mod_cast (by norm_num : (-127 : ℝ) ≤ 127))]; norm_num⟩
    | top => exact ⟨127, by norm_num, by norm_num, by
        rw [Ideal.liftRound_top, max_eq_right le_top, min_eq_left le_top]; norm_num⟩
    | coe y =>
      refine ⟨min 127 (max (-127) (Ideal.roundHalfEven y)), by omega, by omega, ?_⟩
      rw [Ideal.liftRound_coe]
      push_cast
      rw [EReal.coe_strictMono.monotone.map_min, EReal.coe_strictMono.monotone.map_max]
      rfl
  obtain ⟨n, h1, h2, e⟩ := key
  rw [e, Ideal.fptosi, Ideal.toIntClamped_coe]
  have hf : (if (0 : ℝ) ≤ (n : ℝ) then ⌊(n : ℝ)⌋ else ⌈(n : ℝ)⌉) = n := by split_ifs <;> simp
  rw [hf]
  have : (max (-((2 ^ (8 - 1) : ℕ) : ℤ)) (min (((2 ^ (8 - 1) : ℕ) : ℤ) - 1) n)) = n := by norm_num; omega
  rw [this, BitVec.toInt_ofInt]
  have h3 : n.bmod (2 ^ 8) = n := by
    apply Int.bmod_eq_of_le <;> norm_num <;> omega
  rw [h3]

/-! ## The largest magnitude, tile by tile -/

theorem amax_eq {n : ℕ} (v : Fin n → EReal) : amax v = Finset.univ.sup fun k => max (v k) (-(v k)) := by
  unfold amax; rw [ninf_eq]; rfl

theorem abs_nonneg' (x : EReal) : 0 ≤ max x (-x) := by
  rcases le_total 0 x with h | h
  · exact le_max_of_le_left h
  · exact le_max_of_le_right (EReal.neg_nonneg.mpr h)

theorem amax_nonneg {n : ℕ} [NeZero n] (v : Fin n → EReal) : 0 ≤ amax v := by
  rw [amax_eq]
  exact le_trans (abs_nonneg' (v 0)) (Finset.le_sup (f := fun k => max (v k) (-(v k))) (Finset.mem_univ 0))

/-- A running maximum: over the first `n` tiles of 256 columns, from zero. -/
def runmax (v : Fin 4096 → EReal) : ℕ → EReal
  | 0 => 0
  | n + 1 => max (runmax v n)
      (Finset.univ.fold max ninf fun l : Fin 256 => if h : 256 * n + l.val < 4096 then max (v ⟨256 * n + l.val, h⟩) (-(v ⟨256 * n + l.val, h⟩)) else 0)

theorem runmax_le (v : Fin 4096 → EReal) (n : ℕ) : runmax v n ≤ amax v := by
  induction n with
  | zero => exact amax_nonneg v
  | succ n ih =>
    refine max_le ih ?_
    rw [ninf_eq]
    show Finset.univ.sup _ ≤ _
    refine Finset.sup_le fun l _ => ?_
    split_ifs with h
    · rw [amax_eq]; exact Finset.le_sup (f := fun k => max (v k) (-(v k))) (Finset.mem_univ _)
    · exact amax_nonneg v

theorem le_runmax (v : Fin 4096 → EReal) (k : Fin 4096) (n : ℕ) (h : k.val < 256 * n) : max (v k) (-(v k)) ≤ runmax v n := by
  induction n with
  | zero => omega
  | succ n ih =>
    by_cases hk : k.val < 256 * n
    · exact (ih hk).trans (le_max_left _ _)
    · refine le_trans ?_ (le_max_right _ _)
      rw [ninf_eq]
      have hl : k.val - 256 * n < 256 := by omega
      have e : 256 * n + (k.val - 256 * n) = k.val := by omega
      refine le_trans ?_ (Finset.le_sup (f := fun l : Fin 256 => if h : 256 * n + l.val < 4096 then max (v ⟨256 * n + l.val, h⟩) (-(v ⟨256 * n + l.val, h⟩)) else 0) (Finset.mem_univ (⟨k.val - 256 * n, hl⟩ : Fin 256)))
      have h4 : 256 * n + (k.val - 256 * n) < 4096 := by have := k.isLt; omega
      simp only [dif_pos h4]
      have e2 : (⟨256 * n + (k.val - 256 * n), h4⟩ : Fin 4096) = k := Fin.ext e
      rw [e2]

theorem runmax_16 (v : Fin 4096 → EReal) : runmax v 16 = amax v :=
  le_antisymm (runmax_le v 16) (by rw [amax_eq]; exact Finset.sup_le fun k _ => le_runmax v k 16 (by have := k.isLt; omega))

theorem runmax_one (v : Fin 4096 → EReal) :
    max 0 (Finset.univ.fold max ninf fun l : Fin 256 => max (v ⟨l.val, by omega⟩) (-(v ⟨l.val, by omega⟩))) = runmax v 1 := by
  refine congrArg (max 0) (congrArg (Finset.univ.fold max ninf) (funext fun l => ?_))
  have h : 256 * 0 + l.val < 4096 := by omega
  rw [dif_pos h]
  have e : (⟨l.val, by omega⟩ : Fin 4096) = ⟨256 * 0 + l.val, h⟩ := Fin.ext (by simp)
  rw [e]

theorem runmax_step (v : Fin 4096 → EReal) (n : ℕ) (hn : n < 16) :
    max (runmax v n) (Finset.univ.fold max ninf fun l : Fin 256 => max (v ⟨256 * n + l.val, by omega⟩) (-(v ⟨256 * n + l.val, by omega⟩))) = runmax v (n + 1) := by
  refine congrArg (max _) (congrArg (Finset.univ.fold max ninf) (funext fun l => ?_))
  have h : 256 * n + l.val < 4096 := by omega
  rw [dif_pos h]

/-- Scaling a row by a positive real scales its largest magnitude. -/
theorem amax_mul_rt {n : ℕ} [NeZero n] (v : Fin n → EReal) : amax (fun k => v k * rt) = amax v * rt := by
  have h0 : (0 : EReal) ≤ rt := EReal.coe_nonneg.mpr rt_pos.le
  have hm : Monotone fun x : EReal => x * rt := fun a b h => mul_le_mul_of_nonneg_right h h0
  have e : ∀ x : EReal, max (x * rt) (-(x * rt)) = max x (-x) * rt := fun x => by
    rw [← EReal.neg_mul]; exact (hm.map_max).symm
  rw [amax_eq, amax_eq]
  simp only [e]
  apply le_antisymm
  · exact Finset.sup_le fun k _ => hm (Finset.le_sup (f := fun k => max (v k) (-(v k))) (Finset.mem_univ k))
  · obtain ⟨k, _, hk⟩ := Finset.exists_mem_eq_sup (Finset.univ : Finset (Fin n)) ⟨0, Finset.mem_univ _⟩ (fun k => max (v k) (-(v k)))
    rw [hk]
    exact Finset.le_sup (f := fun k => max (v k) (-(v k)) * rt) (Finset.mem_univ k)

/-! ## The reference's gelu, in the kernel's scaled spelling -/

/-- The up projection's value before the kernel's scaling. -/
def U (j : Fin 4096) : EReal := (∑ k, HC p r k * p.wu k j) * HS p r * p.wsu j + p.bu j

theorem U_mul_rt (j : Fin 4096) : U p r j * rt = Z p r j := by
  unfold U Z
  rw [EReal.right_distrib_of_nonneg_of_ne_top (EReal.coe_nonneg.mpr rt_pos.le) (EReal.coe_ne_top _), mul_assoc]

theorem gelu_eq (j : Fin 4096) :
    Ideal.ofBits .f32 0x3F000000#32 * U p r j * (1 + Ideal.erf (Ideal.div (U p r j) ((Real.sqrt 2 : ℝ) : EReal))) = G p r j * rt := by
  rw [div_sqrt2, U_mul_rt, half_eq, ← rt_mul_rt, G, ← U_mul_rt]
  generalize 1 + Ideal.erf (U p r j * rt) = e
  ac_rfl

end Cert.Proof.Model

end

end
-- ==== Proof.Ties.lean ====
/-
  What the body reads: the weights and the token rows, in the bytes it finds.
-/
module

public import proofs.«01_k».proof.Proof.RunKI
public import proofs.«01_k».proof.Proof.Model
public import Idealize.ShloMosaic.Lib.Pointwise

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

/-- The arrays the body reads, in bytes, hold the weights `P` and the token rows `R`. The four weight scratches hold their
converted weights (converted at this point, or held from an earlier one). -/
structure Ties (P : Par) (R : Fin 512 → Row) (c : Dev nD) (i : grid0.Coords) (M1 : Memref sig .tc .vmem S1x512x1024 .i8) (M2 : Memref sig .tc .vmem S32x512 .f32) (M3 : Memref sig .tc .vmem S1x512x1024 .bf16) (M4 : Memref sig .tc .vmem S1024x1024 .i8) (M5 : Memref sig .tc .vmem S1x1024 .f32) (M6 : Memref sig .tc .vmem S1x1024 .f32) (M7 : Memref sig .tc .vmem S1x1024 .f32) (M8 : Memref sig .tc .vmem S1x1024 .f32) (M9 : Memref sig .tc .vmem S1x1024 .f32) (M10 : Memref sig .tc .vmem S1024x4096 .i8) (M11 : Memref sig .tc .vmem S1x4096 .f32) (M12 : Memref sig .tc .vmem S1x4096 .f32) (M13 : Memref sig .tc .vmem S4096x1024 .i8) (M14 : Memref sig .tc .vmem S1x1024 .f32) (M15 : Memref sig .tc .vmem S1x1024 .f32) (M16 : Memref sig .tc .vmem S1x1024 .f32) (M17 : Memref sig .tc .vmem S1x1024 .f32) (M18 : Memref sig .tc .vmem S1x1024 .f32) (M26 : Memref sig .tc .vmem S1024x1024 .bf16) (M27 : Memref sig .tc .vmem S1024x4096 .bf16) (M28 : Memref sig .tc .vmem S4096x1024 .bf16) (M29 : Memref sig .tc .vmem S8x4096 .f32) (f1 : Bf (F := Ideal) c M1) (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) (f9 : Bf (F := Ideal) c M9) (f10 : Bf (F := Ideal) c M10) (f11 : Bf (F := Ideal) c M11) (f12 : Bf (F := Ideal) c M12) (f13 : Bf (F := Ideal) c M13) (f14 : Bf (F := Ideal) c M14) (f15 : Bf (F := Ideal) c M15) (f16 : Bf (F := Ideal) c M16) (f17 : Bf (F := Ideal) c M17) (f18 : Bf (F := Ideal) c M18) (f26 : Bf (F := Ideal) c M26) (f27 : Bf (F := Ideal) c M27) (f28 : Bf (F := Ideal) c M28) (f29 : Bf (F := Ideal) c M29) : Prop where
  cc : ∀ r k, (FloatOps.sitofp (F := Ideal) FTy.bf16 (View.read (Elt Ideal) M1.view f1 (ix3 0 r k)) : EReal) = (R r).cc k
  cs : ∀ (x : ℕ) (h0 : k0_off1 i 0 < 32) (h1 : k0_off1 i 1 + x < 512), View.read (Elt Ideal) M2.view f2 (ix2 ⟨k0_off1 i 0, h0⟩ ⟨k0_off1 i 1 + x, h1⟩) = (R ⟨x, lt_of_le_of_lt (Nat.le_add_left _ _) h1⟩).cs
  x : ∀ r k, View.read (Elt Ideal) M3.view f3 (ix3 0 r k) = (R r).x k
  wo : ∀ k j, View.read (Elt Ideal) M26.view (if hc : kernelRun.sl.v2 i = 1#1 then M26.view.writes (Elt Ideal) f26 (kernelRun.sl.H26_4 c M4 f4) else f26) (ix2 k j) = P.wo k j
  wso : ∀ k, View.read (Elt Ideal) M5.view f5 (ix2 0 k) = P.wso k
  bo : ∀ k, View.read (Elt Ideal) M6.view f6 (ix2 0 k) = P.bo k
  g1 : ∀ k, View.read (Elt Ideal) M7.view f7 (ix2 0 k) = P.g1 k
  b1 : ∀ k, View.read (Elt Ideal) M8.view f8 (ix2 0 k) = P.b1 k
  sm : ∀ k, View.read (Elt Ideal) M9.view f9 (ix2 0 k) = P.sm k
  wu : ∀ k j, View.read (Elt Ideal) M27.view (if hc : kernelRun.sl.v2 i = 1#1 then M27.view.writes (Elt Ideal) f27 (kernelRun.sl.H27_4 c M10 f10) else f27) (ix2 k j) = P.wu k j
  wsu : ∀ j, View.read (Elt Ideal) M29.view (if hc : kernelRun.sl.v2 i = 1#1 then M29.view.writes (Elt Ideal) f29 [⟨Rect.unit ![1, 0] S1x4096.size Gen.inb_S8x4096_S1x4096_1_0, Gen.k0_pay27 (View.readAt (Elt Ideal) M12.view (Rect.unit ![0, 0] S1x4096.size Gen.inb_S1x4096_S1x4096_0_0).toLoadRect f12)⟩, ⟨Rect.unit ![0, 0] S1x4096.size Gen.inb_S8x4096_S1x4096_0_0, Gen.k0_pay26 (View.readAt (Elt Ideal) M11.view (Rect.unit ![0, 0] S1x4096.size Gen.inb_S1x4096_S1x4096_0_0).toLoadRect f11)⟩] else f29) (ix2 0 j) = P.wsu j * rt
  bu : ∀ j, View.read (Elt Ideal) M29.view (if hc : kernelRun.sl.v2 i = 1#1 then M29.view.writes (Elt Ideal) f29 [⟨Rect.unit ![1, 0] S1x4096.size Gen.inb_S8x4096_S1x4096_1_0, Gen.k0_pay27 (View.readAt (Elt Ideal) M12.view (Rect.unit ![0, 0] S1x4096.size Gen.inb_S1x4096_S1x4096_0_0).toLoadRect f12)⟩, ⟨Rect.unit ![0, 0] S1x4096.size Gen.inb_S8x4096_S1x4096_0_0, Gen.k0_pay26 (View.readAt (Elt Ideal) M11.view (Rect.unit ![0, 0] S1x4096.size Gen.inb_S1x4096_S1x4096_0_0).toLoadRect f11)⟩] else f29) (ix2 1 j) = P.bu j * rt
  wd : ∀ k j, View.read (Elt Ideal) M28.view (if hc : kernelRun.sl.v2 i = 1#1 then M28.view.writes (Elt Ideal) f28 (⟨Rect.unit ![3840, 0] S256x1024.size (by intro a; fin_cases a <;> decide), kernelRun.sl.v1900 c M13 f13⟩ :: ⟨Rect.unit ![3584, 0] S256x1024.size (by intro a; fin_cases a <;> decide), kernelRun.sl.v1895 c M13 f13⟩ :: ⟨Rect.unit ![3328, 0] S256x1024.size (by intro a; fin_cases a <;> decide), kernelRun.sl.v1890 c M13 f13⟩ :: ⟨Rect.unit ![3072, 0] S256x1024.size (by intro a; fin_cases a <;> decide), kernelRun.sl.v1885 c M13 f13⟩ :: ⟨Rect.unit ![2816, 0] S256x1024.size (by intro a; fin_cases a <;> decide), kernelRun.sl.v1880 c M13 f13⟩ :: ⟨Rect.unit ![2560, 0] S256x1024.size (by intro a; fin_cases a <;> decide), kernelRun.sl.v1875 c M13 f13⟩ :: kernelRun.sl.H28_10 c M13 f13) else f28) (ix2 k j) = P.wd k j
  wsd : ∀ k, View.read (Elt Ideal) M14.view f14 (ix2 0 k) = P.wsd k
  bd : ∀ k, View.read (Elt Ideal) M15.view f15 (ix2 0 k) = P.bd k
  g2 : ∀ k, View.read (Elt Ideal) M16.view f16 (ix2 0 k) = P.g2 k
  b2 : ∀ k, View.read (Elt Ideal) M17.view f17 (ix2 0 k) = P.b2 k
  wc : ∀ k, View.read (Elt Ideal) M18.view f18 (ix2 0 k) = P.wc k

end Cert.Proof.KI

end

end
-- ==== Proof.Rd.lean ====
/-
  Reading back covered stores.
-/
module

public import proofs.«01_k».proof.Proof.Ties
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- Stores that are blocks of `G` and cover the array leave `G`. -/
theorem rdw {κ : Kind} {sp : Space} {s : Shape} {e : EltTy} (v : View sig κ sp s e) (f : v.ty.Contents (Elt Ideal)) (L : List (View.Piece (Elt Ideal) s e)) (G : s.Idx → Elt Ideal e)
    (h : View.PiecesOf G L) (hc : ∀ y, ∃ p ∈ L, y ∈ p.1.set) (y : s.Idx) : v.read (Elt Ideal) (v.writes (Elt Ideal) f L) y = G y := by
  rw [View.read_writes_apply_eq_canon _ _ _ _ (hc y)]
  exact View.canon_apply_of_pieces G L h.mem _ (hc y)

end Cert.Proof.KI

end

end
-- ==== Proof.Blk.lean ====
/-
  What a grid point reads and leaves, as arrays over the model.
-/
module

public import proofs.«01_k».proof.Proof.Rd
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- What a grid point leaves in its blocks of the results. -/
def H1B (P : Par) (R : Fin 512 → Row) : S1x512x1024.Idx → EReal := fun y => H1 P (R (y 1)) (y 2)
def HCB (P : Par) (R : Fin 512 → Row) : S1x512x1024.Idx → BitVec 8 := fun y => Ideal.fptosi 8 (HC P (R (y 1)) (y 2))
def HSB (P : Par) (R : Fin 512 → Row) : S32x512.Idx → EReal := fun y => HS P (R (y 1))

def GCB (P : Par) (R : Fin 512 → Row) : S1x512x4096.Idx → BitVec 8 := fun y => Ideal.fptosi 8 (GC P (R (y 1)) (y 2))
def GSB (P : Par) (R : Fin 512 → Row) : S32x512.Idx → EReal := fun y => GS P (R (y 1))
def YB (P : Par) (R : Fin 512 → Row) : S1x512x1024.Idx → EReal := fun y => Y P (R (y 1)) (y 2)

/-- The scratches kept from point to point hold the converted weights and the scaled scales and biases. -/
def Held (P : Par) (c : Dev nD) (M26 : Memref sig .tc .vmem S1024x1024 .bf16) (M27 : Memref sig .tc .vmem S1024x4096 .bf16) (M28 : Memref sig .tc .vmem S4096x1024 .bf16) (M29 : Memref sig .tc .vmem S8x4096 .f32)
    (f26 : Bf (F := Ideal) c M26) (f27 : Bf (F := Ideal) c M27) (f28 : Bf (F := Ideal) c M28) (f29 : Bf (F := Ideal) c M29) : Prop :=
  (∀ k j, (View.read (Elt Ideal) M26.view f26 (ix2 k j) : EReal) = P.wo k j) ∧ (∀ k j, (View.read (Elt Ideal) M27.view f27 (ix2 k j) : EReal) = P.wu k j)
    ∧ (∀ k j, (View.read (Elt Ideal) M28.view f28 (ix2 k j) : EReal) = P.wd k j) ∧ (∀ j, (View.read (Elt Ideal) M29.view f29 (ix2 0 j) : EReal) = P.wsu j * rt)
    ∧ (∀ j, (View.read (Elt Ideal) M29.view f29 (ix2 1 j) : EReal) = P.bu j * rt)

/-- The blocks hold the weights `P` and the token rows `R` of grid point `i`. -/
structure Blocks (P : Par) (R : Fin 512 → Row) (t : Fin 32) (X1 : S1x512x1024.Idx → BitVec 8) (X2 : S32x512.Idx → EReal) (X3 : S1x512x1024.Idx → EReal) (X4 : S1024x1024.Idx → BitVec 8)
    (X5 X6 X7 X8 X9 : S1x1024.Idx → EReal) (X10 : S1024x4096.Idx → BitVec 8) (X11 X12 : S1x4096.Idx → EReal) (X13 : S4096x1024.Idx → BitVec 8) (X14 X15 X16 X17 X18 : S1x1024.Idx → EReal) : Prop where
  cc : ∀ r k, (FloatOps.sitofp (F := Ideal) FTy.bf16 (X1 (ix3 0 r k)) : EReal) = (R r).cc k
  cs : ∀ r, X2 (ix2 t r) = (R r).cs
  x : ∀ r k, X3 (ix3 0 r k) = (R r).x k
  wo : ∀ k j, (FloatOps.sitofp (F := Ideal) FTy.bf16 (X4 (ix2 k j)) : EReal) = P.wo k j
  wso : ∀ k, X5 (ix2 0 k) = P.wso k
  bo : ∀ k, X6 (ix2 0 k) = P.bo k
  g1 : ∀ k, X7 (ix2 0 k) = P.g1 k
  b1 : ∀ k, X8 (ix2 0 k) = P.b1 k
  sm : ∀ k, X9 (ix2 0 k) = P.sm k
  wu : ∀ k j, (FloatOps.sitofp (F := Ideal) FTy.bf16 (X10 (ix2 k j)) : EReal) = P.wu k j
  wsu : ∀ k, X11 (ix2 0 k) = P.wsu k
  bu : ∀ k, X12 (ix2 0 k) = P.bu k
  wd : ∀ k j, (FloatOps.sitofp (F := Ideal) FTy.bf16 (X13 (ix2 k j)) : EReal) = P.wd k j
  wsd : ∀ k, X14 (ix2 0 k) = P.wsd k
  bd : ∀ k, X15 (ix2 0 k) = P.bd k
  g2 : ∀ k, X16 (ix2 0 k) = P.g2 k
  b2 : ∀ k, X17 (ix2 0 k) = P.b2 k
  wc : ∀ k, X18 (ix2 0 k) = P.wc k

end Cert.Proof.KI

end

end
-- ==== Proof.DatV.lean ====
/-
  The kernel's proof data that name every block: the model's weights and rows read off the arrays.
-/
module

public import proofs.«01_k».proof.Proof.Blk
public import proofs.«01_k».proof.Proof.FrameKI
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Model

variable (m : (ℓ : Loc nD τ sig) → Buf (Elt Ideal) ℓ) (ρ : Dev nD → PrngReg)

/-- What the fetch at a point puts in window `w`. -/
def B (c : Dev nD) (w : Fin cfg0.W) (t : Fin cfg0.N) : (cfg0.win w).block.Idx → Elt Ideal (cfg0.win w).elt :=
  (rdatF (F := Ideal) m c).fetched w t (fun _ => Classical.arbitrary _)

/-- The first grid point. -/
def tz : Fin cfg0.N := ⟨0, by decide⟩

theorem coords_val : ∀ t : Fin cfg0.N, (grid0.coords t 0).val = t.val := by decide

/-- The weights, scales, biases and gains the kernel runs on. -/
def PM (c : Dev nD) : Par where
  wo k j := FloatOps.sitofp (F := Ideal) FTy.bf16 ((B m c 3 tz : S1024x1024.Idx → BitVec 8) (ix2 k j))
  wso k := (B m c 4 tz : S1x1024.Idx → EReal) (ix2 0 k)
  bo k := (B m c 5 tz : S1x1024.Idx → EReal) (ix2 0 k)
  g1 k := (B m c 6 tz : S1x1024.Idx → EReal) (ix2 0 k)
  b1 k := (B m c 7 tz : S1x1024.Idx → EReal) (ix2 0 k)
  sm k := (B m c 8 tz : S1x1024.Idx → EReal) (ix2 0 k)
  wu k j := FloatOps.sitofp (F := Ideal) FTy.bf16 ((B m c 9 tz : S1024x4096.Idx → BitVec 8) (ix2 k j))
  wsu k := (B m c 10 tz : S1x4096.Idx → EReal) (ix2 0 k)
  bu k := (B m c 11 tz : S1x4096.Idx → EReal) (ix2 0 k)
  wd k j := FloatOps.sitofp (F := Ideal) FTy.bf16 ((B m c 12 tz : S4096x1024.Idx → BitVec 8) (ix2 k j))
  wsd k := (B m c 13 tz : S1x1024.Idx → EReal) (ix2 0 k)
  bd k := (B m c 14 tz : S1x1024.Idx → EReal) (ix2 0 k)
  g2 k := (B m c 15 tz : S1x1024.Idx → EReal) (ix2 0 k)
  b2 k := (B m c 16 tz : S1x1024.Idx → EReal) (ix2 0 k)
  wc k := (B m c 17 tz : S1x1024.Idx → EReal) (ix2 0 k)

/-- The token rows of grid point `t`. -/
def RM (c : Dev nD) (t : Fin cfg0.N) (r : Fin 512) : Row where
  cc k := FloatOps.sitofp (F := Ideal) FTy.bf16 ((B m c 0 t : S1x512x1024.Idx → BitVec 8) (ix3 0 r k))
  cs := (B m c 1 tz : S32x512.Idx → EReal) (ix2 (grid0.coords t 0) r)
  x k := (B m c 2 t : S1x512x1024.Idx → EReal) (ix3 0 r k)

/-- What the body leaves in each window: inputs as found, the point's blocks of the results, its row of each scale array, its lane of the scores. -/
def afterV (c : Dev nD) : (w : Fin cfg0.W) → Fin cfg0.N → (Y X : (cfg0.win w).block.Idx → Elt Ideal (cfg0.win w).elt) → Prop
  | ⟨18, _⟩, t, _, X => (X : S1x512x1024.Idx → EReal) = H1B (PM m c) (RM m c t)
  | ⟨19, _⟩, t, _, X => (X : S1x512x1024.Idx → EReal) = YB (PM m c) (RM m c t)
  | ⟨20, _⟩, t, Y, X => ∀ b : Fin 32, (b.val = t.val → (X : S1x32.Idx → EReal) (ix2 0 b) = SC (PM m c) (RM m c t 0)) ∧ (b.val ≠ t.val → t.val ≠ 0 → (X : S1x32.Idx → EReal) (ix2 0 b) = (Y : S1x32.Idx → EReal) (ix2 0 b))
  | ⟨21, _⟩, t, _, X => (X : S1x512x1024.Idx → BitVec 8) = HCB (PM m c) (RM m c t)
  | ⟨22, _⟩, t, Y, X => ∀ y : S32x512.Idx, ((y 0).val = t.val → (X : S32x512.Idx → EReal) y = HS (PM m c) (RM m c t (y 1))) ∧ ((y 0).val ≠ t.val → (X : S32x512.Idx → EReal) y = (Y : S32x512.Idx → EReal) y)
  | ⟨23, _⟩, t, _, X => (X : S1x512x4096.Idx → BitVec 8) = GCB (PM m c) (RM m c t)
  | ⟨24, _⟩, t, Y, X => ∀ y : S32x512.Idx, ((y 0).val = t.val → (X : S32x512.Idx → EReal) y = GS (PM m c) (RM m c t (y 1))) ∧ ((y 0).val ≠ t.val → (X : S32x512.Idx → EReal) y = (Y : S32x512.Idx → EReal) y)
  | ⟨_, _⟩, _, Y, X => X = Y

/-- The scratches as grid point `n` finds them: from the second point on they hold the converted weights. -/
def HeldAt (c : Dev nD) (n : ℕ) (g26 : Buf (Elt Ideal) ((c : Thread nD τ).loc cc0_scratch0)) (g27 : Buf (Elt Ideal) ((c : Thread nD τ).loc cc0_scratch1)) (g28 : Buf (Elt Ideal) ((c : Thread nD τ).loc cc0_scratch2)) (g29 : Buf (Elt Ideal) ((c : Thread nD τ).loc cc0_scratch3)) : Prop :=
  n ≠ 0 → Held (PM m c) c (Memref.whole cc0_scratch0) (Memref.whole cc0_scratch1) (Memref.whole cc0_scratch2) (Memref.whole cc0_scratch3) g26 g27 g28 g29

local notation "𝕄" => MT nD τ sig Unit (Elt Ideal) ℕ (UR sig nD τ) ℕ

/-- The body's invariant before grid point `n`. -/
def ΦV (c : Dev nD) (n : ℕ) : sProp 𝕄 :=
  iprop((∃ (g26 : Buf (Elt Ideal) ((c : Thread nD τ).loc cc0_scratch0)) (g27 : Buf (Elt Ideal) ((c : Thread nD τ).loc cc0_scratch1)) (g28 : Buf (Elt Ideal) ((c : Thread nD τ).loc cc0_scratch2)) (g29 : Buf (Elt Ideal) ((c : Thread nD τ).loc cc0_scratch3)),
      ⌜HeldAt m c n g26 g27 g28 g29⌝ ∗ (((c : Thread nD τ).loc cc0_scratch0) ↦{fullShare} g26) ∗ (((c : Thread nD τ).loc cc0_scratch1) ↦{fullShare} g27) ∗ (((c : Thread nD τ).loc cc0_scratch2) ↦{fullShare} g28) ∗ (((c : Thread nD τ).loc cc0_scratch3) ↦{fullShare} g29))
    ∗ (∃ f : Buf (Elt Ideal) ((c : Thread nD τ).loc cc0_scratch4), ((c : Thread nD τ).loc cc0_scratch4) ↦{fullShare} f) ∗ (∃ f : Buf (Elt Ideal) ((c : Thread nD τ).loc cc0_scratch5), ((c : Thread nD τ).loc cc0_scratch5) ↦{fullShare} f) ∗ (∃ f : Buf (Elt Ideal) ((c : Thread nD τ).loc cc0_scratch6), ((c : Thread nD τ).loc cc0_scratch6) ↦{fullShare} f) ∗ (∃ f : Buf (Elt Ideal) ((c : Thread nD τ).loc cc0_scratch7), ((c : Thread nD τ).loc cc0_scratch7) ↦{fullShare} f) ∗ (∃ f : Buf (Elt Ideal) ((c : Thread nD τ).loc cc0_scratch8), ((c : Thread nD τ).loc cc0_scratch8) ↦{fullShare} f) ∗ ∃ r, prngReg c r)

theorem ΦV_in (c : Dev nD) : Pipeline.ΦA (U := UR sig nD τ) (Val := Elt Ideal) spec0 c ⊢ ΦV m c 0 := by
  unfold Pipeline.ΦA ΦV; rw [scopedRest0_eq]
  iintro ⟨⟨⟨%g26, H26⟩, ⟨%g27, H27⟩, ⟨%g28, H28⟩, ⟨%g29, H29⟩, H30, H31, H32, H33, H34⟩, Hg⟩
  isplitl [H26 H27 H28 H29]
  · iexists g26; iexists g27; iexists g28; iexists g29
    isplitr
    · ipureintro; exact fun h => absurd rfl h
    isplitl [H26]; · iexact H26
    isplitl [H27]; · iexact H27
    isplitl [H28]; · iexact H28
    iexact H29
  isplitl [H30]; · iexact H30
  isplitl [H31]; · iexact H31
  isplitl [H32]; · iexact H32
  isplitl [H33]; · iexact H33
  isplitl [H34]; · iexact H34
  iexact Hg

theorem ΦV_out (c : Dev nD) (n : ℕ) : ΦV m c n ⊢ Pipeline.ΦA (U := UR sig nD τ) (Val := Elt Ideal) spec0 c := by
  unfold Pipeline.ΦA ΦV; rw [scopedRest0_eq]
  iintro ⟨⟨%g26, %g27, %g28, %g29, %hh, H26, H27, H28, H29⟩, H30, H31, H32, H33, H34, Hg⟩
  isplitr [Hg]
  · isplitl [H26]; · iexists _; iexact H26
    isplitl [H27]; · iexists _; iexact H27
    isplitl [H28]; · iexists _; iexact H28
    isplitl [H29]; · iexists _; iexact H29
    isplitl [H30]; · iexact H30
    isplitl [H31]; · iexact H31
    isplitl [H32]; · iexact H32
    isplitl [H33]; · iexact H33
    iexact H34
  iexact Hg

/-- The proof data that name every block. -/
def rdatV (c : Dev nD) : Pipeline.RDat τ (Elt Ideal) Unit ℕ (UR sig nD τ) ℕ cfg0 c where
  A w := V m c (Pipeline.arrRef spec0 w)
  after := afterV m c
  Φ n := ΦV m c n.val
  q _ := fullShare
  owed _ := 0

/-- An input window holds its block. -/
theorem finds_in (c : Dev nD) (w : Fin cfg0.W) (hw : (cfg0.win w).isOut = false) (hclip : ∀ i a, (cfg0.win w).clip i a = none)
    (hkeep : ∀ t Y X, afterV m c w t Y X → X = Y) (t : Fin cfg0.N) (Y) (hY : (rdatV m c).Finds w t Y) : Y = B m c w t := by
  obtain ⟨d, rfl⟩ := Pipeline.RDat.finds_in_eq_fetched (rdatV m c) w hw (fun t t' _ => by funext a; rw [hclip, hclip]) hkeep t Y hY
  exact Pipeline.fill_of_clip_none w _ (hclip _) _ _ _

/-- A window whose block index stays put holds the first point's block. -/
theorem B_const (c : Dev nD) (w : Fin cfg0.W) (hclip : ∀ i a, (cfg0.win w).clip i a = none) (t : Fin cfg0.N) (h : (cfg0.win w).index t = (cfg0.win w).index tz) : B m c w t = B m c w tz :=
  Pipeline.RDat.fetched_congr _ w h (by funext a; rw [hclip, hclip]) _

set_option maxHeartbeats 4000000 in
/-- The blocks as the point finds them are the model's weights and rows. -/
theorem blocks_at (c : Dev nD) (t : Fin cfg0.N) (Y : (w : Fin cfg0.W) → (cfg0.win w).block.Idx → Elt Ideal (cfg0.win w).elt)
    (hY : ∀ w, (rdatV m c).Finds w t (Y w)) : Blocks (PM m c) (RM m c t) (grid0.coords t 0) (Y 0) (Y 1) (Y 2) (Y 3) (Y 4) (Y 5) (Y 6) (Y 7) (Y 8) (Y 9) (Y 10) (Y 11) (Y 12) (Y 13) (Y 14) (Y 15) (Y 16) (Y 17) := by
  have e0 : Y 0 = B m c 0 t := finds_in m c 0 rfl (fun _ _ => rfl) (fun _ _ _ h => h) t _ (hY 0)
  have e1 : Y 1 = B m c 1 tz := (finds_in m c 1 rfl (fun _ _ => rfl) (fun _ _ _ h => h) t _ (hY 1)).trans (B_const m c 1 (fun _ _ => rfl) t rfl)
  have e2 : Y 2 = B m c 2 t := finds_in m c 2 rfl (fun _ _ => rfl) (fun _ _ _ h => h) t _ (hY 2)
  have e3 : Y 3 = B m c 3 tz := (finds_in m c 3 rfl (fun _ _ => rfl) (fun _ _ _ h => h) t _ (hY 3)).trans (B_const m c 3 (fun _ _ => rfl) t rfl)
  have e4 : Y 4 = B m c 4 tz := (finds_in m c 4 rfl (fun _ _ => rfl) (fun _ _ _ h => h) t _ (hY 4)).trans (B_const m c 4 (fun _ _ => rfl) t rfl)
  have e5 : Y 5 = B m c 5 tz := (finds_in m c 5 rfl (fun _ _ => rfl) (fun _ _ _ h => h) t _ (hY 5)).trans (B_const m c 5 (fun _ _ => rfl) t rfl)
  have e6 : Y 6 = B m c 6 tz := (finds_in m c 6 rfl (fun _ _ => rfl) (fun _ _ _ h => h) t _ (hY 6)).trans (B_const m c 6 (fun _ _ => rfl) t rfl)
  have e7 : Y 7 = B m c 7 tz := (finds_in m c 7 rfl (fun _ _ => rfl) (fun _ _ _ h => h) t _ (hY 7)).trans (B_const m c 7 (fun _ _ => rfl) t rfl)
  have e8 : Y 8 = B m c 8 tz := (finds_in m c 8 rfl (fun _ _ => rfl) (fun _ _ _ h => h) t _ (hY 8)).trans (B_const m c 8 (fun _ _ => rfl) t rfl)
  have e9 : Y 9 = B m c 9 tz := (finds_in m c 9 rfl (fun _ _ => rfl) (fun _ _ _ h => h) t _ (hY 9)).trans (B_const m c 9 (fun _ _ => rfl) t rfl)
  have e10 : Y 10 = B m c 10 tz := (finds_in m c 10 rfl (fun _ _ => rfl) (fun _ _ _ h => h) t _ (hY 10)).trans (B_const m c 10 (fun _ _ => rfl) t rfl)
  have e11 : Y 11 = B m c 11 tz := (finds_in m c 11 rfl (fun _ _ => rfl) (fun _ _ _ h => h) t _ (hY 11)).trans (B_const m c 11 (fun _ _ => rfl) t rfl)
  have e12 : Y 12 = B m c 12 tz := (finds_in m c 12 rfl (fun _ _ => rfl) (fun _ _ _ h => h) t _ (hY 12)).trans (B_const m c 12 (fun _ _ => rfl) t rfl)
  have e13 : Y 13 = B m c 13 tz := (finds_in m c 13 rfl (fun _ _ => rfl) (fun _ _ _ h => h) t _ (hY 13)).trans (B_const m c 13 (fun _ _ => rfl) t rfl)
  have e14 : Y 14 = B m c 14 tz := (finds_in m c 14 rfl (fun _ _ => rfl) (fun _ _ _ h => h) t _ (hY 14)).trans (B_const m c 14 (fun _ _ => rfl) t rfl)
  have e15 : Y 15 = B m c 15 tz := (finds_in m c 15 rfl (fun _ _ => rfl) (fun _ _ _ h => h) t _ (hY 15)).trans (B_const m c 15 (fun _ _ => rfl) t rfl)
  have e16 : Y 16 = B m c 16 tz := (finds_in m c 16 rfl (fun _ _ => rfl) (fun _ _ _ h => h) t _ (hY 16)).trans (B_const m c 16 (fun _ _ => rfl) t rfl)
  have e17 : Y 17 = B m c 17 tz := (finds_in m c 17 rfl (fun _ _ => rfl) (fun _ _ _ h => h) t _ (hY 17)).trans (B_const m c 17 (fun _ _ => rfl) t rfl)
  rw [e0, e1, e2, e3, e4, e5, e6, e7, e8, e9, e10, e11, e12, e13, e14, e15, e16, e17]
  exact { cc := fun _ _ => rfl, cs := fun _ => rfl, x := fun _ _ => rfl, wo := fun _ _ => rfl, wso := fun _ => rfl, bo := fun _ => rfl, g1 := fun _ => rfl, b1 := fun _ => rfl, sm := fun _ => rfl, wu := fun _ _ => rfl, wsu := fun _ => rfl, bu := fun _ => rfl, wd := fun _ _ => rfl, wsd := fun _ => rfl, bd := fun _ => rfl, g2 := fun _ => rfl, b2 := fun _ => rfl, wc := fun _ => rfl }

end Cert.Proof.KI

end

end
-- ==== Proof.Left.lean ====
/-
  What a grid point's run leaves, as a statement.
-/
module

public import proofs.«01_k».proof.Proof.Blk
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- What a grid point's run leaves. -/
structure Left (P : Par) (R : Fin 512 → Row) (c : Dev nD) (i : grid0.Coords) (M19 : Memref sig .tc .vmem S1x512x1024 .bf16) (M20 : Memref sig .tc .vmem S1x512x1024 .bf16) (M21 : Memref sig .tc .vmem S1x32 .f32) (M22 : Memref sig .tc .vmem S1x512x1024 .i8) (M23 : Memref sig .tc .vmem S32x512 .f32) (M24 : Memref sig .tc .vmem S1x512x4096 .i8) (M25 : Memref sig .tc .vmem S32x512 .f32) (M26 : Memref sig .tc .vmem S1024x1024 .bf16) (M27 : Memref sig .tc .vmem S1024x4096 .bf16) (M28 : Memref sig .tc .vmem S4096x1024 .bf16) (M29 : Memref sig .tc .vmem S8x4096 .f32) (X21 : S1x32.Idx → EReal) (X23 X25 : S32x512.Idx → EReal) (w19 : Bf (F := Ideal) c M19) (w20 : Bf (F := Ideal) c M20) (w21 : Bf (F := Ideal) c M21) (w22 : Bf (F := Ideal) c M22) (w23 : Bf (F := Ideal) c M23) (w24 : Bf (F := Ideal) c M24) (w25 : Bf (F := Ideal) c M25) (w26 : Bf (F := Ideal) c M26) (w27 : Bf (F := Ideal) c M27) (w28 : Bf (F := Ideal) c M28) (w29 : Bf (F := Ideal) c M29) : Prop where
  o19 : ∀ y, View.read (Elt Ideal) M19.view w19 y = H1B P R y
  o20 : ∀ y, View.read (Elt Ideal) M20.view w20 y = YB P R y
  o21 : ∀ b : Fin 32, (b.val = (i 0).val → View.read (Elt Ideal) M21.view w21 (ix2 0 b) = SC P (R 0)) ∧ (b.val ≠ (i 0).val → (i 0).val ≠ 0 → View.read (Elt Ideal) M21.view w21 (ix2 0 b) = X21 (ix2 0 b))
  o22 : ∀ y, View.read (Elt Ideal) M22.view w22 y = HCB P R y
  o23 : ∀ y : S32x512.Idx, ((y 0).val = (i 0).val → View.read (Elt Ideal) M23.view w23 y = HS P (R (y 1))) ∧ ((y 0).val ≠ (i 0).val → View.read (Elt Ideal) M23.view w23 y = X23 y)
  o24 : ∀ y, View.read (Elt Ideal) M24.view w24 y = GCB P R y
  o25 : ∀ y : S32x512.Idx, ((y 0).val = (i 0).val → View.read (Elt Ideal) M25.view w25 y = GS P (R (y 1))) ∧ ((y 0).val ≠ (i 0).val → View.read (Elt Ideal) M25.view w25 y = X25 y)
  held : Held P c M26 M27 M28 M29 w26 w27 w28 w29

end Cert.Proof.KI

end

end
-- ==== Proof.FrameV.lean ====
/-
  The kernel's run over the proof data that name every block.
-/
module

public import proofs.«01_k».proof.Proof.DatV
public import proofs.«01_k».proof.Proof.Left
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Model

variable (m : (ℓ : Loc nD τ sig) → Buf (Elt Ideal) ℓ) (ρ : Dev nD → PrngReg)

local notation "𝕄" => MT nD τ sig Unit (Elt Ideal) ℕ (UR sig nD τ) ℕ

/-- The run at point `t` leaves the model's blocks. -/
def LeftAt : Prop := ∀ (c : Dev nD) (t : Fin cfg0.N) (Y : (w : Fin cfg0.W) → (cfg0.win w).block.Idx → Elt Ideal (cfg0.win w).elt)
    (g26 : Buf (Elt Ideal) ((c : Thread nD τ).loc cc0_scratch0)) (g27 : Buf (Elt Ideal) ((c : Thread nD τ).loc cc0_scratch1)) (g28 : Buf (Elt Ideal) ((c : Thread nD τ).loc cc0_scratch2)) (g29 : Buf (Elt Ideal) ((c : Thread nD τ).loc cc0_scratch3)),
    Blocks (PM m c) (RM m c t) (grid0.coords t 0) (Y 0) (Y 1) (Y 2) (Y 3) (Y 4) (Y 5) (Y 6) (Y 7) (Y 8) (Y 9) (Y 10) (Y 11) (Y 12) (Y 13) (Y 14) (Y 15) (Y 16) (Y 17) → HeldAt m c (grid0.coords t 0).val g26 g27 g28 g29 →
    ∀ W, W = Wt (F := Ideal) c t Y g26 g27 g28 g29 → Left (PM m c) (RM m c t) c (grid0.coords t) (win0_18.stage (cfg0.slots t 18)) (win0_19.stage (cfg0.slots t 19)) (win0_20.stage (cfg0.slots t 20)) (win0_21.stage (cfg0.slots t 21)) (win0_22.stage (cfg0.slots t 22)) (win0_23.stage (cfg0.slots t 23)) (win0_24.stage (cfg0.slots t 24)) (Memref.whole cc0_scratch0) (Memref.whole cc0_scratch1) (Memref.whole cc0_scratch2) (Memref.whole cc0_scratch3) (Y 20) (Y 22) (Y 24) W.1 W.2.1 W.2.2.1 W.2.2.2.1 W.2.2.2.2.1 W.2.2.2.2.2.1 W.2.2.2.2.2.2.1 W.2.2.2.2.2.2.2.1 W.2.2.2.2.2.2.2.2.1 W.2.2.2.2.2.2.2.2.2.1 W.2.2.2.2.2.2.2.2.2.2

set_option maxHeartbeats 16000000 in
/-- The body obligation, from the run's value. -/
theorem body_obligationV (hL : LeftAt m) (c : Dev nD) : (rdatV m c).BodyObligation (defs₀ (F := Ideal)) Variants.none () Set.univ := fun t Y hY => by
  rw [bigSep_W0, bigSep_W0, defs₀_row]
  rw [show (rdatV m c).Φ t.succ = ΦV m c (t.val + 1) from rfl, show (rdatV m c).Φ t.castSucc = ΦV m c t.val from rfl,
    show (rdatV m c).owesAt () t.succ = (rdatV m c).owesAt () t.castSucc from rfl]
  have hb := blocks_at m c t Y hY
  have hc := coords_val t
  unfold ΦV
  iintro ⟨⟨⟨%g26, %g27, %g28, %g29, %hh, H26, H27, H28, H29⟩, ⟨%g30, H30⟩, ⟨%g31, H31⟩, ⟨%g32, H32⟩, ⟨%g33, H33⟩, ⟨%g34, H34⟩, Hg⟩, Ho, HY⟩
  have hl := hL c t Y g26 g27 g28 g29 hb (hc.symm ▸ hh)
  iapply (run_at (F := Ideal) c t Y g26 g27 g28 g29 g30 g31 g32 g33 g34 (iprop((∃ r, prngReg c r) ∗ (rdatV m c).owesAt () t.castSucc)) _ ?hQ)
  case hQ =>
    intro W hW
    have L := hl W hW
    clear hW hl
    rcases L with ⟨o19, o20, o21, o22, o23, o24, o25, oh⟩
    rw [hc] at o21 o23 o25
    iintro ⟨⟨H1, H2, H3, H4, H5, H6, H7, H8, H9, H10, H11, H12, H13, H14, H15, H16, H17, H18, H19, H20, H21, H22, H23, H24, H25⟩, ⟨H26, H27, H28, H29, H30, H31, H32, H33, H34⟩, Hg, Ho⟩
    isplitl [H26 H27 H28 H29 H30 H31 H32 H33 H34 Hg]
    · isplitl [H26 H27 H28 H29]
      · iexists _; iexists _; iexists _; iexists _
        isplitr
        · ipureintro; exact fun _ => oh
        isplitl [H26]; · iexact H26
        isplitl [H27]; · iexact H27
        isplitl [H28]; · iexact H28
        iexact H29
      isplitl [H30]; · iexact H30
      isplitl [H31]; · iexact H31
      isplitl [H32]; · iexact H32
      isplitl [H33]; · iexact H33
      isplitl [H34]; · iexact H34
      iexact Hg
    isplitl [Ho]; · iexact Ho
    isplitl [H1]
    · iexists _
      isplitr; swap; · iexact H1
      ipureintro
      exact rfl
    isplitl [H2]
    · iexists _
      isplitr; swap; · iexact H2
      ipureintro
      exact rfl
    isplitl [H3]
    · iexists _
      isplitr; swap; · iexact H3
      ipureintro
      exact rfl
    isplitl [H4]
    · iexists _
      isplitr; swap; · iexact H4
      ipureintro
      exact rfl
    isplitl [H5]
    · iexists _
      isplitr; swap; · iexact H5
      ipureintro
      exact rfl
    isplitl [H6]
    · iexists _
      isplitr; swap; · iexact H6
      ipureintro
      exact rfl
    isplitl [H7]
    · iexists _
      isplitr; swap; · iexact H7
      ipureintro
      exact rfl
    isplitl [H8]
    · iexists _
      isplitr; swap; · iexact H8
      ipureintro
      exact rfl
    isplitl [H9]
    · iexists _
      isplitr; swap; · iexact H9
      ipureintro
      exact rfl
    isplitl [H10]
    · iexists _
      isplitr; swap; · iexact H10
      ipureintro
      exact rfl
    isplitl [H11]
    · iexists _
      isplitr; swap; · iexact H11
      ipureintro
      exact rfl
    isplitl [H12]
    · iexists _
      isplitr; swap; · iexact H12
      ipureintro
      exact rfl
    isplitl [H13]
    · iexists _
      isplitr; swap; · iexact H13
      ipureintro
      exact rfl
    isplitl [H14]
    · iexists _
      isplitr; swap; · iexact H14
      ipureintro
      exact rfl
    isplitl [H15]
    · iexists _
      isplitr; swap; · iexact H15
      ipureintro
      exact rfl
    isplitl [H16]
    · iexists _
      isplitr; swap; · iexact H16
      ipureintro
      exact rfl
    isplitl [H17]
    · iexists _
      isplitr; swap; · iexact H17
      ipureintro
      exact rfl
    isplitl [H18]
    · iexists _
      isplitr; swap; · iexact H18
      ipureintro
      exact rfl
    isplitl [H19]
    · iexists _
      isplitr; swap; · iexact H19
      ipureintro
      exact funext o19
    isplitl [H20]
    · iexists _
      isplitr; swap; · iexact H20
      ipureintro
      exact funext o20
    isplitl [H21]
    · iexists _
      isplitr; swap; · iexact H21
      ipureintro
      exact o21
    isplitl [H22]
    · iexists _
      isplitr; swap; · iexact H22
      ipureintro
      exact funext o22
    isplitl [H23]
    · iexists _
      isplitr; swap; · iexact H23
      ipureintro
      exact o23
    isplitl [H24]
    · iexists _
      isplitr; swap; · iexact H24
      ipureintro
      exact funext o24
    iexists _
    isplitr; swap; · iexact H25
    ipureintro
    exact o25
  isplitl [HY]; · iexact HY
  isplitl [H26 H27 H28 H29 H30 H31 H32 H33 H34]
  · isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    iexact H34
  isplitl [Hg]; · iexact Hg
  iexact Ho

set_option backward.isDefEq.respectTransparency.types false in
/-- Every weakly fair execution of @main terminates; every array ends as the proof data say and every counter at zero. -/
theorem run_mainV (hL : LeftAt m) : θ_run defs (onTc (τ := τ) (main (F := Ideal))) (s₀ m ρ)
    (fun r => Pipeline.RDat.FramePost cfg0 (rdatV m) (V m) r ∧ r.2.sem = fun _ => 0) :=
  Pipeline.RDat.θ_run_frame_track (Q' := _) cfgs (0 : Fin 1) launch0 defs₀ Variants.none (rdatV m) m ρ main
    (hbody := body_obligationV m hL) (hshare := fun c w => (rdatV m c).share_full (fun _ => rfl) w)
    (howed := fun _ _ => rfl) (V := V m) (hmain := hmain m Variants.none) (hA := fun _ _ => rfl)
    (hin := fun c => ΦV_in m c) (hout := fun c => ΦV_out m c _)

end Cert.Proof.KI

end

end
-- ==== Proof.ArrV.lean ====
/-
  The kernel's result arrays after the run.
-/
module

public import proofs.«01_k».proof.Proof.FrameV
public import Idealize.ShloMosaic.Lib.Pipeline.ArrRel
public import Idealize.ShloMosaic.Lib.Pipeline.ValueKit
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Model

variable (m : (ℓ : Loc nD τ sig) → Buf (Elt Ideal) ℓ) (ρ : Dev nD → PrngReg)

/-- Row `b` of the grid as a grid point. -/
def gp (b : Fin 32) : Fin cfg0.N := ⟨b.val, lt_of_lt_of_eq b.isLt N_0.symm⟩

variable {m}

theorem ix18 : ∀ t : Fin cfg0.N, win0_18.index t 0 = (grid0.coords t 0).val ∧ win0_18.index t 1 = 0 ∧ win0_18.index t 2 = 0 := by decide +kernel

/-- The array of window 18 after the run. -/
theorem arr18 {r : PUnit × MemSt nD τ sig (Elt Ideal)} (h : Pipeline.RDat.FramePost cfg0 (rdatV m) (V m) r) (c : Dev nD) :
    (r.2.mem ((c.tc : Thread nD τ).loc main_v12_0) : S32x512x1024.Idx → EReal) = fun i => H1 (PM m c) (RM m c (gp (i 0)) (i 1)) (i 2) := by
  obtain ⟨after, hl, ha⟩ := Pipeline.RDat.FramePost.exists_exact h c
  refine (ha 18).trans ?_
  refine ((rdatV m c).withAfter after).arrAt_eq_of_covers 18 _ (by decide +kernel) fun t hf y => ?_
  obtain ⟨Y0, -, hX⟩ := hl 18 t hf
  have e := congrFun (show (after 18 t : _ → EReal) = _ from hX)
  rw [Pipeline.RDat.withAfter_after]
  have hb : (gp (grid0.coords t 0)) = t := Fin.ext (coords_val t)
  blk_simp
  refine (e y).trans ?_
  have e0 : gp ((win0_18.blk t).view.emb y 0) = t := by
    refine Eq.trans (congrArg gp (Fin.ext ?_)) hb
    have h0 := (ix18 t).1
    have hy : (y 0).val < 1 := (y 0).isLt
    blk_simp
    omega
  have e1 : (win0_18.blk t).view.emb y 1 = y 1 := by
    have h1 := (ix18 t).2.1
    apply Fin.ext; blk_simp; omega
  have e2 : (win0_18.blk t).view.emb y 2 = y 2 := by
    have h2 := (ix18 t).2.2
    apply Fin.ext; blk_simp; omega
  rw [e0, e1, e2]
  rfl

theorem ix19 : ∀ t : Fin cfg0.N, win0_19.index t 0 = (grid0.coords t 0).val ∧ win0_19.index t 1 = 0 ∧ win0_19.index t 2 = 0 := by decide +kernel

/-- The array of window 19 after the run. -/
theorem arr19 {r : PUnit × MemSt nD τ sig (Elt Ideal)} (h : Pipeline.RDat.FramePost cfg0 (rdatV m) (V m) r) (c : Dev nD) :
    (r.2.mem ((c.tc : Thread nD τ).loc main_v12_1) : S32x512x1024.Idx → EReal) = fun i => Model.Y (PM m c) (RM m c (gp (i 0)) (i 1)) (i 2) := by
  obtain ⟨after, hl, ha⟩ := Pipeline.RDat.FramePost.exists_exact h c
  refine (ha 19).trans ?_
  refine ((rdatV m c).withAfter after).arrAt_eq_of_covers 19 _ (by decide +kernel) fun t hf y => ?_
  obtain ⟨Y0, -, hX⟩ := hl 19 t hf
  have e := congrFun (show (after 19 t : _ → EReal) = _ from hX)
  rw [Pipeline.RDat.withAfter_after]
  have hb : (gp (grid0.coords t 0)) = t := Fin.ext (coords_val t)
  blk_simp
  refine (e y).trans ?_
  have e0 : gp ((win0_19.blk t).view.emb y 0) = t := by
    refine Eq.trans (congrArg gp (Fin.ext ?_)) hb
    have h0 := (ix19 t).1
    have hy : (y 0).val < 1 := (y 0).isLt
    blk_simp
    omega
  have e1 : (win0_19.blk t).view.emb y 1 = y 1 := by
    have h1 := (ix19 t).2.1
    apply Fin.ext; blk_simp; omega
  have e2 : (win0_19.blk t).view.emb y 2 = y 2 := by
    have h2 := (ix19 t).2.2
    apply Fin.ext; blk_simp; omega
  rw [e0, e1, e2]
  rfl

theorem ix21 : ∀ t : Fin cfg0.N, win0_21.index t 0 = (grid0.coords t 0).val ∧ win0_21.index t 1 = 0 ∧ win0_21.index t 2 = 0 := by decide +kernel

/-- The array of window 21 after the run. -/
theorem arr21 {r : PUnit × MemSt nD τ sig (Elt Ideal)} (h : Pipeline.RDat.FramePost cfg0 (rdatV m) (V m) r) (c : Dev nD) :
    (r.2.mem ((c.tc : Thread nD τ).loc main_v12_3) : S32x512x1024.Idx → BitVec 8) = fun i => Ideal.fptosi 8 (HC (PM m c) (RM m c (gp (i 0)) (i 1)) (i 2)) := by
  obtain ⟨after, hl, ha⟩ := Pipeline.RDat.FramePost.exists_exact h c
  refine (ha 21).trans ?_
  refine ((rdatV m c).withAfter after).arrAt_eq_of_covers 21 _ (by decide +kernel) fun t hf y => ?_
  obtain ⟨Y0, -, hX⟩ := hl 21 t hf
  have e := congrFun (show (after 21 t : _ → BitVec 8) = _ from hX)
  rw [Pipeline.RDat.withAfter_after]
  have hb : (gp (grid0.coords t 0)) = t := Fin.ext (coords_val t)
  blk_simp
  refine (e y).trans ?_
  have e0 : gp ((win0_21.blk t).view.emb y 0) = t := by
    refine Eq.trans (congrArg gp (Fin.ext ?_)) hb
    have h0 := (ix21 t).1
    have hy : (y 0).val < 1 := (y 0).isLt
    blk_simp
    omega
  have e1 : (win0_21.blk t).view.emb y 1 = y 1 := by
    have h1 := (ix21 t).2.1
    apply Fin.ext; blk_simp; omega
  have e2 : (win0_21.blk t).view.emb y 2 = y 2 := by
    have h2 := (ix21 t).2.2
    apply Fin.ext; blk_simp; omega
  rw [e0, e1, e2]
  rfl

theorem ix23 : ∀ t : Fin cfg0.N, win0_23.index t 0 = (grid0.coords t 0).val ∧ win0_23.index t 1 = 0 ∧ win0_23.index t 2 = 0 := by decide +kernel

/-- The array of window 23 after the run. -/
theorem arr23 {r : PUnit × MemSt nD τ sig (Elt Ideal)} (h : Pipeline.RDat.FramePost cfg0 (rdatV m) (V m) r) (c : Dev nD) :
    (r.2.mem ((c.tc : Thread nD τ).loc main_v12_5) : S32x512x4096.Idx → BitVec 8) = fun i => Ideal.fptosi 8 (GC (PM m c) (RM m c (gp (i 0)) (i 1)) (i 2)) := by
  obtain ⟨after, hl, ha⟩ := Pipeline.RDat.FramePost.exists_exact h c
  refine (ha 23).trans ?_
  refine ((rdatV m c).withAfter after).arrAt_eq_of_covers 23 _ (by decide +kernel) fun t hf y => ?_
  obtain ⟨Y0, -, hX⟩ := hl 23 t hf
  have e := congrFun (show (after 23 t : _ → BitVec 8) = _ from hX)
  rw [Pipeline.RDat.withAfter_after]
  have hb : (gp (grid0.coords t 0)) = t := Fin.ext (coords_val t)
  blk_simp
  refine (e y).trans ?_
  have e0 : gp ((win0_23.blk t).view.emb y 0) = t := by
    refine Eq.trans (congrArg gp (Fin.ext ?_)) hb
    have h0 := (ix23 t).1
    have hy : (y 0).val < 1 := (y 0).isLt
    blk_simp
    omega
  have e1 : (win0_23.blk t).view.emb y 1 = y 1 := by
    have h1 := (ix23 t).2.1
    apply Fin.ext; blk_simp; omega
  have e2 : (win0_23.blk t).view.emb y 2 = y 2 := by
    have h2 := (ix23 t).2.2
    apply Fin.ext; blk_simp; omega
  rw [e0, e1, e2]
  rfl

/-- The window the scores land in is written back once, after the last point. -/
theorem flush_none (w : Fin cfg0.W) (hw : w = 20 ∨ w = 22 ∨ w = 24) (t : Fin cfg0.N) (ht : t.val < 31) : (cfg0.win w).flush t = false := by
  rcases hw with rfl | rfl | rfl
  · exact (by decide +kernel : ∀ t : Fin cfg0.N, t.val < 31 → (cfg0.win 20).flush t = false) t ht
  · exact (by decide +kernel : ∀ t : Fin cfg0.N, t.val < 31 → (cfg0.win 22).flush t = false) t ht
  · exact (by decide +kernel : ∀ t : Fin cfg0.N, t.val < 31 → (cfg0.win 24).flush t = false) t ht

/-- What a window that stays resident holds before a later point is what the point before left. -/
theorem finds_prev (c : Dev nD) (w : Fin cfg0.W) (hw : w = 20 ∨ w = 22 ∨ w = 24) (n : ℕ) (hn : n + 1 < cfg0.N) (X : (cfg0.win w).block.Idx → Elt Ideal (cfg0.win w).elt)
    (h : (rdatV m c).Finds w ⟨n + 1, hn⟩ X) : (rdatV m c).Leaves w ⟨n, by omega⟩ X := by
  have hf : (cfg0.win w).fetch ⟨n + 1, hn⟩ = false := by
    rcases hw with rfl | rfl | rfl <;> rfl
  have hn' : n + 1 < 32 := hn
  rcases (Pipeline.RDat.finds_of_pos _ hf (Nat.succ_ne_zero n) X).mp h with h | h
  · rw [flush_none w hw _ (by show n + 1 - 1 < 31; omega)] at h
    exact absurd h Bool.false_ne_true
  · exact h

theorem left20 (c : Dev nD) : ∀ (n : ℕ) (hn : n < cfg0.N) (X : (cfg0.win 20).block.Idx → Elt Ideal (cfg0.win 20).elt), (rdatV m c).Leaves 20 ⟨n, hn⟩ X →
    ∀ b : Fin 32, b.val ≤ n → (X : S1x32.Idx → EReal) (ix2 0 b) = SC (PM m c) (RM m c (gp b) 0)
  | 0, hn, X, hX, b, hb => by
    obtain ⟨Y0, -, hA⟩ := hX
    have e : gp b = ⟨0, hn⟩ := Fin.ext (show b.val = 0 by omega)
    rw [e]
    exact ((show ∀ b : Fin 32, (b.val = _ → (X : S1x32.Idx → EReal) (ix2 0 b) = SC (PM m c) (RM m c _ 0)) ∧ _ from hA) b).1 (by show b.val = 0; omega)
  | n + 1, hn, X, hX, b, hb => by
    obtain ⟨Y0, hF, hA⟩ := hX
    have hA' := (show ∀ b : Fin 32, (b.val = _ → (X : S1x32.Idx → EReal) (ix2 0 b) = SC (PM m c) (RM m c _ 0)) ∧ (_ → _ → (X : S1x32.Idx → EReal) (ix2 0 b) = (Y0 : S1x32.Idx → EReal) (ix2 0 b)) from hA) b
    rcases Nat.lt_or_ge n b.val with h | h
    · have e : gp b = ⟨n + 1, hn⟩ := Fin.ext (show b.val = n + 1 by omega)
      rw [e]
      exact hA'.1 (by show b.val = n + 1; omega)
    · exact (hA'.2 (by show b.val ≠ n + 1; omega) (by show n + 1 ≠ 0; omega)).trans (left20 c n (by omega) Y0 (finds_prev c 20 (.inl rfl) n hn Y0 hF) b h)

theorem left22 (c : Dev nD) : ∀ (n : ℕ) (hn : n < cfg0.N) (X : (cfg0.win 22).block.Idx → Elt Ideal (cfg0.win 22).elt), (rdatV m c).Leaves 22 ⟨n, hn⟩ X →
    ∀ y : S32x512.Idx, (y 0).val ≤ n → (X : S32x512.Idx → EReal) y = HS (PM m c) (RM m c (gp (y 0)) (y 1))
  | 0, hn, X, hX, y, hb => by
    obtain ⟨Y0, -, hA⟩ := hX
    have e : gp (y 0) = ⟨0, hn⟩ := Fin.ext (show (y 0).val = 0 by omega)
    rw [e]
    exact ((show ∀ y : S32x512.Idx, ((y 0).val = _ → (X : S32x512.Idx → EReal) y = HS (PM m c) (RM m c _ (y 1))) ∧ _ from hA) y).1 (by show (y 0).val = 0; omega)
  | n + 1, hn, X, hX, y, hb => by
    obtain ⟨Y0, hF, hA⟩ := hX
    have hA' := (show ∀ y : S32x512.Idx, ((y 0).val = _ → (X : S32x512.Idx → EReal) y = HS (PM m c) (RM m c _ (y 1))) ∧ (_ → (X : S32x512.Idx → EReal) y = (Y0 : S32x512.Idx → EReal) y) from hA) y
    rcases Nat.lt_or_ge n (y 0).val with h | h
    · have e : gp (y 0) = ⟨n + 1, hn⟩ := Fin.ext (show (y 0).val = n + 1 by omega)
      rw [e]
      exact hA'.1 (by show (y 0).val = n + 1; omega)
    · exact (hA'.2 (by show (y 0).val ≠ n + 1; omega)).trans (left22 c n (by omega) Y0 (finds_prev c 22 (.inr (.inl rfl)) n hn Y0 hF) y h)

theorem left24 (c : Dev nD) : ∀ (n : ℕ) (hn : n < cfg0.N) (X : (cfg0.win 24).block.Idx → Elt Ideal (cfg0.win 24).elt), (rdatV m c).Leaves 24 ⟨n, hn⟩ X →
    ∀ y : S32x512.Idx, (y 0).val ≤ n → (X : S32x512.Idx → EReal) y = GS (PM m c) (RM m c (gp (y 0)) (y 1))
  | 0, hn, X, hX, y, hb => by
    obtain ⟨Y0, -, hA⟩ := hX
    have e : gp (y 0) = ⟨0, hn⟩ := Fin.ext (show (y 0).val = 0 by omega)
    rw [e]
    exact ((show ∀ y : S32x512.Idx, ((y 0).val = _ → (X : S32x512.Idx → EReal) y = GS (PM m c) (RM m c _ (y 1))) ∧ _ from hA) y).1 (by show (y 0).val = 0; omega)
  | n + 1, hn, X, hX, y, hb => by
    obtain ⟨Y0, hF, hA⟩ := hX
    have hA' := (show ∀ y : S32x512.Idx, ((y 0).val = _ → (X : S32x512.Idx → EReal) y = GS (PM m c) (RM m c _ (y 1))) ∧ (_ → (X : S32x512.Idx → EReal) y = (Y0 : S32x512.Idx → EReal) y) from hA) y
    rcases Nat.lt_or_ge n (y 0).val with h | h
    · have e : gp (y 0) = ⟨n + 1, hn⟩ := Fin.ext (show (y 0).val = n + 1 by omega)
      rw [e]
      exact hA'.1 (by show (y 0).val = n + 1; omega)
    · exact (hA'.2 (by show (y 0).val ≠ n + 1; omega)).trans (left24 c n (by omega) Y0 (finds_prev c 24 (.inr (.inr rfl)) n hn Y0 hF) y h)

/-- The array of window 20 after the run. -/
theorem arr20 {r : PUnit × MemSt nD τ sig (Elt Ideal)} (h : Pipeline.RDat.FramePost cfg0 (rdatV m) (V m) r) (c : Dev nD) :
    (r.2.mem ((c.tc : Thread nD τ).loc main_v12_2) : S1x32.Idx → EReal) = fun i => SC (PM m c) (RM m c (gp (i 1)) 0) := by
  obtain ⟨X, hX, hG⟩ := ((h c).1 20).emb_eq_of_wholeAt (t₀ := ⟨31, by decide⟩) (by decide +kernel)
  funext i
  have e := hG i
  have l := left20 c 31 _ X hX
  refine (show r.2.mem ((c.tc : Thread nD τ).loc main_v12_2) i = (X : S1x32.Idx → EReal) i from e).trans ?_
  have ei : (i : S1x32.Idx) = ix2 0 (i 1) := by
    funext a
    match a with
    | ⟨0, _⟩ => exact Subsingleton.elim (α := Fin 1) _ _
    | ⟨1, _⟩ => rfl
  rw [ei]
  exact l (i 1) (Nat.le_of_lt_succ (i 1).isLt)

/-- The array of window 22 after the run. -/
theorem arr22 {r : PUnit × MemSt nD τ sig (Elt Ideal)} (h : Pipeline.RDat.FramePost cfg0 (rdatV m) (V m) r) (c : Dev nD) :
    (r.2.mem ((c.tc : Thread nD τ).loc main_v12_4) : S32x512.Idx → EReal) = fun i => HS (PM m c) (RM m c (gp (i 0)) (i 1)) := by
  obtain ⟨X, hX, hG⟩ := ((h c).1 22).emb_eq_of_wholeAt (t₀ := ⟨31, by decide⟩) (by decide +kernel)
  funext i
  have e := hG i
  have l := left22 c 31 _ X hX
  refine (show r.2.mem ((c.tc : Thread nD τ).loc main_v12_4) i = (X : S32x512.Idx → EReal) i from e).trans ?_
  exact l i (Nat.le_of_lt_succ (i 0).isLt)

/-- The array of window 24 after the run. -/
theorem arr24 {r : PUnit × MemSt nD τ sig (Elt Ideal)} (h : Pipeline.RDat.FramePost cfg0 (rdatV m) (V m) r) (c : Dev nD) :
    (r.2.mem ((c.tc : Thread nD τ).loc main_v12_6) : S32x512.Idx → EReal) = fun i => GS (PM m c) (RM m c (gp (i 0)) (i 1)) := by
  obtain ⟨X, hX, hG⟩ := ((h c).1 24).emb_eq_of_wholeAt (t₀ := ⟨31, by decide⟩) (by decide +kernel)
  funext i
  have e := hG i
  have l := left24 c 31 _ X hX
  refine (show r.2.mem ((c.tc : Thread nD τ).loc main_v12_6) i = (X : S32x512.Idx → EReal) i from e).trans ?_
  exact l i (Nat.le_of_lt_succ (i 0).isLt)

end Cert.Proof.KI

end

end
-- ==== Proof.Args.lean ====
/-
  The layer's parameters and rows, from the argument arrays.
-/
module

public import proofs.«01_k».proof.Proof.Model

@[expose] public section

noncomputable section

namespace Cert.Proof.Model

open Idealize.ShloMosaic

/-- The layer's parameters, from the arguments. -/
def parOf (a3 : (⟨1, ![1024]⟩ : Shape).Idx → EReal) (a4 : (⟨2, ![1024, 1024]⟩ : Shape).Idx → BitVec 8) (a5 : (⟨1, ![1024]⟩ : Shape).Idx → EReal) (a6 : (⟨1, ![1024]⟩ : Shape).Idx → EReal) (a7 : (⟨1, ![1024]⟩ : Shape).Idx → EReal) (a8 : (⟨1, ![1024]⟩ : Shape).Idx → EReal) (a9 : (⟨2, ![1024, 4096]⟩ : Shape).Idx → BitVec 8) (a10 : (⟨1, ![4096]⟩ : Shape).Idx → EReal) (a11 : (⟨1, ![4096]⟩ : Shape).Idx → EReal) (a12 : (⟨2, ![4096, 1024]⟩ : Shape).Idx → BitVec 8) (a13 : (⟨1, ![1024]⟩ : Shape).Idx → EReal) (a14 : (⟨1, ![1024]⟩ : Shape).Idx → EReal) (a15 : (⟨1, ![1024]⟩ : Shape).Idx → EReal) (a16 : (⟨1, ![1024]⟩ : Shape).Idx → EReal) (a17 : (⟨1, ![1024]⟩ : Shape).Idx → EReal) : Par where
  wo k j := (FloatOps.sitofp (F := Ideal) FTy.bf16 (a4 (ix2 k j)) : EReal)
  wso j := a5 (ix1 j)
  bo j := a6 (ix1 j)
  g1 j := a7 (ix1 j)
  b1 j := a8 (ix1 j)
  sm j := a3 (ix1 j)
  wu k j := (FloatOps.sitofp (F := Ideal) FTy.bf16 (a9 (ix2 k j)) : EReal)
  wsu j := a10 (ix1 j)
  bu j := a11 (ix1 j)
  wd k j := (FloatOps.sitofp (F := Ideal) FTy.bf16 (a12 (ix2 k j)) : EReal)
  wsd j := a13 (ix1 j)
  bd j := a14 (ix1 j)
  g2 j := a15 (ix1 j)
  b2 j := a16 (ix1 j)
  wc j := a17 (ix1 j)

/-- A token's row, from the arguments. -/
def rowOf (a0 : (⟨3, ![32, 512, 1024]⟩ : Shape).Idx → BitVec 8) (a1 : (⟨2, ![32, 512]⟩ : Shape).Idx → EReal) (a2 : (⟨3, ![32, 512, 1024]⟩ : Shape).Idx → EReal) (b : Fin 32) (r : Fin 512) : Row where
  cc k := (FloatOps.sitofp (F := Ideal) FTy.bf16 (a0 (ix3 b r k)) : EReal)
  cs := a1 (ix2 b r)
  x j := a2 (ix3 b r j)

/-- Token `r` of batch `b`, the batches one after another. -/
def rr (b : Fin 32) (r : Fin 512) : Fin 16384 := ⟨512 * b.val + r.val, by omega⟩

theorem cast_rows {α : Type} {J : ℕ} (x : (⟨3, ![32, 512, J]⟩ : Shape).Idx → α) (h : (⟨3, ![32, 512, J]⟩ : Shape).ShapeCasts ⟨2, ![16384, J]⟩) (b : Fin 32) (r : Fin 512) (k : Fin J) :
    shapeCast ⟨2, ![16384, J]⟩ x h (ix2 (rr b r) k) = x (ix3 b r k) :=
  shapeCast_apply x h _ _ (by
    rw [Shape.rowMajor_val_three, Shape.rowMajor_val_two]
    show (b.val * 512 + r.val) * J + k.val = (512 * b.val + r.val) * J + k.val
    rw [Nat.mul_comm b.val])

theorem cast_col {α : Type} (x : (⟨2, ![32, 512]⟩ : Shape).Idx → α) (h : (⟨2, ![32, 512]⟩ : Shape).ShapeCasts ⟨2, ![16384, 1]⟩) (b : Fin 32) (r : Fin 512) :
    shapeCast ⟨2, ![16384, 1]⟩ x h (ix2 (rr b r) 0) = x (ix2 b r) :=
  shapeCast_apply x h _ _ (by
    rw [Shape.rowMajor_val_two, Shape.rowMajor_val_two]
    show b.val * 512 + r.val = (512 * b.val + r.val) * 1 + 0
    omega)

theorem uncast_rows {α : Type} {J : ℕ} (x : (⟨2, ![16384, J]⟩ : Shape).Idx → α) (h : (⟨2, ![16384, J]⟩ : Shape).ShapeCasts ⟨3, ![32, 512, J]⟩) (b : Fin 32) (r : Fin 512) (k : Fin J) :
    shapeCast ⟨3, ![32, 512, J]⟩ x h (ix3 b r k) = x (ix2 (rr b r) k) :=
  shapeCast_apply x h _ _ (by
    rw [Shape.rowMajor_val_three, Shape.rowMajor_val_two]
    show (512 * b.val + r.val) * J + k.val = (b.val * 512 + r.val) * J + k.val
    rw [Nat.mul_comm b.val])

theorem uncast_col {α : Type} (x : (⟨2, ![16384, 1]⟩ : Shape).Idx → α) (h : (⟨2, ![16384, 1]⟩ : Shape).ShapeCasts ⟨2, ![32, 512]⟩) (b : Fin 32) (r : Fin 512) :
    shapeCast ⟨2, ![32, 512]⟩ x h (ix2 b r) = x (ix2 (rr b r) 0) :=
  shapeCast_apply x h _ _ (by
    rw [Shape.rowMajor_val_two, Shape.rowMajor_val_two]
    show (512 * b.val + r.val) * 1 + 0 = b.val * 512 + r.val
    omega)

theorem uncast_score {α : Type} (x : (⟨2, ![32, 1]⟩ : Shape).Idx → α) (h : (⟨2, ![32, 1]⟩ : Shape).ShapeCasts ⟨2, ![1, 32]⟩) (u : Fin 1) (b : Fin 32) :
    shapeCast ⟨2, ![1, 32]⟩ x h (ix2 u b) = x (ix2 b 0) :=
  shapeCast_apply x h _ _ (by
    have hu : u.val = 0 := by omega
    rw [Shape.rowMajor_val_two, Shape.rowMajor_val_two]
    show b.val * 1 + 0 = u.val * 32 + b.val
    omega)

theorem par_ext {P Q : Par} (h1 : ∀ k j, P.wo k j = Q.wo k j) (h2 : ∀ j, P.wso j = Q.wso j) (h3 : ∀ j, P.bo j = Q.bo j) (h4 : ∀ j, P.g1 j = Q.g1 j) (h5 : ∀ j, P.b1 j = Q.b1 j) (h6 : ∀ j, P.sm j = Q.sm j) (h7 : ∀ k j, P.wu k j = Q.wu k j) (h8 : ∀ j, P.wsu j = Q.wsu j) (h9 : ∀ j, P.bu j = Q.bu j) (h10 : ∀ k j, P.wd k j = Q.wd k j) (h11 : ∀ j, P.wsd j = Q.wsd j) (h12 : ∀ j, P.bd j = Q.bd j) (h13 : ∀ j, P.g2 j = Q.g2 j) (h14 : ∀ j, P.b2 j = Q.b2 j) (h15 : ∀ j, P.wc j = Q.wc j) : P = Q := by
  obtain ⟨_, _, _, _, _, _, _, _, _, _, _, _, _, _, _⟩ := P
  obtain ⟨_, _, _, _, _, _, _, _, _, _, _, _, _, _, _⟩ := Q
  simp only [Par.mk.injEq]
  exact ⟨funext fun k => funext (h1 k), funext h2, funext h3, funext h4, funext h5, funext h6, funext fun k => funext (h7 k), funext h8, funext h9, funext fun k => funext (h10 k), funext h11, funext h12, funext h13, funext h14, funext h15⟩

theorem row_ext {P Q : Row} (h1 : ∀ k, P.cc k = Q.cc k) (h2 : P.cs = Q.cs) (h3 : ∀ j, P.x j = Q.x j) : P = Q := by
  obtain ⟨_, _, _⟩ := P
  obtain ⟨_, _, _⟩ := Q
  simp only [Row.mk.injEq]
  exact ⟨funext h1, h2, funext h3⟩

end Cert.Proof.Model

end

end
-- ==== Proof.HostK.lean ====
/-
  The kernel's blocks, from the arguments.
-/
module

public import proofs.«01_k».proof.Proof.DatV
public import proofs.«01_k».proof.Proof.Args
public import Idealize.ShloMosaic.Lib.StableHlo.Run
public import Idealize.ShloMosaic.Lib.ValueLayout
public import Idealize.ShloMosaic.Lib.Pipeline.ArrRel
public import Idealize.ShloMosaic.Lib.Pipeline.ValueKit
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Model

variable (m : (ℓ : Loc nD τ sig) → Buf (Elt Ideal) ℓ) (ρ : Dev nD → PrngReg)

theorem e_0 (c : Dev nD) : (V m c main_v0 : S1x1024.Idx → EReal) = shapeCast S1x1024 (m ((c : Thread nD τ).loc main_arg5) : S1024.Idx → EReal) shapeCasts_S1024_S1x1024 := by
  show StableHlo.after (List.flatten [hostOps0]) _ (Proc.devRef .tc main_v0) = _
  simp only [hostOps0, List.flatten_cons, List.flatten_nil, List.append_nil, List.cons_append, List.nil_append]
  after_results
  rfl

theorem v_0 (c : Dev nD) (j : Fin 1024) : (V m c main_v0 : S1x1024.Idx → EReal) (ix2 0 j) = (m ((c : Thread nD τ).loc main_arg5) : S1024.Idx → EReal) (ix1 j) :=
  (congrFun (e_0 m c) _).trans (ValueIdx.shapeCast_a_1a_apply _ _ _ _)

theorem e_1 (c : Dev nD) : (V m c main_v1 : S1x1024.Idx → EReal) = shapeCast S1x1024 (m ((c : Thread nD τ).loc main_arg6) : S1024.Idx → EReal) shapeCasts_S1024_S1x1024 := by
  show StableHlo.after (List.flatten [hostOps0]) _ (Proc.devRef .tc main_v1) = _
  simp only [hostOps0, List.flatten_cons, List.flatten_nil, List.append_nil, List.cons_append, List.nil_append]
  after_results
  rfl

theorem v_1 (c : Dev nD) (j : Fin 1024) : (V m c main_v1 : S1x1024.Idx → EReal) (ix2 0 j) = (m ((c : Thread nD τ).loc main_arg6) : S1024.Idx → EReal) (ix1 j) :=
  (congrFun (e_1 m c) _).trans (ValueIdx.shapeCast_a_1a_apply _ _ _ _)

theorem e_2 (c : Dev nD) : (V m c main_v2 : S1x1024.Idx → EReal) = shapeCast S1x1024 (m ((c : Thread nD τ).loc main_arg7) : S1024.Idx → EReal) shapeCasts_S1024_S1x1024 := by
  show StableHlo.after (List.flatten [hostOps0]) _ (Proc.devRef .tc main_v2) = _
  simp only [hostOps0, List.flatten_cons, List.flatten_nil, List.append_nil, List.cons_append, List.nil_append]
  after_results
  rfl

theorem v_2 (c : Dev nD) (j : Fin 1024) : (V m c main_v2 : S1x1024.Idx → EReal) (ix2 0 j) = (m ((c : Thread nD τ).loc main_arg7) : S1024.Idx → EReal) (ix1 j) :=
  (congrFun (e_2 m c) _).trans (ValueIdx.shapeCast_a_1a_apply _ _ _ _)

theorem e_3 (c : Dev nD) : (V m c main_v3 : S1x1024.Idx → EReal) = shapeCast S1x1024 (m ((c : Thread nD τ).loc main_arg8) : S1024.Idx → EReal) shapeCasts_S1024_S1x1024 := by
  show StableHlo.after (List.flatten [hostOps0]) _ (Proc.devRef .tc main_v3) = _
  simp only [hostOps0, List.flatten_cons, List.flatten_nil, List.append_nil, List.cons_append, List.nil_append]
  after_results
  rfl

theorem v_3 (c : Dev nD) (j : Fin 1024) : (V m c main_v3 : S1x1024.Idx → EReal) (ix2 0 j) = (m ((c : Thread nD τ).loc main_arg8) : S1024.Idx → EReal) (ix1 j) :=
  (congrFun (e_3 m c) _).trans (ValueIdx.shapeCast_a_1a_apply _ _ _ _)

theorem e_4 (c : Dev nD) : (V m c main_v4 : S1x1024.Idx → EReal) = shapeCast S1x1024 (m ((c : Thread nD τ).loc main_arg3) : S1024.Idx → EReal) shapeCasts_S1024_S1x1024 := by
  show StableHlo.after (List.flatten [hostOps0]) _ (Proc.devRef .tc main_v4) = _
  simp only [hostOps0, List.flatten_cons, List.flatten_nil, List.append_nil, List.cons_append, List.nil_append]
  after_results
  rfl

theorem v_4 (c : Dev nD) (j : Fin 1024) : (V m c main_v4 : S1x1024.Idx → EReal) (ix2 0 j) = (m ((c : Thread nD τ).loc main_arg3) : S1024.Idx → EReal) (ix1 j) :=
  (congrFun (e_4 m c) _).trans (ValueIdx.shapeCast_a_1a_apply _ _ _ _)

theorem e_5 (c : Dev nD) : (V m c main_v5 : S1x4096.Idx → EReal) = shapeCast S1x4096 (m ((c : Thread nD τ).loc main_arg10) : S4096.Idx → EReal) shapeCasts_S4096_S1x4096 := by
  show StableHlo.after (List.flatten [hostOps0]) _ (Proc.devRef .tc main_v5) = _
  simp only [hostOps0, List.flatten_cons, List.flatten_nil, List.append_nil, List.cons_append, List.nil_append]
  after_results
  rfl

theorem v_5 (c : Dev nD) (j : Fin 4096) : (V m c main_v5 : S1x4096.Idx → EReal) (ix2 0 j) = (m ((c : Thread nD τ).loc main_arg10) : S4096.Idx → EReal) (ix1 j) :=
  (congrFun (e_5 m c) _).trans (ValueIdx.shapeCast_a_1a_apply _ _ _ _)

theorem e_6 (c : Dev nD) : (V m c main_v6 : S1x4096.Idx → EReal) = shapeCast S1x4096 (m ((c : Thread nD τ).loc main_arg11) : S4096.Idx → EReal) shapeCasts_S4096_S1x4096 := by
  show StableHlo.after (List.flatten [hostOps0]) _ (Proc.devRef .tc main_v6) = _
  simp only [hostOps0, List.flatten_cons, List.flatten_nil, List.append_nil, List.cons_append, List.nil_append]
  after_results
  rfl

theorem v_6 (c : Dev nD) (j : Fin 4096) : (V m c main_v6 : S1x4096.Idx → EReal) (ix2 0 j) = (m ((c : Thread nD τ).loc main_arg11) : S4096.Idx → EReal) (ix1 j) :=
  (congrFun (e_6 m c) _).trans (ValueIdx.shapeCast_a_1a_apply _ _ _ _)

theorem e_7 (c : Dev nD) : (V m c main_v7 : S1x1024.Idx → EReal) = shapeCast S1x1024 (m ((c : Thread nD τ).loc main_arg13) : S1024.Idx → EReal) shapeCasts_S1024_S1x1024 := by
  show StableHlo.after (List.flatten [hostOps0]) _ (Proc.devRef .tc main_v7) = _
  simp only [hostOps0, List.flatten_cons, List.flatten_nil, List.append_nil, List.cons_append, List.nil_append]
  after_results
  rfl

theorem v_7 (c : Dev nD) (j : Fin 1024) : (V m c main_v7 : S1x1024.Idx → EReal) (ix2 0 j) = (m ((c : Thread nD τ).loc main_arg13) : S1024.Idx → EReal) (ix1 j) :=
  (congrFun (e_7 m c) _).trans (ValueIdx.shapeCast_a_1a_apply _ _ _ _)

theorem e_8 (c : Dev nD) : (V m c main_v8 : S1x1024.Idx → EReal) = shapeCast S1x1024 (m ((c : Thread nD τ).loc main_arg14) : S1024.Idx → EReal) shapeCasts_S1024_S1x1024 := by
  show StableHlo.after (List.flatten [hostOps0]) _ (Proc.devRef .tc main_v8) = _
  simp only [hostOps0, List.flatten_cons, List.flatten_nil, List.append_nil, List.cons_append, List.nil_append]
  after_results
  rfl

theorem v_8 (c : Dev nD) (j : Fin 1024) : (V m c main_v8 : S1x1024.Idx → EReal) (ix2 0 j) = (m ((c : Thread nD τ).loc main_arg14) : S1024.Idx → EReal) (ix1 j) :=
  (congrFun (e_8 m c) _).trans (ValueIdx.shapeCast_a_1a_apply _ _ _ _)

theorem e_9 (c : Dev nD) : (V m c main_v9 : S1x1024.Idx → EReal) = shapeCast S1x1024 (m ((c : Thread nD τ).loc main_arg15) : S1024.Idx → EReal) shapeCasts_S1024_S1x1024 := by
  show StableHlo.after (List.flatten [hostOps0]) _ (Proc.devRef .tc main_v9) = _
  simp only [hostOps0, List.flatten_cons, List.flatten_nil, List.append_nil, List.cons_append, List.nil_append]
  after_results
  rfl

theorem v_9 (c : Dev nD) (j : Fin 1024) : (V m c main_v9 : S1x1024.Idx → EReal) (ix2 0 j) = (m ((c : Thread nD τ).loc main_arg15) : S1024.Idx → EReal) (ix1 j) :=
  (congrFun (e_9 m c) _).trans (ValueIdx.shapeCast_a_1a_apply _ _ _ _)

theorem e_10 (c : Dev nD) : (V m c main_v10 : S1x1024.Idx → EReal) = shapeCast S1x1024 (m ((c : Thread nD τ).loc main_arg16) : S1024.Idx → EReal) shapeCasts_S1024_S1x1024 := by
  show StableHlo.after (List.flatten [hostOps0]) _ (Proc.devRef .tc main_v10) = _
  simp only [hostOps0, List.flatten_cons, List.flatten_nil, List.append_nil, List.cons_append, List.nil_append]
  after_results
  rfl

theorem v_10 (c : Dev nD) (j : Fin 1024) : (V m c main_v10 : S1x1024.Idx → EReal) (ix2 0 j) = (m ((c : Thread nD τ).loc main_arg16) : S1024.Idx → EReal) (ix1 j) :=
  (congrFun (e_10 m c) _).trans (ValueIdx.shapeCast_a_1a_apply _ _ _ _)

theorem e_11 (c : Dev nD) : (V m c main_v11 : S1x1024.Idx → EReal) = shapeCast S1x1024 (m ((c : Thread nD τ).loc main_arg17) : S1024.Idx → EReal) shapeCasts_S1024_S1x1024 := by
  show StableHlo.after (List.flatten [hostOps0]) _ (Proc.devRef .tc main_v11) = _
  simp only [hostOps0, List.flatten_cons, List.flatten_nil, List.append_nil, List.cons_append, List.nil_append]
  after_results
  rfl

theorem v_11 (c : Dev nD) (j : Fin 1024) : (V m c main_v11 : S1x1024.Idx → EReal) (ix2 0 j) = (m ((c : Thread nD τ).loc main_arg17) : S1024.Idx → EReal) (ix1 j) :=
  (congrFun (e_11 m c) _).trans (ValueIdx.shapeCast_a_1a_apply _ _ _ _)

theorem ixw4 : ∀ t : Fin cfg0.N, win0_4.index t 0 = 0 ∧ win0_4.index t 1 = 0 := by decide +kernel

theorem b_4 (c : Dev nD) (j : Fin 1024) : (B m c 4 tz : S1x1024.Idx → EReal) (ix2 0 j) = (m ((c : Thread nD τ).loc main_arg5) : S1024.Idx → EReal) (ix1 j) := by
  have e : (win0_4.blk tz).view.emb ((ix2 0 j : S1x1024.Idx)) = (ix2 0 j : S1x1024.Idx) := by
    have h0 := (ixw4 tz).1
    have h1 := (ixw4 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 4 tz : S1x1024.Idx → EReal) (ix2 0 j) = (V m c main_v0 : S1x1024.Idx → EReal) ((win0_4.blk tz).view.emb (ix2 0 j : S1x1024.Idx)) from rfl).trans ((congrArg (V m c main_v0 : S1x1024.Idx → EReal) e).trans (v_0 m c j))

theorem ixw5 : ∀ t : Fin cfg0.N, win0_5.index t 0 = 0 ∧ win0_5.index t 1 = 0 := by decide +kernel

theorem b_5 (c : Dev nD) (j : Fin 1024) : (B m c 5 tz : S1x1024.Idx → EReal) (ix2 0 j) = (m ((c : Thread nD τ).loc main_arg6) : S1024.Idx → EReal) (ix1 j) := by
  have e : (win0_5.blk tz).view.emb ((ix2 0 j : S1x1024.Idx)) = (ix2 0 j : S1x1024.Idx) := by
    have h0 := (ixw5 tz).1
    have h1 := (ixw5 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 5 tz : S1x1024.Idx → EReal) (ix2 0 j) = (V m c main_v1 : S1x1024.Idx → EReal) ((win0_5.blk tz).view.emb (ix2 0 j : S1x1024.Idx)) from rfl).trans ((congrArg (V m c main_v1 : S1x1024.Idx → EReal) e).trans (v_1 m c j))

theorem ixw6 : ∀ t : Fin cfg0.N, win0_6.index t 0 = 0 ∧ win0_6.index t 1 = 0 := by decide +kernel

theorem b_6 (c : Dev nD) (j : Fin 1024) : (B m c 6 tz : S1x1024.Idx → EReal) (ix2 0 j) = (m ((c : Thread nD τ).loc main_arg7) : S1024.Idx → EReal) (ix1 j) := by
  have e : (win0_6.blk tz).view.emb ((ix2 0 j : S1x1024.Idx)) = (ix2 0 j : S1x1024.Idx) := by
    have h0 := (ixw6 tz).1
    have h1 := (ixw6 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 6 tz : S1x1024.Idx → EReal) (ix2 0 j) = (V m c main_v2 : S1x1024.Idx → EReal) ((win0_6.blk tz).view.emb (ix2 0 j : S1x1024.Idx)) from rfl).trans ((congrArg (V m c main_v2 : S1x1024.Idx → EReal) e).trans (v_2 m c j))

theorem ixw7 : ∀ t : Fin cfg0.N, win0_7.index t 0 = 0 ∧ win0_7.index t 1 = 0 := by decide +kernel

theorem b_7 (c : Dev nD) (j : Fin 1024) : (B m c 7 tz : S1x1024.Idx → EReal) (ix2 0 j) = (m ((c : Thread nD τ).loc main_arg8) : S1024.Idx → EReal) (ix1 j) := by
  have e : (win0_7.blk tz).view.emb ((ix2 0 j : S1x1024.Idx)) = (ix2 0 j : S1x1024.Idx) := by
    have h0 := (ixw7 tz).1
    have h1 := (ixw7 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 7 tz : S1x1024.Idx → EReal) (ix2 0 j) = (V m c main_v3 : S1x1024.Idx → EReal) ((win0_7.blk tz).view.emb (ix2 0 j : S1x1024.Idx)) from rfl).trans ((congrArg (V m c main_v3 : S1x1024.Idx → EReal) e).trans (v_3 m c j))

theorem ixw8 : ∀ t : Fin cfg0.N, win0_8.index t 0 = 0 ∧ win0_8.index t 1 = 0 := by decide +kernel

theorem b_8 (c : Dev nD) (j : Fin 1024) : (B m c 8 tz : S1x1024.Idx → EReal) (ix2 0 j) = (m ((c : Thread nD τ).loc main_arg3) : S1024.Idx → EReal) (ix1 j) := by
  have e : (win0_8.blk tz).view.emb ((ix2 0 j : S1x1024.Idx)) = (ix2 0 j : S1x1024.Idx) := by
    have h0 := (ixw8 tz).1
    have h1 := (ixw8 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 8 tz : S1x1024.Idx → EReal) (ix2 0 j) = (V m c main_v4 : S1x1024.Idx → EReal) ((win0_8.blk tz).view.emb (ix2 0 j : S1x1024.Idx)) from rfl).trans ((congrArg (V m c main_v4 : S1x1024.Idx → EReal) e).trans (v_4 m c j))

theorem ixw10 : ∀ t : Fin cfg0.N, win0_10.index t 0 = 0 ∧ win0_10.index t 1 = 0 := by decide +kernel

theorem b_10 (c : Dev nD) (j : Fin 4096) : (B m c 10 tz : S1x4096.Idx → EReal) (ix2 0 j) = (m ((c : Thread nD τ).loc main_arg10) : S4096.Idx → EReal) (ix1 j) := by
  have e : (win0_10.blk tz).view.emb ((ix2 0 j : S1x4096.Idx)) = (ix2 0 j : S1x4096.Idx) := by
    have h0 := (ixw10 tz).1
    have h1 := (ixw10 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 10 tz : S1x4096.Idx → EReal) (ix2 0 j) = (V m c main_v5 : S1x4096.Idx → EReal) ((win0_10.blk tz).view.emb (ix2 0 j : S1x4096.Idx)) from rfl).trans ((congrArg (V m c main_v5 : S1x4096.Idx → EReal) e).trans (v_5 m c j))

theorem ixw11 : ∀ t : Fin cfg0.N, win0_11.index t 0 = 0 ∧ win0_11.index t 1 = 0 := by decide +kernel

theorem b_11 (c : Dev nD) (j : Fin 4096) : (B m c 11 tz : S1x4096.Idx → EReal) (ix2 0 j) = (m ((c : Thread nD τ).loc main_arg11) : S4096.Idx → EReal) (ix1 j) := by
  have e : (win0_11.blk tz).view.emb ((ix2 0 j : S1x4096.Idx)) = (ix2 0 j : S1x4096.Idx) := by
    have h0 := (ixw11 tz).1
    have h1 := (ixw11 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 11 tz : S1x4096.Idx → EReal) (ix2 0 j) = (V m c main_v6 : S1x4096.Idx → EReal) ((win0_11.blk tz).view.emb (ix2 0 j : S1x4096.Idx)) from rfl).trans ((congrArg (V m c main_v6 : S1x4096.Idx → EReal) e).trans (v_6 m c j))

theorem ixw13 : ∀ t : Fin cfg0.N, win0_13.index t 0 = 0 ∧ win0_13.index t 1 = 0 := by decide +kernel

theorem b_13 (c : Dev nD) (j : Fin 1024) : (B m c 13 tz : S1x1024.Idx → EReal) (ix2 0 j) = (m ((c : Thread nD τ).loc main_arg13) : S1024.Idx → EReal) (ix1 j) := by
  have e : (win0_13.blk tz).view.emb ((ix2 0 j : S1x1024.Idx)) = (ix2 0 j : S1x1024.Idx) := by
    have h0 := (ixw13 tz).1
    have h1 := (ixw13 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 13 tz : S1x1024.Idx → EReal) (ix2 0 j) = (V m c main_v7 : S1x1024.Idx → EReal) ((win0_13.blk tz).view.emb (ix2 0 j : S1x1024.Idx)) from rfl).trans ((congrArg (V m c main_v7 : S1x1024.Idx → EReal) e).trans (v_7 m c j))

theorem ixw14 : ∀ t : Fin cfg0.N, win0_14.index t 0 = 0 ∧ win0_14.index t 1 = 0 := by decide +kernel

theorem b_14 (c : Dev nD) (j : Fin 1024) : (B m c 14 tz : S1x1024.Idx → EReal) (ix2 0 j) = (m ((c : Thread nD τ).loc main_arg14) : S1024.Idx → EReal) (ix1 j) := by
  have e : (win0_14.blk tz).view.emb ((ix2 0 j : S1x1024.Idx)) = (ix2 0 j : S1x1024.Idx) := by
    have h0 := (ixw14 tz).1
    have h1 := (ixw14 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 14 tz : S1x1024.Idx → EReal) (ix2 0 j) = (V m c main_v8 : S1x1024.Idx → EReal) ((win0_14.blk tz).view.emb (ix2 0 j : S1x1024.Idx)) from rfl).trans ((congrArg (V m c main_v8 : S1x1024.Idx → EReal) e).trans (v_8 m c j))

theorem ixw15 : ∀ t : Fin cfg0.N, win0_15.index t 0 = 0 ∧ win0_15.index t 1 = 0 := by decide +kernel

theorem b_15 (c : Dev nD) (j : Fin 1024) : (B m c 15 tz : S1x1024.Idx → EReal) (ix2 0 j) = (m ((c : Thread nD τ).loc main_arg15) : S1024.Idx → EReal) (ix1 j) := by
  have e : (win0_15.blk tz).view.emb ((ix2 0 j : S1x1024.Idx)) = (ix2 0 j : S1x1024.Idx) := by
    have h0 := (ixw15 tz).1
    have h1 := (ixw15 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 15 tz : S1x1024.Idx → EReal) (ix2 0 j) = (V m c main_v9 : S1x1024.Idx → EReal) ((win0_15.blk tz).view.emb (ix2 0 j : S1x1024.Idx)) from rfl).trans ((congrArg (V m c main_v9 : S1x1024.Idx → EReal) e).trans (v_9 m c j))

theorem ixw16 : ∀ t : Fin cfg0.N, win0_16.index t 0 = 0 ∧ win0_16.index t 1 = 0 := by decide +kernel

theorem b_16 (c : Dev nD) (j : Fin 1024) : (B m c 16 tz : S1x1024.Idx → EReal) (ix2 0 j) = (m ((c : Thread nD τ).loc main_arg16) : S1024.Idx → EReal) (ix1 j) := by
  have e : (win0_16.blk tz).view.emb ((ix2 0 j : S1x1024.Idx)) = (ix2 0 j : S1x1024.Idx) := by
    have h0 := (ixw16 tz).1
    have h1 := (ixw16 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 16 tz : S1x1024.Idx → EReal) (ix2 0 j) = (V m c main_v10 : S1x1024.Idx → EReal) ((win0_16.blk tz).view.emb (ix2 0 j : S1x1024.Idx)) from rfl).trans ((congrArg (V m c main_v10 : S1x1024.Idx → EReal) e).trans (v_10 m c j))

theorem ixw17 : ∀ t : Fin cfg0.N, win0_17.index t 0 = 0 ∧ win0_17.index t 1 = 0 := by decide +kernel

theorem b_17 (c : Dev nD) (j : Fin 1024) : (B m c 17 tz : S1x1024.Idx → EReal) (ix2 0 j) = (m ((c : Thread nD τ).loc main_arg17) : S1024.Idx → EReal) (ix1 j) := by
  have e : (win0_17.blk tz).view.emb ((ix2 0 j : S1x1024.Idx)) = (ix2 0 j : S1x1024.Idx) := by
    have h0 := (ixw17 tz).1
    have h1 := (ixw17 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 17 tz : S1x1024.Idx → EReal) (ix2 0 j) = (V m c main_v11 : S1x1024.Idx → EReal) ((win0_17.blk tz).view.emb (ix2 0 j : S1x1024.Idx)) from rfl).trans ((congrArg (V m c main_v11 : S1x1024.Idx → EReal) e).trans (v_11 m c j))

theorem ixw3 : ∀ t : Fin cfg0.N, win0_3.index t 0 = 0 ∧ win0_3.index t 1 = 0 := by decide +kernel

theorem b_3 (c : Dev nD) (k : Fin 1024) (j : Fin 1024) : (B m c 3 tz : S1024x1024.Idx → BitVec 8) (ix2 k j) = (m ((c : Thread nD τ).loc main_arg4) : S1024x1024.Idx → BitVec 8) (ix2 k j) := by
  have e : (win0_3.blk tz).view.emb ((ix2 k j : S1024x1024.Idx)) = (ix2 k j : S1024x1024.Idx) := by
    have h0 := (ixw3 tz).1
    have h1 := (ixw3 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 3 tz : S1024x1024.Idx → BitVec 8) (ix2 k j) = (V m c main_arg4 : S1024x1024.Idx → BitVec 8) ((win0_3.blk tz).view.emb (ix2 k j : S1024x1024.Idx)) from rfl).trans ((congrArg (V m c main_arg4 : S1024x1024.Idx → BitVec 8) e).trans (congrFun (V_main_arg4 m c) _))

theorem ixw9 : ∀ t : Fin cfg0.N, win0_9.index t 0 = 0 ∧ win0_9.index t 1 = 0 := by decide +kernel

theorem b_9 (c : Dev nD) (k : Fin 1024) (j : Fin 4096) : (B m c 9 tz : S1024x4096.Idx → BitVec 8) (ix2 k j) = (m ((c : Thread nD τ).loc main_arg9) : S1024x4096.Idx → BitVec 8) (ix2 k j) := by
  have e : (win0_9.blk tz).view.emb ((ix2 k j : S1024x4096.Idx)) = (ix2 k j : S1024x4096.Idx) := by
    have h0 := (ixw9 tz).1
    have h1 := (ixw9 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 9 tz : S1024x4096.Idx → BitVec 8) (ix2 k j) = (V m c main_arg9 : S1024x4096.Idx → BitVec 8) ((win0_9.blk tz).view.emb (ix2 k j : S1024x4096.Idx)) from rfl).trans ((congrArg (V m c main_arg9 : S1024x4096.Idx → BitVec 8) e).trans (congrFun (V_main_arg9 m c) _))

theorem ixw12 : ∀ t : Fin cfg0.N, win0_12.index t 0 = 0 ∧ win0_12.index t 1 = 0 := by decide +kernel

theorem b_12 (c : Dev nD) (k : Fin 4096) (j : Fin 1024) : (B m c 12 tz : S4096x1024.Idx → BitVec 8) (ix2 k j) = (m ((c : Thread nD τ).loc main_arg12) : S4096x1024.Idx → BitVec 8) (ix2 k j) := by
  have e : (win0_12.blk tz).view.emb ((ix2 k j : S4096x1024.Idx)) = (ix2 k j : S4096x1024.Idx) := by
    have h0 := (ixw12 tz).1
    have h1 := (ixw12 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 12 tz : S4096x1024.Idx → BitVec 8) (ix2 k j) = (V m c main_arg12 : S4096x1024.Idx → BitVec 8) ((win0_12.blk tz).view.emb (ix2 k j : S4096x1024.Idx)) from rfl).trans ((congrArg (V m c main_arg12 : S4096x1024.Idx → BitVec 8) e).trans (congrFun (V_main_arg12 m c) _))

theorem ixw1 : ∀ t : Fin cfg0.N, win0_1.index t 0 = 0 ∧ win0_1.index t 1 = 0 := by decide +kernel

theorem b_1 (c : Dev nD) (b : Fin 32) (r : Fin 512) : (B m c 1 tz : S32x512.Idx → EReal) (ix2 b r) = (m ((c : Thread nD τ).loc main_arg1) : S32x512.Idx → EReal) (ix2 b r) := by
  have e : (win0_1.blk tz).view.emb ((ix2 b r : S32x512.Idx)) = (ix2 b r : S32x512.Idx) := by
    have h0 := (ixw1 tz).1
    have h1 := (ixw1 tz).2
    funext a
    match a with
    | ⟨0, _⟩ => exact Fin.ext (by blk_simp; first | omega | (rw [h0]; simp) | rfl)
    | ⟨1, _⟩ => exact Fin.ext (by blk_simp; first | omega | (rw [h1]; simp) | rfl)
  exact (show (B m c 1 tz : S32x512.Idx → EReal) (ix2 b r) = (V m c main_arg1 : S32x512.Idx → EReal) ((win0_1.blk tz).view.emb (ix2 b r : S32x512.Idx)) from rfl).trans ((congrArg (V m c main_arg1 : S32x512.Idx → EReal) e).trans (congrFun (V_main_arg1 m c) _))

theorem ixw0 : ∀ t : Fin cfg0.N, win0_0.index t 0 = (grid0.coords t 0).val ∧ win0_0.index t 1 = 0 ∧ win0_0.index t 2 = 0 := by decide +kernel

theorem b_0 (c : Dev nD) (t : Fin cfg0.N) (r : Fin 512) (k : Fin 1024) : (B m c 0 t : S1x512x1024.Idx → BitVec 8) (ix3 0 r k) = (m ((c : Thread nD τ).loc main_arg0) : S32x512x1024.Idx → BitVec 8) (ix3 (grid0.coords t 0) r k) := by
  have e : (win0_0.blk t).view.emb (ix3 0 r k : S1x512x1024.Idx) = (ix3 (grid0.coords t 0) r k : S32x512x1024.Idx) := by
    have h0 := (ixw0 t).1
    have h1 := (ixw0 t).2.1
    have h2 := (ixw0 t).2.2
    funext a
    match a with
    | ⟨0, _⟩ => exact Fin.ext (by blk_simp; first | omega | (rw [h0]; simp) | rfl)
    | ⟨1, _⟩ => exact Fin.ext (by blk_simp; first | omega | (rw [h1]; simp) | rfl)
    | ⟨2, _⟩ => exact Fin.ext (by blk_simp; first | omega | (rw [h2]; simp) | rfl)
  exact (show (B m c 0 t : S1x512x1024.Idx → BitVec 8) (ix3 0 r k) = (V m c main_arg0 : S32x512x1024.Idx → BitVec 8) ((win0_0.blk t).view.emb (ix3 0 r k : S1x512x1024.Idx)) from rfl).trans ((congrArg (V m c main_arg0 : S32x512x1024.Idx → BitVec 8) e).trans (congrFun (V_main_arg0 m c) _))

theorem ixw2 : ∀ t : Fin cfg0.N, win0_2.index t 0 = (grid0.coords t 0).val ∧ win0_2.index t 1 = 0 ∧ win0_2.index t 2 = 0 := by decide +kernel

theorem b_2 (c : Dev nD) (t : Fin cfg0.N) (r : Fin 512) (k : Fin 1024) : (B m c 2 t : S1x512x1024.Idx → EReal) (ix3 0 r k) = (m ((c : Thread nD τ).loc main_arg2) : S32x512x1024.Idx → EReal) (ix3 (grid0.coords t 0) r k) := by
  have e : (win0_2.blk t).view.emb (ix3 0 r k : S1x512x1024.Idx) = (ix3 (grid0.coords t 0) r k : S32x512x1024.Idx) := by
    have h0 := (ixw2 t).1
    have h1 := (ixw2 t).2.1
    have h2 := (ixw2 t).2.2
    funext a
    match a with
    | ⟨0, _⟩ => exact Fin.ext (by blk_simp; first | omega | (rw [h0]; simp) | rfl)
    | ⟨1, _⟩ => exact Fin.ext (by blk_simp; first | omega | (rw [h1]; simp) | rfl)
    | ⟨2, _⟩ => exact Fin.ext (by blk_simp; first | omega | (rw [h2]; simp) | rfl)
  exact (show (B m c 2 t : S1x512x1024.Idx → EReal) (ix3 0 r k) = (V m c main_arg2 : S32x512x1024.Idx → EReal) ((win0_2.blk t).view.emb (ix3 0 r k : S1x512x1024.Idx)) from rfl).trans ((congrArg (V m c main_arg2 : S32x512x1024.Idx → EReal) e).trans (congrFun (V_main_arg2 m c) _))

/-- The kernel's parameters are the arguments'. -/
theorem PM_eq (c : Dev nD) : PM m c = parOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  par_ext (fun k j => congrArg (fun z => (FloatOps.sitofp (F := Ideal) FTy.bf16 z : EReal)) (b_3 m c k j)) (b_4 m c) (b_5 m c) (b_6 m c) (b_7 m c) (b_8 m c)
    (fun k j => congrArg (fun z => (FloatOps.sitofp (F := Ideal) FTy.bf16 z : EReal)) (b_9 m c k j)) (b_10 m c) (b_11 m c)
    (fun k j => congrArg (fun z => (FloatOps.sitofp (F := Ideal) FTy.bf16 z : EReal)) (b_12 m c k j)) (b_13 m c) (b_14 m c) (b_15 m c) (b_16 m c) (b_17 m c)

/-- The kernel's rows are the arguments'. -/
theorem RM_eq (c : Dev nD) (t : Fin cfg0.N) (r : Fin 512) : RM m c t r = rowOf (m ((c : Thread nD τ).loc main_arg0)) (m ((c : Thread nD τ).loc main_arg1)) (m ((c : Thread nD τ).loc main_arg2)) (grid0.coords t 0) r :=
  row_ext (fun k => congrArg (fun z => (FloatOps.sitofp (F := Ideal) FTy.bf16 z : EReal)) (b_0 m c t r k)) (b_1 m c _ r) (b_2 m c t r)

end Cert.Proof.KI

end

end
-- ==== Proof.ValWd.lean ====
/-
  The converted weights.
-/
module

public import proofs.«01_k».proof.Proof.Rd
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- The converted weights of window 3. -/
def W26 (f : S1024x1024.Idx → BitVec 8) : S1024x1024.Idx → EReal := fun y => FloatOps.sitofp (F := Ideal) FTy.bf16 (f y)

/-- The converted weights of window 9. -/
def W27 (f : S1024x4096.Idx → BitVec 8) : S1024x4096.Idx → EReal := fun y => FloatOps.sitofp (F := Ideal) FTy.bf16 (f y)

def W28 (f : S4096x1024.Idx → BitVec 8) : S4096x1024.Idx → EReal := fun y => FloatOps.sitofp (F := Ideal) FTy.bf16 (f y)

end Cert.Proof.KI

end

end
-- ==== Proof.ValW1.lean ====
/-
  The first weights converted on the first grid point.
-/
module

public import proofs.«01_k».proof.Proof.ValWd
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v1815 (x : Fin 256) (y : Fin 1024) :
    (kernelRun.sl.v1815 c M4 f4 : S256x1024.Idx → EReal) (ix2 x y) = W26 (View.read (Elt Ideal) M4.view f4) (ix2 (⟨768 + ↑x, by omega⟩ : Fin 1024) y) := by
  pointwise [kernelRun.sl.v1815, kernelRun.sl.v1812, View.readAt_apply, W26]
  all_goals rfl

theorem t_v1805 (x : Fin 256) (y : Fin 1024) :
    (kernelRun.sl.v1805 c M4 f4 : S256x1024.Idx → EReal) (ix2 x y) = W26 (View.read (Elt Ideal) M4.view f4) (ix2 (⟨512 + ↑x, by omega⟩ : Fin 1024) y) := by
  pointwise [kernelRun.sl.v1805, kernelRun.sl.v1802, View.readAt_apply, W26]
  all_goals rfl

theorem t_v1795 (x : Fin 256) (y : Fin 1024) :
    (kernelRun.sl.v1795 c M4 f4 : S256x1024.Idx → EReal) (ix2 x y) = W26 (View.read (Elt Ideal) M4.view f4) (ix2 (⟨256 + ↑x, by omega⟩ : Fin 1024) y) := by
  pointwise [kernelRun.sl.v1795, kernelRun.sl.v1792, View.readAt_apply, W26]
  all_goals rfl

theorem t_v1785 (x : Fin 256) (y : Fin 1024) :
    (kernelRun.sl.v1785 c M4 f4 : S256x1024.Idx → EReal) (ix2 x y) = W26 (View.read (Elt Ideal) M4.view f4) (ix2 (⟨↑x, by omega⟩ : Fin 1024) y) := by
  pointwise [kernelRun.sl.v1785, kernelRun.sl.v1782, View.readAt_apply, W26]
  all_goals rfl

set_option maxHeartbeats 4000000 in
theorem pcv26 : View.PiecesOf (W26 (View.read (Elt Ideal) M4.view f4)) (kernelRun.sl.H26_4 c M4 f4) := by
  unfold kernelRun.sl.H26_4 kernelRun.sl.H26_3
  exact ⟨(fun x => by idx_vars x; exact (t_v1815 x0 x1).trans (show W26 (View.read (Elt Ideal) M4.view f4) (ix2 (⟨768 + ↑x0, by omega⟩ : Fin 1024) (⟨↑x1, by omega⟩ : Fin 1024)) = _ from congrArg _ (by idx_ext))),
    ⟨(fun x => by idx_vars x; exact (t_v1805 x0 x1).trans (show W26 (View.read (Elt Ideal) M4.view f4) (ix2 (⟨512 + ↑x0, by omega⟩ : Fin 1024) (⟨↑x1, by omega⟩ : Fin 1024)) = _ from congrArg _ (by idx_ext))),
    ⟨(fun x => by idx_vars x; exact (t_v1795 x0 x1).trans (show W26 (View.read (Elt Ideal) M4.view f4) (ix2 (⟨256 + ↑x0, by omega⟩ : Fin 1024) (⟨↑x1, by omega⟩ : Fin 1024)) = _ from congrArg _ (by idx_ext))),
    ⟨(fun x => by idx_vars x; exact (t_v1785 x0 x1).trans (show W26 (View.read (Elt Ideal) M4.view f4) (ix2 (⟨↑x0, by omega⟩ : Fin 1024) (⟨↑x1, by omega⟩ : Fin 1024)) = _ from congrArg _ (by idx_ext))),
    trivial⟩⟩⟩⟩

theorem ccv26 (y : S1024x1024.Idx) : ∃ p ∈ (kernelRun.sl.H26_4 c M4 f4), y ∈ p.1.set := by
  unfold kernelRun.sl.H26_4 kernelRun.sl.H26_3
  exact View.cover_of_tiled (s := S1024x1024) _ ![256, 1024] (by rfl) y

theorem cv26 (y : S1024x1024.Idx) : View.read (Elt Ideal) M26.view (M26.view.writes (Elt Ideal) f26 (kernelRun.sl.H26_4 c M4 f4)) y = W26 (View.read (Elt Ideal) M4.view f4) y :=
  rdw _ _ _ _ pcv26 ccv26 y

end Cert.Proof.KI

end

end
-- ==== Proof.ValW2.lean ====
/-
  The second weights converted on the first grid point.
-/
module

public import proofs.«01_k».proof.Proof.ValWd
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v1820 (x : Fin 256) (y : Fin 4096) :
    (kernelRun.sl.v1820 c M10 f10 : S256x4096.Idx → EReal) (ix2 x y) = W27 (View.read (Elt Ideal) M10.view f10) (ix2 (⟨768 + ↑x, by omega⟩ : Fin 1024) y) := by
  pointwise [kernelRun.sl.v1820, kernelRun.sl.v1817, View.readAt_apply, W27]
  all_goals rfl

theorem t_v1810 (x : Fin 256) (y : Fin 4096) :
    (kernelRun.sl.v1810 c M10 f10 : S256x4096.Idx → EReal) (ix2 x y) = W27 (View.read (Elt Ideal) M10.view f10) (ix2 (⟨512 + ↑x, by omega⟩ : Fin 1024) y) := by
  pointwise [kernelRun.sl.v1810, kernelRun.sl.v1807, View.readAt_apply, W27]
  all_goals rfl

theorem t_v1800 (x : Fin 256) (y : Fin 4096) :
    (kernelRun.sl.v1800 c M10 f10 : S256x4096.Idx → EReal) (ix2 x y) = W27 (View.read (Elt Ideal) M10.view f10) (ix2 (⟨256 + ↑x, by omega⟩ : Fin 1024) y) := by
  pointwise [kernelRun.sl.v1800, kernelRun.sl.v1797, View.readAt_apply, W27]
  all_goals rfl

theorem t_v1790 (x : Fin 256) (y : Fin 4096) :
    (kernelRun.sl.v1790 c M10 f10 : S256x4096.Idx → EReal) (ix2 x y) = W27 (View.read (Elt Ideal) M10.view f10) (ix2 (⟨↑x, by omega⟩ : Fin 1024) y) := by
  pointwise [kernelRun.sl.v1790, kernelRun.sl.v1787, View.readAt_apply, W27]
  all_goals rfl

set_option maxHeartbeats 4000000 in
theorem pcv27 : View.PiecesOf (W27 (View.read (Elt Ideal) M10.view f10)) (kernelRun.sl.H27_4 c M10 f10) := by
  unfold kernelRun.sl.H27_4 kernelRun.sl.H27_3
  exact ⟨(fun x => by idx_vars x; exact (t_v1820 x0 x1).trans (show W27 (View.read (Elt Ideal) M10.view f10) (ix2 (⟨768 + ↑x0, by omega⟩ : Fin 1024) (⟨↑x1, by omega⟩ : Fin 4096)) = _ from congrArg _ (by idx_ext))),
    ⟨(fun x => by idx_vars x; exact (t_v1810 x0 x1).trans (show W27 (View.read (Elt Ideal) M10.view f10) (ix2 (⟨512 + ↑x0, by omega⟩ : Fin 1024) (⟨↑x1, by omega⟩ : Fin 4096)) = _ from congrArg _ (by idx_ext))),
    ⟨(fun x => by idx_vars x; exact (t_v1800 x0 x1).trans (show W27 (View.read (Elt Ideal) M10.view f10) (ix2 (⟨256 + ↑x0, by omega⟩ : Fin 1024) (⟨↑x1, by omega⟩ : Fin 4096)) = _ from congrArg _ (by idx_ext))),
    ⟨(fun x => by idx_vars x; exact (t_v1790 x0 x1).trans (show W27 (View.read (Elt Ideal) M10.view f10) (ix2 (⟨↑x0, by omega⟩ : Fin 1024) (⟨↑x1, by omega⟩ : Fin 4096)) = _ from congrArg _ (by idx_ext))),
    trivial⟩⟩⟩⟩

theorem ccv27 (y : S1024x4096.Idx) : ∃ p ∈ (kernelRun.sl.H27_4 c M10 f10), y ∈ p.1.set := by
  unfold kernelRun.sl.H27_4 kernelRun.sl.H27_3
  exact View.cover_of_tiled (s := S1024x4096) _ ![256, 4096] (by rfl) y

theorem cv27 (y : S1024x4096.Idx) : View.read (Elt Ideal) M27.view (M27.view.writes (Elt Ideal) f27 (kernelRun.sl.H27_4 c M10 f10)) y = W27 (View.read (Elt Ideal) M10.view f10) y :=
  rdw _ _ _ _ pcv27 ccv27 y

end Cert.Proof.KI

end

end
-- ==== Proof.ValW3.lean ====
/-
  The third weights converted on the first grid point.
-/
module

public import proofs.«01_k».proof.Proof.ValWd
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v1900 (x : Fin 256) (y : Fin 1024) :
    (kernelRun.sl.v1900 c M13 f13 : S256x1024.Idx → EReal) (ix2 x y) = W28 (View.read (Elt Ideal) M13.view f13) (ix2 (⟨3840 + ↑x, by omega⟩ : Fin 4096) y) := by
  pointwise [kernelRun.sl.v1900, kernelRun.sl.v1897, View.readAt_apply, W28]
  all_goals rfl

theorem t_v1895 (x : Fin 256) (y : Fin 1024) :
    (kernelRun.sl.v1895 c M13 f13 : S256x1024.Idx → EReal) (ix2 x y) = W28 (View.read (Elt Ideal) M13.view f13) (ix2 (⟨3584 + ↑x, by omega⟩ : Fin 4096) y) := by
  pointwise [kernelRun.sl.v1895, kernelRun.sl.v1892, View.readAt_apply, W28]
  all_goals rfl

theorem t_v1890 (x : Fin 256) (y : Fin 1024) :
    (kernelRun.sl.v1890 c M13 f13 : S256x1024.Idx → EReal) (ix2 x y) = W28 (View.read (Elt Ideal) M13.view f13) (ix2 (⟨3328 + ↑x, by omega⟩ : Fin 4096) y) := by
  pointwise [kernelRun.sl.v1890, kernelRun.sl.v1887, View.readAt_apply, W28]
  all_goals rfl

theorem t_v1885 (x : Fin 256) (y : Fin 1024) :
    (kernelRun.sl.v1885 c M13 f13 : S256x1024.Idx → EReal) (ix2 x y) = W28 (View.read (Elt Ideal) M13.view f13) (ix2 (⟨3072 + ↑x, by omega⟩ : Fin 4096) y) := by
  pointwise [kernelRun.sl.v1885, kernelRun.sl.v1882, View.readAt_apply, W28]
  all_goals rfl

theorem t_v1880 (x : Fin 256) (y : Fin 1024) :
    (kernelRun.sl.v1880 c M13 f13 : S256x1024.Idx → EReal) (ix2 x y) = W28 (View.read (Elt Ideal) M13.view f13) (ix2 (⟨2816 + ↑x, by omega⟩ : Fin 4096) y) := by
  pointwise [kernelRun.sl.v1880, kernelRun.sl.v1877, View.readAt_apply, W28]
  all_goals rfl

theorem t_v1875 (x : Fin 256) (y : Fin 1024) :
    (kernelRun.sl.v1875 c M13 f13 : S256x1024.Idx → EReal) (ix2 x y) = W28 (View.read (Elt Ideal) M13.view f13) (ix2 (⟨2560 + ↑x, by omega⟩ : Fin 4096) y) := by
  pointwise [kernelRun.sl.v1875, kernelRun.sl.v1872, View.readAt_apply, W28]
  all_goals rfl

theorem t_v1870 (x : Fin 256) (y : Fin 1024) :
    (kernelRun.sl.v1870 c M13 f13 : S256x1024.Idx → EReal) (ix2 x y) = W28 (View.read (Elt Ideal) M13.view f13) (ix2 (⟨2304 + ↑x, by omega⟩ : Fin 4096) y) := by
  pointwise [kernelRun.sl.v1870, kernelRun.sl.v1867, View.readAt_apply, W28]
  all_goals rfl

theorem t_v1865 (x : Fin 256) (y : Fin 1024) :
    (kernelRun.sl.v1865 c M13 f13 : S256x1024.Idx → EReal) (ix2 x y) = W28 (View.read (Elt Ideal) M13.view f13) (ix2 (⟨2048 + ↑x, by omega⟩ : Fin 4096) y) := by
  pointwise [kernelRun.sl.v1865, kernelRun.sl.v1862, View.readAt_apply, W28]
  all_goals rfl

theorem t_v1860 (x : Fin 256) (y : Fin 1024) :
    (kernelRun.sl.v1860 c M13 f13 : S256x1024.Idx → EReal) (ix2 x y) = W28 (View.read (Elt Ideal) M13.view f13) (ix2 (⟨1792 + ↑x, by omega⟩ : Fin 4096) y) := by
  pointwise [kernelRun.sl.v1860, kernelRun.sl.v1857, View.readAt_apply, W28]
  all_goals rfl

theorem t_v1855 (x : Fin 256) (y : Fin 1024) :
    (kernelRun.sl.v1855 c M13 f13 : S256x1024.Idx → EReal) (ix2 x y) = W28 (View.read (Elt Ideal) M13.view f13) (ix2 (⟨1536 + ↑x, by omega⟩ : Fin 4096) y) := by
  pointwise [kernelRun.sl.v1855, kernelRun.sl.v1852, View.readAt_apply, W28]
  all_goals rfl

theorem t_v1850 (x : Fin 256) (y : Fin 1024) :
    (kernelRun.sl.v1850 c M13 f13 : S256x1024.Idx → EReal) (ix2 x y) = W28 (View.read (Elt Ideal) M13.view f13) (ix2 (⟨1280 + ↑x, by omega⟩ : Fin 4096) y) := by
  pointwise [kernelRun.sl.v1850, kernelRun.sl.v1847, View.readAt_apply, W28]
  all_goals rfl

theorem t_v1845 (x : Fin 256) (y : Fin 1024) :
    (kernelRun.sl.v1845 c M13 f13 : S256x1024.Idx → EReal) (ix2 x y) = W28 (View.read (Elt Ideal) M13.view f13) (ix2 (⟨1024 + ↑x, by omega⟩ : Fin 4096) y) := by
  pointwise [kernelRun.sl.v1845, kernelRun.sl.v1842, View.readAt_apply, W28]
  all_goals rfl

theorem t_v1840 (x : Fin 256) (y : Fin 1024) :
    (kernelRun.sl.v1840 c M13 f13 : S256x1024.Idx → EReal) (ix2 x y) = W28 (View.read (Elt Ideal) M13.view f13) (ix2 (⟨768 + ↑x, by omega⟩ : Fin 4096) y) := by
  pointwise [kernelRun.sl.v1840, kernelRun.sl.v1837, View.readAt_apply, W28]
  all_goals rfl

theorem t_v1835 (x : Fin 256) (y : Fin 1024) :
    (kernelRun.sl.v1835 c M13 f13 : S256x1024.Idx → EReal) (ix2 x y) = W28 (View.read (Elt Ideal) M13.view f13) (ix2 (⟨512 + ↑x, by omega⟩ : Fin 4096) y) := by
  pointwise [kernelRun.sl.v1835, kernelRun.sl.v1832, View.readAt_apply, W28]
  all_goals rfl

theorem t_v1830 (x : Fin 256) (y : Fin 1024) :
    (kernelRun.sl.v1830 c M13 f13 : S256x1024.Idx → EReal) (ix2 x y) = W28 (View.read (Elt Ideal) M13.view f13) (ix2 (⟨256 + ↑x, by omega⟩ : Fin 4096) y) := by
  pointwise [kernelRun.sl.v1830, kernelRun.sl.v1827, View.readAt_apply, W28]
  all_goals rfl

theorem t_v1825 (x : Fin 256) (y : Fin 1024) :
    (kernelRun.sl.v1825 c M13 f13 : S256x1024.Idx → EReal) (ix2 x y) = W28 (View.read (Elt Ideal) M13.view f13) (ix2 (⟨↑x, by omega⟩ : Fin 4096) y) := by
  pointwise [kernelRun.sl.v1825, kernelRun.sl.v1822, View.readAt_apply, W28]
  all_goals rfl

set_option maxHeartbeats 4000000 in
theorem pcv28 : View.PiecesOf (W28 (View.read (Elt Ideal) M13.view f13)) ((⟨Rect.unit ![3840, 0] S256x1024.size Gen.inb_S4096x1024_S256x1024_3840_0, kernelRun.sl.v1900 c M13 f13⟩ :: ⟨Rect.unit ![3584, 0] S256x1024.size Gen.inb_S4096x1024_S256x1024_3584_0, kernelRun.sl.v1895 c M13 f13⟩ :: ⟨Rect.unit ![3328, 0] S256x1024.size Gen.inb_S4096x1024_S256x1024_3328_0, kernelRun.sl.v1890 c M13 f13⟩ :: ⟨Rect.unit ![3072, 0] S256x1024.size Gen.inb_S4096x1024_S256x1024_3072_0, kernelRun.sl.v1885 c M13 f13⟩ :: ⟨Rect.unit ![2816, 0] S256x1024.size Gen.inb_S4096x1024_S256x1024_2816_0, kernelRun.sl.v1880 c M13 f13⟩ :: ⟨Rect.unit ![2560, 0] S256x1024.size Gen.inb_S4096x1024_S256x1024_2560_0, kernelRun.sl.v1875 c M13 f13⟩ :: kernelRun.sl.H28_10 c M13 f13 : List (View.Piece (Elt Ideal) S4096x1024 .bf16))) := by
  unfold kernelRun.sl.H28_10 kernelRun.sl.H28_4
  exact ⟨(fun x => by idx_vars x; exact (t_v1900 x0 x1).trans (show W28 (View.read (Elt Ideal) M13.view f13) (ix2 (⟨3840 + ↑x0, by omega⟩ : Fin 4096) (⟨↑x1, by omega⟩ : Fin 1024)) = _ from congrArg _ (by idx_ext))),
    ⟨(fun x => by idx_vars x; exact (t_v1895 x0 x1).trans (show W28 (View.read (Elt Ideal) M13.view f13) (ix2 (⟨3584 + ↑x0, by omega⟩ : Fin 4096) (⟨↑x1, by omega⟩ : Fin 1024)) = _ from congrArg _ (by idx_ext))),
    ⟨(fun x => by idx_vars x; exact (t_v1890 x0 x1).trans (show W28 (View.read (Elt Ideal) M13.view f13) (ix2 (⟨3328 + ↑x0, by omega⟩ : Fin 4096) (⟨↑x1, by omega⟩ : Fin 1024)) = _ from congrArg _ (by idx_ext))),
    ⟨(fun x => by idx_vars x; exact (t_v1885 x0 x1).trans (show W28 (View.read (Elt Ideal) M13.view f13) (ix2 (⟨3072 + ↑x0, by omega⟩ : Fin 4096) (⟨↑x1, by omega⟩ : Fin 1024)) = _ from congrArg _ (by idx_ext))),
    ⟨(fun x => by idx_vars x; exact (t_v1880 x0 x1).trans (show W28 (View.read (Elt Ideal) M13.view f13) (ix2 (⟨2816 + ↑x0, by omega⟩ : Fin 4096) (⟨↑x1, by omega⟩ : Fin 1024)) = _ from congrArg _ (by idx_ext))),
    ⟨(fun x => by idx_vars x; exact (t_v1875 x0 x1).trans (show W28 (View.read (Elt Ideal) M13.view f13) (ix2 (⟨2560 + ↑x0, by omega⟩ : Fin 4096) (⟨↑x1, by omega⟩ : Fin 1024)) = _ from congrArg _ (by idx_ext))),
    ⟨(fun x => by idx_vars x; exact (t_v1870 x0 x1).trans (show W28 (View.read (Elt Ideal) M13.view f13) (ix2 (⟨2304 + ↑x0, by omega⟩ : Fin 4096) (⟨↑x1, by omega⟩ : Fin 1024)) = _ from congrArg _ (by idx_ext))),
    ⟨(fun x => by idx_vars x; exact (t_v1865 x0 x1).trans (show W28 (View.read (Elt Ideal) M13.view f13) (ix2 (⟨2048 + ↑x0, by omega⟩ : Fin 4096) (⟨↑x1, by omega⟩ : Fin 1024)) = _ from congrArg _ (by idx_ext))),
    ⟨(fun x => by idx_vars x; exact (t_v1860 x0 x1).trans (show W28 (View.read (Elt Ideal) M13.view f13) (ix2 (⟨1792 + ↑x0, by omega⟩ : Fin 4096) (⟨↑x1, by omega⟩ : Fin 1024)) = _ from congrArg _ (by idx_ext))),
    ⟨(fun x => by idx_vars x; exact (t_v1855 x0 x1).trans (show W28 (View.read (Elt Ideal) M13.view f13) (ix2 (⟨1536 + ↑x0, by omega⟩ : Fin 4096) (⟨↑x1, by omega⟩ : Fin 1024)) = _ from congrArg _ (by idx_ext))),
    ⟨(fun x => by idx_vars x; exact (t_v1850 x0 x1).trans (show W28 (View.read (Elt Ideal) M13.view f13) (ix2 (⟨1280 + ↑x0, by omega⟩ : Fin 4096) (⟨↑x1, by omega⟩ : Fin 1024)) = _ from congrArg _ (by idx_ext))),
    ⟨(fun x => by idx_vars x; exact (t_v1845 x0 x1).trans (show W28 (View.read (Elt Ideal) M13.view f13) (ix2 (⟨1024 + ↑x0, by omega⟩ : Fin 4096) (⟨↑x1, by omega⟩ : Fin 1024)) = _ from congrArg _ (by idx_ext))),
    ⟨(fun x => by idx_vars x; exact (t_v1840 x0 x1).trans (show W28 (View.read (Elt Ideal) M13.view f13) (ix2 (⟨768 + ↑x0, by omega⟩ : Fin 4096) (⟨↑x1, by omega⟩ : Fin 1024)) = _ from congrArg _ (by idx_ext))),
    ⟨(fun x => by idx_vars x; exact (t_v1835 x0 x1).trans (show W28 (View.read (Elt Ideal) M13.view f13) (ix2 (⟨512 + ↑x0, by omega⟩ : Fin 4096) (⟨↑x1, by omega⟩ : Fin 1024)) = _ from congrArg _ (by idx_ext))),
    ⟨(fun x => by idx_vars x; exact (t_v1830 x0 x1).trans (show W28 (View.read (Elt Ideal) M13.view f13) (ix2 (⟨256 + ↑x0, by omega⟩ : Fin 4096) (⟨↑x1, by omega⟩ : Fin 1024)) = _ from congrArg _ (by idx_ext))),
    ⟨(fun x => by idx_vars x; exact (t_v1825 x0 x1).trans (show W28 (View.read (Elt Ideal) M13.view f13) (ix2 (⟨↑x0, by omega⟩ : Fin 4096) (⟨↑x1, by omega⟩ : Fin 1024)) = _ from congrArg _ (by idx_ext))),
    trivial⟩⟩⟩⟩⟩⟩⟩⟩⟩⟩⟩⟩⟩⟩⟩⟩

theorem ccv28 (y : S4096x1024.Idx) : ∃ p ∈ ((⟨Rect.unit ![3840, 0] S256x1024.size Gen.inb_S4096x1024_S256x1024_3840_0, kernelRun.sl.v1900 c M13 f13⟩ :: ⟨Rect.unit ![3584, 0] S256x1024.size Gen.inb_S4096x1024_S256x1024_3584_0, kernelRun.sl.v1895 c M13 f13⟩ :: ⟨Rect.unit ![3328, 0] S256x1024.size Gen.inb_S4096x1024_S256x1024_3328_0, kernelRun.sl.v1890 c M13 f13⟩ :: ⟨Rect.unit ![3072, 0] S256x1024.size Gen.inb_S4096x1024_S256x1024_3072_0, kernelRun.sl.v1885 c M13 f13⟩ :: ⟨Rect.unit ![2816, 0] S256x1024.size Gen.inb_S4096x1024_S256x1024_2816_0, kernelRun.sl.v1880 c M13 f13⟩ :: ⟨Rect.unit ![2560, 0] S256x1024.size Gen.inb_S4096x1024_S256x1024_2560_0, kernelRun.sl.v1875 c M13 f13⟩ :: kernelRun.sl.H28_10 c M13 f13 : List (View.Piece (Elt Ideal) S4096x1024 .bf16))), y ∈ p.1.set := by
  unfold kernelRun.sl.H28_10 kernelRun.sl.H28_4
  exact View.cover_of_tiled (s := S4096x1024) _ ![256, 1024] (by rfl) y

theorem cv28 (y : S4096x1024.Idx) : View.read (Elt Ideal) M28.view (M28.view.writes (Elt Ideal) f28 ((⟨Rect.unit ![3840, 0] S256x1024.size Gen.inb_S4096x1024_S256x1024_3840_0, kernelRun.sl.v1900 c M13 f13⟩ :: ⟨Rect.unit ![3584, 0] S256x1024.size Gen.inb_S4096x1024_S256x1024_3584_0, kernelRun.sl.v1895 c M13 f13⟩ :: ⟨Rect.unit ![3328, 0] S256x1024.size Gen.inb_S4096x1024_S256x1024_3328_0, kernelRun.sl.v1890 c M13 f13⟩ :: ⟨Rect.unit ![3072, 0] S256x1024.size Gen.inb_S4096x1024_S256x1024_3072_0, kernelRun.sl.v1885 c M13 f13⟩ :: ⟨Rect.unit ![2816, 0] S256x1024.size Gen.inb_S4096x1024_S256x1024_2816_0, kernelRun.sl.v1880 c M13 f13⟩ :: ⟨Rect.unit ![2560, 0] S256x1024.size Gen.inb_S4096x1024_S256x1024_2560_0, kernelRun.sl.v1875 c M13 f13⟩ :: kernelRun.sl.H28_10 c M13 f13 : List (View.Piece (Elt Ideal) S4096x1024 .bf16)))) y = W28 (View.read (Elt Ideal) M13.view f13) y :=
  rdw _ _ _ _ pcv28 ccv28 y

end Cert.Proof.KI

end

end
-- ==== Proof.ValW.lean ====
/-
  The scales and biases scaled on the first grid point.
-/
module

public import proofs.«01_k».proof.Proof.ValW1
public import proofs.«01_k».proof.Proof.ValW2
public import proofs.«01_k».proof.Proof.ValW3
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem cv29b (p q : S1x4096.Idx → EReal) (y : Fin 4096) : View.read (Elt Ideal) M29.view (M29.view.writes (Elt Ideal) f29 [⟨Rect.unit ![1, 0] S1x4096.size Gen.inb_S8x4096_S1x4096_1_0, p⟩, ⟨Rect.unit ![0, 0] S1x4096.size Gen.inb_S8x4096_S1x4096_0_0, q⟩]) (ix2 1 y) = p (ix2 0 y) := by
  have e : (ix2 (1 : Fin 8) y) = (Rect.unit (s := S8x4096) ![1, 0] S1x4096.size Gen.inb_S8x4096_S1x4096_1_0).emb (ix2 (0 : Fin 1) y) := by idx_ext
  rw [e, View.read_writes_cons_emb]

/-- The older of two stores, where the newer one does not reach. -/
theorem rd_old {κ : Kind} {sp : Space} {s : Shape} {e : EltTy} (v : View sig κ sp s e) (f : v.ty.Contents (Elt Ideal)) (r r' : Rect s) (w : r.shape.Idx → Elt Ideal e) (w' : r'.shape.Idx → Elt Ideal e)
    (y : s.Idx) (x : r'.shape.Idx) (hn : y ∉ r.set) (hx : r'.emb x = y) : v.read (Elt Ideal) (v.writes (Elt Ideal) f [⟨r, w⟩, ⟨r', w'⟩]) y = w' x :=
  (View.read_writes_cons_miss v f ⟨r, w⟩ [⟨r', w'⟩] y hn).trans (View.read_writes_cons_hit v f r' w' [] x y hx)

theorem n29 (y : Fin 4096) : (ix2 (0 : Fin 8) y) ∉ (Rect.unit (s := S8x4096) ![1, 0] S1x4096.size Gen.inb_S8x4096_S1x4096_1_0).set := by
  intro h
  have h0 := ((Rect.mem_set_unit.mp h) 0).1
  simp at h0

theorem e29 (y : Fin 4096) : (Rect.unit (s := S8x4096) ![0, 0] S1x4096.size Gen.inb_S8x4096_S1x4096_0_0).emb (ix2 (0 : Fin 1) y) = ix2 (0 : Fin 8) y := by idx_ext

theorem cv29a (p q : S1x4096.Idx → EReal) (y : Fin 4096) : View.read (Elt Ideal) M29.view (M29.view.writes (Elt Ideal) f29 [⟨Rect.unit ![1, 0] S1x4096.size Gen.inb_S8x4096_S1x4096_1_0, p⟩, ⟨Rect.unit ![0, 0] S1x4096.size Gen.inb_S8x4096_S1x4096_0_0, q⟩]) (ix2 0 y) = q (ix2 0 y) :=
  rd_old M29.view f29 (Rect.unit (s := S8x4096) ![1, 0] S1x4096.size Gen.inb_S8x4096_S1x4096_1_0) (Rect.unit (s := S8x4096) ![0, 0] S1x4096.size Gen.inb_S8x4096_S1x4096_0_0) p q (ix2 (0 : Fin 8) y) (ix2 (0 : Fin 1) y) (n29 y) (e29 y)

theorem pay26 (x : S1x4096.Idx → EReal) (y : Fin 4096) : (Gen.k0_pay26 (F := Ideal) x : S1x4096.Idx → EReal) (ix2 0 y) = x (ix2 0 y) * rt := by
  pointwise [Gen.k0_pay26]
  all_goals rfl

theorem pay27 (x : S1x4096.Idx → EReal) (y : Fin 4096) : (Gen.k0_pay27 (F := Ideal) x : S1x4096.Idx → EReal) (ix2 0 y) = x (ix2 0 y) * rt := by
  pointwise [Gen.k0_pay27]
  all_goals rfl

end Cert.Proof.KI

end

end
-- ==== Proof.ValH0.lean ====
/-
  The score lane a grid point writes, and the first grid point.
-/
module

public import proofs.«01_k».proof.Proof.Ties
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem p297 (i : grid0.Coords) (a : S1x1.Idx → EReal) (d : S1x32.Idx → EReal) (b : Fin 32) :
    (Gen.k0_pay297 (F := Ideal) a kernelRun.sl.v1743 (kernelRun.sl.v1744 i) d : S1x32.Idx → EReal) (ix2 0 b) = if b.val = (i 0).val then a (ix2 0 0) else d (ix2 0 b) := by
  have hb := b.isLt
  have hi : (i 0).val < 32 := (i 0).isLt
  pointwise [Gen.k0_pay297, kernelRun.sl.v1743, kernelRun.sl.v1744]
  by_cases h : b.val = (i 0).val
  · rw [if_pos h, h]
    simp [Scalar.select, IntOp.cmpi]
  · have h2 : ¬ (BitVec.ofNat 32 b.val = BitVec.ofNat 32 (i 0).val) := fun e => h (by have := congrArg BitVec.toNat e; simp at this; omega)
    rw [if_neg h]
    simp [Scalar.select, IntOp.cmpi, (beq_eq_false_iff_ne.mpr h2 : (BitVec.ofNat 32 b.val == BitVec.ofNat 32 (i 0).val) = false)]

theorem v2_zero (i : grid0.Coords) (h : (i 0).val = 0) : kernelRun.sl.v2 i = 1#1 := by
  unfold kernelRun.sl.v2 kernelRun.sl.v1 kernelRun.sl.v0
  rw [h]; rfl

theorem v2_pos (i : grid0.Coords) (h : (i 0).val ≠ 0) : kernelRun.sl.v2 i ≠ 1#1 := by
  have hi : (i 0).val < 32 := (i 0).isLt
  unfold kernelRun.sl.v2 kernelRun.sl.v1 kernelRun.sl.v0
  have h2 : ¬ (BitVec.ofNat 32 (i 0).val = 0#32) := fun e => h (by have := congrArg BitVec.toNat e; simp at this; omega)
  have e : Scalar.cmpi CmpIPredicate.eq (BitVec.ofNat 32 ↑(i 0)) 0#32 = 0#1 := by
    simp [Scalar.cmpi, cmpi, IntOp.cmpi, (beq_eq_false_iff_ne.mpr h2 : (BitVec.ofNat 32 (i 0).val == 0#32) = false)]
  rw [e]; decide

end Cert.Proof.KI

end

end
-- ==== Proof.ValT.lean ====
/-
  From the staged blocks and the kept scratches to what the body reads.
-/
module

public import proofs.«01_k».proof.Proof.ValW
public import proofs.«01_k».proof.Proof.ValH0
public import proofs.«01_k».proof.Proof.Blk
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem off1_eq (i : grid0.Coords) : k0_off1 i = ![(i 0).val, 0] := by
  have h : (i 0).val < 32 := (i 0).isLt
  unfold k0_off1
  have e : (Scalar.indexCast (BitVec.ofNat 32 (i 0).val) : Index).toNat = (i 0).val := by
    show (BitVec.ofNat 32 (i 0).val).toNat = _
    rw [BitVec.toNat_ofNat]; omega
  exact congrArg (fun n => ![n, 0]) e

set_option maxHeartbeats 4000000 in
theorem ties_of {P : Par} {R : Fin 512 → Row} (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole)
    {X1 : S1x512x1024.Idx → Elt Ideal .i8} {X2 : S32x512.Idx → Elt Ideal .f32} {X3 : S1x512x1024.Idx → Elt Ideal .bf16} {X4 : S1024x1024.Idx → Elt Ideal .i8} {X5 : S1x1024.Idx → Elt Ideal .f32} {X6 : S1x1024.Idx → Elt Ideal .f32} {X7 : S1x1024.Idx → Elt Ideal .f32} {X8 : S1x1024.Idx → Elt Ideal .f32} {X9 : S1x1024.Idx → Elt Ideal .f32} {X10 : S1024x4096.Idx → Elt Ideal .i8} {X11 : S1x4096.Idx → Elt Ideal .f32} {X12 : S1x4096.Idx → Elt Ideal .f32} {X13 : S4096x1024.Idx → Elt Ideal .i8} {X14 : S1x1024.Idx → Elt Ideal .f32} {X15 : S1x1024.Idx → Elt Ideal .f32} {X16 : S1x1024.Idx → Elt Ideal .f32} {X17 : S1x1024.Idx → Elt Ideal .f32} {X18 : S1x1024.Idx → Elt Ideal .f32}
    (b : Blocks P R (i 0) X1 X2 X3 X4 X5 X6 X7 X8 X9 X10 X11 X12 X13 X14 X15 X16 X17 X18)
    (held : (i 0).val ≠ 0 → Held P c M26 M27 M28 M29 f26 f27 f28 f29) :
    Ties P R c i M1 M2 M3 M4 M5 M6 M7 M8 M9 M10 M11 M12 M13 M14 M15 M16 M17 M18 M26 M27 M28 M29 (h1.unread X1) (h2.unread X2) (h3.unread X3) (h4.unread X4) (h5.unread X5) (h6.unread X6) (h7.unread X7) (h8.unread X8) (h9.unread X9) (h10.unread X10) (h11.unread X11) (h12.unread X12) (h13.unread X13) (h14.unread X14) (h15.unread X15) (h16.unread X16) (h17.unread X17) (h18.unread X18) f26 f27 f28 f29 where
  cc r k := by rw [h1.read_unread]; exact b.cc r k
  x r k := by rw [h3.read_unread]; exact b.x r k
  wso k := by rw [h5.read_unread]; exact b.wso k
  bo k := by rw [h6.read_unread]; exact b.bo k
  g1 k := by rw [h7.read_unread]; exact b.g1 k
  b1 k := by rw [h8.read_unread]; exact b.b1 k
  sm k := by rw [h9.read_unread]; exact b.sm k
  wsd k := by rw [h14.read_unread]; exact b.wsd k
  bd k := by rw [h15.read_unread]; exact b.bd k
  g2 k := by rw [h16.read_unread]; exact b.g2 k
  b2 k := by rw [h17.read_unread]; exact b.b2 k
  wc k := by rw [h18.read_unread]; exact b.wc k
  cs x h0 h1 := by
    have e : (ix2 (⟨k0_off1 i 0, h0⟩ : Fin 32) (⟨k0_off1 i 1 + x, h1⟩ : Fin 512)) = ix2 (i 0) (⟨x, lt_of_le_of_lt (Nat.le_add_left _ _) h1⟩ : Fin 512) := by
      have e0 : k0_off1 i 0 = (i 0).val := by rw [off1_eq]; rfl
      have e1 : k0_off1 i 1 = 0 := by rw [off1_eq]; rfl
      have a0 : (⟨k0_off1 i 0, h0⟩ : Fin 32) = i 0 := Fin.ext e0
      have a1 : (⟨k0_off1 i 1 + x, h1⟩ : Fin 512) = ⟨x, lt_of_le_of_lt (Nat.le_add_left _ _) h1⟩ := Fin.ext (by show k0_off1 i 1 + x = x; rw [e1]; omega)
      rw [a0, a1]
      rfl
    rw [h2.read_unread]
    exact (congrArg X2 e).trans (b.cs _)
  wo k j := by
    by_cases h0 : (i 0).val = 0
    · rw [dif_pos (v2_zero i h0)]
      refine (cv26 _).trans ?_
      unfold W26
      rw [h4.read_unread]
      exact b.wo k j
    · rw [dif_neg (v2_pos i h0)]
      exact (held h0).1 k j
  wu k j := by
    by_cases h0 : (i 0).val = 0
    · rw [dif_pos (v2_zero i h0)]
      refine (cv27 _).trans ?_
      unfold W27
      rw [h10.read_unread]
      exact b.wu k j
    · rw [dif_neg (v2_pos i h0)]
      exact (held h0).2.1 k j
  wd k j := by
    by_cases h0 : (i 0).val = 0
    · rw [dif_pos (v2_zero i h0)]
      refine (cv28 _).trans ?_
      unfold W28
      rw [h13.read_unread]
      exact b.wd k j
    · rw [dif_neg (v2_pos i h0)]
      exact (held h0).2.2.1 k j
  wsu j := by
    by_cases h0 : (i 0).val = 0
    · rw [dif_pos (v2_zero i h0)]
      refine (cv29a _ _ j).trans ((pay26 _ j).trans ?_)
      rw [View.readAt_apply, h11.read_unread]
      exact congrArg (fun z : EReal => z * rt) ((congrArg X11 (show _ = ix2 (0 : Fin 1) j by idx_ext)).trans (b.wsu j))
    · rw [dif_neg (v2_pos i h0)]
      exact (held h0).2.2.2.1 j
  bu j := by
    by_cases h0 : (i 0).val = 0
    · rw [dif_pos (v2_zero i h0)]
      refine (cv29b _ _ j).trans ((pay27 _ j).trans ?_)
      rw [View.readAt_apply, h12.read_unread]
      exact congrArg (fun z : EReal => z * rt) ((congrArg X12 (show _ = ix2 (0 : Fin 1) j by idx_ext)).trans (b.bu j))
    · rw [dif_neg (v2_pos i h0)]
      exact (held h0).2.2.2.2 j

theorem kr_held {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) : Held P c M26 M27 M28 M29 ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.2.2.1 ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.2.2.2.1 ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.2.2.2.2.1 ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.2.2.2.2.2 := by
  unfold kernelRun
  exact ⟨T.wo, T.wu, T.wd, T.wsu, T.bu⟩

end Cert.Proof.KI

end

end
-- ==== Proof.ValA.lean ====
/-
  The output projection, tile by tile.
-/
module

public import proofs.«01_k».proof.Proof.Ties
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- The projection's array: before the first layer norm. -/
def GA (P : Par) (R : Fin 512 → Row) : S512x1024.Idx → EReal := fun y => A P (R (y 0)) (y 1)

theorem t_v38 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v38 c i M1 M2 M3 M4 M5 M6 M26 f1 f2 f3 f4 f5 f6 f26 : S256x256.Idx → EReal) (ix2 x y) = A P (R ⟨↑x, by omega⟩) ⟨↑y, by omega⟩ := by
  pointwise [kernelRun.sl.v38, kernelRun.sl.r_3, kernelRun.sl.v19, Gen.k0_pay28, Gen.k0_pay31, Gen.k0_pay32, View.readAt_apply, T.cc, T.cs, T.x, T.wo, T.wso, T.bo]
  rfl

theorem t_v58 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v58 c i M1 M2 M3 M4 M5 M6 M26 f1 f2 f3 f4 f5 f6 f26 : S256x256.Idx → EReal) (ix2 x y) = A P (R ⟨↑x, by omega⟩) ⟨256 + ↑y, by omega⟩ := by
  pointwise [kernelRun.sl.v58, kernelRun.sl.v55, kernelRun.sl.v51, kernelRun.sl.v47, kernelRun.sl.v46, kernelRun.sl.v45, kernelRun.sl.v43, kernelRun.sl.v40, kernelRun.sl.cst_21, kernelRun.sl.v39, kernelRun.sl.r_2, kernelRun.sl.v42, kernelRun.sl.v41, kernelRun.sl.r, kernelRun.sl.v50, kernelRun.sl.v49, kernelRun.sl.v54, kernelRun.sl.v53, Gen.k0_pay28, Gen.k0_pay31, View.readAt_apply, T.cc, T.cs, T.x, T.wo, T.wso, T.bo]
  rfl

theorem t_v78 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v78 c i M1 M2 M3 M4 M5 M6 M26 f1 f2 f3 f4 f5 f6 f26 : S256x256.Idx → EReal) (ix2 x y) = A P (R ⟨↑x, by omega⟩) ⟨512 + ↑y, by omega⟩ := by
  pointwise [kernelRun.sl.v78, kernelRun.sl.v75, kernelRun.sl.v71, kernelRun.sl.v67, kernelRun.sl.v63, kernelRun.sl.v60, kernelRun.sl.v59, kernelRun.sl.cst_21, kernelRun.sl.r_2, kernelRun.sl.v42, kernelRun.sl.v41, kernelRun.sl.r, kernelRun.sl.v66, kernelRun.sl.v65, kernelRun.sl.v70, kernelRun.sl.v69, kernelRun.sl.v74, kernelRun.sl.v73, Gen.k0_pay28, Gen.k0_pay31, View.readAt_apply, T.cc, T.cs, T.x, T.wo, T.wso, T.bo]
  rfl

theorem t_v98 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v98 c i M1 M2 M3 M4 M5 M6 M26 f1 f2 f3 f4 f5 f6 f26 : S256x256.Idx → EReal) (ix2 x y) = A P (R ⟨↑x, by omega⟩) ⟨768 + ↑y, by omega⟩ := by
  pointwise [kernelRun.sl.v98, kernelRun.sl.v95, kernelRun.sl.v91, kernelRun.sl.v90, kernelRun.sl.v89, kernelRun.sl.v87, kernelRun.sl.v83, kernelRun.sl.v80, kernelRun.sl.v79, kernelRun.sl.cst_21, kernelRun.sl.r_2, kernelRun.sl.v42, kernelRun.sl.v41, kernelRun.sl.r, kernelRun.sl.v86, kernelRun.sl.v85, kernelRun.sl.v94, kernelRun.sl.v93, Gen.k0_pay28, Gen.k0_pay31, View.readAt_apply, T.cc, T.cs, T.x, T.wo, T.wso, T.bo]
  rfl

theorem t_v121 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v121 c i M1 M2 M3 M4 M5 M6 M26 f1 f2 f3 f4 f5 f6 f26 : S256x256.Idx → EReal) (ix2 x y) = A P (R ⟨256 + ↑x, by omega⟩) ⟨↑y, by omega⟩ := by
  pointwise [kernelRun.sl.v121, kernelRun.sl.v118, kernelRun.sl.v114, kernelRun.sl.v113, kernelRun.sl.v112, kernelRun.sl.v110, kernelRun.sl.v109, kernelRun.sl.v108, kernelRun.sl.v106, kernelRun.sl.v105, kernelRun.sl.v104, kernelRun.sl.r, kernelRun.sl.v103, kernelRun.sl.v101, kernelRun.sl.v100, kernelRun.sl.v102, kernelRun.sl.cst_21, kernelRun.sl.v117, kernelRun.sl.v116, Gen.k0_pay28, View.readAt_apply, T.cc, T.cs, T.x, T.wo, T.wso, T.bo]
  rfl

theorem t_v141 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v141 c i M1 M2 M3 M4 M5 M6 M26 f1 f2 f3 f4 f5 f6 f26 : S256x256.Idx → EReal) (ix2 x y) = A P (R ⟨256 + ↑x, by omega⟩) ⟨256 + ↑y, by omega⟩ := by
  pointwise [kernelRun.sl.v141, kernelRun.sl.v138, kernelRun.sl.v134, kernelRun.sl.v130, kernelRun.sl.v46, kernelRun.sl.v45, kernelRun.sl.v126, kernelRun.sl.v105, kernelRun.sl.v104, kernelRun.sl.r, kernelRun.sl.v123, kernelRun.sl.v101, kernelRun.sl.v100, kernelRun.sl.v39, kernelRun.sl.cst_21, kernelRun.sl.v50, kernelRun.sl.v49, kernelRun.sl.v137, kernelRun.sl.v136, Gen.k0_pay28, View.readAt_apply, T.cc, T.cs, T.x, T.wo, T.wso, T.bo]
  rfl

theorem t_v161 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v161 c i M1 M2 M3 M4 M5 M6 M26 f1 f2 f3 f4 f5 f6 f26 : S256x256.Idx → EReal) (ix2 x y) = A P (R ⟨256 + ↑x, by omega⟩) ⟨512 + ↑y, by omega⟩ := by
  pointwise [kernelRun.sl.v161, kernelRun.sl.v158, kernelRun.sl.v157, kernelRun.sl.v156, kernelRun.sl.v154, kernelRun.sl.v70, kernelRun.sl.v69, kernelRun.sl.v150, kernelRun.sl.v66, kernelRun.sl.v65, kernelRun.sl.v146, kernelRun.sl.v105, kernelRun.sl.v104, kernelRun.sl.r, kernelRun.sl.v143, kernelRun.sl.v101, kernelRun.sl.v100, kernelRun.sl.v59, kernelRun.sl.cst_21, Gen.k0_pay28, View.readAt_apply, T.cc, T.cs, T.x, T.wo, T.wso, T.bo]
  rfl

theorem t_v181 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v181 c i M1 M2 M3 M4 M5 M6 M26 f1 f2 f3 f4 f5 f6 f26 : S256x256.Idx → EReal) (ix2 x y) = A P (R ⟨256 + ↑x, by omega⟩) ⟨768 + ↑y, by omega⟩ := by
  pointwise [kernelRun.sl.v181, kernelRun.sl.v178, kernelRun.sl.v177, kernelRun.sl.v176, kernelRun.sl.v174, kernelRun.sl.v170, kernelRun.sl.v166, kernelRun.sl.v105, kernelRun.sl.v104, kernelRun.sl.r, kernelRun.sl.v163, kernelRun.sl.v101, kernelRun.sl.v100, kernelRun.sl.v79, kernelRun.sl.cst_21, kernelRun.sl.v86, kernelRun.sl.v85, kernelRun.sl.v90, kernelRun.sl.v89, Gen.k0_pay28, View.readAt_apply, T.cc, T.cs, T.x, T.wo, T.wso, T.bo]
  rfl

set_option maxHeartbeats 4000000 in
theorem pc_H30_8 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (GA P R) (kernelRun.sl.H30_8 c i M1 M2 M3 M4 M5 M6 M26 f1 f2 f3 f4 f5 f6 f26) := by
  unfold kernelRun.sl.H30_8 kernelRun.sl.H30_7 kernelRun.sl.H30_6 kernelRun.sl.H30_4 kernelRun.sl.H30_2
  exact ⟨(fun x => by idx_vars x; exact (t_v181 T x0 x1).trans (show GA P R (ix2 ⟨256 + ↑x0, by omega⟩ ⟨768 + ↑x1, by omega⟩ : S512x1024.Idx) = _ from congrArg _ (by idx_ext))),
    ⟨(fun x => by idx_vars x; exact (t_v161 T x0 x1).trans (show GA P R (ix2 ⟨256 + ↑x0, by omega⟩ ⟨512 + ↑x1, by omega⟩ : S512x1024.Idx) = _ from congrArg _ (by idx_ext))),
    ⟨(fun x => by idx_vars x; exact (t_v141 T x0 x1).trans (show GA P R (ix2 ⟨256 + ↑x0, by omega⟩ ⟨256 + ↑x1, by omega⟩ : S512x1024.Idx) = _ from congrArg _ (by idx_ext))),
    ⟨(fun x => by idx_vars x; exact (t_v121 T x0 x1).trans (show GA P R (ix2 ⟨256 + ↑x0, by omega⟩ ⟨↑x1, by omega⟩ : S512x1024.Idx) = _ from congrArg _ (by idx_ext))),
    ⟨(fun x => by idx_vars x; exact (t_v98 T x0 x1).trans (show GA P R (ix2 ⟨↑x0, by omega⟩ ⟨768 + ↑x1, by omega⟩ : S512x1024.Idx) = _ from congrArg _ (by idx_ext))),
    ⟨(fun x => by idx_vars x; exact (t_v78 T x0 x1).trans (show GA P R (ix2 ⟨↑x0, by omega⟩ ⟨512 + ↑x1, by omega⟩ : S512x1024.Idx) = _ from congrArg _ (by idx_ext))),
    ⟨(fun x => by idx_vars x; exact (t_v58 T x0 x1).trans (show GA P R (ix2 ⟨↑x0, by omega⟩ ⟨256 + ↑x1, by omega⟩ : S512x1024.Idx) = _ from congrArg _ (by idx_ext))),
    ⟨(fun x => by idx_vars x; exact (t_v38 T x0 x1).trans (show GA P R (ix2 ⟨↑x0, by omega⟩ ⟨↑x1, by omega⟩ : S512x1024.Idx) = _ from congrArg _ (by idx_ext))),
    trivial⟩⟩⟩⟩⟩⟩⟩⟩

theorem cov_H30_8 (y : S512x1024.Idx) : ∃ p ∈ kernelRun.sl.H30_8 c i M1 M2 M3 M4 M5 M6 M26 f1 f2 f3 f4 f5 f6 f26, y ∈ p.1.set := by
  unfold kernelRun.sl.H30_8 kernelRun.sl.H30_7 kernelRun.sl.H30_6 kernelRun.sl.H30_4 kernelRun.sl.H30_2
  exact View.cover_of_tiled (s := S512x1024) _ ![256, 256] (by rfl) y

/-- A load after stores that are blocks of `G` reads `G` where they cover it. -/
theorem rb {κ : Kind} {sp : Space} {s : Shape} {e : EltTy} (G : s.Idx → Elt Ideal e) (v : View sig κ sp s e) (L : List (View.Piece (Elt Ideal) s e)) (B : LoadRect s)
    (h : View.PiecesOf G L) (hc : ∀ j, ∃ p ∈ L, B.idx j ∈ p.1.set) : v.readCov L B = fun j => G (B.idx j) := by
  rw [View.readCov_eq_canon']
  funext j
  exact View.canon_apply_of_pieces G L h.mem _ (hc j)

theorem t_v182 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v182 c i M1 M2 M3 M4 M5 M6 M26 M30 f1 f2 f3 f4 f5 f6 f26 : S256x1024.Idx → EReal) (ix2 x y) = A P (R ⟨↑x, by omega⟩) y := by
  unfold kernelRun.sl.v182
  rw [rb (GA P R) M30.view _ _ (pc_H30_8 T) (fun j => cov_H30_8 _)]
  exact (congrArg (GA P R) (show _ = (ix2 ⟨↑x, by omega⟩ ⟨↑y, by omega⟩ : S512x1024.Idx) by idx_ext)).trans rfl

theorem t_v601 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v601 c i M1 M2 M3 M4 M5 M6 M26 M30 f1 f2 f3 f4 f5 f6 f26 : S256x1024.Idx → EReal) (ix2 x y) = A P (R ⟨256 + ↑x, by omega⟩) y := by
  unfold kernelRun.sl.v601
  rw [rb (GA P R) M30.view _ _ (pc_H30_8 T) (fun j => cov_H30_8 _)]
  exact (congrArg (GA P R) (show _ = (ix2 ⟨256 + ↑x, by omega⟩ ⟨↑y, by omega⟩ : S512x1024.Idx) by idx_ext)).trans rfl

end Cert.Proof.KI

end

end
-- ==== Proof.ValB.lean ====
/-
  The first layer norm and its quantization.
-/
module

public import proofs.«01_k».proof.Proof.ValA
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v206 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v206 c i M1 M2 M3 M4 M5 M6 M7 M8 M26 M30 f1 f2 f3 f4 f5 f6 f7 f8 f26 : S256x1024.Idx → EReal) (ix2 x y) = H1 P (R ⟨↑x, by omega⟩) y := by
  pointwise [kernelRun.sl.v206, kernelRun.sl.v204, kernelRun.sl.v203, kernelRun.sl.v184, kernelRun.sl.v202, kernelRun.sl.v192, kernelRun.sl.v191, kernelRun.sl.v190, kernelRun.sl.v188, kernelRun.sl.v187, kernelRun.sl.v189, kernelRun.sl.cst_111, kernelRun.sl.v201, kernelRun.sl.v200, kernelRun.sl.v199, kernelRun.sl.v197, kernelRun.sl.v195, kernelRun.sl.v194, kernelRun.sl.v193, kernelRun.sl.v198, kernelRun.sl.cst_114, kernelRun.sl.v205, kernelRun.sl.v186, View.readAt_apply, t_v182 T, T.g1, T.b1]
  all_goals rfl

theorem t_v209 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v209 c i M1 M2 M3 M4 M5 M6 M7 M8 M26 M30 f1 f2 f3 f4 f5 f6 f7 f8 f26 : S256x1024.Idx → EReal) (ix2 x y) = H1 P (R ⟨↑x, by omega⟩) y := by
  pointwise [kernelRun.sl.v209, View.readAt_apply, t_v206 T]
  all_goals rfl

theorem t_v213 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v213 c i M1 M2 M3 M4 M5 M6 M7 M8 M26 M30 f1 f2 f3 f4 f5 f6 f7 f8 f26 : S1x256x1024.Idx → EReal) (ix3 0 x y) = H1 P (R ⟨↑x, by omega⟩) y := by
  pointwise [kernelRun.sl.v213, kernelRun.sl.v210, View.readAt_apply, t_v206 T]
  all_goals rfl

theorem t_v215 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v215 c i M1 M2 M3 M4 M5 M6 M7 M8 M9 M26 M30 f1 f2 f3 f4 f5 f6 f7 f8 f9 f26 : S256x1024.Idx → EReal) (ix2 x y) = Vq P (R ⟨↑x, by omega⟩) y := by
  pointwise [kernelRun.sl.v215, kernelRun.sl.v214, kernelRun.sl.r_1, Gen.k0_pay29, View.readAt_apply, t_v206 T, T.sm]
  all_goals rfl

theorem t_v224 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v224 c i M1 M2 M3 M4 M5 M6 M7 M8 M9 M26 M30 f1 f2 f3 f4 f5 f6 f7 f8 f9 f26 : S256x1.Idx → EReal) (ix2 x 0) = HS P (R ⟨↑x, by omega⟩) := by
  pointwise [kernelRun.sl.v224, kernelRun.sl.v220, kernelRun.sl.v219, kernelRun.sl.cst_121, kernelRun.sl.v218, kernelRun.sl.v217, kernelRun.sl.v216, kernelRun.sl.v222, kernelRun.sl.v221, kernelRun.sl.cst_122, kernelRun.sl.v223, kernelRun.sl.cst_123, View.readAt_apply, t_v215 T]
  all_goals rfl

theorem t_v233 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v233 c i M1 M2 M3 M4 M5 M6 M7 M8 M9 M26 M30 f1 f2 f3 f4 f5 f6 f7 f8 f9 f26 : S256x1024.Idx → EReal) (ix2 x y) = HC P (R ⟨↑x, by omega⟩) y := by
  pointwise [kernelRun.sl.v233, kernelRun.sl.v232, kernelRun.sl.cst_122, kernelRun.sl.v231, kernelRun.sl.v229, kernelRun.sl.v228, kernelRun.sl.v227, kernelRun.sl.v226, kernelRun.sl.v223, kernelRun.sl.cst_123, kernelRun.sl.v230, kernelRun.sl.cst_125, View.readAt_apply, t_v215 T, t_v224 T]
  all_goals rfl

theorem t_v237 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v237 c i M1 M2 M3 M4 M5 M6 M7 M8 M9 M26 M30 f1 f2 f3 f4 f5 f6 f7 f8 f9 f26 : S1x256x1024.Idx → BitVec 8) (ix3 0 x y) = Ideal.fptosi 8 (HC P (R ⟨↑x, by omega⟩) y) := by
  pointwise [kernelRun.sl.v237, kernelRun.sl.v234, View.readAt_apply, t_v233 T]
  all_goals rfl

theorem t_v241 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v241 c i M1 M2 M3 M4 M5 M6 M7 M8 M9 M26 M30 f1 f2 f3 f4 f5 f6 f7 f8 f9 f26 : S256x1024.Idx → EReal) (ix2 x y) = HC P (R ⟨↑x, by omega⟩) y := by
  pointwise [kernelRun.sl.v241, kernelRun.sl.v238, View.readAt_apply, t_v233 T]
  all_goals rfl

theorem t_v245 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v245 c i M1 M2 M3 M4 M5 M6 M7 M8 M9 M26 M30 f1 f2 f3 f4 f5 f6 f7 f8 f9 f26 : S1x256.Idx → EReal) (ix2 0 x) = HS P (R ⟨↑x, by omega⟩) := by
  pointwise [kernelRun.sl.v245, kernelRun.sl.v244, kernelRun.sl.v243, kernelRun.sl.v242, View.readAt_apply, t_v224 T]
  all_goals rfl

theorem t_v625 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v625 c i M1 M2 M3 M4 M5 M6 M7 M8 M26 M30 f1 f2 f3 f4 f5 f6 f7 f8 f26 : S256x1024.Idx → EReal) (ix2 x y) = H1 P (R ⟨256 + ↑x, by omega⟩) y := by
  pointwise [kernelRun.sl.v625, kernelRun.sl.v623, kernelRun.sl.v203, kernelRun.sl.v184, kernelRun.sl.v621, kernelRun.sl.v620, kernelRun.sl.v619, kernelRun.sl.v618, kernelRun.sl.v198, kernelRun.sl.cst_114, kernelRun.sl.v616, kernelRun.sl.v614, kernelRun.sl.v613, kernelRun.sl.v612, kernelRun.sl.v611, kernelRun.sl.v610, kernelRun.sl.v609, kernelRun.sl.v189, kernelRun.sl.cst_111, kernelRun.sl.v607, kernelRun.sl.v606, kernelRun.sl.v205, kernelRun.sl.v186, View.readAt_apply, t_v601 T, T.g1, T.b1]
  all_goals rfl

theorem t_v628 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v628 c i M1 M2 M3 M4 M5 M6 M7 M8 M26 M30 f1 f2 f3 f4 f5 f6 f7 f8 f26 : S256x1024.Idx → EReal) (ix2 x y) = H1 P (R ⟨256 + ↑x, by omega⟩) y := by
  pointwise [kernelRun.sl.v628, View.readAt_apply, t_v625 T]
  all_goals rfl

theorem t_v632 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v632 c i M1 M2 M3 M4 M5 M6 M7 M8 M26 M30 f1 f2 f3 f4 f5 f6 f7 f8 f26 : S1x256x1024.Idx → EReal) (ix3 0 x y) = H1 P (R ⟨256 + ↑x, by omega⟩) y := by
  pointwise [kernelRun.sl.v632, kernelRun.sl.v629, View.readAt_apply, t_v625 T]
  all_goals rfl

theorem t_v634 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v634 c i M1 M2 M3 M4 M5 M6 M7 M8 M9 M26 M30 f1 f2 f3 f4 f5 f6 f7 f8 f9 f26 : S256x1024.Idx → EReal) (ix2 x y) = Vq P (R ⟨256 + ↑x, by omega⟩) y := by
  pointwise [kernelRun.sl.v634, kernelRun.sl.v214, kernelRun.sl.r_1, Gen.k0_pay29, View.readAt_apply, t_v625 T, T.sm]
  all_goals rfl

theorem t_v643 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v643 c i M1 M2 M3 M4 M5 M6 M7 M8 M9 M26 M30 f1 f2 f3 f4 f5 f6 f7 f8 f9 f26 : S256x1.Idx → EReal) (ix2 x 0) = HS P (R ⟨256 + ↑x, by omega⟩) := by
  pointwise [kernelRun.sl.v643, kernelRun.sl.v641, kernelRun.sl.v637, kernelRun.sl.v636, kernelRun.sl.v635, kernelRun.sl.v221, kernelRun.sl.cst_122, kernelRun.sl.v639, kernelRun.sl.v219, kernelRun.sl.cst_121, kernelRun.sl.v223, kernelRun.sl.cst_123, View.readAt_apply, t_v634 T]
  all_goals rfl

theorem t_v652 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v652 c i M1 M2 M3 M4 M5 M6 M7 M8 M9 M26 M30 f1 f2 f3 f4 f5 f6 f7 f8 f9 f26 : S256x1024.Idx → EReal) (ix2 x y) = HC P (R ⟨256 + ↑x, by omega⟩) y := by
  pointwise [kernelRun.sl.v652, kernelRun.sl.v232, kernelRun.sl.cst_122, kernelRun.sl.v650, kernelRun.sl.v230, kernelRun.sl.cst_125, kernelRun.sl.v648, kernelRun.sl.v647, kernelRun.sl.v646, kernelRun.sl.v645, kernelRun.sl.v223, kernelRun.sl.cst_123, View.readAt_apply, t_v634 T, t_v643 T]
  all_goals rfl

theorem t_v656 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v656 c i M1 M2 M3 M4 M5 M6 M7 M8 M9 M26 M30 f1 f2 f3 f4 f5 f6 f7 f8 f9 f26 : S1x256x1024.Idx → BitVec 8) (ix3 0 x y) = Ideal.fptosi 8 (HC P (R ⟨256 + ↑x, by omega⟩) y) := by
  pointwise [kernelRun.sl.v656, kernelRun.sl.v653, View.readAt_apply, t_v652 T]
  all_goals rfl

theorem t_v660 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v660 c i M1 M2 M3 M4 M5 M6 M7 M8 M9 M26 M30 f1 f2 f3 f4 f5 f6 f7 f8 f9 f26 : S256x1024.Idx → EReal) (ix2 x y) = HC P (R ⟨256 + ↑x, by omega⟩) y := by
  pointwise [kernelRun.sl.v660, kernelRun.sl.v657, View.readAt_apply, t_v652 T]
  all_goals rfl

theorem t_v664 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v664 c i M1 M2 M3 M4 M5 M6 M7 M8 M9 M26 M30 f1 f2 f3 f4 f5 f6 f7 f8 f9 f26 : S1x256.Idx → EReal) (ix2 0 x) = HS P (R ⟨256 + ↑x, by omega⟩) := by
  pointwise [kernelRun.sl.v664, kernelRun.sl.v663, kernelRun.sl.v662, kernelRun.sl.v661, View.readAt_apply, t_v643 T]
  all_goals rfl

end Cert.Proof.KI

end

end
-- ==== Proof.ValH1.lean ====
/-
  The blocks of the results a grid point leaves: the first layer norm, its codes and their scales.
-/
module

public import proofs.«01_k».proof.Proof.ValB
public import proofs.«01_k».proof.Proof.Blk
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- An element no store covers keeps what it held. -/
theorem rdn {κ : Kind} {sp : Space} {s : Shape} {e : EltTy} (v : View sig κ sp s e) (f : v.ty.Contents (Elt Ideal)) (L : List (View.Piece (Elt Ideal) s e))
    (y : s.Idx) (h : ∀ p ∈ L, y ∉ p.1.set) : v.read (Elt Ideal) (v.writes (Elt Ideal) f L) y = v.read (Elt Ideal) f y :=
  View.read_writes_apply_of_forall_not_mem v f y L h

/-- Stores that are blocks of `G` leave `G` where they cover. -/
theorem rd1 {κ : Kind} {sp : Space} {s : Shape} {e : EltTy} (v : View sig κ sp s e) (f : v.ty.Contents (Elt Ideal)) (L : List (View.Piece (Elt Ideal) s e)) (G : s.Idx → Elt Ideal e)
    (h : View.PiecesOf G L) (y : s.Idx) (hc : ∃ p ∈ L, y ∈ p.1.set) : v.read (Elt Ideal) (v.writes (Elt Ideal) f L) y = G y := by
  rw [View.read_writes_apply_eq_canon _ _ _ _ hc]
  exact View.canon_apply_of_pieces G L h.mem _ hc

/-- The row of the scales the grid point works on. -/
theorem off2_eq (i : grid0.Coords) : k0_off2 i = ![(i 0).val, 0] := by
  have h : (i 0).val < 32 := (i 0).isLt
  unfold k0_off2
  have e : (Scalar.indexCast (BitVec.ofNat 32 (i 0).val) : Index).toNat = (i 0).val := by
    show (BitVec.ofNat 32 (i 0).val).toNat = _
    rw [BitVec.toNat_ofNat]; omega
  exact congrArg (fun n => ![n, 0]) e

theorem off3_eq (i : grid0.Coords) : k0_off3 i = ![(i 0).val, 256] := by
  have h : (i 0).val < 32 := (i 0).isLt
  unfold k0_off3
  have e : (Scalar.indexCast (BitVec.ofNat 32 (i 0).val) : Index).toNat = (i 0).val := by
    show (BitVec.ofNat 32 (i 0).val).toNat = _
    rw [BitVec.toNat_ofNat]; omega
  exact congrArg (fun n => ![n, 256]) e

theorem off2_1 (i : grid0.Coords) : k0_off2 i 1 = 0 := by rw [off2_eq]; rfl
theorem off3_1 (i : grid0.Coords) : k0_off3 i 1 = 256 := by rw [off3_eq]; rfl

/-- The two halves of row `i 0`: an element of the row is in one, an element of another row in none. -/
theorem row_cov (i : grid0.Coords) (p q : S1x256.Idx → EReal) (y : S32x512.Idx) (h : (y 0).val = (i 0).val) :
    ∃ r ∈ ([⟨Rect.unit (k0_off3 i) S1x256.size (facts.k0_off3_inb i), p⟩, ⟨Rect.unit (k0_off2 i) S1x256.size (facts.k0_off2_inb i), q⟩] : List (View.Piece (Elt Ideal) S32x512 .f32)), y ∈ r.1.set := by
  have h1 : (y 1).val < 512 := (y 1).isLt
  by_cases hy : 256 ≤ (y 1).val
  · refine ⟨_, List.mem_cons_self, ?_⟩
    rw [Rect.mem_set_unit, off3_eq]
    intro a; fin_cases a <;> simp [S1x256, h] <;> omega
  · refine ⟨_, List.mem_cons_of_mem _ List.mem_cons_self, ?_⟩
    rw [Rect.mem_set_unit, off2_eq]
    intro a; fin_cases a <;> simp [S1x256, h] <;> omega

theorem row_not (i : grid0.Coords) (p q : S1x256.Idx → EReal) (y : S32x512.Idx) (h : (y 0).val ≠ (i 0).val) :
    ∀ r ∈ ([⟨Rect.unit (k0_off3 i) S1x256.size (facts.k0_off3_inb i), p⟩, ⟨Rect.unit (k0_off2 i) S1x256.size (facts.k0_off2_inb i), q⟩] : List (View.Piece (Elt Ideal) S32x512 .f32)), y ∉ r.1.set := by
  intro r hr hm
  rcases List.mem_cons.mp hr with rfl | hr
  · rw [Rect.mem_set_unit, off3_eq] at hm
    have := hm 0
    simp [S1x256] at this
    omega
  · rw [List.mem_singleton.mp hr, Rect.mem_set_unit, off2_eq] at hm
    have := hm 0
    simp [S1x256] at this
    omega

set_option maxHeartbeats 4000000 in
theorem pc_H19_2 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (H1B P R) (kernelRun.sl.H19_2 c i M1 M2 M3 M4 M5 M6 M7 M8 M26 M30 f1 f2 f3 f4 f5 f6 f7 f8 f26) := by
  unfold kernelRun.sl.H19_2 kernelRun.sl.H19_1
  exact ⟨(fun x => by idx_vars x; obtain rfl : x0 = 0 := Subsingleton.elim _ _; exact (t_v632 T x1 x2).trans (show H1B P R (ix3 (0 : Fin 1) (⟨256 + ↑x1, by omega⟩ : Fin 512) (⟨↑x2, by omega⟩ : Fin 1024)) = _ from congrArg _ (by idx_ext))),
    ⟨(fun x => by idx_vars x; obtain rfl : x0 = 0 := Subsingleton.elim _ _; exact (t_v213 T x1 x2).trans (show H1B P R (ix3 (0 : Fin 1) (⟨↑x1, by omega⟩ : Fin 512) (⟨↑x2, by omega⟩ : Fin 1024)) = _ from congrArg _ (by idx_ext))),
    trivial⟩⟩

theorem cov_H19_2 (y : S1x512x1024.Idx) : ∃ p ∈ kernelRun.sl.H19_2 c i M1 M2 M3 M4 M5 M6 M7 M8 M26 M30 f1 f2 f3 f4 f5 f6 f7 f8 f26, y ∈ p.1.set := by
  unfold kernelRun.sl.H19_2 kernelRun.sl.H19_1
  exact View.cover_of_tiled (s := S1x512x1024) _ ![1, 256, 1024] (by rfl) y

theorem out_19 {M19 : Memref sig .tc .vmem S1x512x1024 .bf16} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M19) (y : S1x512x1024.Idx) : View.read (Elt Ideal) M19.view (M19.view.writes (Elt Ideal) f (kernelRun.sl.H19_2 c i M1 M2 M3 M4 M5 M6 M7 M8 M26 M30 f1 f2 f3 f4 f5 f6 f7 f8 f26)) y = H1B P R y :=
  rdw _ _ _ _ (pc_H19_2 T) cov_H19_2 y

set_option maxHeartbeats 4000000 in
theorem pc_H22_2 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (HCB P R) (kernelRun.sl.H22_2 c i M1 M2 M3 M4 M5 M6 M7 M8 M9 M26 M30 f1 f2 f3 f4 f5 f6 f7 f8 f9 f26) := by
  unfold kernelRun.sl.H22_2 kernelRun.sl.H22_1
  exact ⟨(fun x => by idx_vars x; obtain rfl : x0 = 0 := Subsingleton.elim _ _; exact (t_v656 T x1 x2).trans (show HCB P R (ix3 (0 : Fin 1) (⟨256 + ↑x1, by omega⟩ : Fin 512) (⟨↑x2, by omega⟩ : Fin 1024)) = _ from congrArg _ (by idx_ext))),
    ⟨(fun x => by idx_vars x; obtain rfl : x0 = 0 := Subsingleton.elim _ _; exact (t_v237 T x1 x2).trans (show HCB P R (ix3 (0 : Fin 1) (⟨↑x1, by omega⟩ : Fin 512) (⟨↑x2, by omega⟩ : Fin 1024)) = _ from congrArg _ (by idx_ext))),
    trivial⟩⟩

theorem cov_H22_2 (y : S1x512x1024.Idx) : ∃ p ∈ kernelRun.sl.H22_2 c i M1 M2 M3 M4 M5 M6 M7 M8 M9 M26 M30 f1 f2 f3 f4 f5 f6 f7 f8 f9 f26, y ∈ p.1.set := by
  unfold kernelRun.sl.H22_2 kernelRun.sl.H22_1
  exact View.cover_of_tiled (s := S1x512x1024) _ ![1, 256, 1024] (by rfl) y

theorem out_22 {M22 : Memref sig .tc .vmem S1x512x1024 .i8} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M22) (y : S1x512x1024.Idx) : View.read (Elt Ideal) M22.view (M22.view.writes (Elt Ideal) f (kernelRun.sl.H22_2 c i M1 M2 M3 M4 M5 M6 M7 M8 M9 M26 M30 f1 f2 f3 f4 f5 f6 f7 f8 f9 f26)) y = HCB P R y :=
  rdw _ _ _ _ (pc_H22_2 T) cov_H22_2 y

set_option maxHeartbeats 4000000 in
theorem pc_H23_2 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (HSB P R) (kernelRun.sl.H23_2 c i M1 M2 M3 M4 M5 M6 M7 M8 M9 M26 M30 f1 f2 f3 f4 f5 f6 f7 f8 f9 f26) := by
  unfold kernelRun.sl.H23_2 kernelRun.sl.H23_1
  exact ⟨(fun x => by idx_vars x; obtain rfl : x0 = 0 := Subsingleton.elim _ _; exact (t_v664 T x1).trans (congrArg (fun k => HS P (R k)) (Fin.ext (show 256 + x1.val = (k0_off3 i 1 + 1 * x1.val : ℕ) by rw [off3_1]; omega)))),
    ⟨(fun x => by idx_vars x; obtain rfl : x0 = 0 := Subsingleton.elim _ _; exact (t_v245 T x1).trans (congrArg (fun k => HS P (R k)) (Fin.ext (show x1.val = (k0_off2 i 1 + 1 * x1.val : ℕ) by rw [off2_1]; omega)))), trivial⟩⟩

theorem out_23 {M23 : Memref sig .tc .vmem S32x512 .f32} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M23) (y : S32x512.Idx) (h : (y 0).val = (i 0).val) : View.read (Elt Ideal) M23.view (M23.view.writes (Elt Ideal) f (kernelRun.sl.H23_2 c i M1 M2 M3 M4 M5 M6 M7 M8 M9 M26 M30 f1 f2 f3 f4 f5 f6 f7 f8 f9 f26)) y = HS P (R (y 1)) :=
  rd1 _ _ (kernelRun.sl.H23_2 c i M1 M2 M3 M4 M5 M6 M7 M8 M9 M26 M30 f1 f2 f3 f4 f5 f6 f7 f8 f9 f26) (HSB P R) (pc_H23_2 T) y (by unfold kernelRun.sl.H23_2 kernelRun.sl.H23_1; exact row_cov i _ _ y h)

theorem out_23_not {M23 : Memref sig .tc .vmem S32x512 .f32} (f : Bf (F := Ideal) c M23) (y : S32x512.Idx) (h : (y 0).val ≠ (i 0).val) : View.read (Elt Ideal) M23.view (M23.view.writes (Elt Ideal) f (kernelRun.sl.H23_2 c i M1 M2 M3 M4 M5 M6 M7 M8 M9 M26 M30 f1 f2 f3 f4 f5 f6 f7 f8 f9 f26)) y = View.read (Elt Ideal) M23.view f y :=
  rdn _ _ (kernelRun.sl.H23_2 c i M1 M2 M3 M4 M5 M6 M7 M8 M9 M26 M30 f1 f2 f3 f4 f5 f6 f7 f8 f9 f26) y (by unfold kernelRun.sl.H23_2 kernelRun.sl.H23_1; exact row_not i _ _ y h)

end Cert.Proof.KI

end

end
-- ==== Proof.ValK1.lean ====
/-
  The run's results: the first layer norm, its codes and scales.
-/
module

public import proofs.«01_k».proof.Proof.ValH1
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem kr_19 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S1x512x1024.Idx) : View.read (Elt Ideal) M19.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).1 y = H1B P R y := by
  unfold kernelRun
  dsimp only
  exact out_19 T _ y

theorem kr_22 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S1x512x1024.Idx) : View.read (Elt Ideal) M22.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.1 y = HCB P R y := by
  unfold kernelRun
  dsimp only
  exact out_22 T _ y

theorem kr_23 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S32x512.Idx) (h : (y 0).val = (i 0).val) : View.read (Elt Ideal) M23.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.1 y = HS P (R (y 1)) := by
  unfold kernelRun
  dsimp only
  exact out_23 T f23 y h

theorem kr_23_not {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S32x512.Idx) (h : (y 0).val ≠ (i 0).val) : View.read (Elt Ideal) M23.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.1 y = View.read (Elt Ideal) M23.view f23 y := by
  unfold kernelRun
  dsimp only
  exact out_23_not f23 y h

end Cert.Proof.KI

end

end
-- ==== Proof.ValC0.lean ====
/-
  The up projection's scaled gelu and its running maximum: the rows of the first half.
-/
module

public import proofs.«01_k».proof.Proof.ValB
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v249 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v249 c i M1 M2 M3 M4 M5 M6 M7 M8 M9 M26 M30 M32 f1 f2 f3 f4 f5 f6 f7 f8 f9 f26 : S256x1024.Idx → EReal) (ix2 x y) = HC P (R ⟨↑x, by omega⟩) y := by
  unfold kernelRun.sl.v249 kernelRun.sl.H32_1
  rw [View.readCov_cons_toLoadRect]
  exact t_v241 T x y

theorem t_v263 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v263 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨↑y, by omega⟩ := by
  pointwise [kernelRun.sl.v263, kernelRun.sl.v259, kernelRun.sl.v256, kernelRun.sl.v255, kernelRun.sl.v254, kernelRun.sl.v253, kernelRun.sl.v252, kernelRun.sl.v251, kernelRun.sl.v250, kernelRun.sl.cst_21, kernelRun.sl.v258, kernelRun.sl.v257, kernelRun.sl.v262, kernelRun.sl.v261, kernelRun.sl.cst_123, kernelRun.sl.v260, View.readAt_apply, t_v249 T, t_v224 T, T.wu, T.wsu, T.bu]
  all_goals rfl

theorem t_v270 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v270 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨↑y, by omega⟩ := by
  pointwise [kernelRun.sl.v270, View.readAt_apply, t_v263 T]
  all_goals rfl

theorem t_v267 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v267 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 1 := by
  pointwise [kernelRun.sl.v267, kernelRun.sl.v219, kernelRun.sl.cst_121, kernelRun.sl.v266, kernelRun.sl.v265, kernelRun.sl.v264, View.readAt_apply, t_v263 T]
  exact runmax_one (G P (R ⟨↑x, by omega⟩))

theorem t_v285 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v285 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨256 + ↑y, by omega⟩ := by
  pointwise [kernelRun.sl.v285, kernelRun.sl.v281, kernelRun.sl.v278, kernelRun.sl.v277, kernelRun.sl.v276, kernelRun.sl.v275, kernelRun.sl.v273, kernelRun.sl.v272, kernelRun.sl.cst_21, kernelRun.sl.v252, kernelRun.sl.v280, kernelRun.sl.v279, kernelRun.sl.v284, kernelRun.sl.v261, kernelRun.sl.cst_123, kernelRun.sl.v282, View.readAt_apply, t_v249 T, t_v224 T, T.wu, T.wsu, T.bu]
  all_goals rfl

theorem t_v292 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v292 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨256 + ↑y, by omega⟩ := by
  pointwise [kernelRun.sl.v292, View.readAt_apply, t_v285 T]
  all_goals rfl

theorem t_v289 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v289 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 2 := by
  pointwise [kernelRun.sl.v289, kernelRun.sl.v288, kernelRun.sl.v287, kernelRun.sl.v286, View.readAt_apply, t_v285 T, t_v267 T]
  exact runmax_step (G P (R ⟨↑x, by omega⟩)) 1 (by norm_num)

theorem t_v307 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v307 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨512 + ↑y, by omega⟩ := by
  pointwise [kernelRun.sl.v307, kernelRun.sl.v303, kernelRun.sl.v302, kernelRun.sl.v301, kernelRun.sl.v300, kernelRun.sl.v297, kernelRun.sl.v252, kernelRun.sl.v295, kernelRun.sl.v294, kernelRun.sl.cst_21, kernelRun.sl.v299, kernelRun.sl.v298, kernelRun.sl.v306, kernelRun.sl.v261, kernelRun.sl.cst_123, kernelRun.sl.v304, View.readAt_apply, t_v249 T, t_v224 T, T.wu, T.wsu, T.bu]
  all_goals rfl

theorem t_v314 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v314 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨512 + ↑y, by omega⟩ := by
  pointwise [kernelRun.sl.v314, View.readAt_apply, t_v307 T]
  all_goals rfl

theorem t_v311 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v311 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 3 := by
  pointwise [kernelRun.sl.v311, kernelRun.sl.v310, kernelRun.sl.v309, kernelRun.sl.v308, View.readAt_apply, t_v307 T, t_v289 T]
  exact runmax_step (G P (R ⟨↑x, by omega⟩)) 2 (by norm_num)

theorem t_v329 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v329 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨768 + ↑y, by omega⟩ := by
  pointwise [kernelRun.sl.v329, kernelRun.sl.v328, kernelRun.sl.v326, kernelRun.sl.v325, kernelRun.sl.v324, kernelRun.sl.v323, kernelRun.sl.v322, kernelRun.sl.v319, kernelRun.sl.v317, kernelRun.sl.v316, kernelRun.sl.cst_21, kernelRun.sl.v252, kernelRun.sl.v321, kernelRun.sl.v320, kernelRun.sl.v261, kernelRun.sl.cst_123, View.readAt_apply, t_v249 T, t_v224 T, T.wu, T.wsu, T.bu]
  all_goals rfl

theorem t_v336 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v336 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨768 + ↑y, by omega⟩ := by
  pointwise [kernelRun.sl.v336, View.readAt_apply, t_v329 T]
  all_goals rfl

theorem t_v333 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v333 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 4 := by
  pointwise [kernelRun.sl.v333, kernelRun.sl.v332, kernelRun.sl.v331, kernelRun.sl.v330, View.readAt_apply, t_v329 T, t_v311 T]
  exact runmax_step (G P (R ⟨↑x, by omega⟩)) 3 (by norm_num)

theorem t_v351 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v351 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1024 + ↑y, by omega⟩ := by
  pointwise [kernelRun.sl.v351, kernelRun.sl.v347, kernelRun.sl.v346, kernelRun.sl.v345, kernelRun.sl.v344, kernelRun.sl.v343, kernelRun.sl.v342, kernelRun.sl.v341, kernelRun.sl.v252, kernelRun.sl.v339, kernelRun.sl.cst_21, kernelRun.sl.v338, kernelRun.sl.v350, kernelRun.sl.v261, kernelRun.sl.cst_123, kernelRun.sl.v348, View.readAt_apply, t_v249 T, t_v224 T, T.wu, T.wsu, T.bu]
  all_goals rfl

theorem t_v358 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v358 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1024 + ↑y, by omega⟩ := by
  pointwise [kernelRun.sl.v358, View.readAt_apply, t_v351 T]
  all_goals rfl

theorem t_v355 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v355 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 5 := by
  pointwise [kernelRun.sl.v355, kernelRun.sl.v354, kernelRun.sl.v353, kernelRun.sl.v352, View.readAt_apply, t_v351 T, t_v333 T]
  exact runmax_step (G P (R ⟨↑x, by omega⟩)) 4 (by norm_num)

theorem t_v373 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v373 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1280 + ↑y, by omega⟩ := by
  pointwise [kernelRun.sl.v373, kernelRun.sl.v369, kernelRun.sl.v366, kernelRun.sl.v365, kernelRun.sl.v364, kernelRun.sl.v363, kernelRun.sl.v252, kernelRun.sl.v361, kernelRun.sl.v360, kernelRun.sl.cst_21, kernelRun.sl.v368, kernelRun.sl.v367, kernelRun.sl.v372, kernelRun.sl.v261, kernelRun.sl.cst_123, kernelRun.sl.v370, View.readAt_apply, t_v249 T, t_v224 T, T.wu, T.wsu, T.bu]
  all_goals rfl

theorem t_v380 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v380 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1280 + ↑y, by omega⟩ := by
  pointwise [kernelRun.sl.v380, View.readAt_apply, t_v373 T]
  all_goals rfl

theorem t_v377 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v377 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 6 := by
  pointwise [kernelRun.sl.v377, kernelRun.sl.v376, kernelRun.sl.v375, kernelRun.sl.v374, View.readAt_apply, t_v373 T, t_v355 T]
  exact runmax_step (G P (R ⟨↑x, by omega⟩)) 5 (by norm_num)

theorem t_v395 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v395 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1536 + ↑y, by omega⟩ := by
  pointwise [kernelRun.sl.v395, kernelRun.sl.v391, kernelRun.sl.v388, kernelRun.sl.v387, kernelRun.sl.v386, kernelRun.sl.v385, kernelRun.sl.v252, kernelRun.sl.v383, kernelRun.sl.v382, kernelRun.sl.cst_21, kernelRun.sl.v390, kernelRun.sl.v389, kernelRun.sl.v394, kernelRun.sl.v261, kernelRun.sl.cst_123, kernelRun.sl.v392, View.readAt_apply, t_v249 T, t_v224 T, T.wu, T.wsu, T.bu]
  all_goals rfl

theorem t_v402 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v402 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1536 + ↑y, by omega⟩ := by
  pointwise [kernelRun.sl.v402, View.readAt_apply, t_v395 T]
  all_goals rfl

theorem t_v399 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v399 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 7 := by
  pointwise [kernelRun.sl.v399, kernelRun.sl.v398, kernelRun.sl.v397, kernelRun.sl.v396, View.readAt_apply, t_v395 T, t_v377 T]
  exact runmax_step (G P (R ⟨↑x, by omega⟩)) 6 (by norm_num)

theorem t_v417 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v417 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1792 + ↑y, by omega⟩ := by
  pointwise [kernelRun.sl.v417, kernelRun.sl.v413, kernelRun.sl.v410, kernelRun.sl.v409, kernelRun.sl.v408, kernelRun.sl.v407, kernelRun.sl.v252, kernelRun.sl.v405, kernelRun.sl.v404, kernelRun.sl.cst_21, kernelRun.sl.v412, kernelRun.sl.v411, kernelRun.sl.v416, kernelRun.sl.v261, kernelRun.sl.cst_123, kernelRun.sl.v414, View.readAt_apply, t_v249 T, t_v224 T, T.wu, T.wsu, T.bu]
  all_goals rfl

theorem t_v424 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v424 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨1792 + ↑y, by omega⟩ := by
  pointwise [kernelRun.sl.v424, View.readAt_apply, t_v417 T]
  all_goals rfl

theorem t_v421 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v421 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 8 := by
  pointwise [kernelRun.sl.v421, kernelRun.sl.v420, kernelRun.sl.v419, kernelRun.sl.v418, View.readAt_apply, t_v417 T, t_v399 T]
  exact runmax_step (G P (R ⟨↑x, by omega⟩)) 7 (by norm_num)

theorem t_v439 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v439 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2048 + ↑y, by omega⟩ := by
  pointwise [kernelRun.sl.v439, kernelRun.sl.v438, kernelRun.sl.v261, kernelRun.sl.cst_123, kernelRun.sl.v436, kernelRun.sl.v435, kernelRun.sl.v432, kernelRun.sl.v431, kernelRun.sl.v430, kernelRun.sl.v429, kernelRun.sl.v252, kernelRun.sl.v427, kernelRun.sl.cst_21, kernelRun.sl.v426, kernelRun.sl.v434, kernelRun.sl.v433, View.readAt_apply, t_v249 T, t_v224 T, T.wu, T.wsu, T.bu]
  all_goals rfl

theorem t_v446 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v446 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2048 + ↑y, by omega⟩ := by
  pointwise [kernelRun.sl.v446, View.readAt_apply, t_v439 T]
  all_goals rfl

theorem t_v443 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v443 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 9 := by
  pointwise [kernelRun.sl.v443, kernelRun.sl.v442, kernelRun.sl.v441, kernelRun.sl.v440, View.readAt_apply, t_v439 T, t_v421 T]
  exact runmax_step (G P (R ⟨↑x, by omega⟩)) 8 (by norm_num)

theorem t_v461 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v461 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2304 + ↑y, by omega⟩ := by
  pointwise [kernelRun.sl.v461, kernelRun.sl.v460, kernelRun.sl.v261, kernelRun.sl.cst_123, kernelRun.sl.v458, kernelRun.sl.v457, kernelRun.sl.v456, kernelRun.sl.v455, kernelRun.sl.v454, kernelRun.sl.v451, kernelRun.sl.v252, kernelRun.sl.v449, kernelRun.sl.v448, kernelRun.sl.cst_21, kernelRun.sl.v453, kernelRun.sl.v452, View.readAt_apply, t_v249 T, t_v224 T, T.wu, T.wsu, T.bu]
  all_goals rfl

theorem t_v468 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v468 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2304 + ↑y, by omega⟩ := by
  pointwise [kernelRun.sl.v468, View.readAt_apply, t_v461 T]
  all_goals rfl

theorem t_v465 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v465 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 10 := by
  pointwise [kernelRun.sl.v465, kernelRun.sl.v464, kernelRun.sl.v463, kernelRun.sl.v462, View.readAt_apply, t_v461 T, t_v443 T]
  exact runmax_step (G P (R ⟨↑x, by omega⟩)) 9 (by norm_num)

theorem t_v483 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v483 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2560 + ↑y, by omega⟩ := by
  pointwise [kernelRun.sl.v483, kernelRun.sl.v479, kernelRun.sl.v476, kernelRun.sl.v473, kernelRun.sl.v252, kernelRun.sl.v471, kernelRun.sl.v470, kernelRun.sl.cst_21, kernelRun.sl.v475, kernelRun.sl.v474, kernelRun.sl.v478, kernelRun.sl.v477, kernelRun.sl.v482, kernelRun.sl.v261, kernelRun.sl.cst_123, kernelRun.sl.v480, View.readAt_apply, t_v249 T, t_v224 T, T.wu, T.wsu, T.bu]
  all_goals rfl

theorem t_v490 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v490 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2560 + ↑y, by omega⟩ := by
  pointwise [kernelRun.sl.v490, View.readAt_apply, t_v483 T]
  all_goals rfl

theorem t_v487 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v487 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 11 := by
  pointwise [kernelRun.sl.v487, kernelRun.sl.v486, kernelRun.sl.v485, kernelRun.sl.v484, View.readAt_apply, t_v483 T, t_v465 T]
  exact runmax_step (G P (R ⟨↑x, by omega⟩)) 10 (by norm_num)

theorem t_v505 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v505 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2816 + ↑y, by omega⟩ := by
  pointwise [kernelRun.sl.v505, kernelRun.sl.v501, kernelRun.sl.v498, kernelRun.sl.v497, kernelRun.sl.v496, kernelRun.sl.v495, kernelRun.sl.v252, kernelRun.sl.v493, kernelRun.sl.v492, kernelRun.sl.cst_21, kernelRun.sl.v500, kernelRun.sl.v499, kernelRun.sl.v504, kernelRun.sl.v261, kernelRun.sl.cst_123, kernelRun.sl.v502, View.readAt_apply, t_v249 T, t_v224 T, T.wu, T.wsu, T.bu]
  all_goals rfl

theorem t_v512 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v512 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨2816 + ↑y, by omega⟩ := by
  pointwise [kernelRun.sl.v512, View.readAt_apply, t_v505 T]
  all_goals rfl

theorem t_v509 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v509 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 12 := by
  pointwise [kernelRun.sl.v509, kernelRun.sl.v508, kernelRun.sl.v507, kernelRun.sl.v506, View.readAt_apply, t_v505 T, t_v487 T]
  exact runmax_step (G P (R ⟨↑x, by omega⟩)) 11 (by norm_num)

theorem t_v527 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v527 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3072 + ↑y, by omega⟩ := by
  pointwise [kernelRun.sl.v527, kernelRun.sl.v526, kernelRun.sl.v524, kernelRun.sl.v523, kernelRun.sl.v522, kernelRun.sl.v521, kernelRun.sl.v520, kernelRun.sl.v517, kernelRun.sl.v252, kernelRun.sl.v515, kernelRun.sl.v514, kernelRun.sl.cst_21, kernelRun.sl.v519, kernelRun.sl.v518, kernelRun.sl.v261, kernelRun.sl.cst_123, View.readAt_apply, t_v249 T, t_v224 T, T.wu, T.wsu, T.bu]
  all_goals rfl

theorem t_v534 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v534 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3072 + ↑y, by omega⟩ := by
  pointwise [kernelRun.sl.v534, View.readAt_apply, t_v527 T]
  all_goals rfl

theorem t_v531 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v531 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 13 := by
  pointwise [kernelRun.sl.v531, kernelRun.sl.v530, kernelRun.sl.v529, kernelRun.sl.v528, View.readAt_apply, t_v527 T, t_v509 T]
  exact runmax_step (G P (R ⟨↑x, by omega⟩)) 12 (by norm_num)

theorem t_v549 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v549 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3328 + ↑y, by omega⟩ := by
  pointwise [kernelRun.sl.v549, kernelRun.sl.v545, kernelRun.sl.v542, kernelRun.sl.v539, kernelRun.sl.v252, kernelRun.sl.v537, kernelRun.sl.v536, kernelRun.sl.cst_21, kernelRun.sl.v541, kernelRun.sl.v540, kernelRun.sl.v544, kernelRun.sl.v543, kernelRun.sl.v548, kernelRun.sl.v546, kernelRun.sl.v261, kernelRun.sl.cst_123, View.readAt_apply, t_v249 T, t_v224 T, T.wu, T.wsu, T.bu]
  all_goals rfl

theorem t_v556 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v556 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3328 + ↑y, by omega⟩ := by
  pointwise [kernelRun.sl.v556, View.readAt_apply, t_v549 T]
  all_goals rfl

theorem t_v553 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v553 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 14 := by
  pointwise [kernelRun.sl.v553, kernelRun.sl.v552, kernelRun.sl.v551, kernelRun.sl.v550, View.readAt_apply, t_v549 T, t_v531 T]
  exact runmax_step (G P (R ⟨↑x, by omega⟩)) 13 (by norm_num)

theorem t_v571 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v571 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3584 + ↑y, by omega⟩ := by
  pointwise [kernelRun.sl.v571, kernelRun.sl.v567, kernelRun.sl.v566, kernelRun.sl.v565, kernelRun.sl.v564, kernelRun.sl.v563, kernelRun.sl.v562, kernelRun.sl.v561, kernelRun.sl.v252, kernelRun.sl.v559, kernelRun.sl.v558, kernelRun.sl.cst_21, kernelRun.sl.v570, kernelRun.sl.v261, kernelRun.sl.cst_123, kernelRun.sl.v568, View.readAt_apply, t_v249 T, t_v224 T, T.wu, T.wsu, T.bu]
  all_goals rfl

theorem t_v578 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v578 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3584 + ↑y, by omega⟩ := by
  pointwise [kernelRun.sl.v578, View.readAt_apply, t_v571 T]
  all_goals rfl

theorem t_v575 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v575 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 15 := by
  pointwise [kernelRun.sl.v575, kernelRun.sl.v574, kernelRun.sl.v573, kernelRun.sl.v572, View.readAt_apply, t_v571 T, t_v553 T]
  exact runmax_step (G P (R ⟨↑x, by omega⟩)) 14 (by norm_num)

theorem t_v593 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v593 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3840 + ↑y, by omega⟩ := by
  pointwise [kernelRun.sl.v593, kernelRun.sl.v592, kernelRun.sl.v590, kernelRun.sl.v589, kernelRun.sl.v586, kernelRun.sl.v585, kernelRun.sl.v584, kernelRun.sl.v583, kernelRun.sl.v581, kernelRun.sl.v580, kernelRun.sl.cst_21, kernelRun.sl.v252, kernelRun.sl.v588, kernelRun.sl.v587, kernelRun.sl.v261, kernelRun.sl.cst_123, View.readAt_apply, t_v249 T, t_v224 T, T.wu, T.wsu, T.bu]
  all_goals rfl

theorem t_v600 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v600 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨↑x, by omega⟩) ⟨3840 + ↑y, by omega⟩ := by
  pointwise [kernelRun.sl.v600, View.readAt_apply, t_v593 T]
  all_goals rfl

theorem t_v597 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v597 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨↑x, by omega⟩)) 16 := by
  pointwise [kernelRun.sl.v597, kernelRun.sl.v596, kernelRun.sl.v595, kernelRun.sl.v594, View.readAt_apply, t_v593 T, t_v575 T]
  exact runmax_step (G P (R ⟨↑x, by omega⟩)) 15 (by norm_num)

end Cert.Proof.KI

end

end
-- ==== Proof.ValC1.lean ====
/-
  The up projection's scaled gelu and its running maximum: the rows of the second half.
-/
module

public import proofs.«01_k».proof.Proof.ValB
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem runmax_first (v : Fin 4096 → EReal) :
    max 0 (Finset.univ.fold max (Ideal.ofBits FTy.f32 4286578688#32) fun l : Fin 256 => (FloatOps.absf (F := Ideal) (φ := .f32) (v ⟨↑l, by omega⟩) : EReal)) = runmax v 1 := runmax_one v

theorem runmax_next (v : Fin 4096 → EReal) (n k : ℕ) (hk : k = 256 * n) (hn : n < 16) :
    max (runmax v n) (Finset.univ.fold max (Ideal.ofBits FTy.f32 4286578688#32) fun l : Fin 256 => (FloatOps.absf (F := Ideal) (φ := .f32) (v ⟨k + ↑l, by omega⟩) : EReal)) = runmax v (n + 1) := by
  subst hk
  exact runmax_step v n hn

theorem t_v668 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v668 c i M1 M2 M3 M4 M5 M6 M7 M8 M9 M26 M30 M32 f1 f2 f3 f4 f5 f6 f7 f8 f9 f26 : S256x1024.Idx → EReal) (ix2 x y) = HC P (R ⟨256 + ↑x, by omega⟩) y := by
  unfold kernelRun.sl.v668 kernelRun.sl.H32_2
  rw [View.readCov_cons_toLoadRect]
  exact t_v660 T x y

theorem t_v998 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v998 c i M1 M2 M3 M4 M5 M6 M7 M8 M9 M26 M30 M32 f1 f2 f3 f4 f5 f6 f7 f8 f9 f26 : S256x1024.Idx → EReal) (ix2 x y) = HC P (R ⟨256 + ↑x, by omega⟩) y := by
  unfold kernelRun.sl.v998 kernelRun.sl.H32_2
  rw [View.readCov_cons_toLoadRect]
  exact t_v660 T x y

theorem t_v682 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v682 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨↑y, by omega⟩ := by
  pointwise [kernelRun.sl.v682, kernelRun.sl.v681, kernelRun.sl.v261, kernelRun.sl.cst_123, kernelRun.sl.v679, kernelRun.sl.v678, kernelRun.sl.v675, kernelRun.sl.v255, kernelRun.sl.v254, kernelRun.sl.v672, kernelRun.sl.v670, kernelRun.sl.v250, kernelRun.sl.cst_21, kernelRun.sl.v671, kernelRun.sl.v258, kernelRun.sl.v257, View.readAt_apply, t_v668 T, t_v998 T, t_v643 T, T.wu, T.wsu, T.bu]
  all_goals rfl

theorem t_v689 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v689 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨↑y, by omega⟩ := by
  pointwise [kernelRun.sl.v689, View.readAt_apply, t_v682 T]
  all_goals rfl

theorem t_v686 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v686 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 1 := by
  pointwise [kernelRun.sl.v686, kernelRun.sl.v219, kernelRun.sl.cst_121, kernelRun.sl.v685, kernelRun.sl.v684, kernelRun.sl.v683, View.readAt_apply, t_v682 T]
  generalize G P (R ⟨256 + ↑x, by omega⟩) = v
  exact runmax_first v

theorem t_v704 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v704 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨256 + ↑y, by omega⟩ := by
  pointwise [kernelRun.sl.v704, kernelRun.sl.v703, kernelRun.sl.v261, kernelRun.sl.cst_123, kernelRun.sl.v701, kernelRun.sl.v700, kernelRun.sl.v697, kernelRun.sl.v694, kernelRun.sl.v671, kernelRun.sl.v692, kernelRun.sl.v272, kernelRun.sl.cst_21, kernelRun.sl.v277, kernelRun.sl.v276, kernelRun.sl.v280, kernelRun.sl.v279, View.readAt_apply, t_v668 T, t_v998 T, t_v643 T, T.wu, T.wsu, T.bu]
  all_goals rfl

theorem t_v711 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v711 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨256 + ↑y, by omega⟩ := by
  pointwise [kernelRun.sl.v711, View.readAt_apply, t_v704 T]
  all_goals rfl

theorem t_v708 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v708 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 2 := by
  pointwise [kernelRun.sl.v708, kernelRun.sl.v707, kernelRun.sl.v706, kernelRun.sl.v705, View.readAt_apply, t_v704 T, t_v686 T]
  generalize G P (R ⟨256 + ↑x, by omega⟩) = v
  exact runmax_next v 1 256 rfl (by norm_num)

theorem t_v726 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v726 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨512 + ↑y, by omega⟩ := by
  pointwise [kernelRun.sl.v726, kernelRun.sl.v722, kernelRun.sl.v302, kernelRun.sl.v301, kernelRun.sl.v719, kernelRun.sl.v716, kernelRun.sl.v671, kernelRun.sl.v714, kernelRun.sl.v294, kernelRun.sl.cst_21, kernelRun.sl.v299, kernelRun.sl.v298, kernelRun.sl.v725, kernelRun.sl.v261, kernelRun.sl.cst_123, kernelRun.sl.v723, View.readAt_apply, t_v668 T, t_v998 T, t_v643 T, T.wu, T.wsu, T.bu]
  all_goals rfl

theorem t_v733 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v733 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨512 + ↑y, by omega⟩ := by
  pointwise [kernelRun.sl.v733, View.readAt_apply, t_v726 T]
  all_goals rfl

theorem t_v730 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v730 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 3 := by
  pointwise [kernelRun.sl.v730, kernelRun.sl.v729, kernelRun.sl.v728, kernelRun.sl.v727, View.readAt_apply, t_v726 T, t_v708 T]
  generalize G P (R ⟨256 + ↑x, by omega⟩) = v
  exact runmax_next v 2 512 rfl (by norm_num)

theorem t_v748 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v748 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨768 + ↑y, by omega⟩ := by
  pointwise [kernelRun.sl.v748, kernelRun.sl.v744, kernelRun.sl.v324, kernelRun.sl.v323, kernelRun.sl.v741, kernelRun.sl.v321, kernelRun.sl.v320, kernelRun.sl.v738, kernelRun.sl.v736, kernelRun.sl.v316, kernelRun.sl.cst_21, kernelRun.sl.v671, kernelRun.sl.v747, kernelRun.sl.v745, kernelRun.sl.v261, kernelRun.sl.cst_123, View.readAt_apply, t_v668 T, t_v998 T, t_v643 T, T.wu, T.wsu, T.bu]
  all_goals rfl

theorem t_v755 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v755 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨768 + ↑y, by omega⟩ := by
  pointwise [kernelRun.sl.v755, View.readAt_apply, t_v748 T]
  all_goals rfl

theorem t_v752 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v752 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 4 := by
  pointwise [kernelRun.sl.v752, kernelRun.sl.v751, kernelRun.sl.v750, kernelRun.sl.v749, View.readAt_apply, t_v748 T, t_v730 T]
  generalize G P (R ⟨256 + ↑x, by omega⟩) = v
  exact runmax_next v 3 768 rfl (by norm_num)

theorem t_v770 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v770 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1024 + ↑y, by omega⟩ := by
  pointwise [kernelRun.sl.v770, kernelRun.sl.v766, kernelRun.sl.v763, kernelRun.sl.v760, kernelRun.sl.v758, kernelRun.sl.cst_21, kernelRun.sl.v338, kernelRun.sl.v671, kernelRun.sl.v343, kernelRun.sl.v342, kernelRun.sl.v346, kernelRun.sl.v345, kernelRun.sl.v769, kernelRun.sl.v767, kernelRun.sl.v261, kernelRun.sl.cst_123, View.readAt_apply, t_v668 T, t_v998 T, t_v643 T, T.wu, T.wsu, T.bu]
  all_goals rfl

theorem t_v777 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v777 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1024 + ↑y, by omega⟩ := by
  pointwise [kernelRun.sl.v777, View.readAt_apply, t_v770 T]
  all_goals rfl

theorem t_v774 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v774 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 5 := by
  pointwise [kernelRun.sl.v774, kernelRun.sl.v773, kernelRun.sl.v772, kernelRun.sl.v771, View.readAt_apply, t_v770 T, t_v752 T]
  generalize G P (R ⟨256 + ↑x, by omega⟩) = v
  exact runmax_next v 4 1024 rfl (by norm_num)

theorem t_v792 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v792 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1280 + ↑y, by omega⟩ := by
  pointwise [kernelRun.sl.v792, kernelRun.sl.v788, kernelRun.sl.v368, kernelRun.sl.v367, kernelRun.sl.v785, kernelRun.sl.v365, kernelRun.sl.v364, kernelRun.sl.v782, kernelRun.sl.v780, kernelRun.sl.cst_21, kernelRun.sl.v360, kernelRun.sl.v671, kernelRun.sl.v791, kernelRun.sl.v261, kernelRun.sl.cst_123, kernelRun.sl.v789, View.readAt_apply, t_v668 T, t_v998 T, t_v643 T, T.wu, T.wsu, T.bu]
  all_goals rfl

theorem t_v799 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v799 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1280 + ↑y, by omega⟩ := by
  pointwise [kernelRun.sl.v799, View.readAt_apply, t_v792 T]
  all_goals rfl

theorem t_v796 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v796 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 6 := by
  pointwise [kernelRun.sl.v796, kernelRun.sl.v795, kernelRun.sl.v794, kernelRun.sl.v793, View.readAt_apply, t_v792 T, t_v774 T]
  generalize G P (R ⟨256 + ↑x, by omega⟩) = v
  exact runmax_next v 5 1280 rfl (by norm_num)

theorem t_v814 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v814 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1536 + ↑y, by omega⟩ := by
  pointwise [kernelRun.sl.v814, kernelRun.sl.v813, kernelRun.sl.v811, kernelRun.sl.v810, kernelRun.sl.v390, kernelRun.sl.v389, kernelRun.sl.v807, kernelRun.sl.v804, kernelRun.sl.v802, kernelRun.sl.v382, kernelRun.sl.cst_21, kernelRun.sl.v671, kernelRun.sl.v387, kernelRun.sl.v386, kernelRun.sl.v261, kernelRun.sl.cst_123, View.readAt_apply, t_v668 T, t_v998 T, t_v643 T, T.wu, T.wsu, T.bu]
  all_goals rfl

theorem t_v821 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v821 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1536 + ↑y, by omega⟩ := by
  pointwise [kernelRun.sl.v821, View.readAt_apply, t_v814 T]
  all_goals rfl

theorem t_v818 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v818 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 7 := by
  pointwise [kernelRun.sl.v818, kernelRun.sl.v817, kernelRun.sl.v816, kernelRun.sl.v815, View.readAt_apply, t_v814 T, t_v796 T]
  generalize G P (R ⟨256 + ↑x, by omega⟩) = v
  exact runmax_next v 6 1536 rfl (by norm_num)

theorem t_v836 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v836 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1792 + ↑y, by omega⟩ := by
  pointwise [kernelRun.sl.v836, kernelRun.sl.v835, kernelRun.sl.v833, kernelRun.sl.v832, kernelRun.sl.v829, kernelRun.sl.v826, kernelRun.sl.v824, kernelRun.sl.v404, kernelRun.sl.cst_21, kernelRun.sl.v671, kernelRun.sl.v409, kernelRun.sl.v408, kernelRun.sl.v412, kernelRun.sl.v411, kernelRun.sl.v261, kernelRun.sl.cst_123, View.readAt_apply, t_v668 T, t_v998 T, t_v643 T, T.wu, T.wsu, T.bu]
  all_goals rfl

theorem t_v843 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v843 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨1792 + ↑y, by omega⟩ := by
  pointwise [kernelRun.sl.v843, View.readAt_apply, t_v836 T]
  all_goals rfl

theorem t_v840 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v840 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 8 := by
  pointwise [kernelRun.sl.v840, kernelRun.sl.v839, kernelRun.sl.v838, kernelRun.sl.v837, View.readAt_apply, t_v836 T, t_v818 T]
  generalize G P (R ⟨256 + ↑x, by omega⟩) = v
  exact runmax_next v 7 1792 rfl (by norm_num)

theorem t_v858 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v858 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2048 + ↑y, by omega⟩ := by
  pointwise [kernelRun.sl.v858, kernelRun.sl.v857, kernelRun.sl.v855, kernelRun.sl.v854, kernelRun.sl.v434, kernelRun.sl.v433, kernelRun.sl.v851, kernelRun.sl.v431, kernelRun.sl.v430, kernelRun.sl.v848, kernelRun.sl.v846, kernelRun.sl.cst_21, kernelRun.sl.v426, kernelRun.sl.v671, kernelRun.sl.v261, kernelRun.sl.cst_123, View.readAt_apply, t_v668 T, t_v998 T, t_v643 T, T.wu, T.wsu, T.bu]
  all_goals rfl

theorem t_v865 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v865 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2048 + ↑y, by omega⟩ := by
  pointwise [kernelRun.sl.v865, View.readAt_apply, t_v858 T]
  all_goals rfl

theorem t_v862 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v862 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 9 := by
  pointwise [kernelRun.sl.v862, kernelRun.sl.v861, kernelRun.sl.v860, kernelRun.sl.v859, View.readAt_apply, t_v858 T, t_v840 T]
  generalize G P (R ⟨256 + ↑x, by omega⟩) = v
  exact runmax_next v 8 2048 rfl (by norm_num)

theorem t_v880 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v880 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2304 + ↑y, by omega⟩ := by
  pointwise [kernelRun.sl.v880, kernelRun.sl.v879, kernelRun.sl.v261, kernelRun.sl.cst_123, kernelRun.sl.v877, kernelRun.sl.v876, kernelRun.sl.v456, kernelRun.sl.v455, kernelRun.sl.v873, kernelRun.sl.v453, kernelRun.sl.v452, kernelRun.sl.v870, kernelRun.sl.v868, kernelRun.sl.v448, kernelRun.sl.cst_21, kernelRun.sl.v671, View.readAt_apply, t_v668 T, t_v998 T, t_v643 T, T.wu, T.wsu, T.bu]
  all_goals rfl

theorem t_v887 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v887 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2304 + ↑y, by omega⟩ := by
  pointwise [kernelRun.sl.v887, View.readAt_apply, t_v880 T]
  all_goals rfl

theorem t_v884 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v884 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 10 := by
  pointwise [kernelRun.sl.v884, kernelRun.sl.v883, kernelRun.sl.v882, kernelRun.sl.v881, View.readAt_apply, t_v880 T, t_v862 T]
  generalize G P (R ⟨256 + ↑x, by omega⟩) = v
  exact runmax_next v 9 2304 rfl (by norm_num)

theorem t_v902 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v902 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2560 + ↑y, by omega⟩ := by
  pointwise [kernelRun.sl.v902, kernelRun.sl.v898, kernelRun.sl.v478, kernelRun.sl.v477, kernelRun.sl.v895, kernelRun.sl.v892, kernelRun.sl.v890, kernelRun.sl.v470, kernelRun.sl.cst_21, kernelRun.sl.v671, kernelRun.sl.v475, kernelRun.sl.v474, kernelRun.sl.v901, kernelRun.sl.v261, kernelRun.sl.cst_123, kernelRun.sl.v899, View.readAt_apply, t_v668 T, t_v998 T, t_v643 T, T.wu, T.wsu, T.bu]
  all_goals rfl

theorem t_v909 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v909 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2560 + ↑y, by omega⟩ := by
  pointwise [kernelRun.sl.v909, View.readAt_apply, t_v902 T]
  all_goals rfl

theorem t_v906 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v906 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 11 := by
  pointwise [kernelRun.sl.v906, kernelRun.sl.v905, kernelRun.sl.v904, kernelRun.sl.v903, View.readAt_apply, t_v902 T, t_v884 T]
  generalize G P (R ⟨256 + ↑x, by omega⟩) = v
  exact runmax_next v 10 2560 rfl (by norm_num)

theorem t_v924 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v924 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2816 + ↑y, by omega⟩ := by
  pointwise [kernelRun.sl.v924, kernelRun.sl.v923, kernelRun.sl.v921, kernelRun.sl.v920, kernelRun.sl.v917, kernelRun.sl.v497, kernelRun.sl.v496, kernelRun.sl.v914, kernelRun.sl.v912, kernelRun.sl.v492, kernelRun.sl.cst_21, kernelRun.sl.v671, kernelRun.sl.v500, kernelRun.sl.v499, kernelRun.sl.v261, kernelRun.sl.cst_123, View.readAt_apply, t_v668 T, t_v998 T, t_v643 T, T.wu, T.wsu, T.bu]
  all_goals rfl

theorem t_v931 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v931 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨2816 + ↑y, by omega⟩ := by
  pointwise [kernelRun.sl.v931, View.readAt_apply, t_v924 T]
  all_goals rfl

theorem t_v928 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v928 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 12 := by
  pointwise [kernelRun.sl.v928, kernelRun.sl.v927, kernelRun.sl.v926, kernelRun.sl.v925, View.readAt_apply, t_v924 T, t_v906 T]
  generalize G P (R ⟨256 + ↑x, by omega⟩) = v
  exact runmax_next v 11 2816 rfl (by norm_num)

theorem t_v946 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v946 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨3072 + ↑y, by omega⟩ := by
  pointwise [kernelRun.sl.v946, kernelRun.sl.v942, kernelRun.sl.v522, kernelRun.sl.v521, kernelRun.sl.v939, kernelRun.sl.v936, kernelRun.sl.v934, kernelRun.sl.v514, kernelRun.sl.cst_21, kernelRun.sl.v671, kernelRun.sl.v519, kernelRun.sl.v518, kernelRun.sl.v945, kernelRun.sl.v261, kernelRun.sl.cst_123, kernelRun.sl.v943, View.readAt_apply, t_v668 T, t_v998 T, t_v643 T, T.wu, T.wsu, T.bu]
  all_goals rfl

theorem t_v953 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v953 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨3072 + ↑y, by omega⟩ := by
  pointwise [kernelRun.sl.v953, View.readAt_apply, t_v946 T]
  all_goals rfl

theorem t_v950 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v950 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 13 := by
  pointwise [kernelRun.sl.v950, kernelRun.sl.v949, kernelRun.sl.v948, kernelRun.sl.v947, View.readAt_apply, t_v946 T, t_v928 T]
  generalize G P (R ⟨256 + ↑x, by omega⟩) = v
  exact runmax_next v 12 3072 rfl (by norm_num)

theorem t_v968 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v968 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨3328 + ↑y, by omega⟩ := by
  pointwise [kernelRun.sl.v968, kernelRun.sl.v967, kernelRun.sl.v261, kernelRun.sl.cst_123, kernelRun.sl.v965, kernelRun.sl.v964, kernelRun.sl.v961, kernelRun.sl.v958, kernelRun.sl.v956, kernelRun.sl.v536, kernelRun.sl.cst_21, kernelRun.sl.v671, kernelRun.sl.v541, kernelRun.sl.v540, kernelRun.sl.v544, kernelRun.sl.v543, View.readAt_apply, t_v668 T, t_v998 T, t_v643 T, T.wu, T.wsu, T.bu]
  all_goals rfl

theorem t_v975 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v975 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨3328 + ↑y, by omega⟩ := by
  pointwise [kernelRun.sl.v975, View.readAt_apply, t_v968 T]
  all_goals rfl

theorem t_v972 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v972 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 14 := by
  pointwise [kernelRun.sl.v972, kernelRun.sl.v971, kernelRun.sl.v970, kernelRun.sl.v969, View.readAt_apply, t_v968 T, t_v950 T]
  generalize G P (R ⟨256 + ↑x, by omega⟩) = v
  exact runmax_next v 13 3328 rfl (by norm_num)

theorem t_v990 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v990 c i M1 M2 M3 M4 M5 M6 M7 M8 M9 M10 M11 M12 M26 M27 M29 M30 M32 f1 f2 f3 f4 f5 f6 f7 f8 f9 f10 f11 f12 f26 f27 f29 : S256x256.Idx → EReal) (ix2 x y) = G P (R ⟨256 + ↑x, by omega⟩) ⟨3584 + ↑y, by omega⟩ := by
  pointwise [kernelRun.sl.v990, kernelRun.sl.v986, kernelRun.sl.v983, kernelRun.sl.v563, kernelRun.sl.v562, kernelRun.sl.v980, kernelRun.sl.v978, kernelRun.sl.v558, kernelRun.sl.cst_21, kernelRun.sl.v671, kernelRun.sl.v566, kernelRun.sl.v565, kernelRun.sl.v989, kernelRun.sl.v261, kernelRun.sl.cst_123, kernelRun.sl.v987, View.readAt_apply, t_v668 T, t_v998 T, t_v643 T, T.wu, T.wsu, T.bu]
  all_goals rfl

theorem t_s14 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (Gen.k0_pay164 (kernelRun.sl.v990 c i M1 M2 M3 M4 M5 M6 M7 M8 M9 M10 M11 M12 M26 M27 M29 M30 M32 f1 f2 f3 f4 f5 f6 f7 f8 f9 f10 f11 f12 f26 f27 f29) : S256x256.Idx → EReal) (ix2 x y) = G P (R ⟨256 + ↑x, by omega⟩) ⟨3584 + ↑y, by omega⟩ := by
  pointwise [Gen.k0_pay164, View.readAt_apply, t_v990 T]
  all_goals rfl

theorem t_v994 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v994 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 15 := by
  pointwise [kernelRun.sl.v994, kernelRun.sl.v993, kernelRun.sl.v992, kernelRun.sl.v991, View.readAt_apply, t_v990 T, t_v972 T]
  generalize G P (R ⟨256 + ↑x, by omega⟩) = v
  exact runmax_next v 14 3584 rfl (by norm_num)

theorem t_g15 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (Gen.k0_pay165 (kernelRun.sl.v643 c i M1 M2 M3 M4 M5 M6 M7 M8 M9 M26 M30 f1 f2 f3 f4 f5 f6 f7 f8 f9 f26) (kernelRun.sl.v998 c i M1 M2 M3 M4 M5 M6 M7 M8 M9 M26 M30 M32 f1 f2 f3 f4 f5 f6 f7 f8 f9 f26) (kernelRun.sl.v999 c i M10 M27 f10 f27) (kernelRun.sl.v1003 c i M11 M12 M29 f11 f12 f29) (kernelRun.sl.v1006 c i M11 M12 M29 f11 f12 f29) : S256x256.Idx → EReal) (ix2 x y) = G P (R ⟨256 + ↑x, by omega⟩) ⟨3840 + ↑y, by omega⟩ := by
  pointwise [kernelRun.sl.v999, kernelRun.sl.v1003, kernelRun.sl.v1006, Gen.k0_pay165, View.readAt_apply, t_v668 T, t_v998 T, t_v643 T, T.wu, T.wsu, T.bu]
  all_goals rfl

theorem t_s15 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (Gen.k0_pay167 (kernelRun.sl.v643 c i M1 M2 M3 M4 M5 M6 M7 M8 M9 M26 M30 f1 f2 f3 f4 f5 f6 f7 f8 f9 f26) (kernelRun.sl.v998 c i M1 M2 M3 M4 M5 M6 M7 M8 M9 M26 M30 M32 f1 f2 f3 f4 f5 f6 f7 f8 f9 f26) (kernelRun.sl.v999 c i M10 M27 f10 f27) (kernelRun.sl.v1003 c i M11 M12 M29 f11 f12 f29) (kernelRun.sl.v1006 c i M11 M12 M29 f11 f12 f29) : S256x256.Idx → EReal) (ix2 x y) = G P (R ⟨256 + ↑x, by omega⟩) ⟨3840 + ↑y, by omega⟩ := by
  pointwise [kernelRun.sl.v999, kernelRun.sl.v1003, kernelRun.sl.v1006, Gen.k0_pay165, Gen.k0_pay167, View.readAt_apply, t_v668 T, t_v998 T, t_v643 T, T.wu, T.wsu, T.bu]
  all_goals rfl

end Cert.Proof.KI

end

end
-- ==== Proof.ValD.lean ====
/-
  The scaled gelu read back, tile by tile.
-/
module

public import proofs.«01_k».proof.Proof.ValC0
public import proofs.«01_k».proof.Proof.ValC1
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- The scaled gelu's array. -/
def GG (P : Par) (R : Fin 512 → Row) : S512x4096.Idx → EReal := fun y => G P (R (y 0)) (y 1)

set_option maxHeartbeats 4000000 in
theorem pc_H33_32 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (GG P R) (kernelRun.sl.H33_32 c i M1 M2 M3 M4 M5 M6 M7 M8 M9 M10 M11 M12 M26 M27 M29 M30 M32 f1 f2 f3 f4 f5 f6 f7 f8 f9 f10 f11 f12 f26 f27 f29) := by
  unfold kernelRun.sl.H33_32 kernelRun.sl.H33_30 kernelRun.sl.H33_29 kernelRun.sl.H33_27 kernelRun.sl.H33_25 kernelRun.sl.H33_24 kernelRun.sl.H33_22 kernelRun.sl.H33_20 kernelRun.sl.H33_19 kernelRun.sl.H33_17 kernelRun.sl.H33_16 kernelRun.sl.H33_15 kernelRun.sl.H33_13 kernelRun.sl.H33_12 kernelRun.sl.H33_10 kernelRun.sl.H33_8 kernelRun.sl.H33_7 kernelRun.sl.H33_5 kernelRun.sl.H33_3 kernelRun.sl.H33_2
  exact ⟨(fun x => by idx_vars x; exact (t_s15 T x0 x1).trans (show GG P R (ix2 (⟨256 + ↑x0, by omega⟩ : Fin 512) (⟨3840 + ↑x1, by omega⟩ : Fin 4096)) = _ from congrArg _ (by idx_ext))),
    ⟨(fun x => by idx_vars x; exact (t_s14 T x0 x1).trans (show GG P R (ix2 (⟨256 + ↑x0, by omega⟩ : Fin 512) (⟨3584 + ↑x1, by omega⟩ : Fin 4096)) = _ from congrArg _ (by idx_ext))),
    ⟨(fun x => by idx_vars x; exact (t_v975 T x0 x1).trans (show GG P R (ix2 (⟨256 + ↑x0, by omega⟩ : Fin 512) (⟨3328 + ↑x1, by omega⟩ : Fin 4096)) = _ from congrArg _ (by idx_ext))),
    ⟨(fun x => by idx_vars x; exact (t_v953 T x0 x1).trans (show GG P R (ix2 (⟨256 + ↑x0, by omega⟩ : Fin 512) (⟨3072 + ↑x1, by omega⟩ : Fin 4096)) = _ from congrArg _ (by idx_ext))),
    ⟨(fun x => by idx_vars x; exact (t_v931 T x0 x1).trans (show GG P R (ix2 (⟨256 + ↑x0, by omega⟩ : Fin 512) (⟨2816 + ↑x1, by omega⟩ : Fin 4096)) = _ from congrArg _ (by idx_ext))),
    ⟨(fun x => by idx_vars x; exact (t_v909 T x0 x1).trans (show GG P R (ix2 (⟨256 + ↑x0, by omega⟩ : Fin 512) (⟨2560 + ↑x1, by omega⟩ : Fin 4096)) = _ from congrArg _ (by idx_ext))),
    ⟨(fun x => by idx_vars x; exact (t_v887 T x0 x1).trans (show GG P R (ix2 (⟨256 + ↑x0, by omega⟩ : Fin 512) (⟨2304 + ↑x1, by omega⟩ : Fin 4096)) = _ from congrArg _ (by idx_ext))),
    ⟨(fun x => by idx_vars x; exact (t_v865 T x0 x1).trans (show GG P R (ix2 (⟨256 + ↑x0, by omega⟩ : Fin 512) (⟨2048 + ↑x1, by omega⟩ : Fin 4096)) = _ from congrArg _ (by idx_ext))),
    ⟨(fun x => by idx_vars x; exact (t_v843 T x0 x1).trans (show GG P R (ix2 (⟨256 + ↑x0, by omega⟩ : Fin 512) (⟨1792 + ↑x1, by omega⟩ : Fin 4096)) = _ from congrArg _ (by idx_ext))),
    ⟨(fun x => by idx_vars x; exact (t_v821 T x0 x1).trans (show GG P R (ix2 (⟨256 + ↑x0, by omega⟩ : Fin 512) (⟨1536 + ↑x1, by omega⟩ : Fin 4096)) = _ from congrArg _ (by idx_ext))),
    ⟨(fun x => by idx_vars x; exact (t_v799 T x0 x1).trans (show GG P R (ix2 (⟨256 + ↑x0, by omega⟩ : Fin 512) (⟨1280 + ↑x1, by omega⟩ : Fin 4096)) = _ from congrArg _ (by idx_ext))),
    ⟨(fun x => by idx_vars x; exact (t_v777 T x0 x1).trans (show GG P R (ix2 (⟨256 + ↑x0, by omega⟩ : Fin 512) (⟨1024 + ↑x1, by omega⟩ : Fin 4096)) = _ from congrArg _ (by idx_ext))),
    ⟨(fun x => by idx_vars x; exact (t_v755 T x0 x1).trans (show GG P R (ix2 (⟨256 + ↑x0, by omega⟩ : Fin 512) (⟨768 + ↑x1, by omega⟩ : Fin 4096)) = _ from congrArg _ (by idx_ext))),
    ⟨(fun x => by idx_vars x; exact (t_v733 T x0 x1).trans (show GG P R (ix2 (⟨256 + ↑x0, by omega⟩ : Fin 512) (⟨512 + ↑x1, by omega⟩ : Fin 4096)) = _ from congrArg _ (by idx_ext))),
    ⟨(fun x => by idx_vars x; exact (t_v711 T x0 x1).trans (show GG P R (ix2 (⟨256 + ↑x0, by omega⟩ : Fin 512) (⟨256 + ↑x1, by omega⟩ : Fin 4096)) = _ from congrArg _ (by idx_ext))),
    ⟨(fun x => by idx_vars x; exact (t_v689 T x0 x1).trans (show GG P R (ix2 (⟨256 + ↑x0, by omega⟩ : Fin 512) (⟨↑x1, by omega⟩ : Fin 4096)) = _ from congrArg _ (by idx_ext))),
    ⟨(fun x => by idx_vars x; exact (t_v600 T x0 x1).trans (show GG P R (ix2 (⟨↑x0, by omega⟩ : Fin 512) (⟨3840 + ↑x1, by omega⟩ : Fin 4096)) = _ from congrArg _ (by idx_ext))),
    ⟨(fun x => by idx_vars x; exact (t_v578 T x0 x1).trans (show GG P R (ix2 (⟨↑x0, by omega⟩ : Fin 512) (⟨3584 + ↑x1, by omega⟩ : Fin 4096)) = _ from congrArg _ (by idx_ext))),
    ⟨(fun x => by idx_vars x; exact (t_v556 T x0 x1).trans (show GG P R (ix2 (⟨↑x0, by omega⟩ : Fin 512) (⟨3328 + ↑x1, by omega⟩ : Fin 4096)) = _ from congrArg _ (by idx_ext))),
    ⟨(fun x => by idx_vars x; exact (t_v534 T x0 x1).trans (show GG P R (ix2 (⟨↑x0, by omega⟩ : Fin 512) (⟨3072 + ↑x1, by omega⟩ : Fin 4096)) = _ from congrArg _ (by idx_ext))),
    ⟨(fun x => by idx_vars x; exact (t_v512 T x0 x1).trans (show GG P R (ix2 (⟨↑x0, by omega⟩ : Fin 512) (⟨2816 + ↑x1, by omega⟩ : Fin 4096)) = _ from congrArg _ (by idx_ext))),
    ⟨(fun x => by idx_vars x; exact (t_v490 T x0 x1).trans (show GG P R (ix2 (⟨↑x0, by omega⟩ : Fin 512) (⟨2560 + ↑x1, by omega⟩ : Fin 4096)) = _ from congrArg _ (by idx_ext))),
    ⟨(fun x => by idx_vars x; exact (t_v468 T x0 x1).trans (show GG P R (ix2 (⟨↑x0, by omega⟩ : Fin 512) (⟨2304 + ↑x1, by omega⟩ : Fin 4096)) = _ from congrArg _ (by idx_ext))),
    ⟨(fun x => by idx_vars x; exact (t_v446 T x0 x1).trans (show GG P R (ix2 (⟨↑x0, by omega⟩ : Fin 512) (⟨2048 + ↑x1, by omega⟩ : Fin 4096)) = _ from congrArg _ (by idx_ext))),
    ⟨(fun x => by idx_vars x; exact (t_v424 T x0 x1).trans (show GG P R (ix2 (⟨↑x0, by omega⟩ : Fin 512) (⟨1792 + ↑x1, by omega⟩ : Fin 4096)) = _ from congrArg _ (by idx_ext))),
    ⟨(fun x => by idx_vars x; exact (t_v402 T x0 x1).trans (show GG P R (ix2 (⟨↑x0, by omega⟩ : Fin 512) (⟨1536 + ↑x1, by omega⟩ : Fin 4096)) = _ from congrArg _ (by idx_ext))),
    ⟨(fun x => by idx_vars x; exact (t_v380 T x0 x1).trans (show GG P R (ix2 (⟨↑x0, by omega⟩ : Fin 512) (⟨1280 + ↑x1, by omega⟩ : Fin 4096)) = _ from congrArg _ (by idx_ext))),
    ⟨(fun x => by idx_vars x; exact (t_v358 T x0 x1).trans (show GG P R (ix2 (⟨↑x0, by omega⟩ : Fin 512) (⟨1024 + ↑x1, by omega⟩ : Fin 4096)) = _ from congrArg _ (by idx_ext))),
    ⟨(fun x => by idx_vars x; exact (t_v336 T x0 x1).trans (show GG P R (ix2 (⟨↑x0, by omega⟩ : Fin 512) (⟨768 + ↑x1, by omega⟩ : Fin 4096)) = _ from congrArg _ (by idx_ext))),
    ⟨(fun x => by idx_vars x; exact (t_v314 T x0 x1).trans (show GG P R (ix2 (⟨↑x0, by omega⟩ : Fin 512) (⟨512 + ↑x1, by omega⟩ : Fin 4096)) = _ from congrArg _ (by idx_ext))),
    ⟨(fun x => by idx_vars x; exact (t_v292 T x0 x1).trans (show GG P R (ix2 (⟨↑x0, by omega⟩ : Fin 512) (⟨256 + ↑x1, by omega⟩ : Fin 4096)) = _ from congrArg _ (by idx_ext))),
    ⟨(fun x => by idx_vars x; exact (t_v270 T x0 x1).trans (show GG P R (ix2 (⟨↑x0, by omega⟩ : Fin 512) (⟨↑x1, by omega⟩ : Fin 4096)) = _ from congrArg _ (by idx_ext))),
    trivial⟩⟩⟩⟩⟩⟩⟩⟩⟩⟩⟩⟩⟩⟩⟩⟩⟩⟩⟩⟩⟩⟩⟩⟩⟩⟩⟩⟩⟩⟩⟩⟩

theorem cov_H33_32 (y : S512x4096.Idx) : ∃ p ∈ kernelRun.sl.H33_32 c i M1 M2 M3 M4 M5 M6 M7 M8 M9 M10 M11 M12 M26 M27 M29 M30 M32 f1 f2 f3 f4 f5 f6 f7 f8 f9 f10 f11 f12 f26 f27 f29, y ∈ p.1.set := by
  unfold kernelRun.sl.H33_32 kernelRun.sl.H33_30 kernelRun.sl.H33_29 kernelRun.sl.H33_27 kernelRun.sl.H33_25 kernelRun.sl.H33_24 kernelRun.sl.H33_22 kernelRun.sl.H33_20 kernelRun.sl.H33_19 kernelRun.sl.H33_17 kernelRun.sl.H33_16 kernelRun.sl.H33_15 kernelRun.sl.H33_13 kernelRun.sl.H33_12 kernelRun.sl.H33_10 kernelRun.sl.H33_8 kernelRun.sl.H33_7 kernelRun.sl.H33_5 kernelRun.sl.H33_3 kernelRun.sl.H33_2
  exact View.cover_of_tiled (s := S512x4096) _ ![256, 256] (by rfl) y

theorem t_v1036 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1036 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨↑y, by omega⟩ := by
  unfold kernelRun.sl.v1036
  rw [rb (GG P R) M33.view _ _ (pc_H33_32 T) (fun j => cov_H33_32 _)]
  exact (congrArg (GG P R) (show _ = (ix2 (⟨↑x, by omega⟩ : Fin 512) (⟨↑y, by omega⟩ : Fin 4096)) by idx_ext)).trans rfl

theorem t_v1052 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1052 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨256 + ↑y, by omega⟩ := by
  unfold kernelRun.sl.v1052
  rw [rb (GG P R) M33.view _ _ (pc_H33_32 T) (fun j => cov_H33_32 _)]
  exact (congrArg (GG P R) (show _ = (ix2 (⟨↑x, by omega⟩ : Fin 512) (⟨256 + ↑y, by omega⟩ : Fin 4096)) by idx_ext)).trans rfl

theorem t_v1068 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1068 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨512 + ↑y, by omega⟩ := by
  unfold kernelRun.sl.v1068
  rw [rb (GG P R) M33.view _ _ (pc_H33_32 T) (fun j => cov_H33_32 _)]
  exact (congrArg (GG P R) (show _ = (ix2 (⟨↑x, by omega⟩ : Fin 512) (⟨512 + ↑y, by omega⟩ : Fin 4096)) by idx_ext)).trans rfl

theorem t_v1084 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1084 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨768 + ↑y, by omega⟩ := by
  unfold kernelRun.sl.v1084
  rw [rb (GG P R) M33.view _ _ (pc_H33_32 T) (fun j => cov_H33_32 _)]
  exact (congrArg (GG P R) (show _ = (ix2 (⟨↑x, by omega⟩ : Fin 512) (⟨768 + ↑y, by omega⟩ : Fin 4096)) by idx_ext)).trans rfl

theorem t_v1100 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1100 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨1024 + ↑y, by omega⟩ := by
  unfold kernelRun.sl.v1100
  rw [rb (GG P R) M33.view _ _ (pc_H33_32 T) (fun j => cov_H33_32 _)]
  exact (congrArg (GG P R) (show _ = (ix2 (⟨↑x, by omega⟩ : Fin 512) (⟨1024 + ↑y, by omega⟩ : Fin 4096)) by idx_ext)).trans rfl

theorem t_v1116 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1116 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨1280 + ↑y, by omega⟩ := by
  unfold kernelRun.sl.v1116
  rw [rb (GG P R) M33.view _ _ (pc_H33_32 T) (fun j => cov_H33_32 _)]
  exact (congrArg (GG P R) (show _ = (ix2 (⟨↑x, by omega⟩ : Fin 512) (⟨1280 + ↑y, by omega⟩ : Fin 4096)) by idx_ext)).trans rfl

theorem t_v1132 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1132 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨1536 + ↑y, by omega⟩ := by
  unfold kernelRun.sl.v1132
  rw [rb (GG P R) M33.view _ _ (pc_H33_32 T) (fun j => cov_H33_32 _)]
  exact (congrArg (GG P R) (show _ = (ix2 (⟨↑x, by omega⟩ : Fin 512) (⟨1536 + ↑y, by omega⟩ : Fin 4096)) by idx_ext)).trans rfl

theorem t_v1148 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1148 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨1792 + ↑y, by omega⟩ := by
  unfold kernelRun.sl.v1148
  rw [rb (GG P R) M33.view _ _ (pc_H33_32 T) (fun j => cov_H33_32 _)]
  exact (congrArg (GG P R) (show _ = (ix2 (⟨↑x, by omega⟩ : Fin 512) (⟨1792 + ↑y, by omega⟩ : Fin 4096)) by idx_ext)).trans rfl

theorem t_v1164 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1164 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨2048 + ↑y, by omega⟩ := by
  unfold kernelRun.sl.v1164
  rw [rb (GG P R) M33.view _ _ (pc_H33_32 T) (fun j => cov_H33_32 _)]
  exact (congrArg (GG P R) (show _ = (ix2 (⟨↑x, by omega⟩ : Fin 512) (⟨2048 + ↑y, by omega⟩ : Fin 4096)) by idx_ext)).trans rfl

theorem t_v1180 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1180 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨2304 + ↑y, by omega⟩ := by
  unfold kernelRun.sl.v1180
  rw [rb (GG P R) M33.view _ _ (pc_H33_32 T) (fun j => cov_H33_32 _)]
  exact (congrArg (GG P R) (show _ = (ix2 (⟨↑x, by omega⟩ : Fin 512) (⟨2304 + ↑y, by omega⟩ : Fin 4096)) by idx_ext)).trans rfl

theorem t_v1196 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1196 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨2560 + ↑y, by omega⟩ := by
  unfold kernelRun.sl.v1196
  rw [rb (GG P R) M33.view _ _ (pc_H33_32 T) (fun j => cov_H33_32 _)]
  exact (congrArg (GG P R) (show _ = (ix2 (⟨↑x, by omega⟩ : Fin 512) (⟨2560 + ↑y, by omega⟩ : Fin 4096)) by idx_ext)).trans rfl

theorem t_v1212 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1212 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨2816 + ↑y, by omega⟩ := by
  unfold kernelRun.sl.v1212
  rw [rb (GG P R) M33.view _ _ (pc_H33_32 T) (fun j => cov_H33_32 _)]
  exact (congrArg (GG P R) (show _ = (ix2 (⟨↑x, by omega⟩ : Fin 512) (⟨2816 + ↑y, by omega⟩ : Fin 4096)) by idx_ext)).trans rfl

theorem t_v1228 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1228 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨3072 + ↑y, by omega⟩ := by
  unfold kernelRun.sl.v1228
  rw [rb (GG P R) M33.view _ _ (pc_H33_32 T) (fun j => cov_H33_32 _)]
  exact (congrArg (GG P R) (show _ = (ix2 (⟨↑x, by omega⟩ : Fin 512) (⟨3072 + ↑y, by omega⟩ : Fin 4096)) by idx_ext)).trans rfl

theorem t_v1244 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1244 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨3328 + ↑y, by omega⟩ := by
  unfold kernelRun.sl.v1244
  rw [rb (GG P R) M33.view _ _ (pc_H33_32 T) (fun j => cov_H33_32 _)]
  exact (congrArg (GG P R) (show _ = (ix2 (⟨↑x, by omega⟩ : Fin 512) (⟨3328 + ↑y, by omega⟩ : Fin 4096)) by idx_ext)).trans rfl

theorem t_v1260 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1260 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨3584 + ↑y, by omega⟩ := by
  unfold kernelRun.sl.v1260
  rw [rb (GG P R) M33.view _ _ (pc_H33_32 T) (fun j => cov_H33_32 _)]
  exact (congrArg (GG P R) (show _ = (ix2 (⟨↑x, by omega⟩ : Fin 512) (⟨3584 + ↑y, by omega⟩ : Fin 4096)) by idx_ext)).trans rfl

theorem t_v1276 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1276 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨↑x, by omega⟩) ⟨3840 + ↑y, by omega⟩ := by
  unfold kernelRun.sl.v1276
  rw [rb (GG P R) M33.view _ _ (pc_H33_32 T) (fun j => cov_H33_32 _)]
  exact (congrArg (GG P R) (show _ = (ix2 (⟨↑x, by omega⟩ : Fin 512) (⟨3840 + ↑y, by omega⟩ : Fin 4096)) by idx_ext)).trans rfl

theorem t_v1380 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1380 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨↑y, by omega⟩ := by
  unfold kernelRun.sl.v1380
  rw [rb (GG P R) M33.view _ _ (pc_H33_32 T) (fun j => cov_H33_32 _)]
  exact (congrArg (GG P R) (show _ = (ix2 (⟨256 + ↑x, by omega⟩ : Fin 512) (⟨↑y, by omega⟩ : Fin 4096)) by idx_ext)).trans rfl

theorem t_v1396 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1396 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨256 + ↑y, by omega⟩ := by
  unfold kernelRun.sl.v1396
  rw [rb (GG P R) M33.view _ _ (pc_H33_32 T) (fun j => cov_H33_32 _)]
  exact (congrArg (GG P R) (show _ = (ix2 (⟨256 + ↑x, by omega⟩ : Fin 512) (⟨256 + ↑y, by omega⟩ : Fin 4096)) by idx_ext)).trans rfl

theorem t_v1412 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1412 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨512 + ↑y, by omega⟩ := by
  unfold kernelRun.sl.v1412
  rw [rb (GG P R) M33.view _ _ (pc_H33_32 T) (fun j => cov_H33_32 _)]
  exact (congrArg (GG P R) (show _ = (ix2 (⟨256 + ↑x, by omega⟩ : Fin 512) (⟨512 + ↑y, by omega⟩ : Fin 4096)) by idx_ext)).trans rfl

theorem t_v1428 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1428 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨768 + ↑y, by omega⟩ := by
  unfold kernelRun.sl.v1428
  rw [rb (GG P R) M33.view _ _ (pc_H33_32 T) (fun j => cov_H33_32 _)]
  exact (congrArg (GG P R) (show _ = (ix2 (⟨256 + ↑x, by omega⟩ : Fin 512) (⟨768 + ↑y, by omega⟩ : Fin 4096)) by idx_ext)).trans rfl

theorem t_v1444 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1444 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨1024 + ↑y, by omega⟩ := by
  unfold kernelRun.sl.v1444
  rw [rb (GG P R) M33.view _ _ (pc_H33_32 T) (fun j => cov_H33_32 _)]
  exact (congrArg (GG P R) (show _ = (ix2 (⟨256 + ↑x, by omega⟩ : Fin 512) (⟨1024 + ↑y, by omega⟩ : Fin 4096)) by idx_ext)).trans rfl

theorem t_v1460 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1460 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨1280 + ↑y, by omega⟩ := by
  unfold kernelRun.sl.v1460
  rw [rb (GG P R) M33.view _ _ (pc_H33_32 T) (fun j => cov_H33_32 _)]
  exact (congrArg (GG P R) (show _ = (ix2 (⟨256 + ↑x, by omega⟩ : Fin 512) (⟨1280 + ↑y, by omega⟩ : Fin 4096)) by idx_ext)).trans rfl

theorem t_v1476 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1476 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨1536 + ↑y, by omega⟩ := by
  unfold kernelRun.sl.v1476
  rw [rb (GG P R) M33.view _ _ (pc_H33_32 T) (fun j => cov_H33_32 _)]
  exact (congrArg (GG P R) (show _ = (ix2 (⟨256 + ↑x, by omega⟩ : Fin 512) (⟨1536 + ↑y, by omega⟩ : Fin 4096)) by idx_ext)).trans rfl

theorem t_v1492 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1492 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨1792 + ↑y, by omega⟩ := by
  unfold kernelRun.sl.v1492
  rw [rb (GG P R) M33.view _ _ (pc_H33_32 T) (fun j => cov_H33_32 _)]
  exact (congrArg (GG P R) (show _ = (ix2 (⟨256 + ↑x, by omega⟩ : Fin 512) (⟨1792 + ↑y, by omega⟩ : Fin 4096)) by idx_ext)).trans rfl

theorem t_v1508 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1508 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨2048 + ↑y, by omega⟩ := by
  unfold kernelRun.sl.v1508
  rw [rb (GG P R) M33.view _ _ (pc_H33_32 T) (fun j => cov_H33_32 _)]
  exact (congrArg (GG P R) (show _ = (ix2 (⟨256 + ↑x, by omega⟩ : Fin 512) (⟨2048 + ↑y, by omega⟩ : Fin 4096)) by idx_ext)).trans rfl

theorem t_v1524 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1524 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨2304 + ↑y, by omega⟩ := by
  unfold kernelRun.sl.v1524
  rw [rb (GG P R) M33.view _ _ (pc_H33_32 T) (fun j => cov_H33_32 _)]
  exact (congrArg (GG P R) (show _ = (ix2 (⟨256 + ↑x, by omega⟩ : Fin 512) (⟨2304 + ↑y, by omega⟩ : Fin 4096)) by idx_ext)).trans rfl

theorem t_v1540 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1540 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨2560 + ↑y, by omega⟩ := by
  unfold kernelRun.sl.v1540
  rw [rb (GG P R) M33.view _ _ (pc_H33_32 T) (fun j => cov_H33_32 _)]
  exact (congrArg (GG P R) (show _ = (ix2 (⟨256 + ↑x, by omega⟩ : Fin 512) (⟨2560 + ↑y, by omega⟩ : Fin 4096)) by idx_ext)).trans rfl

theorem t_v1556 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1556 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨2816 + ↑y, by omega⟩ := by
  unfold kernelRun.sl.v1556
  rw [rb (GG P R) M33.view _ _ (pc_H33_32 T) (fun j => cov_H33_32 _)]
  exact (congrArg (GG P R) (show _ = (ix2 (⟨256 + ↑x, by omega⟩ : Fin 512) (⟨2816 + ↑y, by omega⟩ : Fin 4096)) by idx_ext)).trans rfl

theorem t_v1572 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1572 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨3072 + ↑y, by omega⟩ := by
  unfold kernelRun.sl.v1572
  rw [rb (GG P R) M33.view _ _ (pc_H33_32 T) (fun j => cov_H33_32 _)]
  exact (congrArg (GG P R) (show _ = (ix2 (⟨256 + ↑x, by omega⟩ : Fin 512) (⟨3072 + ↑y, by omega⟩ : Fin 4096)) by idx_ext)).trans rfl

theorem t_v1588 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1588 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨3328 + ↑y, by omega⟩ := by
  unfold kernelRun.sl.v1588
  rw [rb (GG P R) M33.view _ _ (pc_H33_32 T) (fun j => cov_H33_32 _)]
  exact (congrArg (GG P R) (show _ = (ix2 (⟨256 + ↑x, by omega⟩ : Fin 512) (⟨3328 + ↑y, by omega⟩ : Fin 4096)) by idx_ext)).trans rfl

theorem t_v1604 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1604 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨3584 + ↑y, by omega⟩ := by
  unfold kernelRun.sl.v1604
  rw [rb (GG P R) M33.view _ _ (pc_H33_32 T) (fun j => cov_H33_32 _)]
  exact (congrArg (GG P R) (show _ = (ix2 (⟨256 + ↑x, by omega⟩ : Fin 512) (⟨3584 + ↑y, by omega⟩ : Fin 4096)) by idx_ext)).trans rfl

theorem t_v1620 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1620 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = G P (R ⟨256 + ↑x, by omega⟩) ⟨3840 + ↑y, by omega⟩ := by
  unfold kernelRun.sl.v1620
  rw [rb (GG P R) M33.view _ _ (pc_H33_32 T) (fun j => cov_H33_32 _)]
  exact (congrArg (GG P R) (show _ = (ix2 (⟨256 + ↑x, by omega⟩ : Fin 512) (⟨3840 + ↑y, by omega⟩ : Fin 4096)) by idx_ext)).trans rfl

end Cert.Proof.KI

end

end
-- ==== Proof.ValC2.lean ====
/-
  The up projection's scaled gelu and its running maximum: the rows of the second half.
-/
module

public import proofs.«01_k».proof.Proof.ValC1
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_r_4 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.r_4 c i M1 M2 M3 M4 M5 M6 M7 M8 M9 M10 M11 M12 M26 M27 M29 M30 M32 f1 f2 f3 f4 f5 f6 f7 f8 f9 f10 f11 f12 f26 f27 f29 : S256x1.Idx → EReal) (ix2 x 0) = runmax (G P (R ⟨256 + ↑x, by omega⟩)) 16 := by
  pointwise [kernelRun.sl.r_4, Gen.k0_pay166, t_g15 T, t_v994 T]
  generalize G P (R ⟨256 + ↑x, by omega⟩) = v
  exact runmax_next v 15 3840 rfl (by norm_num)

end Cert.Proof.KI

end

end
-- ==== Proof.ValG.lean ====
/-
  The second scale.
-/
module

public import proofs.«01_k».proof.Proof.ValC0
public import proofs.«01_k».proof.Proof.ValC2
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem m_v597 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v597 c i M1 M2 M3 M4 M5 M6 M7 M8 M9 M10 M11 M12 M26 M27 M29 M30 M32 f1 f2 f3 f4 f5 f6 f7 f8 f9 f10 f11 f12 f26 f27 f29 : S256x1.Idx → EReal) (ix2 x 0) = Model.GA P (R ⟨↑x, by omega⟩) := (t_v597 T x).trans (runmax_16 _)

theorem t_r_5 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.r_5 c i M1 M2 M3 M4 M5 M6 M7 M8 M9 M10 M11 M12 M26 M27 M29 M30 M32 f1 f2 f3 f4 f5 f6 f7 f8 f9 f10 f11 f12 f26 f27 f29 : S256x1.Idx → EReal) (ix2 x 0) = GS P (R ⟨↑x, by omega⟩) := by
  pointwise [kernelRun.sl.r_5, Gen.k0_pay168, View.readAt_apply, m_v597 T]
  all_goals rfl

theorem t_v1035 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.v1035 c i M1 M2 M3 M4 M5 M6 M7 M8 M9 M10 M11 M12 M26 M27 M29 M30 M32 f1 f2 f3 f4 f5 f6 f7 f8 f9 f10 f11 f12 f26 f27 f29 : S256x1.Idx → EReal) (ix2 x 0) = Ideal.div rt (GS P (R ⟨↑x, by omega⟩)) := by
  pointwise [kernelRun.sl.v1035, kernelRun.sl.v1034, kernelRun.sl.cst_572, View.readAt_apply, t_r_5 T]
  all_goals rfl

theorem m_r_4 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.r_4 c i M1 M2 M3 M4 M5 M6 M7 M8 M9 M10 M11 M12 M26 M27 M29 M30 M32 f1 f2 f3 f4 f5 f6 f7 f8 f9 f10 f11 f12 f26 f27 f29 : S256x1.Idx → EReal) (ix2 x 0) = Model.GA P (R ⟨256 + ↑x, by omega⟩) := (t_r_4 T x).trans (runmax_16 _)

theorem t_r_6 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.r_6 c i M1 M2 M3 M4 M5 M6 M7 M8 M9 M10 M11 M12 M26 M27 M29 M30 M32 f1 f2 f3 f4 f5 f6 f7 f8 f9 f10 f11 f12 f26 f27 f29 : S256x1.Idx → EReal) (ix2 x 0) = GS P (R ⟨256 + ↑x, by omega⟩) := by
  pointwise [kernelRun.sl.r_6, Gen.k0_pay232, View.readAt_apply, m_r_4 T]
  all_goals rfl

theorem t_r_7 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (kernelRun.sl.r_7 c i M1 M2 M3 M4 M5 M6 M7 M8 M9 M10 M11 M12 M26 M27 M29 M30 M32 f1 f2 f3 f4 f5 f6 f7 f8 f9 f10 f11 f12 f26 f27 f29 : S256x1.Idx → EReal) (ix2 x 0) = Ideal.div rt (GS P (R ⟨256 + ↑x, by omega⟩)) := by
  pointwise [kernelRun.sl.r_7, Gen.k0_pay232, Gen.k0_pay234, View.readAt_apply, m_r_4 T]
  all_goals rfl

theorem t_gsrow0 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (Gen.k0_pay169 (kernelRun.sl.v597 c i M1 M2 M3 M4 M5 M6 M7 M8 M9 M10 M11 M12 M26 M27 M29 M30 M32 f1 f2 f3 f4 f5 f6 f7 f8 f9 f10 f11 f12 f26 f27 f29) : S1x256.Idx → EReal) (ix2 0 x) = GS P (R ⟨↑x, by omega⟩) := by
  pointwise [Gen.k0_pay168, Gen.k0_pay169, View.readAt_apply, m_v597 T]
  all_goals rfl

theorem t_gsrow256 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) :
    (Gen.k0_pay233 (kernelRun.sl.r_4 c i M1 M2 M3 M4 M5 M6 M7 M8 M9 M10 M11 M12 M26 M27 M29 M30 M32 f1 f2 f3 f4 f5 f6 f7 f8 f9 f10 f11 f12 f26 f27 f29) : S1x256.Idx → EReal) (ix2 0 x) = GS P (R ⟨256 + ↑x, by omega⟩) := by
  pointwise [Gen.k0_pay232, Gen.k0_pay233, View.readAt_apply, m_r_4 T]
  all_goals rfl

end Cert.Proof.KI

end

end
-- ==== Proof.ValE0.lean ====
/-
  The second quantization: the rows of the first half.
-/
module

public import proofs.«01_k».proof.Proof.ValD
public import proofs.«01_k».proof.Proof.ValG
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v1051 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1051 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨↑y, by omega⟩ := by
  pointwise [kernelRun.sl.v1051, kernelRun.sl.v1048, kernelRun.sl.v1043, kernelRun.sl.v1042, kernelRun.sl.cst_122, kernelRun.sl.v1041, kernelRun.sl.v1040, kernelRun.sl.cst_125, kernelRun.sl.v1039, kernelRun.sl.v1038, kernelRun.sl.v1037, View.readAt_apply, t_v1036 T, t_v1035 T]
  all_goals rfl

theorem t_v1047 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1047 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨↑y, by omega⟩) := by
  pointwise [kernelRun.sl.v1047, kernelRun.sl.v1044, kernelRun.sl.v1043, kernelRun.sl.v1042, kernelRun.sl.cst_122, kernelRun.sl.v1041, kernelRun.sl.v1040, kernelRun.sl.cst_125, kernelRun.sl.v1039, kernelRun.sl.v1038, kernelRun.sl.v1037, View.readAt_apply, t_v1036 T, t_v1035 T]
  all_goals rfl

theorem t_v1067 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1067 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨256 + ↑y, by omega⟩ := by
  pointwise [kernelRun.sl.v1067, kernelRun.sl.v1064, kernelRun.sl.v1059, kernelRun.sl.v1057, kernelRun.sl.v1055, kernelRun.sl.v1054, kernelRun.sl.v1037, kernelRun.sl.v1040, kernelRun.sl.cst_125, kernelRun.sl.v1042, kernelRun.sl.cst_122, View.readAt_apply, t_v1052 T, t_v1035 T]
  all_goals rfl

theorem t_v1063 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1063 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨256 + ↑y, by omega⟩) := by
  pointwise [kernelRun.sl.v1063, kernelRun.sl.v1060, kernelRun.sl.v1059, kernelRun.sl.v1057, kernelRun.sl.v1055, kernelRun.sl.v1054, kernelRun.sl.v1037, kernelRun.sl.v1040, kernelRun.sl.cst_125, kernelRun.sl.v1042, kernelRun.sl.cst_122, View.readAt_apply, t_v1052 T, t_v1035 T]
  all_goals rfl

theorem t_v1083 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1083 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨512 + ↑y, by omega⟩ := by
  pointwise [kernelRun.sl.v1083, kernelRun.sl.v1080, kernelRun.sl.v1075, kernelRun.sl.v1073, kernelRun.sl.v1040, kernelRun.sl.cst_125, kernelRun.sl.v1071, kernelRun.sl.v1070, kernelRun.sl.v1037, kernelRun.sl.v1042, kernelRun.sl.cst_122, View.readAt_apply, t_v1068 T, t_v1035 T]
  all_goals rfl

theorem t_v1079 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1079 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨512 + ↑y, by omega⟩) := by
  pointwise [kernelRun.sl.v1079, kernelRun.sl.v1076, kernelRun.sl.v1075, kernelRun.sl.v1073, kernelRun.sl.v1040, kernelRun.sl.cst_125, kernelRun.sl.v1071, kernelRun.sl.v1070, kernelRun.sl.v1037, kernelRun.sl.v1042, kernelRun.sl.cst_122, View.readAt_apply, t_v1068 T, t_v1035 T]
  all_goals rfl

theorem t_v1099 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1099 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨768 + ↑y, by omega⟩ := by
  pointwise [kernelRun.sl.v1099, kernelRun.sl.v1096, kernelRun.sl.v1091, kernelRun.sl.v1089, kernelRun.sl.v1087, kernelRun.sl.v1086, kernelRun.sl.v1037, kernelRun.sl.v1040, kernelRun.sl.cst_125, kernelRun.sl.v1042, kernelRun.sl.cst_122, View.readAt_apply, t_v1084 T, t_v1035 T]
  all_goals rfl

theorem t_v1095 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1095 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨768 + ↑y, by omega⟩) := by
  pointwise [kernelRun.sl.v1095, kernelRun.sl.v1092, kernelRun.sl.v1091, kernelRun.sl.v1089, kernelRun.sl.v1087, kernelRun.sl.v1086, kernelRun.sl.v1037, kernelRun.sl.v1040, kernelRun.sl.cst_125, kernelRun.sl.v1042, kernelRun.sl.cst_122, View.readAt_apply, t_v1084 T, t_v1035 T]
  all_goals rfl

theorem t_v1115 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1115 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨1024 + ↑y, by omega⟩ := by
  pointwise [kernelRun.sl.v1115, kernelRun.sl.v1112, kernelRun.sl.v1107, kernelRun.sl.v1042, kernelRun.sl.cst_122, kernelRun.sl.v1105, kernelRun.sl.v1040, kernelRun.sl.cst_125, kernelRun.sl.v1103, kernelRun.sl.v1102, kernelRun.sl.v1037, View.readAt_apply, t_v1100 T, t_v1035 T]
  all_goals rfl

theorem t_v1111 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1111 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨1024 + ↑y, by omega⟩) := by
  pointwise [kernelRun.sl.v1111, kernelRun.sl.v1108, kernelRun.sl.v1107, kernelRun.sl.v1042, kernelRun.sl.cst_122, kernelRun.sl.v1105, kernelRun.sl.v1040, kernelRun.sl.cst_125, kernelRun.sl.v1103, kernelRun.sl.v1102, kernelRun.sl.v1037, View.readAt_apply, t_v1100 T, t_v1035 T]
  all_goals rfl

theorem t_v1131 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1131 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨1280 + ↑y, by omega⟩ := by
  pointwise [kernelRun.sl.v1131, kernelRun.sl.v1128, kernelRun.sl.v1123, kernelRun.sl.v1042, kernelRun.sl.cst_122, kernelRun.sl.v1121, kernelRun.sl.v1040, kernelRun.sl.cst_125, kernelRun.sl.v1119, kernelRun.sl.v1118, kernelRun.sl.v1037, View.readAt_apply, t_v1116 T, t_v1035 T]
  all_goals rfl

theorem t_v1127 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1127 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨1280 + ↑y, by omega⟩) := by
  pointwise [kernelRun.sl.v1127, kernelRun.sl.v1124, kernelRun.sl.v1123, kernelRun.sl.v1042, kernelRun.sl.cst_122, kernelRun.sl.v1121, kernelRun.sl.v1040, kernelRun.sl.cst_125, kernelRun.sl.v1119, kernelRun.sl.v1118, kernelRun.sl.v1037, View.readAt_apply, t_v1116 T, t_v1035 T]
  all_goals rfl

theorem t_v1147 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1147 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨1536 + ↑y, by omega⟩ := by
  pointwise [kernelRun.sl.v1147, kernelRun.sl.v1144, kernelRun.sl.v1139, kernelRun.sl.v1137, kernelRun.sl.v1040, kernelRun.sl.cst_125, kernelRun.sl.v1135, kernelRun.sl.v1134, kernelRun.sl.v1037, kernelRun.sl.v1042, kernelRun.sl.cst_122, View.readAt_apply, t_v1132 T, t_v1035 T]
  all_goals rfl

theorem t_v1143 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1143 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨1536 + ↑y, by omega⟩) := by
  pointwise [kernelRun.sl.v1143, kernelRun.sl.v1140, kernelRun.sl.v1139, kernelRun.sl.v1137, kernelRun.sl.v1040, kernelRun.sl.cst_125, kernelRun.sl.v1135, kernelRun.sl.v1134, kernelRun.sl.v1037, kernelRun.sl.v1042, kernelRun.sl.cst_122, View.readAt_apply, t_v1132 T, t_v1035 T]
  all_goals rfl

theorem t_v1163 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1163 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨1792 + ↑y, by omega⟩ := by
  pointwise [kernelRun.sl.v1163, kernelRun.sl.v1160, kernelRun.sl.v1155, kernelRun.sl.v1153, kernelRun.sl.v1040, kernelRun.sl.cst_125, kernelRun.sl.v1151, kernelRun.sl.v1150, kernelRun.sl.v1037, kernelRun.sl.v1042, kernelRun.sl.cst_122, View.readAt_apply, t_v1148 T, t_v1035 T]
  all_goals rfl

theorem t_v1159 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1159 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨1792 + ↑y, by omega⟩) := by
  pointwise [kernelRun.sl.v1159, kernelRun.sl.v1156, kernelRun.sl.v1155, kernelRun.sl.v1153, kernelRun.sl.v1040, kernelRun.sl.cst_125, kernelRun.sl.v1151, kernelRun.sl.v1150, kernelRun.sl.v1037, kernelRun.sl.v1042, kernelRun.sl.cst_122, View.readAt_apply, t_v1148 T, t_v1035 T]
  all_goals rfl

theorem t_v1179 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1179 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨2048 + ↑y, by omega⟩ := by
  pointwise [kernelRun.sl.v1179, kernelRun.sl.v1176, kernelRun.sl.v1171, kernelRun.sl.v1169, kernelRun.sl.v1167, kernelRun.sl.v1166, kernelRun.sl.v1037, kernelRun.sl.v1040, kernelRun.sl.cst_125, kernelRun.sl.v1042, kernelRun.sl.cst_122, View.readAt_apply, t_v1164 T, t_v1035 T]
  all_goals rfl

theorem t_v1175 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1175 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨2048 + ↑y, by omega⟩) := by
  pointwise [kernelRun.sl.v1175, kernelRun.sl.v1172, kernelRun.sl.v1171, kernelRun.sl.v1169, kernelRun.sl.v1167, kernelRun.sl.v1166, kernelRun.sl.v1037, kernelRun.sl.v1040, kernelRun.sl.cst_125, kernelRun.sl.v1042, kernelRun.sl.cst_122, View.readAt_apply, t_v1164 T, t_v1035 T]
  all_goals rfl

theorem t_v1195 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1195 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨2304 + ↑y, by omega⟩ := by
  pointwise [kernelRun.sl.v1195, kernelRun.sl.v1192, kernelRun.sl.v1187, kernelRun.sl.v1042, kernelRun.sl.cst_122, kernelRun.sl.v1185, kernelRun.sl.v1040, kernelRun.sl.cst_125, kernelRun.sl.v1183, kernelRun.sl.v1182, kernelRun.sl.v1037, View.readAt_apply, t_v1180 T, t_v1035 T]
  all_goals rfl

theorem t_v1191 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1191 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨2304 + ↑y, by omega⟩) := by
  pointwise [kernelRun.sl.v1191, kernelRun.sl.v1188, kernelRun.sl.v1187, kernelRun.sl.v1042, kernelRun.sl.cst_122, kernelRun.sl.v1185, kernelRun.sl.v1040, kernelRun.sl.cst_125, kernelRun.sl.v1183, kernelRun.sl.v1182, kernelRun.sl.v1037, View.readAt_apply, t_v1180 T, t_v1035 T]
  all_goals rfl

theorem t_v1211 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1211 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨2560 + ↑y, by omega⟩ := by
  pointwise [kernelRun.sl.v1211, kernelRun.sl.v1208, kernelRun.sl.v1203, kernelRun.sl.v1042, kernelRun.sl.cst_122, kernelRun.sl.v1201, kernelRun.sl.v1040, kernelRun.sl.cst_125, kernelRun.sl.v1199, kernelRun.sl.v1198, kernelRun.sl.v1037, View.readAt_apply, t_v1196 T, t_v1035 T]
  all_goals rfl

theorem t_v1207 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1207 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨2560 + ↑y, by omega⟩) := by
  pointwise [kernelRun.sl.v1207, kernelRun.sl.v1204, kernelRun.sl.v1203, kernelRun.sl.v1042, kernelRun.sl.cst_122, kernelRun.sl.v1201, kernelRun.sl.v1040, kernelRun.sl.cst_125, kernelRun.sl.v1199, kernelRun.sl.v1198, kernelRun.sl.v1037, View.readAt_apply, t_v1196 T, t_v1035 T]
  all_goals rfl

theorem t_v1227 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1227 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨2816 + ↑y, by omega⟩ := by
  pointwise [kernelRun.sl.v1227, kernelRun.sl.v1224, kernelRun.sl.v1219, kernelRun.sl.v1042, kernelRun.sl.cst_122, kernelRun.sl.v1217, kernelRun.sl.v1040, kernelRun.sl.cst_125, kernelRun.sl.v1215, kernelRun.sl.v1214, kernelRun.sl.v1037, View.readAt_apply, t_v1212 T, t_v1035 T]
  all_goals rfl

theorem t_v1223 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1223 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨2816 + ↑y, by omega⟩) := by
  pointwise [kernelRun.sl.v1223, kernelRun.sl.v1220, kernelRun.sl.v1219, kernelRun.sl.v1042, kernelRun.sl.cst_122, kernelRun.sl.v1217, kernelRun.sl.v1040, kernelRun.sl.cst_125, kernelRun.sl.v1215, kernelRun.sl.v1214, kernelRun.sl.v1037, View.readAt_apply, t_v1212 T, t_v1035 T]
  all_goals rfl

theorem t_v1243 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1243 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨3072 + ↑y, by omega⟩ := by
  pointwise [kernelRun.sl.v1243, kernelRun.sl.v1240, kernelRun.sl.v1235, kernelRun.sl.v1042, kernelRun.sl.cst_122, kernelRun.sl.v1233, kernelRun.sl.v1040, kernelRun.sl.cst_125, kernelRun.sl.v1231, kernelRun.sl.v1230, kernelRun.sl.v1037, View.readAt_apply, t_v1228 T, t_v1035 T]
  all_goals rfl

theorem t_v1239 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1239 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨3072 + ↑y, by omega⟩) := by
  pointwise [kernelRun.sl.v1239, kernelRun.sl.v1236, kernelRun.sl.v1235, kernelRun.sl.v1042, kernelRun.sl.cst_122, kernelRun.sl.v1233, kernelRun.sl.v1040, kernelRun.sl.cst_125, kernelRun.sl.v1231, kernelRun.sl.v1230, kernelRun.sl.v1037, View.readAt_apply, t_v1228 T, t_v1035 T]
  all_goals rfl

theorem t_v1259 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1259 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨3328 + ↑y, by omega⟩ := by
  pointwise [kernelRun.sl.v1259, kernelRun.sl.v1256, kernelRun.sl.v1251, kernelRun.sl.v1249, kernelRun.sl.v1247, kernelRun.sl.v1246, kernelRun.sl.v1037, kernelRun.sl.v1040, kernelRun.sl.cst_125, kernelRun.sl.v1042, kernelRun.sl.cst_122, View.readAt_apply, t_v1244 T, t_v1035 T]
  all_goals rfl

theorem t_v1255 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1255 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨3328 + ↑y, by omega⟩) := by
  pointwise [kernelRun.sl.v1255, kernelRun.sl.v1252, kernelRun.sl.v1251, kernelRun.sl.v1249, kernelRun.sl.v1247, kernelRun.sl.v1246, kernelRun.sl.v1037, kernelRun.sl.v1040, kernelRun.sl.cst_125, kernelRun.sl.v1042, kernelRun.sl.cst_122, View.readAt_apply, t_v1244 T, t_v1035 T]
  all_goals rfl

theorem t_v1275 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1275 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨3584 + ↑y, by omega⟩ := by
  pointwise [kernelRun.sl.v1275, kernelRun.sl.v1272, kernelRun.sl.v1267, kernelRun.sl.v1265, kernelRun.sl.v1263, kernelRun.sl.v1262, kernelRun.sl.v1037, kernelRun.sl.v1040, kernelRun.sl.cst_125, kernelRun.sl.v1042, kernelRun.sl.cst_122, View.readAt_apply, t_v1260 T, t_v1035 T]
  all_goals rfl

theorem t_v1271 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1271 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨3584 + ↑y, by omega⟩) := by
  pointwise [kernelRun.sl.v1271, kernelRun.sl.v1268, kernelRun.sl.v1267, kernelRun.sl.v1265, kernelRun.sl.v1263, kernelRun.sl.v1262, kernelRun.sl.v1037, kernelRun.sl.v1040, kernelRun.sl.cst_125, kernelRun.sl.v1042, kernelRun.sl.cst_122, View.readAt_apply, t_v1260 T, t_v1035 T]
  all_goals rfl

theorem t_v1291 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1291 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨↑x, by omega⟩) ⟨3840 + ↑y, by omega⟩ := by
  pointwise [kernelRun.sl.v1291, kernelRun.sl.v1288, kernelRun.sl.v1283, kernelRun.sl.v1042, kernelRun.sl.cst_122, kernelRun.sl.v1281, kernelRun.sl.v1040, kernelRun.sl.cst_125, kernelRun.sl.v1279, kernelRun.sl.v1278, kernelRun.sl.v1037, View.readAt_apply, t_v1276 T, t_v1035 T]
  all_goals rfl

theorem t_v1287 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1287 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨↑x, by omega⟩) ⟨3840 + ↑y, by omega⟩) := by
  pointwise [kernelRun.sl.v1287, kernelRun.sl.v1284, kernelRun.sl.v1283, kernelRun.sl.v1042, kernelRun.sl.cst_122, kernelRun.sl.v1281, kernelRun.sl.v1040, kernelRun.sl.cst_125, kernelRun.sl.v1279, kernelRun.sl.v1278, kernelRun.sl.v1037, View.readAt_apply, t_v1276 T, t_v1035 T]
  all_goals rfl

end Cert.Proof.KI

end

end
-- ==== Proof.ValE1.lean ====
/-
  The second quantization: the rows of the second half.
-/
module

public import proofs.«01_k».proof.Proof.ValD
public import proofs.«01_k».proof.Proof.ValG
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v1395 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1395 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨↑y, by omega⟩ := by
  pointwise [kernelRun.sl.v1395, kernelRun.sl.v1392, kernelRun.sl.r_8, Gen.k0_pay232, Gen.k0_pay234, Gen.k0_pay235, View.readAt_apply, t_v1380 T, m_r_4 T]
  all_goals rfl

theorem t_v1391 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1391 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨↑y, by omega⟩) := by
  pointwise [kernelRun.sl.v1391, kernelRun.sl.r_9, Gen.k0_pay232, Gen.k0_pay234, Gen.k0_pay235, Gen.k0_pay236, View.readAt_apply, t_v1380 T, m_r_4 T]
  all_goals rfl

theorem t_v1411 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1411 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨256 + ↑y, by omega⟩ := by
  pointwise [kernelRun.sl.v1411, kernelRun.sl.v1408, kernelRun.sl.v1403, kernelRun.sl.v1401, kernelRun.sl.v1399, kernelRun.sl.v1398, kernelRun.sl.v1397, kernelRun.sl.v1040, kernelRun.sl.cst_125, kernelRun.sl.v1042, kernelRun.sl.cst_122, View.readAt_apply, t_v1396 T, t_r_7 T]
  all_goals rfl

theorem t_v1407 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1407 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨256 + ↑y, by omega⟩) := by
  pointwise [kernelRun.sl.v1407, kernelRun.sl.v1404, kernelRun.sl.v1403, kernelRun.sl.v1401, kernelRun.sl.v1399, kernelRun.sl.v1398, kernelRun.sl.v1397, kernelRun.sl.v1040, kernelRun.sl.cst_125, kernelRun.sl.v1042, kernelRun.sl.cst_122, View.readAt_apply, t_v1396 T, t_r_7 T]
  all_goals rfl

theorem t_v1427 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1427 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨512 + ↑y, by omega⟩ := by
  pointwise [kernelRun.sl.v1427, kernelRun.sl.v1424, kernelRun.sl.v1419, kernelRun.sl.v1417, kernelRun.sl.v1040, kernelRun.sl.cst_125, kernelRun.sl.v1415, kernelRun.sl.v1414, kernelRun.sl.v1397, kernelRun.sl.v1042, kernelRun.sl.cst_122, View.readAt_apply, t_v1412 T, t_r_7 T]
  all_goals rfl

theorem t_v1423 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1423 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨512 + ↑y, by omega⟩) := by
  pointwise [kernelRun.sl.v1423, kernelRun.sl.v1420, kernelRun.sl.v1419, kernelRun.sl.v1417, kernelRun.sl.v1040, kernelRun.sl.cst_125, kernelRun.sl.v1415, kernelRun.sl.v1414, kernelRun.sl.v1397, kernelRun.sl.v1042, kernelRun.sl.cst_122, View.readAt_apply, t_v1412 T, t_r_7 T]
  all_goals rfl

theorem t_v1443 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1443 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨768 + ↑y, by omega⟩ := by
  pointwise [kernelRun.sl.v1443, kernelRun.sl.v1440, kernelRun.sl.v1435, kernelRun.sl.v1433, kernelRun.sl.v1431, kernelRun.sl.v1430, kernelRun.sl.v1397, kernelRun.sl.v1040, kernelRun.sl.cst_125, kernelRun.sl.v1042, kernelRun.sl.cst_122, View.readAt_apply, t_v1428 T, t_r_7 T]
  all_goals rfl

theorem t_v1439 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1439 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨768 + ↑y, by omega⟩) := by
  pointwise [kernelRun.sl.v1439, kernelRun.sl.v1436, kernelRun.sl.v1435, kernelRun.sl.v1433, kernelRun.sl.v1431, kernelRun.sl.v1430, kernelRun.sl.v1397, kernelRun.sl.v1040, kernelRun.sl.cst_125, kernelRun.sl.v1042, kernelRun.sl.cst_122, View.readAt_apply, t_v1428 T, t_r_7 T]
  all_goals rfl

theorem t_v1459 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1459 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨1024 + ↑y, by omega⟩ := by
  pointwise [kernelRun.sl.v1459, kernelRun.sl.v1456, kernelRun.sl.v1451, kernelRun.sl.v1449, kernelRun.sl.v1040, kernelRun.sl.cst_125, kernelRun.sl.v1447, kernelRun.sl.v1446, kernelRun.sl.v1397, kernelRun.sl.v1042, kernelRun.sl.cst_122, View.readAt_apply, t_v1444 T, t_r_7 T]
  all_goals rfl

theorem t_v1455 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1455 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨1024 + ↑y, by omega⟩) := by
  pointwise [kernelRun.sl.v1455, kernelRun.sl.v1452, kernelRun.sl.v1451, kernelRun.sl.v1449, kernelRun.sl.v1040, kernelRun.sl.cst_125, kernelRun.sl.v1447, kernelRun.sl.v1446, kernelRun.sl.v1397, kernelRun.sl.v1042, kernelRun.sl.cst_122, View.readAt_apply, t_v1444 T, t_r_7 T]
  all_goals rfl

theorem t_v1475 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1475 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨1280 + ↑y, by omega⟩ := by
  pointwise [kernelRun.sl.v1475, kernelRun.sl.v1472, kernelRun.sl.v1467, kernelRun.sl.v1042, kernelRun.sl.cst_122, kernelRun.sl.v1465, kernelRun.sl.v1040, kernelRun.sl.cst_125, kernelRun.sl.v1463, kernelRun.sl.v1462, kernelRun.sl.v1397, View.readAt_apply, t_v1460 T, t_r_7 T]
  all_goals rfl

theorem t_v1471 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1471 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨1280 + ↑y, by omega⟩) := by
  pointwise [kernelRun.sl.v1471, kernelRun.sl.v1468, kernelRun.sl.v1467, kernelRun.sl.v1042, kernelRun.sl.cst_122, kernelRun.sl.v1465, kernelRun.sl.v1040, kernelRun.sl.cst_125, kernelRun.sl.v1463, kernelRun.sl.v1462, kernelRun.sl.v1397, View.readAt_apply, t_v1460 T, t_r_7 T]
  all_goals rfl

theorem t_v1491 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1491 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨1536 + ↑y, by omega⟩ := by
  pointwise [kernelRun.sl.v1491, kernelRun.sl.v1488, kernelRun.sl.v1483, kernelRun.sl.v1481, kernelRun.sl.v1479, kernelRun.sl.v1478, kernelRun.sl.v1397, kernelRun.sl.v1040, kernelRun.sl.cst_125, kernelRun.sl.v1042, kernelRun.sl.cst_122, View.readAt_apply, t_v1476 T, t_r_7 T]
  all_goals rfl

theorem t_v1487 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1487 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨1536 + ↑y, by omega⟩) := by
  pointwise [kernelRun.sl.v1487, kernelRun.sl.v1484, kernelRun.sl.v1483, kernelRun.sl.v1481, kernelRun.sl.v1479, kernelRun.sl.v1478, kernelRun.sl.v1397, kernelRun.sl.v1040, kernelRun.sl.cst_125, kernelRun.sl.v1042, kernelRun.sl.cst_122, View.readAt_apply, t_v1476 T, t_r_7 T]
  all_goals rfl

theorem t_v1507 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1507 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨1792 + ↑y, by omega⟩ := by
  pointwise [kernelRun.sl.v1507, kernelRun.sl.v1504, kernelRun.sl.v1499, kernelRun.sl.v1497, kernelRun.sl.v1040, kernelRun.sl.cst_125, kernelRun.sl.v1495, kernelRun.sl.v1494, kernelRun.sl.v1397, kernelRun.sl.v1042, kernelRun.sl.cst_122, View.readAt_apply, t_v1492 T, t_r_7 T]
  all_goals rfl

theorem t_v1503 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1503 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨1792 + ↑y, by omega⟩) := by
  pointwise [kernelRun.sl.v1503, kernelRun.sl.v1500, kernelRun.sl.v1499, kernelRun.sl.v1497, kernelRun.sl.v1040, kernelRun.sl.cst_125, kernelRun.sl.v1495, kernelRun.sl.v1494, kernelRun.sl.v1397, kernelRun.sl.v1042, kernelRun.sl.cst_122, View.readAt_apply, t_v1492 T, t_r_7 T]
  all_goals rfl

theorem t_v1523 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1523 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨2048 + ↑y, by omega⟩ := by
  pointwise [kernelRun.sl.v1523, kernelRun.sl.v1520, kernelRun.sl.v1515, kernelRun.sl.v1042, kernelRun.sl.cst_122, kernelRun.sl.v1513, kernelRun.sl.v1511, kernelRun.sl.v1510, kernelRun.sl.v1397, kernelRun.sl.v1040, kernelRun.sl.cst_125, View.readAt_apply, t_v1508 T, t_r_7 T]
  all_goals rfl

theorem t_v1519 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1519 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨2048 + ↑y, by omega⟩) := by
  pointwise [kernelRun.sl.v1519, kernelRun.sl.v1516, kernelRun.sl.v1515, kernelRun.sl.v1042, kernelRun.sl.cst_122, kernelRun.sl.v1513, kernelRun.sl.v1511, kernelRun.sl.v1510, kernelRun.sl.v1397, kernelRun.sl.v1040, kernelRun.sl.cst_125, View.readAt_apply, t_v1508 T, t_r_7 T]
  all_goals rfl

theorem t_v1539 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1539 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨2304 + ↑y, by omega⟩ := by
  pointwise [kernelRun.sl.v1539, kernelRun.sl.v1536, kernelRun.sl.v1531, kernelRun.sl.v1042, kernelRun.sl.cst_122, kernelRun.sl.v1529, kernelRun.sl.v1040, kernelRun.sl.cst_125, kernelRun.sl.v1527, kernelRun.sl.v1526, kernelRun.sl.v1397, View.readAt_apply, t_v1524 T, t_r_7 T]
  all_goals rfl

theorem t_v1535 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1535 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨2304 + ↑y, by omega⟩) := by
  pointwise [kernelRun.sl.v1535, kernelRun.sl.v1532, kernelRun.sl.v1531, kernelRun.sl.v1042, kernelRun.sl.cst_122, kernelRun.sl.v1529, kernelRun.sl.v1040, kernelRun.sl.cst_125, kernelRun.sl.v1527, kernelRun.sl.v1526, kernelRun.sl.v1397, View.readAt_apply, t_v1524 T, t_r_7 T]
  all_goals rfl

theorem t_v1555 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1555 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨2560 + ↑y, by omega⟩ := by
  pointwise [kernelRun.sl.v1555, kernelRun.sl.v1552, kernelRun.sl.v1547, kernelRun.sl.v1042, kernelRun.sl.cst_122, kernelRun.sl.v1545, kernelRun.sl.v1543, kernelRun.sl.v1542, kernelRun.sl.v1397, kernelRun.sl.v1040, kernelRun.sl.cst_125, View.readAt_apply, t_v1540 T, t_r_7 T]
  all_goals rfl

theorem t_v1551 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1551 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨2560 + ↑y, by omega⟩) := by
  pointwise [kernelRun.sl.v1551, kernelRun.sl.v1548, kernelRun.sl.v1547, kernelRun.sl.v1042, kernelRun.sl.cst_122, kernelRun.sl.v1545, kernelRun.sl.v1543, kernelRun.sl.v1542, kernelRun.sl.v1397, kernelRun.sl.v1040, kernelRun.sl.cst_125, View.readAt_apply, t_v1540 T, t_r_7 T]
  all_goals rfl

theorem t_v1571 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1571 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨2816 + ↑y, by omega⟩ := by
  pointwise [kernelRun.sl.v1571, kernelRun.sl.v1568, kernelRun.sl.v1563, kernelRun.sl.v1561, kernelRun.sl.v1559, kernelRun.sl.v1558, kernelRun.sl.v1397, kernelRun.sl.v1040, kernelRun.sl.cst_125, kernelRun.sl.v1042, kernelRun.sl.cst_122, View.readAt_apply, t_v1556 T, t_r_7 T]
  all_goals rfl

theorem t_v1567 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1567 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨2816 + ↑y, by omega⟩) := by
  pointwise [kernelRun.sl.v1567, kernelRun.sl.v1564, kernelRun.sl.v1563, kernelRun.sl.v1561, kernelRun.sl.v1559, kernelRun.sl.v1558, kernelRun.sl.v1397, kernelRun.sl.v1040, kernelRun.sl.cst_125, kernelRun.sl.v1042, kernelRun.sl.cst_122, View.readAt_apply, t_v1556 T, t_r_7 T]
  all_goals rfl

theorem t_v1587 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1587 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨3072 + ↑y, by omega⟩ := by
  pointwise [kernelRun.sl.v1587, kernelRun.sl.v1584, kernelRun.sl.v1579, kernelRun.sl.v1577, kernelRun.sl.v1040, kernelRun.sl.cst_125, kernelRun.sl.v1575, kernelRun.sl.v1574, kernelRun.sl.v1397, kernelRun.sl.v1042, kernelRun.sl.cst_122, View.readAt_apply, t_v1572 T, t_r_7 T]
  all_goals rfl

theorem t_v1583 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1583 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨3072 + ↑y, by omega⟩) := by
  pointwise [kernelRun.sl.v1583, kernelRun.sl.v1580, kernelRun.sl.v1579, kernelRun.sl.v1577, kernelRun.sl.v1040, kernelRun.sl.cst_125, kernelRun.sl.v1575, kernelRun.sl.v1574, kernelRun.sl.v1397, kernelRun.sl.v1042, kernelRun.sl.cst_122, View.readAt_apply, t_v1572 T, t_r_7 T]
  all_goals rfl

theorem t_v1603 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1603 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨3328 + ↑y, by omega⟩ := by
  pointwise [kernelRun.sl.v1603, kernelRun.sl.v1600, kernelRun.sl.v1595, kernelRun.sl.v1593, kernelRun.sl.v1040, kernelRun.sl.cst_125, kernelRun.sl.v1591, kernelRun.sl.v1590, kernelRun.sl.v1397, kernelRun.sl.v1042, kernelRun.sl.cst_122, View.readAt_apply, t_v1588 T, t_r_7 T]
  all_goals rfl

theorem t_v1599 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1599 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨3328 + ↑y, by omega⟩) := by
  pointwise [kernelRun.sl.v1599, kernelRun.sl.v1596, kernelRun.sl.v1595, kernelRun.sl.v1593, kernelRun.sl.v1040, kernelRun.sl.cst_125, kernelRun.sl.v1591, kernelRun.sl.v1590, kernelRun.sl.v1397, kernelRun.sl.v1042, kernelRun.sl.cst_122, View.readAt_apply, t_v1588 T, t_r_7 T]
  all_goals rfl

theorem t_v1619 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1619 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨3584 + ↑y, by omega⟩ := by
  pointwise [kernelRun.sl.v1619, kernelRun.sl.v1616, kernelRun.sl.v1611, kernelRun.sl.v1609, kernelRun.sl.v1040, kernelRun.sl.cst_125, kernelRun.sl.v1607, kernelRun.sl.v1606, kernelRun.sl.v1397, kernelRun.sl.v1042, kernelRun.sl.cst_122, View.readAt_apply, t_v1604 T, t_r_7 T]
  all_goals rfl

theorem t_v1615 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1615 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨3584 + ↑y, by omega⟩) := by
  pointwise [kernelRun.sl.v1615, kernelRun.sl.v1612, kernelRun.sl.v1611, kernelRun.sl.v1609, kernelRun.sl.v1040, kernelRun.sl.cst_125, kernelRun.sl.v1607, kernelRun.sl.v1606, kernelRun.sl.v1397, kernelRun.sl.v1042, kernelRun.sl.cst_122, View.readAt_apply, t_v1604 T, t_r_7 T]
  all_goals rfl

theorem t_v1635 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1635 c i M1 M2 M3 M4 M5 M6 M7 M8 M9 M10 M11 M12 M26 M27 M29 M30 M32 M33 f1 f2 f3 f4 f5 f6 f7 f8 f9 f10 f11 f12 f26 f27 f29 : S256x256.Idx → EReal) (ix2 x y) = GC P (R ⟨256 + ↑x, by omega⟩) ⟨3840 + ↑y, by omega⟩ := by
  pointwise [kernelRun.sl.v1635, kernelRun.sl.v1632, kernelRun.sl.v1627, kernelRun.sl.v1625, kernelRun.sl.v1040, kernelRun.sl.cst_125, kernelRun.sl.v1623, kernelRun.sl.v1622, kernelRun.sl.v1397, kernelRun.sl.v1042, kernelRun.sl.cst_122, View.readAt_apply, t_v1620 T, t_r_7 T]
  all_goals rfl

theorem t_v1631 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1631 c i M1 M2 M3 M4 M5 M6 M7 M8 M9 M10 M11 M12 M26 M27 M29 M30 M32 M33 f1 f2 f3 f4 f5 f6 f7 f8 f9 f10 f11 f12 f26 f27 f29 : S1x256x256.Idx → BitVec 8) (ix3 0 x y) = Ideal.fptosi 8 (GC P (R ⟨256 + ↑x, by omega⟩) ⟨3840 + ↑y, by omega⟩) := by
  pointwise [kernelRun.sl.v1631, kernelRun.sl.v1628, kernelRun.sl.v1627, kernelRun.sl.v1625, kernelRun.sl.v1040, kernelRun.sl.cst_125, kernelRun.sl.v1623, kernelRun.sl.v1622, kernelRun.sl.v1397, kernelRun.sl.v1042, kernelRun.sl.cst_122, View.readAt_apply, t_v1620 T, t_r_7 T]
  all_goals rfl

end Cert.Proof.KI

end

end
-- ==== Proof.ValH2.lean ====
/-
  The blocks of the results a grid point leaves: the second codes.
-/
module

public import proofs.«01_k».proof.Proof.ValE0
public import proofs.«01_k».proof.Proof.ValE1
public import proofs.«01_k».proof.Proof.Blk
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

set_option maxHeartbeats 4000000 in
theorem pc_H24_32 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (GCB P R) (kernelRun.sl.H24_32 c i M1 M2 M3 M4 M5 M6 M7 M8 M9 M10 M11 M12 M26 M27 M29 M30 M32 M33 f1 f2 f3 f4 f5 f6 f7 f8 f9 f10 f11 f12 f26 f27 f29) := by
  unfold kernelRun.sl.H24_32 kernelRun.sl.H24_30 kernelRun.sl.H24_27 kernelRun.sl.H24_25 kernelRun.sl.H24_23 kernelRun.sl.H24_21 kernelRun.sl.H24_19 kernelRun.sl.H24_16 kernelRun.sl.H24_15 kernelRun.sl.H24_13 kernelRun.sl.H24_11 kernelRun.sl.H24_9 kernelRun.sl.H24_6 kernelRun.sl.H24_4 kernelRun.sl.H24_2
  exact ⟨(fun x => by idx_vars x; obtain rfl : x0 = 0 := Subsingleton.elim _ _; exact (t_v1631 T x1 x2).trans (show GCB P R (ix3 (0 : Fin 1) (⟨256 + ↑x1, by omega⟩ : Fin 512) (⟨3840 + ↑x2, by omega⟩ : Fin 4096)) = _ from congrArg _ (by idx_ext))),
    ⟨(fun x => by idx_vars x; obtain rfl : x0 = 0 := Subsingleton.elim _ _; exact (t_v1615 T x1 x2).trans (show GCB P R (ix3 (0 : Fin 1) (⟨256 + ↑x1, by omega⟩ : Fin 512) (⟨3584 + ↑x2, by omega⟩ : Fin 4096)) = _ from congrArg _ (by idx_ext))),
    ⟨(fun x => by idx_vars x; obtain rfl : x0 = 0 := Subsingleton.elim _ _; exact (t_v1599 T x1 x2).trans (show GCB P R (ix3 (0 : Fin 1) (⟨256 + ↑x1, by omega⟩ : Fin 512) (⟨3328 + ↑x2, by omega⟩ : Fin 4096)) = _ from congrArg _ (by idx_ext))),
    ⟨(fun x => by idx_vars x; obtain rfl : x0 = 0 := Subsingleton.elim _ _; exact (t_v1583 T x1 x2).trans (show GCB P R (ix3 (0 : Fin 1) (⟨256 + ↑x1, by omega⟩ : Fin 512) (⟨3072 + ↑x2, by omega⟩ : Fin 4096)) = _ from congrArg _ (by idx_ext))),
    ⟨(fun x => by idx_vars x; obtain rfl : x0 = 0 := Subsingleton.elim _ _; exact (t_v1567 T x1 x2).trans (show GCB P R (ix3 (0 : Fin 1) (⟨256 + ↑x1, by omega⟩ : Fin 512) (⟨2816 + ↑x2, by omega⟩ : Fin 4096)) = _ from congrArg _ (by idx_ext))),
    ⟨(fun x => by idx_vars x; obtain rfl : x0 = 0 := Subsingleton.elim _ _; exact (t_v1551 T x1 x2).trans (show GCB P R (ix3 (0 : Fin 1) (⟨256 + ↑x1, by omega⟩ : Fin 512) (⟨2560 + ↑x2, by omega⟩ : Fin 4096)) = _ from congrArg _ (by idx_ext))),
    ⟨(fun x => by idx_vars x; obtain rfl : x0 = 0 := Subsingleton.elim _ _; exact (t_v1535 T x1 x2).trans (show GCB P R (ix3 (0 : Fin 1) (⟨256 + ↑x1, by omega⟩ : Fin 512) (⟨2304 + ↑x2, by omega⟩ : Fin 4096)) = _ from congrArg _ (by idx_ext))),
    ⟨(fun x => by idx_vars x; obtain rfl : x0 = 0 := Subsingleton.elim _ _; exact (t_v1519 T x1 x2).trans (show GCB P R (ix3 (0 : Fin 1) (⟨256 + ↑x1, by omega⟩ : Fin 512) (⟨2048 + ↑x2, by omega⟩ : Fin 4096)) = _ from congrArg _ (by idx_ext))),
    ⟨(fun x => by idx_vars x; obtain rfl : x0 = 0 := Subsingleton.elim _ _; exact (t_v1503 T x1 x2).trans (show GCB P R (ix3 (0 : Fin 1) (⟨256 + ↑x1, by omega⟩ : Fin 512) (⟨1792 + ↑x2, by omega⟩ : Fin 4096)) = _ from congrArg _ (by idx_ext))),
    ⟨(fun x => by idx_vars x; obtain rfl : x0 = 0 := Subsingleton.elim _ _; exact (t_v1487 T x1 x2).trans (show GCB P R (ix3 (0 : Fin 1) (⟨256 + ↑x1, by omega⟩ : Fin 512) (⟨1536 + ↑x2, by omega⟩ : Fin 4096)) = _ from congrArg _ (by idx_ext))),
    ⟨(fun x => by idx_vars x; obtain rfl : x0 = 0 := Subsingleton.elim _ _; exact (t_v1471 T x1 x2).trans (show GCB P R (ix3 (0 : Fin 1) (⟨256 + ↑x1, by omega⟩ : Fin 512) (⟨1280 + ↑x2, by omega⟩ : Fin 4096)) = _ from congrArg _ (by idx_ext))),
    ⟨(fun x => by idx_vars x; obtain rfl : x0 = 0 := Subsingleton.elim _ _; exact (t_v1455 T x1 x2).trans (show GCB P R (ix3 (0 : Fin 1) (⟨256 + ↑x1, by omega⟩ : Fin 512) (⟨1024 + ↑x2, by omega⟩ : Fin 4096)) = _ from congrArg _ (by idx_ext))),
    ⟨(fun x => by idx_vars x; obtain rfl : x0 = 0 := Subsingleton.elim _ _; exact (t_v1439 T x1 x2).trans (show GCB P R (ix3 (0 : Fin 1) (⟨256 + ↑x1, by omega⟩ : Fin 512) (⟨768 + ↑x2, by omega⟩ : Fin 4096)) = _ from congrArg _ (by idx_ext))),
    ⟨(fun x => by idx_vars x; obtain rfl : x0 = 0 := Subsingleton.elim _ _; exact (t_v1423 T x1 x2).trans (show GCB P R (ix3 (0 : Fin 1) (⟨256 + ↑x1, by omega⟩ : Fin 512) (⟨512 + ↑x2, by omega⟩ : Fin 4096)) = _ from congrArg _ (by idx_ext))),
    ⟨(fun x => by idx_vars x; obtain rfl : x0 = 0 := Subsingleton.elim _ _; exact (t_v1407 T x1 x2).trans (show GCB P R (ix3 (0 : Fin 1) (⟨256 + ↑x1, by omega⟩ : Fin 512) (⟨256 + ↑x2, by omega⟩ : Fin 4096)) = _ from congrArg _ (by idx_ext))),
    ⟨(fun x => by idx_vars x; obtain rfl : x0 = 0 := Subsingleton.elim _ _; exact (t_v1391 T x1 x2).trans (show GCB P R (ix3 (0 : Fin 1) (⟨256 + ↑x1, by omega⟩ : Fin 512) (⟨↑x2, by omega⟩ : Fin 4096)) = _ from congrArg _ (by idx_ext))),
    ⟨(fun x => by idx_vars x; obtain rfl : x0 = 0 := Subsingleton.elim _ _; exact (t_v1287 T x1 x2).trans (show GCB P R (ix3 (0 : Fin 1) (⟨↑x1, by omega⟩ : Fin 512) (⟨3840 + ↑x2, by omega⟩ : Fin 4096)) = _ from congrArg _ (by idx_ext))),
    ⟨(fun x => by idx_vars x; obtain rfl : x0 = 0 := Subsingleton.elim _ _; exact (t_v1271 T x1 x2).trans (show GCB P R (ix3 (0 : Fin 1) (⟨↑x1, by omega⟩ : Fin 512) (⟨3584 + ↑x2, by omega⟩ : Fin 4096)) = _ from congrArg _ (by idx_ext))),
    ⟨(fun x => by idx_vars x; obtain rfl : x0 = 0 := Subsingleton.elim _ _; exact (t_v1255 T x1 x2).trans (show GCB P R (ix3 (0 : Fin 1) (⟨↑x1, by omega⟩ : Fin 512) (⟨3328 + ↑x2, by omega⟩ : Fin 4096)) = _ from congrArg _ (by idx_ext))),
    ⟨(fun x => by idx_vars x; obtain rfl : x0 = 0 := Subsingleton.elim _ _; exact (t_v1239 T x1 x2).trans (show GCB P R (ix3 (0 : Fin 1) (⟨↑x1, by omega⟩ : Fin 512) (⟨3072 + ↑x2, by omega⟩ : Fin 4096)) = _ from congrArg _ (by idx_ext))),
    ⟨(fun x => by idx_vars x; obtain rfl : x0 = 0 := Subsingleton.elim _ _; exact (t_v1223 T x1 x2).trans (show GCB P R (ix3 (0 : Fin 1) (⟨↑x1, by omega⟩ : Fin 512) (⟨2816 + ↑x2, by omega⟩ : Fin 4096)) = _ from congrArg _ (by idx_ext))),
    ⟨(fun x => by idx_vars x; obtain rfl : x0 = 0 := Subsingleton.elim _ _; exact (t_v1207 T x1 x2).trans (show GCB P R (ix3 (0 : Fin 1) (⟨↑x1, by omega⟩ : Fin 512) (⟨2560 + ↑x2, by omega⟩ : Fin 4096)) = _ from congrArg _ (by idx_ext))),
    ⟨(fun x => by idx_vars x; obtain rfl : x0 = 0 := Subsingleton.elim _ _; exact (t_v1191 T x1 x2).trans (show GCB P R (ix3 (0 : Fin 1) (⟨↑x1, by omega⟩ : Fin 512) (⟨2304 + ↑x2, by omega⟩ : Fin 4096)) = _ from congrArg _ (by idx_ext))),
    ⟨(fun x => by idx_vars x; obtain rfl : x0 = 0 := Subsingleton.elim _ _; exact (t_v1175 T x1 x2).trans (show GCB P R (ix3 (0 : Fin 1) (⟨↑x1, by omega⟩ : Fin 512) (⟨2048 + ↑x2, by omega⟩ : Fin 4096)) = _ from congrArg _ (by idx_ext))),
    ⟨(fun x => by idx_vars x; obtain rfl : x0 = 0 := Subsingleton.elim _ _; exact (t_v1159 T x1 x2).trans (show GCB P R (ix3 (0 : Fin 1) (⟨↑x1, by omega⟩ : Fin 512) (⟨1792 + ↑x2, by omega⟩ : Fin 4096)) = _ from congrArg _ (by idx_ext))),
    ⟨(fun x => by idx_vars x; obtain rfl : x0 = 0 := Subsingleton.elim _ _; exact (t_v1143 T x1 x2).trans (show GCB P R (ix3 (0 : Fin 1) (⟨↑x1, by omega⟩ : Fin 512) (⟨1536 + ↑x2, by omega⟩ : Fin 4096)) = _ from congrArg _ (by idx_ext))),
    ⟨(fun x => by idx_vars x; obtain rfl : x0 = 0 := Subsingleton.elim _ _; exact (t_v1127 T x1 x2).trans (show GCB P R (ix3 (0 : Fin 1) (⟨↑x1, by omega⟩ : Fin 512) (⟨1280 + ↑x2, by omega⟩ : Fin 4096)) = _ from congrArg _ (by idx_ext))),
    ⟨(fun x => by idx_vars x; obtain rfl : x0 = 0 := Subsingleton.elim _ _; exact (t_v1111 T x1 x2).trans (show GCB P R (ix3 (0 : Fin 1) (⟨↑x1, by omega⟩ : Fin 512) (⟨1024 + ↑x2, by omega⟩ : Fin 4096)) = _ from congrArg _ (by idx_ext))),
    ⟨(fun x => by idx_vars x; obtain rfl : x0 = 0 := Subsingleton.elim _ _; exact (t_v1095 T x1 x2).trans (show GCB P R (ix3 (0 : Fin 1) (⟨↑x1, by omega⟩ : Fin 512) (⟨768 + ↑x2, by omega⟩ : Fin 4096)) = _ from congrArg _ (by idx_ext))),
    ⟨(fun x => by idx_vars x; obtain rfl : x0 = 0 := Subsingleton.elim _ _; exact (t_v1079 T x1 x2).trans (show GCB P R (ix3 (0 : Fin 1) (⟨↑x1, by omega⟩ : Fin 512) (⟨512 + ↑x2, by omega⟩ : Fin 4096)) = _ from congrArg _ (by idx_ext))),
    ⟨(fun x => by idx_vars x; obtain rfl : x0 = 0 := Subsingleton.elim _ _; exact (t_v1063 T x1 x2).trans (show GCB P R (ix3 (0 : Fin 1) (⟨↑x1, by omega⟩ : Fin 512) (⟨256 + ↑x2, by omega⟩ : Fin 4096)) = _ from congrArg _ (by idx_ext))),
    ⟨(fun x => by idx_vars x; obtain rfl : x0 = 0 := Subsingleton.elim _ _; exact (t_v1047 T x1 x2).trans (show GCB P R (ix3 (0 : Fin 1) (⟨↑x1, by omega⟩ : Fin 512) (⟨↑x2, by omega⟩ : Fin 4096)) = _ from congrArg _ (by idx_ext))),
    trivial⟩⟩⟩⟩⟩⟩⟩⟩⟩⟩⟩⟩⟩⟩⟩⟩⟩⟩⟩⟩⟩⟩⟩⟩⟩⟩⟩⟩⟩⟩⟩⟩

theorem cov_H24_32 (y : S1x512x4096.Idx) : ∃ p ∈ kernelRun.sl.H24_32 c i M1 M2 M3 M4 M5 M6 M7 M8 M9 M10 M11 M12 M26 M27 M29 M30 M32 M33 f1 f2 f3 f4 f5 f6 f7 f8 f9 f10 f11 f12 f26 f27 f29, y ∈ p.1.set := by
  unfold kernelRun.sl.H24_32 kernelRun.sl.H24_30 kernelRun.sl.H24_27 kernelRun.sl.H24_25 kernelRun.sl.H24_23 kernelRun.sl.H24_21 kernelRun.sl.H24_19 kernelRun.sl.H24_16 kernelRun.sl.H24_15 kernelRun.sl.H24_13 kernelRun.sl.H24_11 kernelRun.sl.H24_9 kernelRun.sl.H24_6 kernelRun.sl.H24_4 kernelRun.sl.H24_2
  exact View.cover_of_tiled (s := S1x512x4096) _ ![1, 256, 256] (by rfl) y

theorem out_24 {M24 : Memref sig .tc .vmem S1x512x4096 .i8} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M24) (y : S1x512x4096.Idx) : View.read (Elt Ideal) M24.view (M24.view.writes (Elt Ideal) f (kernelRun.sl.H24_32 c i M1 M2 M3 M4 M5 M6 M7 M8 M9 M10 M11 M12 M26 M27 M29 M30 M32 M33 f1 f2 f3 f4 f5 f6 f7 f8 f9 f10 f11 f12 f26 f27 f29)) y = GCB P R y :=
  rdw _ _ _ _ (pc_H24_32 T) cov_H24_32 y

end Cert.Proof.KI

end

end
-- ==== Proof.ValK2.lean ====
/-
  The run's results: the second codes.
-/
module

public import proofs.«01_k».proof.Proof.ValH2
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem kr_24 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S1x512x4096.Idx) : View.read (Elt Ideal) M24.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.1 y = GCB P R y := by
  unfold kernelRun
  dsimp only
  exact out_24 T _ y

end Cert.Proof.KI

end

end
-- ==== Proof.ValH3.lean ====
/-
  The blocks of the results a grid point leaves: the second scales.
-/
module

public import proofs.«01_k».proof.Proof.ValG
public import proofs.«01_k».proof.Proof.ValH1
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

set_option maxHeartbeats 4000000 in
theorem pc_H25_2 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (GSB P R) (kernelRun.sl.H25_2 c i M1 M2 M3 M4 M5 M6 M7 M8 M9 M10 M11 M12 M26 M27 M29 M30 M32 f1 f2 f3 f4 f5 f6 f7 f8 f9 f10 f11 f12 f26 f27 f29) := by
  unfold kernelRun.sl.H25_2 kernelRun.sl.H25_1
  exact ⟨(fun x => by idx_vars x; obtain rfl : x0 = 0 := Subsingleton.elim _ _; exact (t_gsrow256 T x1).trans (congrArg (fun k => GS P (R k)) (Fin.ext (show 256 + x1.val = (k0_off3 i 1 + 1 * x1.val : ℕ) by rw [off3_1]; omega)))),
    ⟨(fun x => by idx_vars x; obtain rfl : x0 = 0 := Subsingleton.elim _ _; exact (t_gsrow0 T x1).trans (congrArg (fun k => GS P (R k)) (Fin.ext (show x1.val = (k0_off2 i 1 + 1 * x1.val : ℕ) by rw [off2_1]; omega)))), trivial⟩⟩

theorem out_25 {M25 : Memref sig .tc .vmem S32x512 .f32} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M25) (y : S32x512.Idx) (h : (y 0).val = (i 0).val) : View.read (Elt Ideal) M25.view (M25.view.writes (Elt Ideal) f (kernelRun.sl.H25_2 c i M1 M2 M3 M4 M5 M6 M7 M8 M9 M10 M11 M12 M26 M27 M29 M30 M32 f1 f2 f3 f4 f5 f6 f7 f8 f9 f10 f11 f12 f26 f27 f29)) y = GS P (R (y 1)) :=
  rd1 _ _ (kernelRun.sl.H25_2 c i M1 M2 M3 M4 M5 M6 M7 M8 M9 M10 M11 M12 M26 M27 M29 M30 M32 f1 f2 f3 f4 f5 f6 f7 f8 f9 f10 f11 f12 f26 f27 f29) (GSB P R) (pc_H25_2 T) y (by unfold kernelRun.sl.H25_2 kernelRun.sl.H25_1; exact row_cov i _ _ y h)

theorem out_25_not {M25 : Memref sig .tc .vmem S32x512 .f32} (f : Bf (F := Ideal) c M25) (y : S32x512.Idx) (h : (y 0).val ≠ (i 0).val) : View.read (Elt Ideal) M25.view (M25.view.writes (Elt Ideal) f (kernelRun.sl.H25_2 c i M1 M2 M3 M4 M5 M6 M7 M8 M9 M10 M11 M12 M26 M27 M29 M30 M32 f1 f2 f3 f4 f5 f6 f7 f8 f9 f10 f11 f12 f26 f27 f29)) y = View.read (Elt Ideal) M25.view f y :=
  rdn _ _ (kernelRun.sl.H25_2 c i M1 M2 M3 M4 M5 M6 M7 M8 M9 M10 M11 M12 M26 M27 M29 M30 M32 f1 f2 f3 f4 f5 f6 f7 f8 f9 f10 f11 f12 f26 f27 f29) y (by unfold kernelRun.sl.H25_2 kernelRun.sl.H25_1; exact row_not i _ _ y h)

end Cert.Proof.KI

end

end
-- ==== Proof.ValK3.lean ====
/-
  The run's results: the second scales.
-/
module

public import proofs.«01_k».proof.Proof.ValH3
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem kr_25 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S32x512.Idx) (h : (y 0).val = (i 0).val) : View.read (Elt Ideal) M25.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.2.1 y = GS P (R (y 1)) := by
  unfold kernelRun
  dsimp only
  exact out_25 T f25 y h

theorem kr_25_not {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S32x512.Idx) (h : (y 0).val ≠ (i 0).val) : View.read (Elt Ideal) M25.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.2.2.2.2.1 y = View.read (Elt Ideal) M25.view f25 y := by
  unfold kernelRun
  dsimp only
  exact out_25_not f25 y h

end Cert.Proof.KI

end

end
-- ==== Proof.ValF.lean ====
/-
  The second half's operands read back.
-/
module

public import proofs.«01_k».proof.Proof.ValE0
public import proofs.«01_k».proof.Proof.ValE1
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

/-- The arrays the second half reads back. -/
def GCA (P : Par) (R : Fin 512 → Row) : S512x4096.Idx → EReal := fun y => GC P (R (y 0)) (y 1)
def H1A (P : Par) (R : Fin 512 → Row) : S512x1024.Idx → EReal := fun y => H1 P (R (y 0)) (y 1)
def DA (P : Par) (R : Fin 512 → Row) : S512x1024.Idx → EReal := fun y => D P (R (y 0)) (y 1)

set_option maxHeartbeats 4000000 in
theorem pc_H34_16 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (GCA P R) (kernelRun.sl.H34_16 c i M1 M2 M3 M4 M5 M6 M7 M8 M9 M10 M11 M12 M26 M27 M29 M30 M32 M33 f1 f2 f3 f4 f5 f6 f7 f8 f9 f10 f11 f12 f26 f27 f29) := by
  unfold kernelRun.sl.H34_16 kernelRun.sl.H34_15 kernelRun.sl.H34_13 kernelRun.sl.H34_11 kernelRun.sl.H34_8 kernelRun.sl.H34_6 kernelRun.sl.H34_4 kernelRun.sl.H34_2
  exact ⟨(fun x => by idx_vars x; exact (t_v1291 T x0 x1).trans (show GCA P R (ix2 (⟨↑x0, by omega⟩ : Fin 512) (⟨3840 + ↑x1, by omega⟩ : Fin 4096)) = _ from congrArg _ (by idx_ext))),
    ⟨(fun x => by idx_vars x; exact (t_v1275 T x0 x1).trans (show GCA P R (ix2 (⟨↑x0, by omega⟩ : Fin 512) (⟨3584 + ↑x1, by omega⟩ : Fin 4096)) = _ from congrArg _ (by idx_ext))),
    ⟨(fun x => by idx_vars x; exact (t_v1259 T x0 x1).trans (show GCA P R (ix2 (⟨↑x0, by omega⟩ : Fin 512) (⟨3328 + ↑x1, by omega⟩ : Fin 4096)) = _ from congrArg _ (by idx_ext))),
    ⟨(fun x => by idx_vars x; exact (t_v1243 T x0 x1).trans (show GCA P R (ix2 (⟨↑x0, by omega⟩ : Fin 512) (⟨3072 + ↑x1, by omega⟩ : Fin 4096)) = _ from congrArg _ (by idx_ext))),
    ⟨(fun x => by idx_vars x; exact (t_v1227 T x0 x1).trans (show GCA P R (ix2 (⟨↑x0, by omega⟩ : Fin 512) (⟨2816 + ↑x1, by omega⟩ : Fin 4096)) = _ from congrArg _ (by idx_ext))),
    ⟨(fun x => by idx_vars x; exact (t_v1211 T x0 x1).trans (show GCA P R (ix2 (⟨↑x0, by omega⟩ : Fin 512) (⟨2560 + ↑x1, by omega⟩ : Fin 4096)) = _ from congrArg _ (by idx_ext))),
    ⟨(fun x => by idx_vars x; exact (t_v1195 T x0 x1).trans (show GCA P R (ix2 (⟨↑x0, by omega⟩ : Fin 512) (⟨2304 + ↑x1, by omega⟩ : Fin 4096)) = _ from congrArg _ (by idx_ext))),
    ⟨(fun x => by idx_vars x; exact (t_v1179 T x0 x1).trans (show GCA P R (ix2 (⟨↑x0, by omega⟩ : Fin 512) (⟨2048 + ↑x1, by omega⟩ : Fin 4096)) = _ from congrArg _ (by idx_ext))),
    ⟨(fun x => by idx_vars x; exact (t_v1163 T x0 x1).trans (show GCA P R (ix2 (⟨↑x0, by omega⟩ : Fin 512) (⟨1792 + ↑x1, by omega⟩ : Fin 4096)) = _ from congrArg _ (by idx_ext))),
    ⟨(fun x => by idx_vars x; exact (t_v1147 T x0 x1).trans (show GCA P R (ix2 (⟨↑x0, by omega⟩ : Fin 512) (⟨1536 + ↑x1, by omega⟩ : Fin 4096)) = _ from congrArg _ (by idx_ext))),
    ⟨(fun x => by idx_vars x; exact (t_v1131 T x0 x1).trans (show GCA P R (ix2 (⟨↑x0, by omega⟩ : Fin 512) (⟨1280 + ↑x1, by omega⟩ : Fin 4096)) = _ from congrArg _ (by idx_ext))),
    ⟨(fun x => by idx_vars x; exact (t_v1115 T x0 x1).trans (show GCA P R (ix2 (⟨↑x0, by omega⟩ : Fin 512) (⟨1024 + ↑x1, by omega⟩ : Fin 4096)) = _ from congrArg _ (by idx_ext))),
    ⟨(fun x => by idx_vars x; exact (t_v1099 T x0 x1).trans (show GCA P R (ix2 (⟨↑x0, by omega⟩ : Fin 512) (⟨768 + ↑x1, by omega⟩ : Fin 4096)) = _ from congrArg _ (by idx_ext))),
    ⟨(fun x => by idx_vars x; exact (t_v1083 T x0 x1).trans (show GCA P R (ix2 (⟨↑x0, by omega⟩ : Fin 512) (⟨512 + ↑x1, by omega⟩ : Fin 4096)) = _ from congrArg _ (by idx_ext))),
    ⟨(fun x => by idx_vars x; exact (t_v1067 T x0 x1).trans (show GCA P R (ix2 (⟨↑x0, by omega⟩ : Fin 512) (⟨256 + ↑x1, by omega⟩ : Fin 4096)) = _ from congrArg _ (by idx_ext))),
    ⟨(fun x => by idx_vars x; exact (t_v1051 T x0 x1).trans (show GCA P R (ix2 (⟨↑x0, by omega⟩ : Fin 512) (⟨↑x1, by omega⟩ : Fin 4096)) = _ from congrArg _ (by idx_ext))),
    trivial⟩⟩⟩⟩⟩⟩⟩⟩⟩⟩⟩⟩⟩⟩⟩⟩

set_option maxHeartbeats 4000000 in
theorem pc_H34_32 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (GCA P R) (kernelRun.sl.H34_32 c i M1 M2 M3 M4 M5 M6 M7 M8 M9 M10 M11 M12 M26 M27 M29 M30 M32 M33 f1 f2 f3 f4 f5 f6 f7 f8 f9 f10 f11 f12 f26 f27 f29) := by
  unfold kernelRun.sl.H34_32 kernelRun.sl.H34_29 kernelRun.sl.H34_27 kernelRun.sl.H34_25 kernelRun.sl.H34_23 kernelRun.sl.H34_21 kernelRun.sl.H34_18 kernelRun.sl.H34_16 kernelRun.sl.H34_15 kernelRun.sl.H34_13 kernelRun.sl.H34_11 kernelRun.sl.H34_8 kernelRun.sl.H34_6 kernelRun.sl.H34_4 kernelRun.sl.H34_2
  exact ⟨(fun x => by idx_vars x; exact (t_v1635 T x0 x1).trans (show GCA P R (ix2 (⟨256 + ↑x0, by omega⟩ : Fin 512) (⟨3840 + ↑x1, by omega⟩ : Fin 4096)) = _ from congrArg _ (by idx_ext))),
    ⟨(fun x => by idx_vars x; exact (t_v1619 T x0 x1).trans (show GCA P R (ix2 (⟨256 + ↑x0, by omega⟩ : Fin 512) (⟨3584 + ↑x1, by omega⟩ : Fin 4096)) = _ from congrArg _ (by idx_ext))),
    ⟨(fun x => by idx_vars x; exact (t_v1603 T x0 x1).trans (show GCA P R (ix2 (⟨256 + ↑x0, by omega⟩ : Fin 512) (⟨3328 + ↑x1, by omega⟩ : Fin 4096)) = _ from congrArg _ (by idx_ext))),
    ⟨(fun x => by idx_vars x; exact (t_v1587 T x0 x1).trans (show GCA P R (ix2 (⟨256 + ↑x0, by omega⟩ : Fin 512) (⟨3072 + ↑x1, by omega⟩ : Fin 4096)) = _ from congrArg _ (by idx_ext))),
    ⟨(fun x => by idx_vars x; exact (t_v1571 T x0 x1).trans (show GCA P R (ix2 (⟨256 + ↑x0, by omega⟩ : Fin 512) (⟨2816 + ↑x1, by omega⟩ : Fin 4096)) = _ from congrArg _ (by idx_ext))),
    ⟨(fun x => by idx_vars x; exact (t_v1555 T x0 x1).trans (show GCA P R (ix2 (⟨256 + ↑x0, by omega⟩ : Fin 512) (⟨2560 + ↑x1, by omega⟩ : Fin 4096)) = _ from congrArg _ (by idx_ext))),
    ⟨(fun x => by idx_vars x; exact (t_v1539 T x0 x1).trans (show GCA P R (ix2 (⟨256 + ↑x0, by omega⟩ : Fin 512) (⟨2304 + ↑x1, by omega⟩ : Fin 4096)) = _ from congrArg _ (by idx_ext))),
    ⟨(fun x => by idx_vars x; exact (t_v1523 T x0 x1).trans (show GCA P R (ix2 (⟨256 + ↑x0, by omega⟩ : Fin 512) (⟨2048 + ↑x1, by omega⟩ : Fin 4096)) = _ from congrArg _ (by idx_ext))),
    ⟨(fun x => by idx_vars x; exact (t_v1507 T x0 x1).trans (show GCA P R (ix2 (⟨256 + ↑x0, by omega⟩ : Fin 512) (⟨1792 + ↑x1, by omega⟩ : Fin 4096)) = _ from congrArg _ (by idx_ext))),
    ⟨(fun x => by idx_vars x; exact (t_v1491 T x0 x1).trans (show GCA P R (ix2 (⟨256 + ↑x0, by omega⟩ : Fin 512) (⟨1536 + ↑x1, by omega⟩ : Fin 4096)) = _ from congrArg _ (by idx_ext))),
    ⟨(fun x => by idx_vars x; exact (t_v1475 T x0 x1).trans (show GCA P R (ix2 (⟨256 + ↑x0, by omega⟩ : Fin 512) (⟨1280 + ↑x1, by omega⟩ : Fin 4096)) = _ from congrArg _ (by idx_ext))),
    ⟨(fun x => by idx_vars x; exact (t_v1459 T x0 x1).trans (show GCA P R (ix2 (⟨256 + ↑x0, by omega⟩ : Fin 512) (⟨1024 + ↑x1, by omega⟩ : Fin 4096)) = _ from congrArg _ (by idx_ext))),
    ⟨(fun x => by idx_vars x; exact (t_v1443 T x0 x1).trans (show GCA P R (ix2 (⟨256 + ↑x0, by omega⟩ : Fin 512) (⟨768 + ↑x1, by omega⟩ : Fin 4096)) = _ from congrArg _ (by idx_ext))),
    ⟨(fun x => by idx_vars x; exact (t_v1427 T x0 x1).trans (show GCA P R (ix2 (⟨256 + ↑x0, by omega⟩ : Fin 512) (⟨512 + ↑x1, by omega⟩ : Fin 4096)) = _ from congrArg _ (by idx_ext))),
    ⟨(fun x => by idx_vars x; exact (t_v1411 T x0 x1).trans (show GCA P R (ix2 (⟨256 + ↑x0, by omega⟩ : Fin 512) (⟨256 + ↑x1, by omega⟩ : Fin 4096)) = _ from congrArg _ (by idx_ext))),
    ⟨(fun x => by idx_vars x; exact (t_v1395 T x0 x1).trans (show GCA P R (ix2 (⟨256 + ↑x0, by omega⟩ : Fin 512) (⟨↑x1, by omega⟩ : Fin 4096)) = _ from congrArg _ (by idx_ext))),
    ⟨(fun x => by idx_vars x; exact (t_v1291 T x0 x1).trans (show GCA P R (ix2 (⟨↑x0, by omega⟩ : Fin 512) (⟨3840 + ↑x1, by omega⟩ : Fin 4096)) = _ from congrArg _ (by idx_ext))),
    ⟨(fun x => by idx_vars x; exact (t_v1275 T x0 x1).trans (show GCA P R (ix2 (⟨↑x0, by omega⟩ : Fin 512) (⟨3584 + ↑x1, by omega⟩ : Fin 4096)) = _ from congrArg _ (by idx_ext))),
    ⟨(fun x => by idx_vars x; exact (t_v1259 T x0 x1).trans (show GCA P R (ix2 (⟨↑x0, by omega⟩ : Fin 512) (⟨3328 + ↑x1, by omega⟩ : Fin 4096)) = _ from congrArg _ (by idx_ext))),
    ⟨(fun x => by idx_vars x; exact (t_v1243 T x0 x1).trans (show GCA P R (ix2 (⟨↑x0, by omega⟩ : Fin 512) (⟨3072 + ↑x1, by omega⟩ : Fin 4096)) = _ from congrArg _ (by idx_ext))),
    ⟨(fun x => by idx_vars x; exact (t_v1227 T x0 x1).trans (show GCA P R (ix2 (⟨↑x0, by omega⟩ : Fin 512) (⟨2816 + ↑x1, by omega⟩ : Fin 4096)) = _ from congrArg _ (by idx_ext))),
    ⟨(fun x => by idx_vars x; exact (t_v1211 T x0 x1).trans (show GCA P R (ix2 (⟨↑x0, by omega⟩ : Fin 512) (⟨2560 + ↑x1, by omega⟩ : Fin 4096)) = _ from congrArg _ (by idx_ext))),
    ⟨(fun x => by idx_vars x; exact (t_v1195 T x0 x1).trans (show GCA P R (ix2 (⟨↑x0, by omega⟩ : Fin 512) (⟨2304 + ↑x1, by omega⟩ : Fin 4096)) = _ from congrArg _ (by idx_ext))),
    ⟨(fun x => by idx_vars x; exact (t_v1179 T x0 x1).trans (show GCA P R (ix2 (⟨↑x0, by omega⟩ : Fin 512) (⟨2048 + ↑x1, by omega⟩ : Fin 4096)) = _ from congrArg _ (by idx_ext))),
    ⟨(fun x => by idx_vars x; exact (t_v1163 T x0 x1).trans (show GCA P R (ix2 (⟨↑x0, by omega⟩ : Fin 512) (⟨1792 + ↑x1, by omega⟩ : Fin 4096)) = _ from congrArg _ (by idx_ext))),
    ⟨(fun x => by idx_vars x; exact (t_v1147 T x0 x1).trans (show GCA P R (ix2 (⟨↑x0, by omega⟩ : Fin 512) (⟨1536 + ↑x1, by omega⟩ : Fin 4096)) = _ from congrArg _ (by idx_ext))),
    ⟨(fun x => by idx_vars x; exact (t_v1131 T x0 x1).trans (show GCA P R (ix2 (⟨↑x0, by omega⟩ : Fin 512) (⟨1280 + ↑x1, by omega⟩ : Fin 4096)) = _ from congrArg _ (by idx_ext))),
    ⟨(fun x => by idx_vars x; exact (t_v1115 T x0 x1).trans (show GCA P R (ix2 (⟨↑x0, by omega⟩ : Fin 512) (⟨1024 + ↑x1, by omega⟩ : Fin 4096)) = _ from congrArg _ (by idx_ext))),
    ⟨(fun x => by idx_vars x; exact (t_v1099 T x0 x1).trans (show GCA P R (ix2 (⟨↑x0, by omega⟩ : Fin 512) (⟨768 + ↑x1, by omega⟩ : Fin 4096)) = _ from congrArg _ (by idx_ext))),
    ⟨(fun x => by idx_vars x; exact (t_v1083 T x0 x1).trans (show GCA P R (ix2 (⟨↑x0, by omega⟩ : Fin 512) (⟨512 + ↑x1, by omega⟩ : Fin 4096)) = _ from congrArg _ (by idx_ext))),
    ⟨(fun x => by idx_vars x; exact (t_v1067 T x0 x1).trans (show GCA P R (ix2 (⟨↑x0, by omega⟩ : Fin 512) (⟨256 + ↑x1, by omega⟩ : Fin 4096)) = _ from congrArg _ (by idx_ext))),
    ⟨(fun x => by idx_vars x; exact (t_v1051 T x0 x1).trans (show GCA P R (ix2 (⟨↑x0, by omega⟩ : Fin 512) (⟨↑x1, by omega⟩ : Fin 4096)) = _ from congrArg _ (by idx_ext))),
    trivial⟩⟩⟩⟩⟩⟩⟩⟩⟩⟩⟩⟩⟩⟩⟩⟩⟩⟩⟩⟩⟩⟩⟩⟩⟩⟩⟩⟩⟩⟩⟩⟩

theorem cov_H34_32 (y : S512x4096.Idx) : ∃ p ∈ kernelRun.sl.H34_32 c i M1 M2 M3 M4 M5 M6 M7 M8 M9 M10 M11 M12 M26 M27 M29 M30 M32 M33 f1 f2 f3 f4 f5 f6 f7 f8 f9 f10 f11 f12 f26 f27 f29, y ∈ p.1.set := by
  unfold kernelRun.sl.H34_32 kernelRun.sl.H34_29 kernelRun.sl.H34_27 kernelRun.sl.H34_25 kernelRun.sl.H34_23 kernelRun.sl.H34_21 kernelRun.sl.H34_18 kernelRun.sl.H34_16 kernelRun.sl.H34_15 kernelRun.sl.H34_13 kernelRun.sl.H34_11 kernelRun.sl.H34_8 kernelRun.sl.H34_6 kernelRun.sl.H34_4 kernelRun.sl.H34_2
  exact View.cover_of_tiled (s := S512x4096) _ ![256, 256] (by rfl) y

theorem cov_H34_16 (x : Fin 256) (y : Fin 4096) (z : S512x4096.Idx) (h0 : (z 0).val = x.val) (h1 : (z 1).val = y.val) : ∃ p ∈ kernelRun.sl.H34_16 c i M1 M2 M3 M4 M5 M6 M7 M8 M9 M10 M11 M12 M26 M27 M29 M30 M32 M33 f1 f2 f3 f4 f5 f6 f7 f8 f9 f10 f11 f12 f26 f27 f29, z ∈ p.1.set := by
  unfold kernelRun.sl.H34_16 kernelRun.sl.H34_15 kernelRun.sl.H34_13 kernelRun.sl.H34_11 kernelRun.sl.H34_8 kernelRun.sl.H34_6 kernelRun.sl.H34_4 kernelRun.sl.H34_2
  have hx := x.isLt
  have hy := y.isLt
  rcases (by omega : (0 ≤ y.val ∧ y.val < 256) ∨ (256 ≤ y.val ∧ y.val < 512) ∨ (512 ≤ y.val ∧ y.val < 768) ∨ (768 ≤ y.val ∧ y.val < 1024) ∨ (1024 ≤ y.val ∧ y.val < 1280) ∨ (1280 ≤ y.val ∧ y.val < 1536) ∨ (1536 ≤ y.val ∧ y.val < 1792) ∨ (1792 ≤ y.val ∧ y.val < 2048) ∨ (2048 ≤ y.val ∧ y.val < 2304) ∨ (2304 ≤ y.val ∧ y.val < 2560) ∨ (2560 ≤ y.val ∧ y.val < 2816) ∨ (2816 ≤ y.val ∧ y.val < 3072) ∨ (3072 ≤ y.val ∧ y.val < 3328) ∨ (3328 ≤ y.val ∧ y.val < 3584) ∨ (3584 ≤ y.val ∧ y.val < 3840) ∨ (3840 ≤ y.val ∧ y.val < 4096)) with h | h | h | h | h | h | h | h | h | h | h | h | h | h | h | h
  · refine ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), ?_⟩
    refine (Rect.mem_set_unit (inb := by decide)).mpr ?_
    intro a; fin_cases a <;> simp [h0, h1, S256x256] <;> omega
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_of_mem _ (List.mem_cons_self)))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_of_mem _ (List.mem_cons_self))))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_of_mem _ (List.mem_cons_self)))), (Rect.mem_set_unit (inb := by decide)).mpr (by intro a; fin_cases a <;> simp [h0, h1, S256x256] <;> omega)⟩
  · exact ⟨_, List.mem_cons_of_mem _ (List.mem_cons_of_mem _ (List.mem_cons_of_mem _ (List.mem_cons_self))), (Rect.mem_set_unit (inb := by decide)).mpr (by intro a; fin_cases a <;> simp [h0, h1, S256x256] <;> omega)⟩
  · exact ⟨_, List.mem_cons_of_mem _ (List.mem_cons_of_mem _ (List.mem_cons_self)), (Rect.mem_set_unit (inb := by decide)).mpr (by intro a; fin_cases a <;> simp [h0, h1, S256x256] <;> omega)⟩
  · exact ⟨_, List.mem_cons_of_mem _ (List.mem_cons_self), (Rect.mem_set_unit (inb := by decide)).mpr (by intro a; fin_cases a <;> simp [h0, h1, S256x256] <;> omega)⟩
  · exact ⟨_, List.mem_cons_self, (Rect.mem_set_unit (inb := by decide)).mpr (by intro a; fin_cases a <;> simp [h0, h1, S256x256] <;> omega)⟩

theorem t_v1292 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 4096) :
    (kernelRun.sl.v1292 c i M1 M2 M3 M4 M5 M6 M7 M8 M9 M10 M11 M12 M26 M27 M29 M30 M32 M33 M34 f1 f2 f3 f4 f5 f6 f7 f8 f9 f10 f11 f12 f26 f27 f29 : S256x4096.Idx → EReal) (ix2 x y) = GC P (R ⟨↑x, by omega⟩) y := by
  unfold kernelRun.sl.v1292
  rw [rb (GCA P R) M34.view _ _ (pc_H34_16 T) (fun j => cov_H34_16 (j 0) (j 1) _ (by simp) (by simp))]
  exact (congrArg (GCA P R) (show _ = (ix2 (⟨↑x, by omega⟩ : Fin 512) (⟨↑y, by omega⟩ : Fin 4096)) by idx_ext)).trans rfl

theorem t_v {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 4096) :
    (kernelRun.sl.v c i M1 M2 M3 M4 M5 M6 M7 M8 M9 M10 M11 M12 M26 M27 M29 M30 M32 M33 M34 f1 f2 f3 f4 f5 f6 f7 f8 f9 f10 f11 f12 f26 f27 f29 : S256x4096.Idx → EReal) (ix2 x y) = GC P (R ⟨256 + ↑x, by omega⟩) y := by
  unfold kernelRun.sl.v
  rw [rb (GCA P R) M34.view _ _ (pc_H34_32 T) (fun j => cov_H34_32 _)]
  exact (congrArg (GCA P R) (show _ = (ix2 (⟨256 + ↑x, by omega⟩ : Fin 512) (⟨↑y, by omega⟩ : Fin 4096)) by idx_ext)).trans rfl

set_option maxHeartbeats 4000000 in
theorem pc_H31_2 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (H1A P R) (kernelRun.sl.H31_2 c i M1 M2 M3 M4 M5 M6 M7 M8 M26 M30 f1 f2 f3 f4 f5 f6 f7 f8 f26) := by
  unfold kernelRun.sl.H31_2 kernelRun.sl.H31_1
  exact ⟨(fun x => by idx_vars x; exact (t_v628 T x0 x1).trans (show H1A P R (ix2 (⟨256 + ↑x0, by omega⟩ : Fin 512) (⟨↑x1, by omega⟩ : Fin 1024)) = _ from congrArg _ (by idx_ext))),
    ⟨(fun x => by idx_vars x; exact (t_v209 T x0 x1).trans (show H1A P R (ix2 (⟨↑x0, by omega⟩ : Fin 512) (⟨↑x1, by omega⟩ : Fin 1024)) = _ from congrArg _ (by idx_ext))),
    trivial⟩⟩

theorem cov_H31_2 (y : S512x1024.Idx) : ∃ p ∈ kernelRun.sl.H31_2 c i M1 M2 M3 M4 M5 M6 M7 M8 M26 M30 f1 f2 f3 f4 f5 f6 f7 f8 f26, y ∈ p.1.set := by
  unfold kernelRun.sl.H31_2 kernelRun.sl.H31_1
  exact View.cover_of_tiled (s := S512x1024) _ ![256, 1024] (by rfl) y

theorem t_v1305 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1305 c i M1 M2 M3 M4 M5 M6 M7 M8 M26 M30 M31 f1 f2 f3 f4 f5 f6 f7 f8 f26 : S256x256.Idx → EReal) (ix2 x y) = H1 P (R ⟨↑x, by omega⟩) ⟨↑y, by omega⟩ := by
  unfold kernelRun.sl.v1305
  rw [rb (H1A P R) M31.view _ _ (pc_H31_2 T) (fun j => cov_H31_2 _)]
  exact (congrArg (H1A P R) (show _ = (ix2 (⟨↑x, by omega⟩ : Fin 512) (⟨↑y, by omega⟩ : Fin 1024)) by idx_ext)).trans rfl

theorem t_v1323 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1323 c i M1 M2 M3 M4 M5 M6 M7 M8 M26 M30 M31 f1 f2 f3 f4 f5 f6 f7 f8 f26 : S256x256.Idx → EReal) (ix2 x y) = H1 P (R ⟨↑x, by omega⟩) ⟨256 + ↑y, by omega⟩ := by
  unfold kernelRun.sl.v1323
  rw [rb (H1A P R) M31.view _ _ (pc_H31_2 T) (fun j => cov_H31_2 _)]
  exact (congrArg (H1A P R) (show _ = (ix2 (⟨↑x, by omega⟩ : Fin 512) (⟨256 + ↑y, by omega⟩ : Fin 1024)) by idx_ext)).trans rfl

theorem t_v1341 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1341 c i M1 M2 M3 M4 M5 M6 M7 M8 M26 M30 M31 f1 f2 f3 f4 f5 f6 f7 f8 f26 : S256x256.Idx → EReal) (ix2 x y) = H1 P (R ⟨↑x, by omega⟩) ⟨512 + ↑y, by omega⟩ := by
  unfold kernelRun.sl.v1341
  rw [rb (H1A P R) M31.view _ _ (pc_H31_2 T) (fun j => cov_H31_2 _)]
  exact (congrArg (H1A P R) (show _ = (ix2 (⟨↑x, by omega⟩ : Fin 512) (⟨512 + ↑y, by omega⟩ : Fin 1024)) by idx_ext)).trans rfl

theorem t_v1359 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1359 c i M1 M2 M3 M4 M5 M6 M7 M8 M26 M30 M31 f1 f2 f3 f4 f5 f6 f7 f8 f26 : S256x256.Idx → EReal) (ix2 x y) = H1 P (R ⟨↑x, by omega⟩) ⟨768 + ↑y, by omega⟩ := by
  unfold kernelRun.sl.v1359
  rw [rb (H1A P R) M31.view _ _ (pc_H31_2 T) (fun j => cov_H31_2 _)]
  exact (congrArg (H1A P R) (show _ = (ix2 (⟨↑x, by omega⟩ : Fin 512) (⟨768 + ↑y, by omega⟩ : Fin 1024)) by idx_ext)).trans rfl

theorem t_v1649 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1649 c i M1 M2 M3 M4 M5 M6 M7 M8 M26 M30 M31 f1 f2 f3 f4 f5 f6 f7 f8 f26 : S256x256.Idx → EReal) (ix2 x y) = H1 P (R ⟨256 + ↑x, by omega⟩) ⟨↑y, by omega⟩ := by
  unfold kernelRun.sl.v1649
  rw [rb (H1A P R) M31.view _ _ (pc_H31_2 T) (fun j => cov_H31_2 _)]
  exact (congrArg (H1A P R) (show _ = (ix2 (⟨256 + ↑x, by omega⟩ : Fin 512) (⟨↑y, by omega⟩ : Fin 1024)) by idx_ext)).trans rfl

theorem t_v1667 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1667 c i M1 M2 M3 M4 M5 M6 M7 M8 M26 M30 M31 f1 f2 f3 f4 f5 f6 f7 f8 f26 : S256x256.Idx → EReal) (ix2 x y) = H1 P (R ⟨256 + ↑x, by omega⟩) ⟨256 + ↑y, by omega⟩ := by
  unfold kernelRun.sl.v1667
  rw [rb (H1A P R) M31.view _ _ (pc_H31_2 T) (fun j => cov_H31_2 _)]
  exact (congrArg (H1A P R) (show _ = (ix2 (⟨256 + ↑x, by omega⟩ : Fin 512) (⟨256 + ↑y, by omega⟩ : Fin 1024)) by idx_ext)).trans rfl

theorem t_v1685 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1685 c i M1 M2 M3 M4 M5 M6 M7 M8 M26 M30 M31 f1 f2 f3 f4 f5 f6 f7 f8 f26 : S256x256.Idx → EReal) (ix2 x y) = H1 P (R ⟨256 + ↑x, by omega⟩) ⟨512 + ↑y, by omega⟩ := by
  unfold kernelRun.sl.v1685
  rw [rb (H1A P R) M31.view _ _ (pc_H31_2 T) (fun j => cov_H31_2 _)]
  exact (congrArg (H1A P R) (show _ = (ix2 (⟨256 + ↑x, by omega⟩ : Fin 512) (⟨512 + ↑y, by omega⟩ : Fin 1024)) by idx_ext)).trans rfl

theorem t_v1703 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 256) :
    (kernelRun.sl.v1703 c i M1 M2 M3 M4 M5 M6 M7 M8 M26 M30 M31 f1 f2 f3 f4 f5 f6 f7 f8 f26 : S256x256.Idx → EReal) (ix2 x y) = H1 P (R ⟨256 + ↑x, by omega⟩) ⟨768 + ↑y, by omega⟩ := by
  unfold kernelRun.sl.v1703
  rw [rb (H1A P R) M31.view _ _ (pc_H31_2 T) (fun j => cov_H31_2 _)]
  exact (congrArg (H1A P R) (show _ = (ix2 (⟨256 + ↑x, by omega⟩ : Fin 512) (⟨768 + ↑y, by omega⟩ : Fin 1024)) by idx_ext)).trans rfl

end Cert.Proof.KI

end

end
-- ==== Proof.ValY.lean ====
/-
  The down projection, the second layer norm and the score.
-/
module

public import proofs.«01_k».proof.Proof.ValF
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem t_v1309 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1309 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨↑x, by omega⟩) ⟨↑y, by omega⟩ := by
  pointwise [kernelRun.sl.v1309, kernelRun.sl.v1306, kernelRun.sl.v1304, kernelRun.sl.v1300, kernelRun.sl.v1299, kernelRun.sl.v1298, kernelRun.sl.v1296, kernelRun.sl.v1295, kernelRun.sl.v1294, kernelRun.sl.cst_21, kernelRun.sl.v1293, kernelRun.sl.v1303, kernelRun.sl.v1302, View.readAt_apply, t_r_5 T, t_v1292 T, t_v1305 T, T.wd, T.wsd, T.bd]
  all_goals rfl

theorem t_v1327 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1327 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨↑x, by omega⟩) ⟨256 + ↑y, by omega⟩ := by
  pointwise [kernelRun.sl.v1327, kernelRun.sl.v1324, kernelRun.sl.v1322, kernelRun.sl.v1321, kernelRun.sl.v1320, kernelRun.sl.v1318, kernelRun.sl.v1317, kernelRun.sl.v1316, kernelRun.sl.v1314, kernelRun.sl.v1312, kernelRun.sl.cst_21, kernelRun.sl.v1311, kernelRun.sl.v1295, View.readAt_apply, t_r_5 T, t_v1292 T, t_v1323 T, T.wd, T.wsd, T.bd]
  all_goals rfl

theorem t_v1345 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1345 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨↑x, by omega⟩) ⟨512 + ↑y, by omega⟩ := by
  pointwise [kernelRun.sl.v1345, kernelRun.sl.v1342, kernelRun.sl.v1340, kernelRun.sl.v1339, kernelRun.sl.v1338, kernelRun.sl.v1336, kernelRun.sl.v1335, kernelRun.sl.v1334, kernelRun.sl.v1332, kernelRun.sl.v1330, kernelRun.sl.cst_21, kernelRun.sl.v1329, kernelRun.sl.v1295, View.readAt_apply, t_r_5 T, t_v1292 T, t_v1341 T, T.wd, T.wsd, T.bd]
  all_goals rfl

theorem t_d0_768 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (Gen.k0_pay231 (kernelRun.sl.v1350 c i M1 M2 M3 M4 M5 M6 M7 M8 M9 M10 M11 M12 M13 M26 M27 M28 M29 M30 M32 M33 M34 f1 f2 f3 f4 f5 f6 f7 f8 f9 f10 f11 f12 f13 f26 f27 f28 f29) (View.readAt (Elt Ideal) M14.view (Rect.unit (s := S1x1024) ![0, 768] S1x256.size Gen.inb_S1x1024_S1x256_0_768).toLoadRect f14) (View.readAt (Elt Ideal) M15.view (Rect.unit (s := S1x1024) ![0, 768] S1x256.size Gen.inb_S1x1024_S1x256_0_768).toLoadRect f15) (kernelRun.sl.v1359 c i M1 M2 M3 M4 M5 M6 M7 M8 M26 M30 M31 f1 f2 f3 f4 f5 f6 f7 f8 f26) : S256x256.Idx → EReal) (ix2 x y) = D P (R ⟨↑x, by omega⟩) ⟨768 + ↑y, by omega⟩ := by
  pointwise [kernelRun.sl.v1350, kernelRun.sl.v1295, kernelRun.sl.v1348, kernelRun.sl.cst_21, kernelRun.sl.v1347, Gen.k0_pay231, View.readAt_apply, t_r_5 T, t_v1292 T, t_v1359 T, T.wd, T.wsd, T.bd]
  all_goals rfl

theorem t_v1653 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1653 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨256 + ↑x, by omega⟩) ⟨↑y, by omega⟩ := by
  pointwise [kernelRun.sl.v1653, kernelRun.sl.v1650, kernelRun.sl.v1648, kernelRun.sl.v1303, kernelRun.sl.v1302, kernelRun.sl.v1644, kernelRun.sl.v1640, kernelRun.sl.v1638, kernelRun.sl.cst_21, kernelRun.sl.v1293, kernelRun.sl.v1639, kernelRun.sl.v1299, kernelRun.sl.v1298, View.readAt_apply, t_r_6 T, t_v T, t_v1649 T, T.wd, T.wsd, T.bd]
  all_goals rfl

theorem t_v1671 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1671 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨256 + ↑x, by omega⟩) ⟨256 + ↑y, by omega⟩ := by
  pointwise [kernelRun.sl.v1671, kernelRun.sl.v1668, kernelRun.sl.v1666, kernelRun.sl.v1321, kernelRun.sl.v1320, kernelRun.sl.v1662, kernelRun.sl.v1658, kernelRun.sl.v1639, kernelRun.sl.v1656, kernelRun.sl.cst_21, kernelRun.sl.v1311, kernelRun.sl.v1317, kernelRun.sl.v1316, View.readAt_apply, t_r_6 T, t_v T, t_v1667 T, T.wd, T.wsd, T.bd]
  all_goals rfl

theorem t_v1689 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1689 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨256 + ↑x, by omega⟩) ⟨512 + ↑y, by omega⟩ := by
  pointwise [kernelRun.sl.v1689, kernelRun.sl.v1686, kernelRun.sl.v1684, kernelRun.sl.v1339, kernelRun.sl.v1338, kernelRun.sl.v1680, kernelRun.sl.v1335, kernelRun.sl.v1334, kernelRun.sl.v1676, kernelRun.sl.v1674, kernelRun.sl.cst_21, kernelRun.sl.v1329, kernelRun.sl.v1639, View.readAt_apply, t_r_6 T, t_v T, t_v1685 T, T.wd, T.wsd, T.bd]
  all_goals rfl

theorem t_v1707 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x y : Fin 256) :
    (kernelRun.sl.v1707 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x256.Idx → EReal) (ix2 x y) = D P (R ⟨256 + ↑x, by omega⟩) ⟨768 + ↑y, by omega⟩ := by
  pointwise [kernelRun.sl.v1707, kernelRun.sl.v1704, kernelRun.sl.v1702, kernelRun.sl.v1698, kernelRun.sl.v1697, kernelRun.sl.v1696, kernelRun.sl.v1694, kernelRun.sl.v1692, kernelRun.sl.cst_21, kernelRun.sl.v1347, kernelRun.sl.v1639, kernelRun.sl.v1701, kernelRun.sl.v1700, View.readAt_apply, t_r_6 T, t_v T, t_v1703 T, T.wd, T.wsd, T.bd]
  all_goals rfl

set_option maxHeartbeats 4000000 in
theorem pc_D {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (DA P R) (List.take 8 (kernelRun.sl.H30_16 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29)) := by
  unfold kernelRun.sl.H30_16 kernelRun.sl.H30_15 kernelRun.sl.H30_14 kernelRun.sl.H30_13 kernelRun.sl.H30_12 kernelRun.sl.H30_11 kernelRun.sl.H30_10 kernelRun.sl.H30_9 kernelRun.sl.H30_8 kernelRun.sl.H30_7 kernelRun.sl.H30_6 kernelRun.sl.H30_4 kernelRun.sl.H30_2
  exact ⟨(fun x => by idx_vars x; exact (t_v1707 T x0 x1).trans (show DA P R (ix2 (⟨256 + ↑x0, by omega⟩ : Fin 512) (⟨768 + ↑x1, by omega⟩ : Fin 1024)) = _ from congrArg _ (by idx_ext))),
    ⟨(fun x => by idx_vars x; exact (t_v1689 T x0 x1).trans (show DA P R (ix2 (⟨256 + ↑x0, by omega⟩ : Fin 512) (⟨512 + ↑x1, by omega⟩ : Fin 1024)) = _ from congrArg _ (by idx_ext))),
    ⟨(fun x => by idx_vars x; exact (t_v1671 T x0 x1).trans (show DA P R (ix2 (⟨256 + ↑x0, by omega⟩ : Fin 512) (⟨256 + ↑x1, by omega⟩ : Fin 1024)) = _ from congrArg _ (by idx_ext))),
    ⟨(fun x => by idx_vars x; exact (t_v1653 T x0 x1).trans (show DA P R (ix2 (⟨256 + ↑x0, by omega⟩ : Fin 512) (⟨↑x1, by omega⟩ : Fin 1024)) = _ from congrArg _ (by idx_ext))),
    ⟨(fun x => by idx_vars x; exact (t_d0_768 T x0 x1).trans (show DA P R (ix2 (⟨↑x0, by omega⟩ : Fin 512) (⟨768 + ↑x1, by omega⟩ : Fin 1024)) = _ from congrArg _ (by idx_ext))),
    ⟨(fun x => by idx_vars x; exact (t_v1345 T x0 x1).trans (show DA P R (ix2 (⟨↑x0, by omega⟩ : Fin 512) (⟨512 + ↑x1, by omega⟩ : Fin 1024)) = _ from congrArg _ (by idx_ext))),
    ⟨(fun x => by idx_vars x; exact (t_v1327 T x0 x1).trans (show DA P R (ix2 (⟨↑x0, by omega⟩ : Fin 512) (⟨256 + ↑x1, by omega⟩ : Fin 1024)) = _ from congrArg _ (by idx_ext))),
    ⟨(fun x => by idx_vars x; exact (t_v1309 T x0 x1).trans (show DA P R (ix2 (⟨↑x0, by omega⟩ : Fin 512) (⟨↑x1, by omega⟩ : Fin 1024)) = _ from congrArg _ (by idx_ext))),
    trivial⟩⟩⟩⟩⟩⟩⟩⟩

theorem cov_D (y : S512x1024.Idx) : ∃ p ∈ List.take 8 (kernelRun.sl.H30_16 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29), y ∈ p.1.set := by
  unfold kernelRun.sl.H30_16 kernelRun.sl.H30_15 kernelRun.sl.H30_14 kernelRun.sl.H30_13 kernelRun.sl.H30_12 kernelRun.sl.H30_11 kernelRun.sl.H30_10 kernelRun.sl.H30_9 kernelRun.sl.H30_8 kernelRun.sl.H30_7 kernelRun.sl.H30_6 kernelRun.sl.H30_4 kernelRun.sl.H30_2
  exact View.cover_of_tiled (s := S512x1024) _ ![256, 256] (by rfl) y

/-- A load after stores whose last `n` are blocks of `G` covering it reads `G`. -/
theorem rbTake (n : ℕ) {κ : Kind} {sp : Space} {s : Shape} {e : EltTy} (G : s.Idx → Elt Ideal e) (v : View sig κ sp s e) (L : List (View.Piece (Elt Ideal) s e)) (B : LoadRect s)
    (h : View.PiecesOf G (L.take n)) (hc : ∀ j, ∃ p ∈ L.take n, B.idx j ∈ p.1.set) : v.readCov L B = fun j => G (B.idx j) := by
  rw [View.readCov_eq_canon']
  funext j
  have h2 := View.canon_append_of_piecesOf G (L.drop n) (L.take n) h (B.idx j) (hc j)
  rwa [List.take_append_drop] at h2

theorem t_v1708 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v1708 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x1024.Idx → EReal) (ix2 x y) = D P (R ⟨↑x, by omega⟩) y := by
  unfold kernelRun.sl.v1708
  rw [rbTake 8 (DA P R) M30.view _ _ (pc_D T) (fun j => cov_D _)]
  exact (congrArg (DA P R) (show _ = (ix2 (⟨↑x, by omega⟩ : Fin 512) (⟨↑y, by omega⟩ : Fin 1024)) by idx_ext)).trans rfl

theorem t_v1752 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v1752 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29 : S256x1024.Idx → EReal) (ix2 x y) = D P (R ⟨256 + ↑x, by omega⟩) y := by
  unfold kernelRun.sl.v1752
  rw [rbTake 8 (DA P R) M30.view _ _ (pc_D T) (fun j => cov_D _)]
  exact (congrArg (DA P R) (show _ = (ix2 (⟨256 + ↑x, by omega⟩ : Fin 512) (⟨↑y, by omega⟩ : Fin 1024)) by idx_ext)).trans rfl

theorem t_v1732 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v1732 c i M1 M2 M3 M4 M5 M6 M7 M8 M9 M10 M11 M12 M13 M14 M15 M16 M17 M26 M27 M28 M29 M30 M31 M32 M33 M34 f1 f2 f3 f4 f5 f6 f7 f8 f9 f10 f11 f12 f13 f14 f15 f16 f17 f26 f27 f28 f29 : S256x1024.Idx → EReal) (ix2 x y) = Y P (R ⟨↑x, by omega⟩) y := by
  pointwise [kernelRun.sl.v1732, kernelRun.sl.v1730, kernelRun.sl.v1729, kernelRun.sl.v1710, kernelRun.sl.v1728, kernelRun.sl.v1718, kernelRun.sl.v1717, kernelRun.sl.v1716, kernelRun.sl.v189, kernelRun.sl.cst_111, kernelRun.sl.v1714, kernelRun.sl.v1713, kernelRun.sl.v1727, kernelRun.sl.v1726, kernelRun.sl.v1725, kernelRun.sl.v198, kernelRun.sl.cst_114, kernelRun.sl.v1723, kernelRun.sl.v1721, kernelRun.sl.v1720, kernelRun.sl.v1719, kernelRun.sl.v1731, kernelRun.sl.v1712, View.readAt_apply, t_v1708 T, T.g2, T.b2]
  all_goals rfl

theorem t_v1736 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (kernelRun.sl.v1736 c i M1 M2 M3 M4 M5 M6 M7 M8 M9 M10 M11 M12 M13 M14 M15 M16 M17 M26 M27 M28 M29 M30 M31 M32 M33 M34 f1 f2 f3 f4 f5 f6 f7 f8 f9 f10 f11 f12 f13 f14 f15 f16 f17 f26 f27 f28 f29 : S1x256x1024.Idx → EReal) (ix3 0 x y) = Y P (R ⟨↑x, by omega⟩) y := by
  pointwise [kernelRun.sl.v1736, kernelRun.sl.v1733, View.readAt_apply, t_v1732 T]
  all_goals rfl

theorem t_y1 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (x : Fin 256) (y : Fin 1024) :
    (Gen.k0_pay1 (kernelRun.sl.v1752 c i M1 M2 M3 M4 M5 M6 M7 M8 M9 M10 M11 M12 M13 M14 M15 M26 M27 M28 M29 M30 M31 M32 M33 M34 f1 f2 f3 f4 f5 f6 f7 f8 f9 f10 f11 f12 f13 f14 f15 f26 f27 f28 f29) (View.readAt (Elt Ideal) M16.view (Rect.unit ![0, 0] S1x1024.size Gen.inb_S1x1024_S1x1024_0_0).toLoadRect f16) (View.readAt (Elt Ideal) M17.view (Rect.unit ![0, 0] S1x1024.size Gen.inb_S1x1024_S1x1024_0_0).toLoadRect f17) : S1x256x1024.Idx → EReal) (ix3 0 x y) = Y P (R ⟨256 + ↑x, by omega⟩) y := by
  pointwise [Gen.k0_pay1, View.readAt_apply, t_v1752 T, T.g2, T.b2]
  all_goals rfl

theorem t_v1742 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29)  :
    (kernelRun.sl.v1742 c i M1 M2 M3 M4 M5 M6 M7 M8 M9 M10 M11 M12 M13 M14 M15 M16 M17 M18 M26 M27 M28 M29 M30 M31 M32 M33 M34 f1 f2 f3 f4 f5 f6 f7 f8 f9 f10 f11 f12 f13 f14 f15 f16 f17 f18 f26 f27 f28 f29 : S1x1.Idx → EReal) (ix2 0 0) = SC P (R ⟨0, by omega⟩) := by
  pointwise [kernelRun.sl.v1742, kernelRun.sl.v1741, kernelRun.sl.v1740, kernelRun.sl.v1737, kernelRun.sl.v1739, View.readAt_apply, t_v1732 T, T.wc]
  all_goals rfl

end Cert.Proof.KI

end

end
-- ==== Proof.ValH4.lean ====
/-
  The blocks of the results a grid point leaves: the second layer norm.
-/
module

public import proofs.«01_k».proof.Proof.ValY
public import proofs.«01_k».proof.Proof.Blk
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

set_option maxHeartbeats 4000000 in
theorem pc_H20_2 {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) : View.PiecesOf (YB P R) (kernelRun.sl.H20_2 c i M1 M2 M3 M4 M5 M6 M7 M8 M9 M10 M11 M12 M13 M14 M15 M16 M17 M26 M27 M28 M29 M30 M31 M32 M33 M34 f1 f2 f3 f4 f5 f6 f7 f8 f9 f10 f11 f12 f13 f14 f15 f16 f17 f26 f27 f28 f29) := by
  unfold kernelRun.sl.H20_2
  exact ⟨(fun x => by idx_vars x; obtain rfl : x0 = 0 := Subsingleton.elim _ _; exact (t_y1 T x1 x2).trans (show YB P R (ix3 (0 : Fin 1) (⟨256 + ↑x1, by omega⟩ : Fin 512) (⟨↑x2, by omega⟩ : Fin 1024)) = _ from congrArg _ (by idx_ext))),
    ⟨(fun x => by idx_vars x; obtain rfl : x0 = 0 := Subsingleton.elim _ _; exact (t_v1736 T x1 x2).trans (show YB P R (ix3 (0 : Fin 1) (⟨↑x1, by omega⟩ : Fin 512) (⟨↑x2, by omega⟩ : Fin 1024)) = _ from congrArg _ (by idx_ext))),
    trivial⟩⟩

theorem cov_H20_2 (y : S1x512x1024.Idx) : ∃ p ∈ kernelRun.sl.H20_2 c i M1 M2 M3 M4 M5 M6 M7 M8 M9 M10 M11 M12 M13 M14 M15 M16 M17 M26 M27 M28 M29 M30 M31 M32 M33 M34 f1 f2 f3 f4 f5 f6 f7 f8 f9 f10 f11 f12 f13 f14 f15 f16 f17 f26 f27 f28 f29, y ∈ p.1.set := by
  unfold kernelRun.sl.H20_2
  exact View.cover_of_tiled (s := S1x512x1024) _ ![1, 256, 1024] (by rfl) y

theorem out_20 {M20 : Memref sig .tc .vmem S1x512x1024 .bf16} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M20) (y : S1x512x1024.Idx) : View.read (Elt Ideal) M20.view (M20.view.writes (Elt Ideal) f (kernelRun.sl.H20_2 c i M1 M2 M3 M4 M5 M6 M7 M8 M9 M10 M11 M12 M13 M14 M15 M16 M17 M26 M27 M28 M29 M30 M31 M32 M33 M34 f1 f2 f3 f4 f5 f6 f7 f8 f9 f10 f11 f12 f13 f14 f15 f16 f17 f26 f27 f28 f29)) y = YB P R y :=
  rdw _ _ _ _ (pc_H20_2 T) cov_H20_2 y

end Cert.Proof.KI

end

end
-- ==== Proof.ValK4.lean ====
/-
  The run's results: the second layer norm.
-/
module

public import proofs.«01_k».proof.Proof.ValH4
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem kr_20 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (y : S1x512x1024.Idx) : View.read (Elt Ideal) M20.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.1 y = YB P R y := by
  unfold kernelRun
  dsimp only
  exact out_20 T _ y

end Cert.Proof.KI

end

end
-- ==== Proof.ValH5.lean ====
/-
  The score a grid point leaves.
-/
module

public import proofs.«01_k».proof.Proof.ValH4
public import proofs.«01_k».proof.Proof.ValH0
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem rd21 {M21 : Memref sig .tc .vmem S1x32 .f32} (f : Bf (F := Ideal) c M21) (p : S1x32.Idx → EReal) (b : Fin 32) : View.read (Elt Ideal) M21.view (M21.view.writes (Elt Ideal) f [⟨Rect.unit ![0, 0] S1x32.size Gen.inb_S1x32_S1x32_0_0, p⟩]) (ix2 0 b) = p (ix2 0 b) := by
  have e : (ix2 (0 : Fin 1) b) = (Rect.unit (s := S1x32) ![0, 0] S1x32.size Gen.inb_S1x32_S1x32_0_0).emb (ix2 (0 : Fin 1) b) := by idx_ext
  conv_lhs => rw [e, View.read_writes_cons_emb]

theorem out_21 {M21 : Memref sig .tc .vmem S1x32 .f32} {f21 : Bf (F := Ideal) c M21} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (f : Bf (F := Ideal) c M21) (b : Fin 32) (h : b.val = (i 0).val) : View.read (Elt Ideal) M21.view (M21.view.writes (Elt Ideal) f (kernelRun.sl.H21_1 c i M1 M2 M3 M4 M5 M6 M7 M8 M9 M10 M11 M12 M13 M14 M15 M16 M17 M18 M21 M26 M27 M28 M29 M30 M31 M32 M33 M34 f1 f2 f3 f4 f5 f6 f7 f8 f9 f10 f11 f12 f13 f14 f15 f16 f17 f18 f21 f26 f27 f28 f29)) (ix2 0 b) = SC P (R ⟨0, by omega⟩) := by
  unfold kernelRun.sl.H21_1
  rw [rd21, p297, if_pos h]
  exact t_v1742 T

theorem out_21_not {M21 : Memref sig .tc .vmem S1x32 .f32} {f21 : Bf (F := Ideal) c M21} (f : Bf (F := Ideal) c M21) (b : Fin 32) (h : b.val ≠ (i 0).val) (h0 : (i 0).val ≠ 0) : View.read (Elt Ideal) M21.view (M21.view.writes (Elt Ideal) f (kernelRun.sl.H21_1 c i M1 M2 M3 M4 M5 M6 M7 M8 M9 M10 M11 M12 M13 M14 M15 M16 M17 M18 M21 M26 M27 M28 M29 M30 M31 M32 M33 M34 f1 f2 f3 f4 f5 f6 f7 f8 f9 f10 f11 f12 f13 f14 f15 f16 f17 f18 f21 f26 f27 f28 f29)) (ix2 0 b) = View.read (Elt Ideal) M21.view f21 (ix2 0 b) := by
  unfold kernelRun.sl.H21_1
  rw [rd21, p297, if_neg h]
  unfold kernelRun.sl.v1746
  rw [dif_neg (v2_pos i h0), View.readAt_apply]
  exact congrArg _ (by idx_ext)

end Cert.Proof.KI

end

end
-- ==== Proof.ValK5.lean ====
/-
  The run's results: the score.
-/
module

public import proofs.«01_k».proof.Proof.ValH5
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

theorem kr_21 {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} {P : Par} {R : Fin 512 → Row} (T : Ties P R c i M1 M2 M3 M4 M5 M6 M7 M8 M9 M10 M11 M12 M13 M14 M15 M16 M17 M18 M26 M27 M28 M29 f1 f2 f3 f4 f5 f6 f7 f8 f9 f10 f11 f12 f13 f14 f15 f16 f17 f18 f26 f27 f28 f29) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (b : Fin 32) (h : b.val = (i 0).val) : View.read (Elt Ideal) M21.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.1 (ix2 0 b) = SC P (R ⟨0, by omega⟩) := by
  unfold kernelRun
  dsimp only
  exact out_21 T _ b h

theorem kr_21_not {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32} {f21 : Bf (F := Ideal) c M21} {f23 : Bf (F := Ideal) c M23} {f25 : Bf (F := Ideal) c M25} (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole) (b : Fin 32) (h : b.val ≠ (i 0).val) (h0 : (i 0).val ≠ 0) : View.read (Elt Ideal) M21.view ((kernelRun (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 f1 f2 f3 f4 f5 f6 f7 f8 f9 f10 f11 f12 f13 f14 f15 f16 f17 f18 f21 f23 f25 f26 f27 f28 f29).1).2.2.1 (ix2 0 b) = View.read (Elt Ideal) M21.view f21 (ix2 0 b) := by
  unfold kernelRun
  dsimp only
  exact out_21_not _ b h h0

end Cert.Proof.KI

end

end
-- ==== Proof.ValL.lean ====
/-
  What a grid point's run leaves.
-/
module

public import proofs.«01_k».proof.Proof.Left
public import proofs.«01_k».proof.Proof.OwnsKI
public import proofs.«01_k».proof.Proof.ValT
public import proofs.«01_k».proof.Proof.ValK1
public import proofs.«01_k».proof.Proof.ValK2
public import proofs.«01_k».proof.Proof.ValK3
public import proofs.«01_k».proof.Proof.ValK4
public import proofs.«01_k».proof.Proof.ValK5
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL.Sem

open Cert.Proof.Model

variable {c : Dev nD} {i : grid0.Coords} {M1 : Memref sig .tc .vmem S1x512x1024 .i8} {M2 : Memref sig .tc .vmem S32x512 .f32} {M3 : Memref sig .tc .vmem S1x512x1024 .bf16} {M4 : Memref sig .tc .vmem S1024x1024 .i8} {M5 : Memref sig .tc .vmem S1x1024 .f32} {M6 : Memref sig .tc .vmem S1x1024 .f32} {M7 : Memref sig .tc .vmem S1x1024 .f32} {M8 : Memref sig .tc .vmem S1x1024 .f32} {M9 : Memref sig .tc .vmem S1x1024 .f32} {M10 : Memref sig .tc .vmem S1024x4096 .i8} {M11 : Memref sig .tc .vmem S1x4096 .f32} {M12 : Memref sig .tc .vmem S1x4096 .f32} {M13 : Memref sig .tc .vmem S4096x1024 .i8} {M14 : Memref sig .tc .vmem S1x1024 .f32} {M15 : Memref sig .tc .vmem S1x1024 .f32} {M16 : Memref sig .tc .vmem S1x1024 .f32} {M17 : Memref sig .tc .vmem S1x1024 .f32} {M18 : Memref sig .tc .vmem S1x1024 .f32} {M26 : Memref sig .tc .vmem S1024x1024 .bf16} {M27 : Memref sig .tc .vmem S1024x4096 .bf16} {M28 : Memref sig .tc .vmem S4096x1024 .bf16} {M29 : Memref sig .tc .vmem S8x4096 .f32} {M30 : Memref sig .tc .vmem S512x1024 .f32} {M31 : Memref sig .tc .vmem S512x1024 .f32} {M32 : Memref sig .tc .vmem S512x1024 .bf16} {M33 : Memref sig .tc .vmem S512x4096 .f32} {M34 : Memref sig .tc .vmem S512x4096 .bf16} {f1 : Bf (F := Ideal) c M1} {f2 : Bf (F := Ideal) c M2} {f3 : Bf (F := Ideal) c M3} {f4 : Bf (F := Ideal) c M4} {f5 : Bf (F := Ideal) c M5} {f6 : Bf (F := Ideal) c M6} {f7 : Bf (F := Ideal) c M7} {f8 : Bf (F := Ideal) c M8} {f9 : Bf (F := Ideal) c M9} {f10 : Bf (F := Ideal) c M10} {f11 : Bf (F := Ideal) c M11} {f12 : Bf (F := Ideal) c M12} {f13 : Bf (F := Ideal) c M13} {f14 : Bf (F := Ideal) c M14} {f15 : Bf (F := Ideal) c M15} {f16 : Bf (F := Ideal) c M16} {f17 : Bf (F := Ideal) c M17} {f18 : Bf (F := Ideal) c M18} {f26 : Bf (F := Ideal) c M26} {f27 : Bf (F := Ideal) c M27} {f28 : Bf (F := Ideal) c M28} {f29 : Bf (F := Ideal) c M29}

set_option maxHeartbeats 4000000 in
theorem runW_left {P : Par} {R : Fin 512 → Row} {M19 : Memref sig .tc .vmem S1x512x1024 .bf16} {M20 : Memref sig .tc .vmem S1x512x1024 .bf16} {M21 : Memref sig .tc .vmem S1x32 .f32} {M22 : Memref sig .tc .vmem S1x512x1024 .i8} {M23 : Memref sig .tc .vmem S32x512 .f32} {M24 : Memref sig .tc .vmem S1x512x4096 .i8} {M25 : Memref sig .tc .vmem S32x512 .f32}  (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole) (h13 : M13.IsWhole) (h14 : M14.IsWhole) (h15 : M15.IsWhole) (h16 : M16.IsWhole) (h17 : M17.IsWhole) (h18 : M18.IsWhole) (h19 : M19.IsWhole) (h20 : M20.IsWhole) (h21 : M21.IsWhole) (h22 : M22.IsWhole) (h23 : M23.IsWhole) (h24 : M24.IsWhole) (h25 : M25.IsWhole) (h26 : M26.IsWhole) (h27 : M27.IsWhole) (h28 : M28.IsWhole) (h29 : M29.IsWhole) (h30 : M30.IsWhole) (h31 : M31.IsWhole) (h32 : M32.IsWhole) (h33 : M33.IsWhole) (h34 : M34.IsWhole)
    {X1 : S1x512x1024.Idx → Elt Ideal .i8} {X2 : S32x512.Idx → Elt Ideal .f32} {X3 : S1x512x1024.Idx → Elt Ideal .bf16} {X4 : S1024x1024.Idx → Elt Ideal .i8} {X5 : S1x1024.Idx → Elt Ideal .f32} {X6 : S1x1024.Idx → Elt Ideal .f32} {X7 : S1x1024.Idx → Elt Ideal .f32} {X8 : S1x1024.Idx → Elt Ideal .f32} {X9 : S1x1024.Idx → Elt Ideal .f32} {X10 : S1024x4096.Idx → Elt Ideal .i8} {X11 : S1x4096.Idx → Elt Ideal .f32} {X12 : S1x4096.Idx → Elt Ideal .f32} {X13 : S4096x1024.Idx → Elt Ideal .i8} {X14 : S1x1024.Idx → Elt Ideal .f32} {X15 : S1x1024.Idx → Elt Ideal .f32} {X16 : S1x1024.Idx → Elt Ideal .f32} {X17 : S1x1024.Idx → Elt Ideal .f32} {X18 : S1x1024.Idx → Elt Ideal .f32} {X21 : S1x32.Idx → EReal} {X23 X25 : S32x512.Idx → EReal}
    (b : Blocks P R (i 0) X1 X2 X3 X4 X5 X6 X7 X8 X9 X10 X11 X12 X13 X14 X15 X16 X17 X18)
    (held : (i 0).val ≠ 0 → Held P c M26 M27 M28 M29 f26 f27 f28 f29) :
    Left P R c i M19 M20 M21 M22 M23 M24 M25 M26 M27 M28 M29 X21 X23 X25 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.2.1 (runW (F := Ideal) c i M1 h1 M2 h2 M3 h3 M4 h4 M5 h5 M6 h6 M7 h7 M8 h8 M9 h9 M10 h10 M11 h11 M12 h12 M13 h13 M14 h14 M15 h15 M16 h16 M17 h17 M18 h18 M19 h19 M20 h20 M21 h21 M22 h22 M23 h23 M24 h24 M25 h25 M26 h26 M27 h27 M28 h28 M29 h29 M30 h30 M31 h31 M32 h32 M33 h33 M34 h34 X1 X2 X3 X4 X5 X6 X7 X8 X9 X10 X11 X12 X13 X14 X15 X16 X17 X18 X21 X23 X25 f26 f27 f28 f29).2.2.2.2.2.2.2.2.2.2 := by
  have T := ties_of h1 h2 h3 h4 h5 h6 h7 h8 h9 h10 h11 h12 h13 h14 h15 h16 h17 h18 b held
  unfold runW
  exact {
    o19 := kr_19 T h1 h2 h3 h4 h5 h6 h7 h8 h9 h10 h11 h12 h13 h14 h15 h16 h17 h18 h19 h20 h21 h22 h23 h24 h25 h26 h27 h28 h29 h30 h31 h32 h33 h34
    o20 := kr_20 T h1 h2 h3 h4 h5 h6 h7 h8 h9 h10 h11 h12 h13 h14 h15 h16 h17 h18 h19 h20 h21 h22 h23 h24 h25 h26 h27 h28 h29 h30 h31 h32 h33 h34
    o21 := fun b => ⟨kr_21 T h1 h2 h3 h4 h5 h6 h7 h8 h9 h10 h11 h12 h13 h14 h15 h16 h17 h18 h19 h20 h21 h22 h23 h24 h25 h26 h27 h28 h29 h30 h31 h32 h33 h34 b, fun h h0 => (kr_21_not h1 h2 h3 h4 h5 h6 h7 h8 h9 h10 h11 h12 h13 h14 h15 h16 h17 h18 h19 h20 h21 h22 h23 h24 h25 h26 h27 h28 h29 h30 h31 h32 h33 h34 b h h0).trans (by rw [h21.read_unread])⟩
    o22 := kr_22 T h1 h2 h3 h4 h5 h6 h7 h8 h9 h10 h11 h12 h13 h14 h15 h16 h17 h18 h19 h20 h21 h22 h23 h24 h25 h26 h27 h28 h29 h30 h31 h32 h33 h34
    o23 := fun y => ⟨kr_23 T h1 h2 h3 h4 h5 h6 h7 h8 h9 h10 h11 h12 h13 h14 h15 h16 h17 h18 h19 h20 h21 h22 h23 h24 h25 h26 h27 h28 h29 h30 h31 h32 h33 h34 y, fun h => (kr_23_not h1 h2 h3 h4 h5 h6 h7 h8 h9 h10 h11 h12 h13 h14 h15 h16 h17 h18 h19 h20 h21 h22 h23 h24 h25 h26 h27 h28 h29 h30 h31 h32 h33 h34 y h).trans (by rw [h23.read_unread])⟩
    o24 := kr_24 T h1 h2 h3 h4 h5 h6 h7 h8 h9 h10 h11 h12 h13 h14 h15 h16 h17 h18 h19 h20 h21 h22 h23 h24 h25 h26 h27 h28 h29 h30 h31 h32 h33 h34
    o25 := fun y => ⟨kr_25 T h1 h2 h3 h4 h5 h6 h7 h8 h9 h10 h11 h12 h13 h14 h15 h16 h17 h18 h19 h20 h21 h22 h23 h24 h25 h26 h27 h28 h29 h30 h31 h32 h33 h34 y, fun h => (kr_25_not h1 h2 h3 h4 h5 h6 h7 h8 h9 h10 h11 h12 h13 h14 h15 h16 h17 h18 h19 h20 h21 h22 h23 h24 h25 h26 h27 h28 h29 h30 h31 h32 h33 h34 y h).trans (by rw [h25.read_unread])⟩
    held := kr_held T h1 h2 h3 h4 h5 h6 h7 h8 h9 h10 h11 h12 h13 h14 h15 h16 h17 h18 h19 h20 h21 h22 h23 h24 h25 h26 h27 h28 h29 h30 h31 h32 h33 h34 }

end Cert.Proof.KI

end

end
-- ==== Proof.LeftV.lean ====
/-
  What the body leaves at each point, from the run's value.
-/
module

public import proofs.«01_k».proof.Proof.FrameV
public import proofs.«01_k».proof.Proof.ValL
public import Idealize.ShloMosaic.Lib.Pipeline.ArrRel
public import Idealize.ShloMosaic.Lib.Pipeline.ValueKit
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Model

variable (m : (ℓ : Loc nD τ sig) → Buf (Elt Ideal) ℓ) (ρ : Dev nD → PrngReg)

set_option maxHeartbeats 8000000 in
/-- The body leaves the layer's rows in its blocks at every point. -/
theorem leftAt : LeftAt m := by
  intro c t Y g26 g27 g28 g29 hb hh W hW
  subst hW
  unfold Wt
  exact runW_left (b := hb) (held := hh) ..

end Cert.Proof.KI

end

end
-- ==== Proof.Goal.lean ====
/-
  The seven results as functions of the layer's parameters and rows.
-/
module

public import proofs.«01_k».proof.Proof.Args

@[expose] public section

noncomputable section

namespace Cert.Proof.Model

open Idealize.ShloMosaic

variable (P : Par) (R : Fin 32 → Fin 512 → Row)

/-- Result 0. -/
def h1F : (⟨3, ![32, 512, 1024]⟩ : Shape).Idx → EReal := fun i => H1 P (R (i 0) (i 1)) (i 2)

/-- Result 1. -/
def yF : (⟨3, ![32, 512, 1024]⟩ : Shape).Idx → EReal := fun i => Y P (R (i 0) (i 1)) (i 2)

/-- Result 2. -/
def scoreF : (⟨2, ![1, 32]⟩ : Shape).Idx → EReal := fun i => SC P (R (i 1) 0)

/-- Result 3. -/
def hCodesF : (⟨3, ![32, 512, 1024]⟩ : Shape).Idx → BitVec 8 := fun i => Ideal.fptosi 8 (HC P (R (i 0) (i 1)) (i 2))

/-- Result 4. -/
def hScalesF : (⟨2, ![32, 512]⟩ : Shape).Idx → EReal := fun i => HS P (R (i 0) (i 1))

/-- Result 5. -/
def gCodesF : (⟨3, ![32, 512, 4096]⟩ : Shape).Idx → BitVec 8 := fun i => Ideal.fptosi 8 (GC P (R (i 0) (i 1)) (i 2))

/-- Result 6. -/
def gScalesF : (⟨2, ![32, 512]⟩ : Shape).Idx → EReal := fun i => GS P (R (i 0) (i 1))

theorem parOf_congr {a3 b3 : (⟨1, ![1024]⟩ : Shape).Idx → EReal} {a4 b4 : (⟨2, ![1024, 1024]⟩ : Shape).Idx → BitVec 8} {a5 b5 : (⟨1, ![1024]⟩ : Shape).Idx → EReal} {a6 b6 : (⟨1, ![1024]⟩ : Shape).Idx → EReal} {a7 b7 : (⟨1, ![1024]⟩ : Shape).Idx → EReal} {a8 b8 : (⟨1, ![1024]⟩ : Shape).Idx → EReal} {a9 b9 : (⟨2, ![1024, 4096]⟩ : Shape).Idx → BitVec 8} {a10 b10 : (⟨1, ![4096]⟩ : Shape).Idx → EReal} {a11 b11 : (⟨1, ![4096]⟩ : Shape).Idx → EReal} {a12 b12 : (⟨2, ![4096, 1024]⟩ : Shape).Idx → BitVec 8} {a13 b13 : (⟨1, ![1024]⟩ : Shape).Idx → EReal} {a14 b14 : (⟨1, ![1024]⟩ : Shape).Idx → EReal} {a15 b15 : (⟨1, ![1024]⟩ : Shape).Idx → EReal} {a16 b16 : (⟨1, ![1024]⟩ : Shape).Idx → EReal} {a17 b17 : (⟨1, ![1024]⟩ : Shape).Idx → EReal} (e3 : a3 = b3) (e4 : a4 = b4) (e5 : a5 = b5) (e6 : a6 = b6) (e7 : a7 = b7) (e8 : a8 = b8) (e9 : a9 = b9) (e10 : a10 = b10) (e11 : a11 = b11) (e12 : a12 = b12) (e13 : a13 = b13) (e14 : a14 = b14) (e15 : a15 = b15) (e16 : a16 = b16) (e17 : a17 = b17) :
    parOf a3 a4 a5 a6 a7 a8 a9 a10 a11 a12 a13 a14 a15 a16 a17 = parOf b3 b4 b5 b6 b7 b8 b9 b10 b11 b12 b13 b14 b15 b16 b17 := by
  subst e3 e4 e5 e6 e7 e8 e9 e10 e11 e12 e13 e14 e15 e16 e17
  rfl

theorem rowOf_congr {a0 b0 : (⟨3, ![32, 512, 1024]⟩ : Shape).Idx → BitVec 8} {a1 b1 : (⟨2, ![32, 512]⟩ : Shape).Idx → EReal} {a2 b2 : (⟨3, ![32, 512, 1024]⟩ : Shape).Idx → EReal} (e0 : a0 = b0) (e1 : a1 = b1) (e2 : a2 = b2) : rowOf a0 a1 a2 = rowOf b0 b1 b2 := by
  subst e0 e1 e2
  rfl

end Cert.Proof.Model

end

end
-- ==== Proof.ResK.lean ====
/-
  The kernel's run, its results as the layer of its arguments.
-/
module

public import proofs.«01_k».proof.Proof.ArrV
public import proofs.«01_k».proof.Proof.HostK
public import proofs.«01_k».proof.Proof.LeftV
public import proofs.«01_k».proof.Proof.Goal
public import proofs.«01_k».proof.Proof.FrameV
public import proofs.«01_k».proof.Proof.ValL
public import Idealize.ShloMosaic.Lib.Pipeline.ArrRel
public import Idealize.ShloMosaic.Lib.Pipeline.ValueKit
public import Idealize.ShloMosaic.Lib.Pipeline.ReadBack

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Cert.Proof.Model

variable (m : (ℓ : Loc nD τ sig) → Buf (Elt Ideal) ℓ) (ρ : Dev nD → PrngReg)

/-- The layer's parameters and rows, from the arguments of core `c`. -/
abbrev PA (c : Dev nD) : Par := parOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev RA (c : Dev nD) : Fin 32 → Fin 512 → Row := rowOf (m ((c : Thread nD τ).loc main_arg0)) (m ((c : Thread nD τ).loc main_arg1)) (m ((c : Thread nD τ).loc main_arg2))

theorem RG (c : Dev nD) (b : Fin 32) (r : Fin 512) : RM m c (gp b) r = RA m c b r :=
  (RM_eq m c (gp b) r).trans (congrArg (fun b => RA m c b r) (Fin.ext (coords_val (gp b))))

theorem res_18 {r : PUnit × MemSt nD τ sig (Elt Ideal)} (h : Pipeline.RDat.FramePost cfg0 (rdatV m) (V m) r) (c : Dev nD) :
    (r.2.mem ((c.tc : Thread nD τ).loc main_v12_0) : S32x512x1024.Idx → EReal) = h1F (PA m c) (RA m c) :=
  (arr18 h c).trans (show h1F (PM m c) (fun b r => RM m c (gp b) r) = _ from congrArg₂ h1F (PM_eq m c) (funext fun b => funext fun r => RG m c b r))

theorem res_19 {r : PUnit × MemSt nD τ sig (Elt Ideal)} (h : Pipeline.RDat.FramePost cfg0 (rdatV m) (V m) r) (c : Dev nD) :
    (r.2.mem ((c.tc : Thread nD τ).loc main_v12_1) : S32x512x1024.Idx → EReal) = yF (PA m c) (RA m c) :=
  (arr19 h c).trans (show yF (PM m c) (fun b r => RM m c (gp b) r) = _ from congrArg₂ yF (PM_eq m c) (funext fun b => funext fun r => RG m c b r))

theorem res_20 {r : PUnit × MemSt nD τ sig (Elt Ideal)} (h : Pipeline.RDat.FramePost cfg0 (rdatV m) (V m) r) (c : Dev nD) :
    (r.2.mem ((c.tc : Thread nD τ).loc main_v12_2) : S1x32.Idx → EReal) = scoreF (PA m c) (RA m c) :=
  (arr20 h c).trans (show scoreF (PM m c) (fun b r => RM m c (gp b) r) = _ from congrArg₂ scoreF (PM_eq m c) (funext fun b => funext fun r => RG m c b r))

theorem res_21 {r : PUnit × MemSt nD τ sig (Elt Ideal)} (h : Pipeline.RDat.FramePost cfg0 (rdatV m) (V m) r) (c : Dev nD) :
    (r.2.mem ((c.tc : Thread nD τ).loc main_v12_3) : S32x512x1024.Idx → BitVec 8) = hCodesF (PA m c) (RA m c) :=
  (arr21 h c).trans (show hCodesF (PM m c) (fun b r => RM m c (gp b) r) = _ from congrArg₂ hCodesF (PM_eq m c) (funext fun b => funext fun r => RG m c b r))

theorem res_22 {r : PUnit × MemSt nD τ sig (Elt Ideal)} (h : Pipeline.RDat.FramePost cfg0 (rdatV m) (V m) r) (c : Dev nD) :
    (r.2.mem ((c.tc : Thread nD τ).loc main_v12_4) : S32x512.Idx → EReal) = hScalesF (PA m c) (RA m c) :=
  (arr22 h c).trans (show hScalesF (PM m c) (fun b r => RM m c (gp b) r) = _ from congrArg₂ hScalesF (PM_eq m c) (funext fun b => funext fun r => RG m c b r))

theorem res_23 {r : PUnit × MemSt nD τ sig (Elt Ideal)} (h : Pipeline.RDat.FramePost cfg0 (rdatV m) (V m) r) (c : Dev nD) :
    (r.2.mem ((c.tc : Thread nD τ).loc main_v12_5) : S32x512x4096.Idx → BitVec 8) = gCodesF (PA m c) (RA m c) :=
  (arr23 h c).trans (show gCodesF (PM m c) (fun b r => RM m c (gp b) r) = _ from congrArg₂ gCodesF (PM_eq m c) (funext fun b => funext fun r => RG m c b r))

theorem res_24 {r : PUnit × MemSt nD τ sig (Elt Ideal)} (h : Pipeline.RDat.FramePost cfg0 (rdatV m) (V m) r) (c : Dev nD) :
    (r.2.mem ((c.tc : Thread nD τ).loc main_v12_6) : S32x512.Idx → EReal) = gScalesF (PA m c) (RA m c) :=
  (arr24 h c).trans (show gScalesF (PM m c) (fun b r => RM m c (gp b) r) = _ from congrArg₂ gScalesF (PM_eq m c) (funext fun b => funext fun r => RG m c b r))

set_option maxHeartbeats 4000000 in
/-- The kernel's run: the results, and the arguments as launched. -/
theorem run_results : θ_run defs (onTc (τ := τ) (main (F := Ideal))) ⟨m, fun _ => 0, ρ⟩ (fun r => ∀ c : Dev nD,
      (r.2.mem ((c.tc : Thread nD τ).loc main_v12_0) : S32x512x1024.Idx → EReal) = h1F (PA m c) (RA m c)
      ∧ (r.2.mem ((c.tc : Thread nD τ).loc main_v12_1) : S32x512x1024.Idx → EReal) = yF (PA m c) (RA m c)
      ∧ (r.2.mem ((c.tc : Thread nD τ).loc main_v12_2) : S1x32.Idx → EReal) = scoreF (PA m c) (RA m c)
      ∧ (r.2.mem ((c.tc : Thread nD τ).loc main_v12_3) : S32x512x1024.Idx → BitVec 8) = hCodesF (PA m c) (RA m c)
      ∧ (r.2.mem ((c.tc : Thread nD τ).loc main_v12_4) : S32x512.Idx → EReal) = hScalesF (PA m c) (RA m c)
      ∧ (r.2.mem ((c.tc : Thread nD τ).loc main_v12_5) : S32x512x4096.Idx → BitVec 8) = gCodesF (PA m c) (RA m c)
      ∧ (r.2.mem ((c.tc : Thread nD τ).loc main_v12_6) : S32x512.Idx → EReal) = gScalesF (PA m c) (RA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r hh c => by
    have h := hh.1
    exact ⟨res_18 m h c, res_19 m h c, res_20 m h c, res_21 m h c, res_22 m h c, res_23 m h c, res_24 m h c,
      (h.arr_in c 0 rfl).trans (V_main_arg0 m c),
      (h.arr_in c 1 rfl).trans (V_main_arg1 m c),
      (h.arr_in c 2 rfl).trans (V_main_arg2 m c),
      ((h c).2 main_arg3 (Pipeline.mem_restRefs_of main_arg3 (by decide) (by decide))).trans (V_main_arg3 m c),
      (h.arr_in c 3 rfl).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      (h.arr_in c 9 rfl).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      (h.arr_in c 12 rfl).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) (run_mainV m ρ (leftAt m))

end Cert.Proof.KI

end

end
-- ==== Proof.RefA.lean ====
/-
  The reference's stages, each over any values before it.
-/
module

public import proofs.«01_k».proof.Proof.Gen.ReferenceIdeal.Frame
public import proofs.«01_k».proof.Proof.Model
public import Idealize.ShloMosaic.Lib.Pointwise
public import Idealize.ShloMosaic.Lib.Pipeline.Value

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

/-- The layer norm with its means written as quotients. -/
def lnD (a g b : Fin 1024 → EReal) (j : Fin 1024) : EReal :=
  (a j - Ideal.div (∑ k, a k) (Ideal.ofBits .f32 0x44800000#32)) * Ideal.rsqrt (Ideal.div (∑ k, (a k - Ideal.div (∑ i, a i) (Ideal.ofBits .f32 0x44800000#32)) * (a k - Ideal.div (∑ i, a i) (Ideal.ofBits .f32 0x44800000#32))) (Ideal.ofBits .f32 0x44800000#32) + eps) * g j + b j

theorem lnD_eq (a g b : Fin 1024 → EReal) (j : Fin 1024) : lnD a g b j = ln a g b j := by
  unfold lnD ln
  simp only [div_n1024]

/-- The gelu as the reference writes it. -/
def gl (u : EReal) : EReal := Ideal.ofBits .f32 0x3F000000#32 * u * (1 + Ideal.erf (Ideal.div u ((Real.sqrt 2 : ℝ) : EReal)))

/-- A row's largest magnitude, and its codes: over any values. -/
theorem amx1024 (v : FVec Ideal S16384x1024 .f32) (V : Fin 16384 → Fin 1024 → EReal) (h : ∀ r j, (v : S16384x1024.Idx → EReal) (ix2 r j) = V r j) (r : Fin 16384) :
    (multiReduction (F := Ideal) .maximumf [1] S16384 (absf v) 0xFF800000#32 reduces_S16384x1024_S16384 (.inl rfl) rfl : S16384.Idx → EReal) (ix1 r) = amax (V r) := by
  pointwise [h]
  all_goals rfl

theorem cod1024 (v : FVec Ideal S16384x1024 .f32) (s : FVec Ideal S16384x1 .f32) (r : Fin 16384) (j : Fin 1024) :
    (fptosi 8 (minimumf (broadcast S16384x1024 (Scalar.ofBits (F := Ideal) .f32 0x42FE0000#32)) (maximumf (broadcast S16384x1024 (Scalar.ofBits (F := Ideal) .f32 0xC2FE0000#32)) (roundeven (divf v (broadcastTo S16384x1024 s broadcasts_S16384x1_S16384x1024))))) : S16384x1024.Idx → BitVec 8) (ix2 r j)
      = Ideal.fptosi 8 (code (Ideal.div ((v : S16384x1024.Idx → EReal) (ix2 r j)) ((s : S16384x1.Idx → EReal) (ix2 r 0)))) := by
  pointwise []
  all_goals rfl

/-- A row's largest magnitude, and its codes: over any values. -/
theorem amx4096 (v : FVec Ideal S16384x4096 .f32) (V : Fin 16384 → Fin 4096 → EReal) (h : ∀ r j, (v : S16384x4096.Idx → EReal) (ix2 r j) = V r j) (r : Fin 16384) :
    (multiReduction (F := Ideal) .maximumf [1] S16384 (absf v) 0xFF800000#32 reduces_S16384x4096_S16384 (.inl rfl) rfl : S16384.Idx → EReal) (ix1 r) = amax (V r) := by
  pointwise [h]
  all_goals rfl

theorem cod4096 (v : FVec Ideal S16384x4096 .f32) (s : FVec Ideal S16384x1 .f32) (r : Fin 16384) (j : Fin 4096) :
    (fptosi 8 (minimumf (broadcast S16384x4096 (Scalar.ofBits (F := Ideal) .f32 0x42FE0000#32)) (maximumf (broadcast S16384x4096 (Scalar.ofBits (F := Ideal) .f32 0xC2FE0000#32)) (roundeven (divf v (broadcastTo S16384x4096 s broadcasts_S16384x1_S16384x4096))))) : S16384x4096.Idx → BitVec 8) (ix2 r j)
      = Ideal.fptosi 8 (code (Ideal.div ((v : S16384x4096.Idx → EReal) (ix2 r j)) ((s : S16384x1.Idx → EReal) (ix2 r 0)))) := by
  pointwise []
  all_goals rfl

theorem sel (v : FVec Ideal S16384x1 .f32) (r : Fin 16384) :
    (select (cmpf .ogt v (broadcast S16384x1 (Scalar.ofBits (F := Ideal) .f32 0x00000000#32))) (divf v (broadcast S16384x1 (Scalar.ofBits (F := Ideal) .f32 0x42FE0000#32))) (broadcast S16384x1 (Scalar.ofBits (F := Ideal) .f32 0x3F800000#32)) : S16384x1.Idx → EReal) (ix2 r 0) = scale (v (ix2 r 0)) := by
  pointwise []
  all_goals rfl

theorem colr (v : FVec Ideal S16384 .f32) (r : Fin 16384) :
    (shapeCast S16384x1 v shapeCasts_S16384_S16384x1 : S16384x1.Idx → EReal) (ix2 r 0) = v (ix1 r) := by
  pointwise []

theorem a9 (v23 v25 : FVec Ideal S1x1024 .f32) (v31 : FVec Ideal S16384x1024 .f32) (v36 v37 : FVec Ideal S16384x1 .f32) (v48 : Vec Ideal S1x1024 .f32) (H : Fin 16384 → Fin 1024 → EReal) (h : ∀ r j, ((k0_pay7 (F := Ideal) v23 v25 v31 v36 v37) : S16384x1024.Idx → EReal) (ix2 r j) = H r j) (r : Fin 16384) (j : Fin 1024) :
    ((k0_pay9 (F := Ideal) v23 v25 v31 v36 v37 v48) : S16384x1024.Idx → EReal) (ix2 r j) = Ideal.div (H r j) (v48 (ix2 0 j)) := by
  pointwise [k0_pay9, h]

theorem a10 (v23 v25 : FVec Ideal S1x1024 .f32) (v31 : FVec Ideal S16384x1024 .f32) (v36 v37 : FVec Ideal S16384x1 .f32) (v48 : Vec Ideal S1x1024 .f32) (V : Fin 16384 → Fin 1024 → EReal) (h : ∀ r j, ((k0_pay9 (F := Ideal) v23 v25 v31 v36 v37 v48) : S16384x1024.Idx → EReal) (ix2 r j) = V r j) (r : Fin 16384) :
    ((k0_pay10 (F := Ideal) v23 v25 v31 v36 v37 v48) : S16384x1.Idx → EReal) (ix2 r 0) = scale (amax (V r)) := by
  dsimp only [k0_pay10]
  exact (sel _ r).trans (congrArg scale ((colr _ r).trans (amx1024 _ V h r)))

theorem a11 (v23 v25 : FVec Ideal S1x1024 .f32) (v31 : FVec Ideal S16384x1024 .f32) (v36 v37 : FVec Ideal S16384x1 .f32) (v48 : Vec Ideal S1x1024 .f32) (V : Fin 16384 → Fin 1024 → EReal) (h : ∀ r j, ((k0_pay9 (F := Ideal) v23 v25 v31 v36 v37 v48) : S16384x1024.Idx → EReal) (ix2 r j) = V r j)
    (S : Fin 16384 → EReal) (hS : ∀ r, ((k0_pay10 (F := Ideal) v23 v25 v31 v36 v37 v48) : S16384x1.Idx → EReal) (ix2 r 0) = S r) (r : Fin 16384) (j : Fin 1024) :
    ((k0_pay11 (F := Ideal) v23 v25 v31 v36 v37 v48) : S16384x1024.Idx → BitVec 8) (ix2 r j) = Ideal.fptosi 8 (code (Ideal.div (V r j) (S r))) := by
  dsimp only [k0_pay11]
  refine (cod1024 _ _ r j).trans ?_
  rw [h, hS]

theorem a13 (v60 : FVec Ideal S16384x1 .f32) (v68 : IVec S16384x1024 8) (v71 : Vec Ideal S1024x4096 .i8) (v73 : FVec Ideal S1x4096 .f32) (v74 : Vec Ideal S1x4096 .f32) (S : Fin 16384 → EReal) (hS : ∀ r, (v60 : S16384x1.Idx → EReal) (ix2 r 0) = S r)
    (C : Fin 16384 → Fin 1024 → EReal) (hC : ∀ r k, (FloatOps.sitofp (F := Ideal) FTy.bf16 (v68 (ix2 r k)) : EReal) = C r k) (r : Fin 16384) (j : Fin 4096) :
    ((k0_pay13 (F := Ideal) v60 v68 v71 v73 v74) : S16384x4096.Idx → EReal) (ix2 r j) = gl ((∑ k, C r k * (FloatOps.sitofp (F := Ideal) FTy.bf16 (v71 (ix2 k j)) : EReal)) * S r * v73 (ix2 0 j) + v74 (ix2 0 j)) := by
  pointwise [k0_pay13, hS, hC]
  all_goals rfl

theorem a14 (v60 : FVec Ideal S16384x1 .f32) (v68 : IVec S16384x1024 8) (v71 : Vec Ideal S1024x4096 .i8) (v73 : FVec Ideal S1x4096 .f32) (v74 : Vec Ideal S1x4096 .f32) (V : Fin 16384 → Fin 4096 → EReal) (h : ∀ r j, ((k0_pay13 (F := Ideal) v60 v68 v71 v73 v74) : S16384x4096.Idx → EReal) (ix2 r j) = V r j) (r : Fin 16384) :
    ((k0_pay14 (F := Ideal) v60 v68 v71 v73 v74) : S16384x1.Idx → EReal) (ix2 r 0) = scale (amax (V r)) := by
  dsimp only [k0_pay14]
  exact (sel _ r).trans (congrArg scale ((colr _ r).trans (amx4096 _ V h r)))

theorem a15 (v60 : FVec Ideal S16384x1 .f32) (v68 : IVec S16384x1024 8) (v71 : Vec Ideal S1024x4096 .i8) (v73 : FVec Ideal S1x4096 .f32) (v74 : Vec Ideal S1x4096 .f32) (V : Fin 16384 → Fin 4096 → EReal) (h : ∀ r j, ((k0_pay13 (F := Ideal) v60 v68 v71 v73 v74) : S16384x4096.Idx → EReal) (ix2 r j) = V r j)
    (S : Fin 16384 → EReal) (hS : ∀ r, ((k0_pay14 (F := Ideal) v60 v68 v71 v73 v74) : S16384x1.Idx → EReal) (ix2 r 0) = S r) (r : Fin 16384) (j : Fin 4096) :
    ((k0_pay15 (F := Ideal) v60 v68 v71 v73 v74) : S16384x4096.Idx → BitVec 8) (ix2 r j) = Ideal.fptosi 8 (code (Ideal.div (V r j) (S r))) := by
  dsimp only [k0_pay15]
  refine (cod4096 _ _ r j).trans ?_
  rw [h, hS]

theorem a17 (v45 : FVec Ideal S16384x1024 .f32) (v101 : FVec Ideal S16384x1 .f32) (v109 : IVec S16384x4096 8) (v112 : Vec Ideal S4096x1024 .i8) (v114 : FVec Ideal S1x1024 .f32) (v115 v127 v129 : Vec Ideal S1x1024 .f32) (H : Fin 16384 → Fin 1024 → EReal) (hH : ∀ r j, (v45 : S16384x1024.Idx → EReal) (ix2 r j) = H r j) (S : Fin 16384 → EReal) (hS : ∀ r, (v101 : S16384x1.Idx → EReal) (ix2 r 0) = S r)
    (C : Fin 16384 → Fin 4096 → EReal) (hC : ∀ r k, (FloatOps.sitofp (F := Ideal) FTy.bf16 (v109 (ix2 r k)) : EReal) = C r k) (r : Fin 16384) (j : Fin 1024) :
    ((k0_pay17 (F := Ideal) v45 v101 v109 v112 v114 v115 v127 v129) : S16384x1024.Idx → EReal) (ix2 r j)
      = lnD (fun j => (∑ k, C r k * (FloatOps.sitofp (F := Ideal) FTy.bf16 (v112 (ix2 k j)) : EReal)) * S r * v114 (ix2 0 j) + v115 (ix2 0 j) + H r j) (fun j => v127 (ix2 0 j)) (fun j => v129 (ix2 0 j)) j := by
  pointwise [k0_pay17, hH, hS, hC]
  all_goals rfl

theorem a18 (v45 : FVec Ideal S16384x1024 .f32) (v101 : FVec Ideal S16384x1 .f32) (v109 : IVec S16384x4096 8) (v112 : Vec Ideal S4096x1024 .i8) (v114 : FVec Ideal S1x1024 .f32) (v115 v127 v129 : Vec Ideal S1x1024 .f32) (Y : Fin 16384 → Fin 1024 → EReal) (h : ∀ r j, ((k0_pay17 (F := Ideal) v45 v101 v109 v112 v114 v115 v127 v129) : S16384x1024.Idx → EReal) (ix2 r j) = Y r j) (r : Fin 16384) (j : Fin 1024) :
    ((k0_pay18 (F := Ideal) v45 v101 v109 v112 v114 v115 v127 v129) : S16384x1024.Idx → EReal) (ix2 r j) = Y r j := by
  pointwise [k0_pay18, h]
  all_goals rfl

theorem a19 (v45 : FVec Ideal S16384x1024 .f32) (v101 : FVec Ideal S16384x1 .f32) (v109 : IVec S16384x4096 8) (v112 : Vec Ideal S4096x1024 .i8) (v114 : FVec Ideal S1x1024 .f32) (v115 v127 v129 : Vec Ideal S1x1024 .f32) (Y : Fin 16384 → Fin 1024 → EReal) (h : ∀ r j, ((k0_pay17 (F := Ideal) v45 v101 v109 v112 v114 v115 v127 v129) : S16384x1024.Idx → EReal) (ix2 r j) = Y r j) (r : Fin 32) (j : Fin 1024) :
    ((k0_pay19 (F := Ideal) v45 v101 v109 v112 v114 v115 v127 v129) : S32x1024.Idx → EReal) (ix2 r j) = Y ⟨512 * ↑r, by omega⟩ j := by
  pointwise [k0_pay19, h]
  exact congrArg (fun n => Y n j) (Fin.ext (Nat.mul_comm _ _))

theorem a1 (v155 : FVec Ideal S32x1024 .f32) (v157 : FVec Ideal S1x1024 .f32) (Y : Fin 32 → Fin 1024 → EReal) (h : ∀ r j, (v155 : S32x1024.Idx → EReal) (ix2 r j) = Y r j) (r : Fin 32) :
    ((k0_pay1 (F := Ideal) v155 v157) : S32x1.Idx → EReal) (ix2 r 0) = ∑ k, Y r k * v157 (ix2 0 k) := by
  pointwise [k0_pay1, h]

end Cert.Proof.RI

end

end
-- ==== Proof.RefVal.lean ====
/-
  What the reference's call leaves in its outputs, element by element, over the extended reals: the layer of `Model`.
-/
module

public import proofs.«01_k».proof.Proof.Gen.ReferenceIdeal.Frame
public import proofs.«01_k».proof.Proof.Model
public import Idealize.ShloMosaic.Lib.Pointwise
public import Idealize.ShloMosaic.Lib.Pipeline.Value
public import proofs.«01_k».proof.Proof.RefA

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

/-- The layer's parameters, from the blocks of weights. -/
def par (x3 : Vec Ideal S1x1024 .f32) (x4 : Vec Ideal S1024x1024 .i8) (x5 x6 x7 x8 : Vec Ideal S1x1024 .f32) (x9 : Vec Ideal S1024x4096 .i8) (x10 x11 : Vec Ideal S1x4096 .f32) (x12 : Vec Ideal S4096x1024 .i8) (x13 x14 x15 x16 x17 : Vec Ideal S1x1024 .f32) : Par where
  wo k j := (FloatOps.sitofp (F := Ideal) FTy.bf16 (x4 (ix2 k j)) : EReal)
  wso j := x5 (ix2 0 j)
  bo j := x6 (ix2 0 j)
  g1 j := x7 (ix2 0 j)
  b1 j := x8 (ix2 0 j)
  sm j := x3 (ix2 0 j)
  wu k j := (FloatOps.sitofp (F := Ideal) FTy.bf16 (x9 (ix2 k j)) : EReal)
  wsu j := x10 (ix2 0 j)
  bu j := x11 (ix2 0 j)
  wd k j := (FloatOps.sitofp (F := Ideal) FTy.bf16 (x12 (ix2 k j)) : EReal)
  wsd j := x13 (ix2 0 j)
  bd j := x14 (ix2 0 j)
  g2 j := x15 (ix2 0 j)
  b2 j := x16 (ix2 0 j)
  wc j := x17 (ix2 0 j)

/-- A token's row, from the blocks of activations. -/
def row (x0 : Vec Ideal S16384x1024 .i8) (x1 : Vec Ideal S16384x1 .f32) (x2 : Vec Ideal S16384x1024 .bf16) (r : Fin 16384) : Row where
  cc k := (FloatOps.sitofp (F := Ideal) FTy.bf16 (x0 (ix2 r k)) : EReal)
  cs := x1 (ix2 r 0)
  x j := x2 (ix2 r j)

variable (x0 : Vec Ideal S16384x1024 .i8) (x1 : Vec Ideal S16384x1 .f32) (x2 : Vec Ideal S16384x1024 .bf16) (x3 : Vec Ideal S1x1024 .f32) (x4 : Vec Ideal S1024x1024 .i8) (x5 : Vec Ideal S1x1024 .f32) (x6 : Vec Ideal S1x1024 .f32) (x7 : Vec Ideal S1x1024 .f32) (x8 : Vec Ideal S1x1024 .f32) (x9 : Vec Ideal S1024x4096 .i8) (x10 : Vec Ideal S1x4096 .f32) (x11 : Vec Ideal S1x4096 .f32) (x12 : Vec Ideal S4096x1024 .i8) (x13 : Vec Ideal S1x1024 .f32) (x14 : Vec Ideal S1x1024 .f32) (x15 : Vec Ideal S1x1024 .f32) (x16 : Vec Ideal S1x1024 .f32) (x17 : Vec Ideal S1x1024 .f32)

local notation "PP" => par x3 x4 x5 x6 x7 x8 x9 x10 x11 x12 x13 x14 x15 x16 x17
local notation "RR" => row x0 x1 x2

/-- The centred row. -/
theorem p4 (r : Fin 16384) (j : Fin 1024) :
    ((k0_pay4 (F := Ideal) x2 x0 x4 x1 x5 x6) : S16384x1024.Idx → EReal) (ix2 r j) = A PP (RR r) j - (∑ k, A PP (RR r) k) * q := by
  rw [← div_n1024]
  pointwise [k0_pay4]
  all_goals rfl

theorem p5 (r : Fin 16384) :
    ((k0_pay5 (F := Ideal) x2 x0 x4 x1 x5 x6) : S16384x1.Idx → EReal) (ix2 r 0) = (∑ j, (A PP (RR r) j - (∑ k, A PP (RR r) k) * q) * (A PP (RR r) j - (∑ k, A PP (RR r) k) * q)) * q := by
  rw [← div_n1024 (∑ j, (A PP (RR r) j - (∑ k, A PP (RR r) k) * q) * (A PP (RR r) j - (∑ k, A PP (RR r) k) * q))]
  pointwise [k0_pay5, p4 x0 x1 x2 x3 x4 x5 x6 x7 x8 x9 x10 x11 x12 x13 x14 x15 x16 x17]
  all_goals rfl

/-- The first layer norm. -/
theorem p7 (r : Fin 16384) (j : Fin 1024) :
    ((k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) : S16384x1024.Idx → EReal) (ix2 r j) = H1 PP (RR r) j := by
  pointwise [k0_pay7, k0_pay2, k0_pay3, k0_pay6, p4 x0 x1 x2 x3 x4 x5 x6 x7 x8 x9 x10 x11 x12 x13 x14 x15 x16 x17, p5 x0 x1 x2 x3 x4 x5 x6 x7 x8 x9 x10 x11 x12 x13 x14 x15 x16 x17]
  all_goals rfl

theorem p8 (r : Fin 16384) (j : Fin 1024) :
    ((k0_pay8 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) : S16384x1024.Idx → EReal) (ix2 r j) = H1 PP (RR r) j := by
  pointwise [k0_pay8, p7 x0 x1 x2 x3 x4 x5 x6 x7 x8 x9 x10 x11 x12 x13 x14 x15 x16 x17]

theorem p9 (hs : ∀ j, x3 (ix2 0 j) ≠ (0 : EReal)) (r : Fin 16384) (j : Fin 1024) :
    ((k0_pay9 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) : S16384x1024.Idx → EReal) (ix2 r j) = Vq PP (RR r) j := by
  exact (a9 _ _ _ _ _ x3 (fun r j => H1 PP (RR r) j) (p7 x0 x1 x2 x3 x4 x5 x6 x7 x8 x9 x10 x11 x12 x13 x14 x15 x16 x17) r j).trans (div_eq_mul (hs j) _)

theorem p10 (hs : ∀ j, x3 (ix2 0 j) ≠ (0 : EReal)) (r : Fin 16384) :
    ((k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) : S16384x1.Idx → EReal) (ix2 r 0) = HS PP (RR r) := by
  exact a10 _ _ _ _ _ x3 (fun r j => Vq PP (RR r) j) (p9 x0 x1 x2 x3 x4 x5 x6 x7 x8 x9 x10 x11 x12 x13 x14 x15 x16 x17 hs) r

theorem p11 (hs : ∀ j, x3 (ix2 0 j) ≠ (0 : EReal)) (r : Fin 16384) (j : Fin 1024) :
    ((k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) : S16384x1024.Idx → BitVec 8) (ix2 r j) = Ideal.fptosi 8 (HC PP (RR r) j) := by
  exact (a11 _ _ _ _ _ x3 (fun r j => Vq PP (RR r) j) (p9 x0 x1 x2 x3 x4 x5 x6 x7 x8 x9 x10 x11 x12 x13 x14 x15 x16 x17 hs) (fun r => HS PP (RR r)) (p10 x0 x1 x2 x3 x4 x5 x6 x7 x8 x9 x10 x11 x12 x13 x14 x15 x16 x17 hs) r j).trans
    (congrArg (fun z => Ideal.fptosi 8 (code z)) (div_eq_mul (scale_ne_zero _) _))

theorem p11w (hs : ∀ j, x3 (ix2 0 j) ≠ (0 : EReal)) (r : Fin 16384) (j : Fin 1024) :
    (FloatOps.sitofp (F := Ideal) FTy.bf16 ((k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (ix2 r j)) : EReal) = HC PP (RR r) j := by
  rw [p11 x0 x1 x2 x3 x4 x5 x6 x7 x8 x9 x10 x11 x12 x13 x14 x15 x16 x17 hs]
  exact code_word _

theorem p12 (j : Fin 4096) :
    ((k0_pay12 (F := Ideal) x10) : S1x4096.Idx → EReal) (ix2 0 j) = x10 (ix2 0 j) := by
  pointwise [k0_pay12]

theorem p16 (j : Fin 1024) :
    ((k0_pay16 (F := Ideal) x13) : S1x1024.Idx → EReal) (ix2 0 j) = x13 (ix2 0 j) := by
  pointwise [k0_pay16]

theorem p20 (j : Fin 1024) :
    ((k0_pay20 (F := Ideal) x17) : S1x1024.Idx → EReal) (ix2 0 j) = x17 (ix2 0 j) := by
  pointwise [k0_pay20]

/-- The gelu, times the reciprocal root the kernel leaves in. -/
theorem p13 (hs : ∀ j, x3 (ix2 0 j) ≠ (0 : EReal)) (r : Fin 16384) (j : Fin 4096) :
    ((k0_pay13 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) : S16384x4096.Idx → EReal) (ix2 r j) = G PP (RR r) j * rt := by
  refine (a13 _ _ x9 _ x11 (fun r => HS PP (RR r)) (p10 x0 x1 x2 x3 x4 x5 x6 x7 x8 x9 x10 x11 x12 x13 x14 x15 x16 x17 hs) (fun r k => HC PP (RR r) k) (p11w x0 x1 x2 x3 x4 x5 x6 x7 x8 x9 x10 x11 x12 x13 x14 x15 x16 x17 hs) r j).trans ?_
  rw [p12 x10]
  exact gelu_eq PP (RR r) j

theorem p14 (hs : ∀ j, x3 (ix2 0 j) ≠ (0 : EReal)) (r : Fin 16384) :
    ((k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) : S16384x1.Idx → EReal) (ix2 r 0) = GS PP (RR r) := by
  refine (a14 _ _ x9 _ x11 (fun r j => G PP (RR r) j * rt) (p13 x0 x1 x2 x3 x4 x5 x6 x7 x8 x9 x10 x11 x12 x13 x14 x15 x16 x17 hs) r).trans ?_
  exact congrArg scale (amax_mul_rt _)

theorem p15 (hs : ∀ j, x3 (ix2 0 j) ≠ (0 : EReal)) (r : Fin 16384) (j : Fin 4096) :
    ((k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) : S16384x4096.Idx → BitVec 8) (ix2 r j) = Ideal.fptosi 8 (GC PP (RR r) j) := by
  exact (a15 _ _ x9 _ x11 (fun r j => G PP (RR r) j * rt) (p13 x0 x1 x2 x3 x4 x5 x6 x7 x8 x9 x10 x11 x12 x13 x14 x15 x16 x17 hs) (fun r => GS PP (RR r)) (p14 x0 x1 x2 x3 x4 x5 x6 x7 x8 x9 x10 x11 x12 x13 x14 x15 x16 x17 hs) r j).trans
    (congrArg (fun z => Ideal.fptosi 8 (code z)) (div_rt _ _ (scale_ne_zero _)))

theorem p15w (hs : ∀ j, x3 (ix2 0 j) ≠ (0 : EReal)) (r : Fin 16384) (j : Fin 4096) :
    (FloatOps.sitofp (F := Ideal) FTy.bf16 ((k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (ix2 r j)) : EReal) = GC PP (RR r) j := by
  rw [p15 x0 x1 x2 x3 x4 x5 x6 x7 x8 x9 x10 x11 x12 x13 x14 x15 x16 x17 hs]
  exact code_word _

/-- The second layer norm. -/
theorem p17 (hs : ∀ j, x3 (ix2 0 j) ≠ (0 : EReal)) (r : Fin 16384) (j : Fin 1024) :
    ((k0_pay17 (F := Ideal) (k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) x12 (k0_pay16 (F := Ideal) x13) x14 x15 x16) : S16384x1024.Idx → EReal) (ix2 r j) = Y PP (RR r) j := by
  refine (a17 _ _ _ x12 _ x14 x15 x16 (fun r j => H1 PP (RR r) j) (p7 x0 x1 x2 x3 x4 x5 x6 x7 x8 x9 x10 x11 x12 x13 x14 x15 x16 x17) (fun r => GS PP (RR r)) (p14 x0 x1 x2 x3 x4 x5 x6 x7 x8 x9 x10 x11 x12 x13 x14 x15 x16 x17 hs) (fun r k => GC PP (RR r) k) (p15w x0 x1 x2 x3 x4 x5 x6 x7 x8 x9 x10 x11 x12 x13 x14 x15 x16 x17 hs) r j).trans ?_
  simp only [p16 x13]
  exact lnD_eq (D PP (RR r)) (PP).g2 (PP).b2 j

theorem p18 (hs : ∀ j, x3 (ix2 0 j) ≠ (0 : EReal)) (r : Fin 16384) (j : Fin 1024) :
    ((k0_pay18 (F := Ideal) (k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) x12 (k0_pay16 (F := Ideal) x13) x14 x15 x16) : S16384x1024.Idx → EReal) (ix2 r j) = Y PP (RR r) j := by
  exact a18 _ _ _ x12 _ x14 x15 x16 (fun r j => Y PP (RR r) j) (p17 x0 x1 x2 x3 x4 x5 x6 x7 x8 x9 x10 x11 x12 x13 x14 x15 x16 x17 hs) r j

theorem p19 (hs : ∀ j, x3 (ix2 0 j) ≠ (0 : EReal)) (r : Fin 32) (j : Fin 1024) :
    ((k0_pay19 (F := Ideal) (k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) x12 (k0_pay16 (F := Ideal) x13) x14 x15 x16) : S32x1024.Idx → EReal) (ix2 r j) = Y PP (RR ⟨512 * ↑r, by omega⟩) j := by
  exact a19 _ _ _ x12 _ x14 x15 x16 (fun r j => Y PP (RR r) j) (p17 x0 x1 x2 x3 x4 x5 x6 x7 x8 x9 x10 x11 x12 x13 x14 x15 x16 x17 hs) r j

end Cert.Proof.RI

end

end
-- ==== Proof.RefSc.lean ====
/-
  The reference's scores.
-/
module

public import proofs.«01_k».proof.Proof.Gen.ReferenceIdeal.Frame
public import proofs.«01_k».proof.Proof.Model
public import Idealize.ShloMosaic.Lib.Pointwise
public import Idealize.ShloMosaic.Lib.Pipeline.Value
public import proofs.«01_k».proof.Proof.RefVal

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

variable (x0 : Vec Ideal S16384x1024 .i8) (x1 : Vec Ideal S16384x1 .f32) (x2 : Vec Ideal S16384x1024 .bf16) (x3 : Vec Ideal S1x1024 .f32) (x4 : Vec Ideal S1024x1024 .i8) (x5 : Vec Ideal S1x1024 .f32) (x6 : Vec Ideal S1x1024 .f32) (x7 : Vec Ideal S1x1024 .f32) (x8 : Vec Ideal S1x1024 .f32) (x9 : Vec Ideal S1024x4096 .i8) (x10 : Vec Ideal S1x4096 .f32) (x11 : Vec Ideal S1x4096 .f32) (x12 : Vec Ideal S4096x1024 .i8) (x13 : Vec Ideal S1x1024 .f32) (x14 : Vec Ideal S1x1024 .f32) (x15 : Vec Ideal S1x1024 .f32) (x16 : Vec Ideal S1x1024 .f32) (x17 : Vec Ideal S1x1024 .f32)

local notation "PP" => par x3 x4 x5 x6 x7 x8 x9 x10 x11 x12 x13 x14 x15 x16 x17
local notation "RR" => row x0 x1 x2

theorem p1a (v : FVec Ideal S32x1024 .f32) (Yf : Fin 32 → Fin 1024 → EReal) (h : ∀ r j, (v : S32x1024.Idx → EReal) (ix2 r j) = Yf r j) (r : Fin 32) :
    ((k0_pay1 (F := Ideal) v (k0_pay20 (F := Ideal) x17)) : S32x1.Idx → EReal) (ix2 r 0) = ∑ k, Yf r k * x17 (ix2 0 k) := by
  refine (a1 v (k0_pay20 (F := Ideal) x17) Yf h r).trans ?_
  exact Finset.sum_congr rfl fun k _ => congrArg (Yf r k * ·) (p20 x17 k)

/-- The score. -/
theorem p1 (hs : ∀ j, x3 (ix2 0 j) ≠ (0 : EReal)) (r : Fin 32) :
    ((k0_pay1 (F := Ideal) (k0_pay19 (F := Ideal) (k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) x12 (k0_pay16 (F := Ideal) x13) x14 x15 x16) (k0_pay20 (F := Ideal) x17)) : S32x1.Idx → EReal) (ix2 r 0) = SC PP (RR ⟨512 * ↑r, by omega⟩) := by
  have h := p19 x0 x1 x2 x3 x4 x5 x6 x7 x8 x9 x10 x11 x12 x13 x14 x15 x16 x17 hs
  have e := p1a x17 _ _ h r
  refine e.trans ?_
  unfold SC
  exact Finset.sum_congr rfl fun k _ => rfl

end Cert.Proof.RI

end

end
-- ==== Proof.RefOut.lean ====
/-
  What the reference's call leaves in its outputs: its last payloads.
-/
module

public import proofs.«01_k».proof.Proof.Gen.ReferenceIdeal.Frame
public import proofs.«01_k».proof.Proof.RefSc
public import Idealize.ShloMosaic.Lib.Pointwise
public import Idealize.ShloMosaic.Lib.Pipeline.Value
public import Idealize.ShloMosaic.Lib.Pipeline.ValueKit

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

variable (x0 : Vec Ideal S16384x1024 .i8) (x1 : Vec Ideal S16384x1 .f32) (x2 : Vec Ideal S16384x1024 .bf16) (x3 : Vec Ideal S1x1024 .f32) (x4 : Vec Ideal S1024x1024 .i8) (x5 : Vec Ideal S1x1024 .f32) (x6 : Vec Ideal S1x1024 .f32) (x7 : Vec Ideal S1x1024 .f32) (x8 : Vec Ideal S1x1024 .f32) (x9 : Vec Ideal S1024x4096 .i8) (x10 : Vec Ideal S1x4096 .f32) (x11 : Vec Ideal S1x4096 .f32) (x12 : Vec Ideal S4096x1024 .i8) (x13 : Vec Ideal S1x1024 .f32) (x14 : Vec Ideal S1x1024 .f32) (x15 : Vec Ideal S1x1024 .f32) (x16 : Vec Ideal S1x1024 .f32) (x17 : Vec Ideal S1x1024 .f32)

theorem out18 : out0_18 (F := Ideal) x0 x1 x2 x3 x4 x5 x6 x7 x8 x9 x10 x11 x12 x13 x14 x15 x16 x17 = (k0_pay8 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) := by
  frame_out [k0_pay21, k0_pay22, k0_pay23, k0_pay24, k0_pay25, k0_pay26, k0_pay27, k0_pay28, k0_pay29, k0_pay30, k0_pay31, k0_pay32]

theorem out19 : out0_19 (F := Ideal) x0 x1 x2 x3 x4 x5 x6 x7 x8 x9 x10 x11 x12 x13 x14 x15 x16 x17 = (k0_pay18 (F := Ideal) (k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) x12 (k0_pay16 (F := Ideal) x13) x14 x15 x16) := by
  frame_out [k0_pay21, k0_pay22, k0_pay23, k0_pay24, k0_pay25, k0_pay26, k0_pay27, k0_pay28, k0_pay29, k0_pay30, k0_pay31, k0_pay32]

theorem out20 : out0_20 (F := Ideal) x0 x1 x2 x3 x4 x5 x6 x7 x8 x9 x10 x11 x12 x13 x14 x15 x16 x17 = (k0_pay1 (F := Ideal) (k0_pay19 (F := Ideal) (k0_pay7 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal))) (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) x12 (k0_pay16 (F := Ideal) x13) x14 x15 x16) (k0_pay20 (F := Ideal) x17)) := by
  frame_out [k0_pay21, k0_pay22, k0_pay23, k0_pay24, k0_pay25, k0_pay26, k0_pay27, k0_pay28, k0_pay29, k0_pay30, k0_pay31, k0_pay32]

theorem out21 : out0_21 (F := Ideal) x0 x1 x2 x3 x4 x5 x6 x7 x8 x9 x10 x11 x12 x13 x14 x15 x16 x17 = (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) := by
  frame_out [k0_pay21, k0_pay22, k0_pay23, k0_pay24, k0_pay25, k0_pay26, k0_pay27, k0_pay28, k0_pay29, k0_pay30, k0_pay31, k0_pay32]

theorem out22 : out0_22 (F := Ideal) x0 x1 x2 x3 x4 x5 x6 x7 x8 x9 x10 x11 x12 x13 x14 x15 x16 x17 = (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) := by
  frame_out [k0_pay21, k0_pay22, k0_pay23, k0_pay24, k0_pay25, k0_pay26, k0_pay27, k0_pay28, k0_pay29, k0_pay30, k0_pay31, k0_pay32]

theorem out23 : out0_23 (F := Ideal) x0 x1 x2 x3 x4 x5 x6 x7 x8 x9 x10 x11 x12 x13 x14 x15 x16 x17 = (k0_pay15 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) := by
  frame_out [k0_pay21, k0_pay22, k0_pay23, k0_pay24, k0_pay25, k0_pay26, k0_pay27, k0_pay28, k0_pay29, k0_pay30, k0_pay31, k0_pay32]

theorem out24 : out0_24 (F := Ideal) x0 x1 x2 x3 x4 x5 x6 x7 x8 x9 x10 x11 x12 x13 x14 x15 x16 x17 = (k0_pay14 (F := Ideal) (k0_pay10 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) (k0_pay11 (F := Ideal) (k0_pay2 (F := Ideal) x7) (k0_pay3 (F := Ideal) x8) (k0_pay4 (F := Ideal) x2 x0 x4 x1 x5 x6) (k0_pay5 (F := Ideal) x2 x0 x4 x1 x5 x6) (k0_pay6 (F := Ideal)) x3) x9 (k0_pay12 (F := Ideal) x10) x11) := by
  frame_out [k0_pay21, k0_pay22, k0_pay23, k0_pay24, k0_pay25, k0_pay26, k0_pay27, k0_pay28, k0_pay29, k0_pay30, k0_pay31, k0_pay32]

end Cert.Proof.RI

end

end
-- ==== Proof.HostR.lean ====
/-
  The reference's blocks, from the arguments.
-/
module

public import proofs.«01_k».proof.Proof.RefSc
public import proofs.«01_k».proof.Proof.RefOut
public import proofs.«01_k».proof.Proof.Args
public import Idealize.ShloMosaic.Lib.Pointwise
public import Idealize.ShloMosaic.Lib.StableHlo.Run
public import Idealize.ShloMosaic.Lib.Pipeline.ValueKit
public import Idealize.ShloMosaic.Lib.ValueLayout

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

variable (m : (ℓ : Loc nD τ sig) → Buf (Elt Ideal) ℓ)

theorem e_3 (c : Dev nD) : (V m c main_v3 : S1x1024.Idx → EReal) = shapeCast S1x1024 (m ((c : Thread nD τ).loc main_arg3) : S1024.Idx → EReal) shapeCasts_S1024_S1x1024 := by
  show StableHlo.after (List.flatten [hostOps0]) _ (Proc.devRef .tc main_v3) = _
  simp only [hostOps0, List.flatten_cons, List.flatten_nil, List.append_nil, List.cons_append, List.nil_append]
  after_results
  rfl

theorem v_3 (c : Dev nD) (j : Fin 1024) : (V m c main_v3 : S1x1024.Idx → EReal) (ix2 0 j) = (m ((c : Thread nD τ).loc main_arg3) : S1024.Idx → EReal) (ix1 j) :=
  (congrFun (e_3 m c) _).trans (ValueIdx.shapeCast_a_1a_apply _ _ _ _)

theorem e_4 (c : Dev nD) : (V m c main_v4 : S1x1024.Idx → EReal) = shapeCast S1x1024 (m ((c : Thread nD τ).loc main_arg5) : S1024.Idx → EReal) shapeCasts_S1024_S1x1024 := by
  show StableHlo.after (List.flatten [hostOps0]) _ (Proc.devRef .tc main_v4) = _
  simp only [hostOps0, List.flatten_cons, List.flatten_nil, List.append_nil, List.cons_append, List.nil_append]
  after_results
  rfl

theorem v_4 (c : Dev nD) (j : Fin 1024) : (V m c main_v4 : S1x1024.Idx → EReal) (ix2 0 j) = (m ((c : Thread nD τ).loc main_arg5) : S1024.Idx → EReal) (ix1 j) :=
  (congrFun (e_4 m c) _).trans (ValueIdx.shapeCast_a_1a_apply _ _ _ _)

theorem e_5 (c : Dev nD) : (V m c main_v5 : S1x1024.Idx → EReal) = shapeCast S1x1024 (m ((c : Thread nD τ).loc main_arg6) : S1024.Idx → EReal) shapeCasts_S1024_S1x1024 := by
  show StableHlo.after (List.flatten [hostOps0]) _ (Proc.devRef .tc main_v5) = _
  simp only [hostOps0, List.flatten_cons, List.flatten_nil, List.append_nil, List.cons_append, List.nil_append]
  after_results
  rfl

theorem v_5 (c : Dev nD) (j : Fin 1024) : (V m c main_v5 : S1x1024.Idx → EReal) (ix2 0 j) = (m ((c : Thread nD τ).loc main_arg6) : S1024.Idx → EReal) (ix1 j) :=
  (congrFun (e_5 m c) _).trans (ValueIdx.shapeCast_a_1a_apply _ _ _ _)

theorem e_6 (c : Dev nD) : (V m c main_v6 : S1x1024.Idx → EReal) = shapeCast S1x1024 (m ((c : Thread nD τ).loc main_arg7) : S1024.Idx → EReal) shapeCasts_S1024_S1x1024 := by
  show StableHlo.after (List.flatten [hostOps0]) _ (Proc.devRef .tc main_v6) = _
  simp only [hostOps0, List.flatten_cons, List.flatten_nil, List.append_nil, List.cons_append, List.nil_append]
  after_results
  rfl

theorem v_6 (c : Dev nD) (j : Fin 1024) : (V m c main_v6 : S1x1024.Idx → EReal) (ix2 0 j) = (m ((c : Thread nD τ).loc main_arg7) : S1024.Idx → EReal) (ix1 j) :=
  (congrFun (e_6 m c) _).trans (ValueIdx.shapeCast_a_1a_apply _ _ _ _)

theorem e_7 (c : Dev nD) : (V m c main_v7 : S1x1024.Idx → EReal) = shapeCast S1x1024 (m ((c : Thread nD τ).loc main_arg8) : S1024.Idx → EReal) shapeCasts_S1024_S1x1024 := by
  show StableHlo.after (List.flatten [hostOps0]) _ (Proc.devRef .tc main_v7) = _
  simp only [hostOps0, List.flatten_cons, List.flatten_nil, List.append_nil, List.cons_append, List.nil_append]
  after_results
  rfl

theorem v_7 (c : Dev nD) (j : Fin 1024) : (V m c main_v7 : S1x1024.Idx → EReal) (ix2 0 j) = (m ((c : Thread nD τ).loc main_arg8) : S1024.Idx → EReal) (ix1 j) :=
  (congrFun (e_7 m c) _).trans (ValueIdx.shapeCast_a_1a_apply _ _ _ _)

theorem e_8 (c : Dev nD) : (V m c main_v8 : S1x4096.Idx → EReal) = shapeCast S1x4096 (m ((c : Thread nD τ).loc main_arg10) : S4096.Idx → EReal) shapeCasts_S4096_S1x4096 := by
  show StableHlo.after (List.flatten [hostOps0]) _ (Proc.devRef .tc main_v8) = _
  simp only [hostOps0, List.flatten_cons, List.flatten_nil, List.append_nil, List.cons_append, List.nil_append]
  after_results
  rfl

theorem v_8 (c : Dev nD) (j : Fin 4096) : (V m c main_v8 : S1x4096.Idx → EReal) (ix2 0 j) = (m ((c : Thread nD τ).loc main_arg10) : S4096.Idx → EReal) (ix1 j) :=
  (congrFun (e_8 m c) _).trans (ValueIdx.shapeCast_a_1a_apply _ _ _ _)

theorem e_9 (c : Dev nD) : (V m c main_v9 : S1x4096.Idx → EReal) = shapeCast S1x4096 (m ((c : Thread nD τ).loc main_arg11) : S4096.Idx → EReal) shapeCasts_S4096_S1x4096 := by
  show StableHlo.after (List.flatten [hostOps0]) _ (Proc.devRef .tc main_v9) = _
  simp only [hostOps0, List.flatten_cons, List.flatten_nil, List.append_nil, List.cons_append, List.nil_append]
  after_results
  rfl

theorem v_9 (c : Dev nD) (j : Fin 4096) : (V m c main_v9 : S1x4096.Idx → EReal) (ix2 0 j) = (m ((c : Thread nD τ).loc main_arg11) : S4096.Idx → EReal) (ix1 j) :=
  (congrFun (e_9 m c) _).trans (ValueIdx.shapeCast_a_1a_apply _ _ _ _)

theorem e_10 (c : Dev nD) : (V m c main_v10 : S1x1024.Idx → EReal) = shapeCast S1x1024 (m ((c : Thread nD τ).loc main_arg13) : S1024.Idx → EReal) shapeCasts_S1024_S1x1024 := by
  show StableHlo.after (List.flatten [hostOps0]) _ (Proc.devRef .tc main_v10) = _
  simp only [hostOps0, List.flatten_cons, List.flatten_nil, List.append_nil, List.cons_append, List.nil_append]
  after_results
  rfl

theorem v_10 (c : Dev nD) (j : Fin 1024) : (V m c main_v10 : S1x1024.Idx → EReal) (ix2 0 j) = (m ((c : Thread nD τ).loc main_arg13) : S1024.Idx → EReal) (ix1 j) :=
  (congrFun (e_10 m c) _).trans (ValueIdx.shapeCast_a_1a_apply _ _ _ _)

theorem e_11 (c : Dev nD) : (V m c main_v11 : S1x1024.Idx → EReal) = shapeCast S1x1024 (m ((c : Thread nD τ).loc main_arg14) : S1024.Idx → EReal) shapeCasts_S1024_S1x1024 := by
  show StableHlo.after (List.flatten [hostOps0]) _ (Proc.devRef .tc main_v11) = _
  simp only [hostOps0, List.flatten_cons, List.flatten_nil, List.append_nil, List.cons_append, List.nil_append]
  after_results
  rfl

theorem v_11 (c : Dev nD) (j : Fin 1024) : (V m c main_v11 : S1x1024.Idx → EReal) (ix2 0 j) = (m ((c : Thread nD τ).loc main_arg14) : S1024.Idx → EReal) (ix1 j) :=
  (congrFun (e_11 m c) _).trans (ValueIdx.shapeCast_a_1a_apply _ _ _ _)

theorem e_12 (c : Dev nD) : (V m c main_v12 : S1x1024.Idx → EReal) = shapeCast S1x1024 (m ((c : Thread nD τ).loc main_arg15) : S1024.Idx → EReal) shapeCasts_S1024_S1x1024 := by
  show StableHlo.after (List.flatten [hostOps0]) _ (Proc.devRef .tc main_v12) = _
  simp only [hostOps0, List.flatten_cons, List.flatten_nil, List.append_nil, List.cons_append, List.nil_append]
  after_results
  rfl

theorem v_12 (c : Dev nD) (j : Fin 1024) : (V m c main_v12 : S1x1024.Idx → EReal) (ix2 0 j) = (m ((c : Thread nD τ).loc main_arg15) : S1024.Idx → EReal) (ix1 j) :=
  (congrFun (e_12 m c) _).trans (ValueIdx.shapeCast_a_1a_apply _ _ _ _)

theorem e_13 (c : Dev nD) : (V m c main_v13 : S1x1024.Idx → EReal) = shapeCast S1x1024 (m ((c : Thread nD τ).loc main_arg16) : S1024.Idx → EReal) shapeCasts_S1024_S1x1024 := by
  show StableHlo.after (List.flatten [hostOps0]) _ (Proc.devRef .tc main_v13) = _
  simp only [hostOps0, List.flatten_cons, List.flatten_nil, List.append_nil, List.cons_append, List.nil_append]
  after_results
  rfl

theorem v_13 (c : Dev nD) (j : Fin 1024) : (V m c main_v13 : S1x1024.Idx → EReal) (ix2 0 j) = (m ((c : Thread nD τ).loc main_arg16) : S1024.Idx → EReal) (ix1 j) :=
  (congrFun (e_13 m c) _).trans (ValueIdx.shapeCast_a_1a_apply _ _ _ _)

theorem e_14 (c : Dev nD) : (V m c main_v14 : S1x1024.Idx → EReal) = shapeCast S1x1024 (m ((c : Thread nD τ).loc main_arg17) : S1024.Idx → EReal) shapeCasts_S1024_S1x1024 := by
  show StableHlo.after (List.flatten [hostOps0]) _ (Proc.devRef .tc main_v14) = _
  simp only [hostOps0, List.flatten_cons, List.flatten_nil, List.append_nil, List.cons_append, List.nil_append]
  after_results
  rfl

theorem v_14 (c : Dev nD) (j : Fin 1024) : (V m c main_v14 : S1x1024.Idx → EReal) (ix2 0 j) = (m ((c : Thread nD τ).loc main_arg17) : S1024.Idx → EReal) (ix1 j) :=
  (congrFun (e_14 m c) _).trans (ValueIdx.shapeCast_a_1a_apply _ _ _ _)

theorem e_0 (c : Dev nD) : (V m c main_v0 : S16384x1024.Idx → BitVec 8) = shapeCast S16384x1024 (m ((c : Thread nD τ).loc main_arg0) : S32x512x1024.Idx → BitVec 8) shapeCasts_S32x512x1024_S16384x1024 := by
  show StableHlo.after (List.flatten [hostOps0]) _ (Proc.devRef .tc main_v0) = _
  simp only [hostOps0, List.flatten_cons, List.flatten_nil, List.append_nil, List.cons_append, List.nil_append]
  after_results
  rfl

theorem v_0 (c : Dev nD) (b : Fin 32) (r : Fin 512) (k : Fin 1024) : (V m c main_v0 : S16384x1024.Idx → BitVec 8) (ix2 (rr b r) k) = (m ((c : Thread nD τ).loc main_arg0) : S32x512x1024.Idx → BitVec 8) (ix3 b r k) :=
  (congrFun (e_0 m c) _).trans (cast_rows _ _ b r k)

theorem e_2 (c : Dev nD) : (V m c main_v2 : S16384x1024.Idx → EReal) = shapeCast S16384x1024 (m ((c : Thread nD τ).loc main_arg2) : S32x512x1024.Idx → EReal) shapeCasts_S32x512x1024_S16384x1024 := by
  show StableHlo.after (List.flatten [hostOps0]) _ (Proc.devRef .tc main_v2) = _
  simp only [hostOps0, List.flatten_cons, List.flatten_nil, List.append_nil, List.cons_append, List.nil_append]
  after_results
  rfl

theorem v_2 (c : Dev nD) (b : Fin 32) (r : Fin 512) (k : Fin 1024) : (V m c main_v2 : S16384x1024.Idx → EReal) (ix2 (rr b r) k) = (m ((c : Thread nD τ).loc main_arg2) : S32x512x1024.Idx → EReal) (ix3 b r k) :=
  (congrFun (e_2 m c) _).trans (cast_rows _ _ b r k)

theorem e_1 (c : Dev nD) : (V m c main_v1 : S16384x1.Idx → EReal) = shapeCast S16384x1 (m ((c : Thread nD τ).loc main_arg1) : S32x512.Idx → EReal) shapeCasts_S32x512_S16384x1 := by
  show StableHlo.after (List.flatten [hostOps0]) _ (Proc.devRef .tc main_v1) = _
  simp only [hostOps0, List.flatten_cons, List.flatten_nil, List.append_nil, List.cons_append, List.nil_append]
  after_results
  rfl

theorem v_1 (c : Dev nD) (b : Fin 32) (r : Fin 512) : (V m c main_v1 : S16384x1.Idx → EReal) (ix2 (rr b r) 0) = (m ((c : Thread nD τ).loc main_arg1) : S32x512.Idx → EReal) (ix2 b r) :=
  (congrFun (e_1 m c) _).trans (cast_col _ _ b r)

theorem ixw3 : ∀ t : Fin cfg0.N, win0_3.index t 0 = 0 ∧ win0_3.index t 1 = 0 := by decide +kernel

theorem b_3 (c : Dev nD) (t : Fin cfg0.N) (j : Fin 1024) : (iblk m c 3 t : S1x1024.Idx → EReal) (ix2 0 j) = (m ((c : Thread nD τ).loc main_arg3) : S1024.Idx → EReal) (ix1 j) := by
  have e : (win0_3.blk t).view.emb ((ix2 0 j : S1x1024.Idx)) = (ix2 0 j : S1x1024.Idx) := by
    have h0 := (ixw3 t).1
    have h1 := (ixw3 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 3 t : S1x1024.Idx → EReal) (ix2 0 j) = (V m c main_v3 : S1x1024.Idx → EReal) ((win0_3.blk t).view.emb (ix2 0 j : S1x1024.Idx)) from rfl).trans ((congrArg (V m c main_v3 : S1x1024.Idx → EReal) e).trans (v_3 m c j))

theorem ixw5 : ∀ t : Fin cfg0.N, win0_5.index t 0 = 0 ∧ win0_5.index t 1 = 0 := by decide +kernel

theorem b_5 (c : Dev nD) (t : Fin cfg0.N) (j : Fin 1024) : (iblk m c 5 t : S1x1024.Idx → EReal) (ix2 0 j) = (m ((c : Thread nD τ).loc main_arg5) : S1024.Idx → EReal) (ix1 j) := by
  have e : (win0_5.blk t).view.emb ((ix2 0 j : S1x1024.Idx)) = (ix2 0 j : S1x1024.Idx) := by
    have h0 := (ixw5 t).1
    have h1 := (ixw5 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 5 t : S1x1024.Idx → EReal) (ix2 0 j) = (V m c main_v4 : S1x1024.Idx → EReal) ((win0_5.blk t).view.emb (ix2 0 j : S1x1024.Idx)) from rfl).trans ((congrArg (V m c main_v4 : S1x1024.Idx → EReal) e).trans (v_4 m c j))

theorem ixw6 : ∀ t : Fin cfg0.N, win0_6.index t 0 = 0 ∧ win0_6.index t 1 = 0 := by decide +kernel

theorem b_6 (c : Dev nD) (t : Fin cfg0.N) (j : Fin 1024) : (iblk m c 6 t : S1x1024.Idx → EReal) (ix2 0 j) = (m ((c : Thread nD τ).loc main_arg6) : S1024.Idx → EReal) (ix1 j) := by
  have e : (win0_6.blk t).view.emb ((ix2 0 j : S1x1024.Idx)) = (ix2 0 j : S1x1024.Idx) := by
    have h0 := (ixw6 t).1
    have h1 := (ixw6 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 6 t : S1x1024.Idx → EReal) (ix2 0 j) = (V m c main_v5 : S1x1024.Idx → EReal) ((win0_6.blk t).view.emb (ix2 0 j : S1x1024.Idx)) from rfl).trans ((congrArg (V m c main_v5 : S1x1024.Idx → EReal) e).trans (v_5 m c j))

theorem ixw7 : ∀ t : Fin cfg0.N, win0_7.index t 0 = 0 ∧ win0_7.index t 1 = 0 := by decide +kernel

theorem b_7 (c : Dev nD) (t : Fin cfg0.N) (j : Fin 1024) : (iblk m c 7 t : S1x1024.Idx → EReal) (ix2 0 j) = (m ((c : Thread nD τ).loc main_arg7) : S1024.Idx → EReal) (ix1 j) := by
  have e : (win0_7.blk t).view.emb ((ix2 0 j : S1x1024.Idx)) = (ix2 0 j : S1x1024.Idx) := by
    have h0 := (ixw7 t).1
    have h1 := (ixw7 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 7 t : S1x1024.Idx → EReal) (ix2 0 j) = (V m c main_v6 : S1x1024.Idx → EReal) ((win0_7.blk t).view.emb (ix2 0 j : S1x1024.Idx)) from rfl).trans ((congrArg (V m c main_v6 : S1x1024.Idx → EReal) e).trans (v_6 m c j))

theorem ixw8 : ∀ t : Fin cfg0.N, win0_8.index t 0 = 0 ∧ win0_8.index t 1 = 0 := by decide +kernel

theorem b_8 (c : Dev nD) (t : Fin cfg0.N) (j : Fin 1024) : (iblk m c 8 t : S1x1024.Idx → EReal) (ix2 0 j) = (m ((c : Thread nD τ).loc main_arg8) : S1024.Idx → EReal) (ix1 j) := by
  have e : (win0_8.blk t).view.emb ((ix2 0 j : S1x1024.Idx)) = (ix2 0 j : S1x1024.Idx) := by
    have h0 := (ixw8 t).1
    have h1 := (ixw8 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 8 t : S1x1024.Idx → EReal) (ix2 0 j) = (V m c main_v7 : S1x1024.Idx → EReal) ((win0_8.blk t).view.emb (ix2 0 j : S1x1024.Idx)) from rfl).trans ((congrArg (V m c main_v7 : S1x1024.Idx → EReal) e).trans (v_7 m c j))

theorem ixw10 : ∀ t : Fin cfg0.N, win0_10.index t 0 = 0 ∧ win0_10.index t 1 = 0 := by decide +kernel

theorem b_10 (c : Dev nD) (t : Fin cfg0.N) (j : Fin 4096) : (iblk m c 10 t : S1x4096.Idx → EReal) (ix2 0 j) = (m ((c : Thread nD τ).loc main_arg10) : S4096.Idx → EReal) (ix1 j) := by
  have e : (win0_10.blk t).view.emb ((ix2 0 j : S1x4096.Idx)) = (ix2 0 j : S1x4096.Idx) := by
    have h0 := (ixw10 t).1
    have h1 := (ixw10 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 10 t : S1x4096.Idx → EReal) (ix2 0 j) = (V m c main_v8 : S1x4096.Idx → EReal) ((win0_10.blk t).view.emb (ix2 0 j : S1x4096.Idx)) from rfl).trans ((congrArg (V m c main_v8 : S1x4096.Idx → EReal) e).trans (v_8 m c j))

theorem ixw11 : ∀ t : Fin cfg0.N, win0_11.index t 0 = 0 ∧ win0_11.index t 1 = 0 := by decide +kernel

theorem b_11 (c : Dev nD) (t : Fin cfg0.N) (j : Fin 4096) : (iblk m c 11 t : S1x4096.Idx → EReal) (ix2 0 j) = (m ((c : Thread nD τ).loc main_arg11) : S4096.Idx → EReal) (ix1 j) := by
  have e : (win0_11.blk t).view.emb ((ix2 0 j : S1x4096.Idx)) = (ix2 0 j : S1x4096.Idx) := by
    have h0 := (ixw11 t).1
    have h1 := (ixw11 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 11 t : S1x4096.Idx → EReal) (ix2 0 j) = (V m c main_v9 : S1x4096.Idx → EReal) ((win0_11.blk t).view.emb (ix2 0 j : S1x4096.Idx)) from rfl).trans ((congrArg (V m c main_v9 : S1x4096.Idx → EReal) e).trans (v_9 m c j))

theorem ixw13 : ∀ t : Fin cfg0.N, win0_13.index t 0 = 0 ∧ win0_13.index t 1 = 0 := by decide +kernel

theorem b_13 (c : Dev nD) (t : Fin cfg0.N) (j : Fin 1024) : (iblk m c 13 t : S1x1024.Idx → EReal) (ix2 0 j) = (m ((c : Thread nD τ).loc main_arg13) : S1024.Idx → EReal) (ix1 j) := by
  have e : (win0_13.blk t).view.emb ((ix2 0 j : S1x1024.Idx)) = (ix2 0 j : S1x1024.Idx) := by
    have h0 := (ixw13 t).1
    have h1 := (ixw13 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 13 t : S1x1024.Idx → EReal) (ix2 0 j) = (V m c main_v10 : S1x1024.Idx → EReal) ((win0_13.blk t).view.emb (ix2 0 j : S1x1024.Idx)) from rfl).trans ((congrArg (V m c main_v10 : S1x1024.Idx → EReal) e).trans (v_10 m c j))

theorem ixw14 : ∀ t : Fin cfg0.N, win0_14.index t 0 = 0 ∧ win0_14.index t 1 = 0 := by decide +kernel

theorem b_14 (c : Dev nD) (t : Fin cfg0.N) (j : Fin 1024) : (iblk m c 14 t : S1x1024.Idx → EReal) (ix2 0 j) = (m ((c : Thread nD τ).loc main_arg14) : S1024.Idx → EReal) (ix1 j) := by
  have e : (win0_14.blk t).view.emb ((ix2 0 j : S1x1024.Idx)) = (ix2 0 j : S1x1024.Idx) := by
    have h0 := (ixw14 t).1
    have h1 := (ixw14 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 14 t : S1x1024.Idx → EReal) (ix2 0 j) = (V m c main_v11 : S1x1024.Idx → EReal) ((win0_14.blk t).view.emb (ix2 0 j : S1x1024.Idx)) from rfl).trans ((congrArg (V m c main_v11 : S1x1024.Idx → EReal) e).trans (v_11 m c j))

theorem ixw15 : ∀ t : Fin cfg0.N, win0_15.index t 0 = 0 ∧ win0_15.index t 1 = 0 := by decide +kernel

theorem b_15 (c : Dev nD) (t : Fin cfg0.N) (j : Fin 1024) : (iblk m c 15 t : S1x1024.Idx → EReal) (ix2 0 j) = (m ((c : Thread nD τ).loc main_arg15) : S1024.Idx → EReal) (ix1 j) := by
  have e : (win0_15.blk t).view.emb ((ix2 0 j : S1x1024.Idx)) = (ix2 0 j : S1x1024.Idx) := by
    have h0 := (ixw15 t).1
    have h1 := (ixw15 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 15 t : S1x1024.Idx → EReal) (ix2 0 j) = (V m c main_v12 : S1x1024.Idx → EReal) ((win0_15.blk t).view.emb (ix2 0 j : S1x1024.Idx)) from rfl).trans ((congrArg (V m c main_v12 : S1x1024.Idx → EReal) e).trans (v_12 m c j))

theorem ixw16 : ∀ t : Fin cfg0.N, win0_16.index t 0 = 0 ∧ win0_16.index t 1 = 0 := by decide +kernel

theorem b_16 (c : Dev nD) (t : Fin cfg0.N) (j : Fin 1024) : (iblk m c 16 t : S1x1024.Idx → EReal) (ix2 0 j) = (m ((c : Thread nD τ).loc main_arg16) : S1024.Idx → EReal) (ix1 j) := by
  have e : (win0_16.blk t).view.emb ((ix2 0 j : S1x1024.Idx)) = (ix2 0 j : S1x1024.Idx) := by
    have h0 := (ixw16 t).1
    have h1 := (ixw16 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 16 t : S1x1024.Idx → EReal) (ix2 0 j) = (V m c main_v13 : S1x1024.Idx → EReal) ((win0_16.blk t).view.emb (ix2 0 j : S1x1024.Idx)) from rfl).trans ((congrArg (V m c main_v13 : S1x1024.Idx → EReal) e).trans (v_13 m c j))

theorem ixw17 : ∀ t : Fin cfg0.N, win0_17.index t 0 = 0 ∧ win0_17.index t 1 = 0 := by decide +kernel

theorem b_17 (c : Dev nD) (t : Fin cfg0.N) (j : Fin 1024) : (iblk m c 17 t : S1x1024.Idx → EReal) (ix2 0 j) = (m ((c : Thread nD τ).loc main_arg17) : S1024.Idx → EReal) (ix1 j) := by
  have e : (win0_17.blk t).view.emb ((ix2 0 j : S1x1024.Idx)) = (ix2 0 j : S1x1024.Idx) := by
    have h0 := (ixw17 t).1
    have h1 := (ixw17 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 17 t : S1x1024.Idx → EReal) (ix2 0 j) = (V m c main_v14 : S1x1024.Idx → EReal) ((win0_17.blk t).view.emb (ix2 0 j : S1x1024.Idx)) from rfl).trans ((congrArg (V m c main_v14 : S1x1024.Idx → EReal) e).trans (v_14 m c j))

theorem ixw4 : ∀ t : Fin cfg0.N, win0_4.index t 0 = 0 ∧ win0_4.index t 1 = 0 := by decide +kernel

theorem b_4 (c : Dev nD) (t : Fin cfg0.N) (k : Fin 1024) (j : Fin 1024) : (iblk m c 4 t : S1024x1024.Idx → BitVec 8) (ix2 k j) = (m ((c : Thread nD τ).loc main_arg4) : S1024x1024.Idx → BitVec 8) (ix2 k j) := by
  have e : (win0_4.blk t).view.emb ((ix2 k j : S1024x1024.Idx)) = (ix2 k j : S1024x1024.Idx) := by
    have h0 := (ixw4 t).1
    have h1 := (ixw4 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 4 t : S1024x1024.Idx → BitVec 8) (ix2 k j) = (V m c main_arg4 : S1024x1024.Idx → BitVec 8) ((win0_4.blk t).view.emb (ix2 k j : S1024x1024.Idx)) from rfl).trans ((congrArg (V m c main_arg4 : S1024x1024.Idx → BitVec 8) e).trans (congrFun (V_main_arg4 m c) _))

theorem ixw9 : ∀ t : Fin cfg0.N, win0_9.index t 0 = 0 ∧ win0_9.index t 1 = 0 := by decide +kernel

theorem b_9 (c : Dev nD) (t : Fin cfg0.N) (k : Fin 1024) (j : Fin 4096) : (iblk m c 9 t : S1024x4096.Idx → BitVec 8) (ix2 k j) = (m ((c : Thread nD τ).loc main_arg9) : S1024x4096.Idx → BitVec 8) (ix2 k j) := by
  have e : (win0_9.blk t).view.emb ((ix2 k j : S1024x4096.Idx)) = (ix2 k j : S1024x4096.Idx) := by
    have h0 := (ixw9 t).1
    have h1 := (ixw9 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 9 t : S1024x4096.Idx → BitVec 8) (ix2 k j) = (V m c main_arg9 : S1024x4096.Idx → BitVec 8) ((win0_9.blk t).view.emb (ix2 k j : S1024x4096.Idx)) from rfl).trans ((congrArg (V m c main_arg9 : S1024x4096.Idx → BitVec 8) e).trans (congrFun (V_main_arg9 m c) _))

theorem ixw12 : ∀ t : Fin cfg0.N, win0_12.index t 0 = 0 ∧ win0_12.index t 1 = 0 := by decide +kernel

theorem b_12 (c : Dev nD) (t : Fin cfg0.N) (k : Fin 4096) (j : Fin 1024) : (iblk m c 12 t : S4096x1024.Idx → BitVec 8) (ix2 k j) = (m ((c : Thread nD τ).loc main_arg12) : S4096x1024.Idx → BitVec 8) (ix2 k j) := by
  have e : (win0_12.blk t).view.emb ((ix2 k j : S4096x1024.Idx)) = (ix2 k j : S4096x1024.Idx) := by
    have h0 := (ixw12 t).1
    have h1 := (ixw12 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 12 t : S4096x1024.Idx → BitVec 8) (ix2 k j) = (V m c main_arg12 : S4096x1024.Idx → BitVec 8) ((win0_12.blk t).view.emb (ix2 k j : S4096x1024.Idx)) from rfl).trans ((congrArg (V m c main_arg12 : S4096x1024.Idx → BitVec 8) e).trans (congrFun (V_main_arg12 m c) _))

theorem ixw0 : ∀ t : Fin cfg0.N, win0_0.index t 0 = 0 ∧ win0_0.index t 1 = 0 := by decide +kernel

theorem b_0 (c : Dev nD) (t : Fin cfg0.N) (b : Fin 32) (r : Fin 512) (k : Fin 1024) : (iblk m c 0 t : S16384x1024.Idx → BitVec 8) (ix2 (rr b r) k) = (m ((c : Thread nD τ).loc main_arg0) : S32x512x1024.Idx → BitVec 8) (ix3 b r k) := by
  have e : (win0_0.blk t).view.emb ((ix2 (rr b r) k : S16384x1024.Idx)) = (ix2 (rr b r) k : S16384x1024.Idx) := by
    have h0 := (ixw0 t).1
    have h1 := (ixw0 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 0 t : S16384x1024.Idx → BitVec 8) (ix2 (rr b r) k) = (V m c main_v0 : S16384x1024.Idx → BitVec 8) ((win0_0.blk t).view.emb (ix2 (rr b r) k : S16384x1024.Idx)) from rfl).trans ((congrArg (V m c main_v0 : S16384x1024.Idx → BitVec 8) e).trans (v_0 m c b r k))

theorem ixw2 : ∀ t : Fin cfg0.N, win0_2.index t 0 = 0 ∧ win0_2.index t 1 = 0 := by decide +kernel

theorem b_2 (c : Dev nD) (t : Fin cfg0.N) (b : Fin 32) (r : Fin 512) (k : Fin 1024) : (iblk m c 2 t : S16384x1024.Idx → EReal) (ix2 (rr b r) k) = (m ((c : Thread nD τ).loc main_arg2) : S32x512x1024.Idx → EReal) (ix3 b r k) := by
  have e : (win0_2.blk t).view.emb ((ix2 (rr b r) k : S16384x1024.Idx)) = (ix2 (rr b r) k : S16384x1024.Idx) := by
    have h0 := (ixw2 t).1
    have h1 := (ixw2 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 2 t : S16384x1024.Idx → EReal) (ix2 (rr b r) k) = (V m c main_v2 : S16384x1024.Idx → EReal) ((win0_2.blk t).view.emb (ix2 (rr b r) k : S16384x1024.Idx)) from rfl).trans ((congrArg (V m c main_v2 : S16384x1024.Idx → EReal) e).trans (v_2 m c b r k))

theorem ixw1 : ∀ t : Fin cfg0.N, win0_1.index t 0 = 0 ∧ win0_1.index t 1 = 0 := by decide +kernel

theorem b_1 (c : Dev nD) (t : Fin cfg0.N) (b : Fin 32) (r : Fin 512) : (iblk m c 1 t : S16384x1.Idx → EReal) (ix2 (rr b r) 0) = (m ((c : Thread nD τ).loc main_arg1) : S32x512.Idx → EReal) (ix2 b r) := by
  have e : (win0_1.blk t).view.emb ((ix2 (rr b r) 0 : S16384x1.Idx)) = (ix2 (rr b r) 0 : S16384x1.Idx) := by
    have h0 := (ixw1 t).1
    have h1 := (ixw1 t).2
    funext a
    match a with
    | ⟨0, _⟩ => exact Fin.ext (by blk_simp; first | omega | (rw [h0]; simp) | rfl)
    | ⟨1, _⟩ => exact Fin.ext (by blk_simp; first | omega | (rw [h1]; simp) | rfl)
  exact (show (iblk m c 1 t : S16384x1.Idx → EReal) (ix2 (rr b r) 0) = (V m c main_v1 : S16384x1.Idx → EReal) ((win0_1.blk t).view.emb (ix2 (rr b r) 0 : S16384x1.Idx)) from rfl).trans ((congrArg (V m c main_v1 : S16384x1.Idx → EReal) e).trans (v_1 m c b r))

set_option maxHeartbeats 4000000 in
/-- The reference's parameters are the arguments'. -/
theorem par_eq (c : Dev nD) (t : Fin cfg0.N) : par (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) = parOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) :=
  par_ext (fun k j => congrArg (fun z => (FloatOps.sitofp (F := Ideal) FTy.bf16 z : EReal)) (b_4 m c t k j)) (b_5 m c t) (b_6 m c t) (b_7 m c t) (b_8 m c t) (b_3 m c t)
    (fun k j => congrArg (fun z => (FloatOps.sitofp (F := Ideal) FTy.bf16 z : EReal)) (b_9 m c t k j)) (b_10 m c t) (b_11 m c t)
    (fun k j => congrArg (fun z => (FloatOps.sitofp (F := Ideal) FTy.bf16 z : EReal)) (b_12 m c t k j)) (b_13 m c t) (b_14 m c t) (b_15 m c t) (b_16 m c t) (b_17 m c t)

set_option maxHeartbeats 4000000 in
/-- The reference's rows are the arguments'. -/
theorem row_eq (c : Dev nD) (t : Fin cfg0.N) (b : Fin 32) (r : Fin 512) : row (iblk m c 0 t) (iblk m c 1 t) (iblk m c 2 t) (rr b r) = rowOf (m ((c : Thread nD τ).loc main_arg0)) (m ((c : Thread nD τ).loc main_arg1)) (m ((c : Thread nD τ).loc main_arg2)) b r :=
  row_ext (fun k => congrArg (fun z => (FloatOps.sitofp (F := Ideal) FTy.bf16 z : EReal)) (b_0 m c t b r k)) (b_1 m c t b r) (b_2 m c t b r)

end Cert.Proof.RI

end

end
-- ==== Proof.ArrR.lean ====
/-
  The reference's results, element by element, from the arguments.
-/
module

public import proofs.«01_k».proof.Proof.HostR
public import proofs.«01_k».proof.Proof.RefSc
public import proofs.«01_k».proof.Proof.RefOut
public import proofs.«01_k».proof.Proof.Args
public import Idealize.ShloMosaic.Lib.Pointwise
public import Idealize.ShloMosaic.Lib.StableHlo.Run
public import Idealize.ShloMosaic.Lib.Pipeline.ValueKit
public import Idealize.ShloMosaic.Lib.ValueLayout

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

variable (m : (ℓ : Loc nD τ sig) → Buf (Elt Ideal) ℓ)

/-- The layer's parameters and rows, from the arguments of core `c`. -/
abbrev PA (c : Dev nD) : Par := parOf (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))
abbrev RA (c : Dev nD) (b : Fin 32) (r : Fin 512) : Row := rowOf (m ((c : Thread nD τ).loc main_arg0)) (m ((c : Thread nD τ).loc main_arg1)) (m ((c : Thread nD τ).loc main_arg2)) b r

def t0 : Fin cfg0.N := ⟨0, by decide⟩

theorem one : ∀ t : Fin cfg0.N, t = t0 := by decide +kernel

theorem smooth_blk (c : Dev nD) (hs : ∀ j, (m ((c : Thread nD τ).loc main_arg3) : S1024.Idx → EReal) (ix1 j) ≠ (0 : EReal)) (j : Fin 1024) : (iblk m c 3 t0 : S1x1024.Idx → EReal) (ix2 0 j) ≠ (0 : EReal) := by
  rw [b_3]; exact hs j

theorem ixw18 : ∀ t : Fin cfg0.N, win0_18.index t 0 = 0 ∧ win0_18.index t 1 = 0 := by decide +kernel

theorem whole_18 (c : Dev nD) : ((dats m 0 c).arrAt 18 cfg0.N : S16384x1024.Idx → EReal) = (out0_18 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1024.Idx → EReal) := by
  refine (dats m 0 c).arrAt_eq_of_covers 18 _ (by decide +kernel) fun t hf y => ?_
  obtain rfl := one t
  have e : (win0_18.blk t0).view.emb y = y := by
    have h0 := (ixw18 t0).1
    have h1 := (ixw18 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_18]
  blk_simp
  exact (congrArg (out0_18 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1024.Idx → EReal) e).symm

/-- What the call leaves in window 18's array. -/
theorem at_18 (c : Dev nD) (hs : ∀ j, (m ((c : Thread nD τ).loc main_arg3) : S1024.Idx → EReal) (ix1 j) ≠ (0 : EReal)) (b : Fin 32) (r : Fin 512) (j : Fin 1024) : ((dats m 0 c).arrAt 18 cfg0.N : S16384x1024.Idx → EReal) (ix2 (rr b r) j) = H1 (PA m c) (RA m c b r) j := by
  rw [show PA m c = _ from (par_eq m c t0).symm, show RA m c b r = _ from (row_eq m c t0 b r).symm]
  refine (congrFun (whole_18 m c) _).trans ?_
  exact (congrFun (out18 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p8 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (rr b r) j)

theorem tail_18 (c : Dev nD) : (Pipeline.afterTail₀ cfgs (dats m) 0 (V0 m) [hostOps1] c main_v16 : S32x512x1024.Idx → EReal) = shapeCast S32x512x1024 ((dats m 0 c).arrAt 18 cfg0.N : S16384x1024.Idx → EReal) shapeCasts_S16384x1024_S32x512x1024 := by
  unfold Pipeline.afterTail₀
  simp only [hostOps1, List.flatten_cons, List.flatten_nil, List.append_nil, List.cons_append, List.nil_append]
  after_results
  exact congrArg (fun z : S16384x1024.Idx → EReal => shapeCast S32x512x1024 z shapeCasts_S16384x1024_S32x512x1024) (Pipeline.withArrays_arr (cfgs 0).spec (by decide) c (V0 m c) (fun w => (dats m 0 c).arrAt w (cfgs 0).N) 18)

/-- Result 0 of the reference. -/
theorem res_18 (c : Dev nD) (hs : ∀ j, (m ((c : Thread nD τ).loc main_arg3) : S1024.Idx → EReal) (ix1 j) ≠ (0 : EReal)) : (Pipeline.afterTail₀ cfgs (dats m) 0 (V0 m) [hostOps1] c main_v16 : S32x512x1024.Idx → EReal) = (fun i => H1 (PA m c) (RA m c (i 0) (i 1)) (i 2)) := by
  funext i
  have ei : i = ix3 (i 0) (i 1) (i 2) := by funext a; match a with | ⟨0, _⟩ => rfl | ⟨1, _⟩ => rfl | ⟨2, _⟩ => rfl
  refine (congrFun (tail_18 m c) i).trans (Eq.trans ?_ (at_18 m c hs (i 0) (i 1) (i 2)))
  refine Eq.trans (congrArg (shapeCast S32x512x1024 ((dats m 0 c).arrAt 18 cfg0.N : S16384x1024.Idx → EReal) shapeCasts_S16384x1024_S32x512x1024) ei) ?_
  exact uncast_rows _ _ (i 0) (i 1) (i 2)

theorem ixw19 : ∀ t : Fin cfg0.N, win0_19.index t 0 = 0 ∧ win0_19.index t 1 = 0 := by decide +kernel

theorem whole_19 (c : Dev nD) : ((dats m 0 c).arrAt 19 cfg0.N : S16384x1024.Idx → EReal) = (out0_19 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1024.Idx → EReal) := by
  refine (dats m 0 c).arrAt_eq_of_covers 19 _ (by decide +kernel) fun t hf y => ?_
  obtain rfl := one t
  have e : (win0_19.blk t0).view.emb y = y := by
    have h0 := (ixw19 t0).1
    have h1 := (ixw19 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_19]
  blk_simp
  exact (congrArg (out0_19 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1024.Idx → EReal) e).symm

/-- What the call leaves in window 19's array. -/
theorem at_19 (c : Dev nD) (hs : ∀ j, (m ((c : Thread nD τ).loc main_arg3) : S1024.Idx → EReal) (ix1 j) ≠ (0 : EReal)) (b : Fin 32) (r : Fin 512) (j : Fin 1024) : ((dats m 0 c).arrAt 19 cfg0.N : S16384x1024.Idx → EReal) (ix2 (rr b r) j) = Model.Y (PA m c) (RA m c b r) j := by
  rw [show PA m c = _ from (par_eq m c t0).symm, show RA m c b r = _ from (row_eq m c t0 b r).symm]
  refine (congrFun (whole_19 m c) _).trans ?_
  exact (congrFun (out19 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p18 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (smooth_blk m c hs) (rr b r) j)

theorem tail_19 (c : Dev nD) : (Pipeline.afterTail₀ cfgs (dats m) 0 (V0 m) [hostOps1] c main_v17 : S32x512x1024.Idx → EReal) = shapeCast S32x512x1024 ((dats m 0 c).arrAt 19 cfg0.N : S16384x1024.Idx → EReal) shapeCasts_S16384x1024_S32x512x1024 := by
  unfold Pipeline.afterTail₀
  simp only [hostOps1, List.flatten_cons, List.flatten_nil, List.append_nil, List.cons_append, List.nil_append]
  after_results
  exact congrArg (fun z : S16384x1024.Idx → EReal => shapeCast S32x512x1024 z shapeCasts_S16384x1024_S32x512x1024) (Pipeline.withArrays_arr (cfgs 0).spec (by decide) c (V0 m c) (fun w => (dats m 0 c).arrAt w (cfgs 0).N) 19)

/-- Result 1 of the reference. -/
theorem res_19 (c : Dev nD) (hs : ∀ j, (m ((c : Thread nD τ).loc main_arg3) : S1024.Idx → EReal) (ix1 j) ≠ (0 : EReal)) : (Pipeline.afterTail₀ cfgs (dats m) 0 (V0 m) [hostOps1] c main_v17 : S32x512x1024.Idx → EReal) = (fun i => Model.Y (PA m c) (RA m c (i 0) (i 1)) (i 2)) := by
  funext i
  have ei : i = ix3 (i 0) (i 1) (i 2) := by funext a; match a with | ⟨0, _⟩ => rfl | ⟨1, _⟩ => rfl | ⟨2, _⟩ => rfl
  refine (congrFun (tail_19 m c) i).trans (Eq.trans ?_ (at_19 m c hs (i 0) (i 1) (i 2)))
  refine Eq.trans (congrArg (shapeCast S32x512x1024 ((dats m 0 c).arrAt 19 cfg0.N : S16384x1024.Idx → EReal) shapeCasts_S16384x1024_S32x512x1024) ei) ?_
  exact uncast_rows _ _ (i 0) (i 1) (i 2)

theorem ixw21 : ∀ t : Fin cfg0.N, win0_21.index t 0 = 0 ∧ win0_21.index t 1 = 0 := by decide +kernel

theorem whole_21 (c : Dev nD) : ((dats m 0 c).arrAt 21 cfg0.N : S16384x1024.Idx → BitVec 8) = (out0_21 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1024.Idx → BitVec 8) := by
  refine (dats m 0 c).arrAt_eq_of_covers 21 _ (by decide +kernel) fun t hf y => ?_
  obtain rfl := one t
  have e : (win0_21.blk t0).view.emb y = y := by
    have h0 := (ixw21 t0).1
    have h1 := (ixw21 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_21]
  blk_simp
  exact (congrArg (out0_21 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1024.Idx → BitVec 8) e).symm

/-- What the call leaves in window 21's array. -/
theorem at_21 (c : Dev nD) (hs : ∀ j, (m ((c : Thread nD τ).loc main_arg3) : S1024.Idx → EReal) (ix1 j) ≠ (0 : EReal)) (b : Fin 32) (r : Fin 512) (j : Fin 1024) : ((dats m 0 c).arrAt 21 cfg0.N : S16384x1024.Idx → BitVec 8) (ix2 (rr b r) j) = Ideal.fptosi 8 (HC (PA m c) (RA m c b r) j) := by
  rw [show PA m c = _ from (par_eq m c t0).symm, show RA m c b r = _ from (row_eq m c t0 b r).symm]
  refine (congrFun (whole_21 m c) _).trans ?_
  exact (congrFun (out21 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p11 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (smooth_blk m c hs) (rr b r) j)

theorem tail_21 (c : Dev nD) : (Pipeline.afterTail₀ cfgs (dats m) 0 (V0 m) [hostOps1] c main_v19 : S32x512x1024.Idx → BitVec 8) = shapeCast S32x512x1024 ((dats m 0 c).arrAt 21 cfg0.N : S16384x1024.Idx → BitVec 8) shapeCasts_S16384x1024_S32x512x1024 := by
  unfold Pipeline.afterTail₀
  simp only [hostOps1, List.flatten_cons, List.flatten_nil, List.append_nil, List.cons_append, List.nil_append]
  after_results
  exact congrArg (fun z : S16384x1024.Idx → BitVec 8 => shapeCast S32x512x1024 z shapeCasts_S16384x1024_S32x512x1024) (Pipeline.withArrays_arr (cfgs 0).spec (by decide) c (V0 m c) (fun w => (dats m 0 c).arrAt w (cfgs 0).N) 21)

/-- Result 3 of the reference. -/
theorem res_21 (c : Dev nD) (hs : ∀ j, (m ((c : Thread nD τ).loc main_arg3) : S1024.Idx → EReal) (ix1 j) ≠ (0 : EReal)) : (Pipeline.afterTail₀ cfgs (dats m) 0 (V0 m) [hostOps1] c main_v19 : S32x512x1024.Idx → BitVec 8) = (fun i => Ideal.fptosi 8 (HC (PA m c) (RA m c (i 0) (i 1)) (i 2))) := by
  funext i
  have ei : i = ix3 (i 0) (i 1) (i 2) := by funext a; match a with | ⟨0, _⟩ => rfl | ⟨1, _⟩ => rfl | ⟨2, _⟩ => rfl
  refine (congrFun (tail_21 m c) i).trans (Eq.trans ?_ (at_21 m c hs (i 0) (i 1) (i 2)))
  refine Eq.trans (congrArg (shapeCast S32x512x1024 ((dats m 0 c).arrAt 21 cfg0.N : S16384x1024.Idx → BitVec 8) shapeCasts_S16384x1024_S32x512x1024) ei) ?_
  exact uncast_rows _ _ (i 0) (i 1) (i 2)

theorem ixw22 : ∀ t : Fin cfg0.N, win0_22.index t 0 = 0 ∧ win0_22.index t 1 = 0 := by decide +kernel

theorem whole_22 (c : Dev nD) : ((dats m 0 c).arrAt 22 cfg0.N : S16384x1.Idx → EReal) = (out0_22 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1.Idx → EReal) := by
  refine (dats m 0 c).arrAt_eq_of_covers 22 _ (by decide +kernel) fun t hf y => ?_
  obtain rfl := one t
  have e : (win0_22.blk t0).view.emb y = y := by
    have h0 := (ixw22 t0).1
    have h1 := (ixw22 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_22]
  blk_simp
  exact (congrArg (out0_22 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1.Idx → EReal) e).symm

/-- What the call leaves in window 22's array. -/
theorem at_22 (c : Dev nD) (hs : ∀ j, (m ((c : Thread nD τ).loc main_arg3) : S1024.Idx → EReal) (ix1 j) ≠ (0 : EReal)) (b : Fin 32) (r : Fin 512) : ((dats m 0 c).arrAt 22 cfg0.N : S16384x1.Idx → EReal) (ix2 (rr b r) 0) = HS (PA m c) (RA m c b r) := by
  rw [show PA m c = _ from (par_eq m c t0).symm, show RA m c b r = _ from (row_eq m c t0 b r).symm]
  refine (congrFun (whole_22 m c) _).trans ?_
  exact (congrFun (out22 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p10 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (smooth_blk m c hs) (rr b r))

theorem tail_22 (c : Dev nD) : (Pipeline.afterTail₀ cfgs (dats m) 0 (V0 m) [hostOps1] c main_v20 : S32x512.Idx → EReal) = shapeCast S32x512 ((dats m 0 c).arrAt 22 cfg0.N : S16384x1.Idx → EReal) shapeCasts_S16384x1_S32x512 := by
  unfold Pipeline.afterTail₀
  simp only [hostOps1, List.flatten_cons, List.flatten_nil, List.append_nil, List.cons_append, List.nil_append]
  after_results
  exact congrArg (fun z : S16384x1.Idx → EReal => shapeCast S32x512 z shapeCasts_S16384x1_S32x512) (Pipeline.withArrays_arr (cfgs 0).spec (by decide) c (V0 m c) (fun w => (dats m 0 c).arrAt w (cfgs 0).N) 22)

/-- Result 4 of the reference. -/
theorem res_22 (c : Dev nD) (hs : ∀ j, (m ((c : Thread nD τ).loc main_arg3) : S1024.Idx → EReal) (ix1 j) ≠ (0 : EReal)) : (Pipeline.afterTail₀ cfgs (dats m) 0 (V0 m) [hostOps1] c main_v20 : S32x512.Idx → EReal) = (fun i => HS (PA m c) (RA m c (i 0) (i 1))) := by
  funext i
  have ei : i = ix2 (i 0) (i 1) := by funext a; match a with | ⟨0, _⟩ => rfl | ⟨1, _⟩ => rfl
  refine (congrFun (tail_22 m c) i).trans (Eq.trans ?_ (at_22 m c hs (i 0) (i 1)))
  refine Eq.trans (congrArg (shapeCast S32x512 ((dats m 0 c).arrAt 22 cfg0.N : S16384x1.Idx → EReal) shapeCasts_S16384x1_S32x512) ei) ?_
  exact uncast_col _ _ (i 0) (i 1)

theorem ixw23 : ∀ t : Fin cfg0.N, win0_23.index t 0 = 0 ∧ win0_23.index t 1 = 0 := by decide +kernel

theorem whole_23 (c : Dev nD) : ((dats m 0 c).arrAt 23 cfg0.N : S16384x4096.Idx → BitVec 8) = (out0_23 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x4096.Idx → BitVec 8) := by
  refine (dats m 0 c).arrAt_eq_of_covers 23 _ (by decide +kernel) fun t hf y => ?_
  obtain rfl := one t
  have e : (win0_23.blk t0).view.emb y = y := by
    have h0 := (ixw23 t0).1
    have h1 := (ixw23 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_23]
  blk_simp
  exact (congrArg (out0_23 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x4096.Idx → BitVec 8) e).symm

/-- What the call leaves in window 23's array. -/
theorem at_23 (c : Dev nD) (hs : ∀ j, (m ((c : Thread nD τ).loc main_arg3) : S1024.Idx → EReal) (ix1 j) ≠ (0 : EReal)) (b : Fin 32) (r : Fin 512) (j : Fin 4096) : ((dats m 0 c).arrAt 23 cfg0.N : S16384x4096.Idx → BitVec 8) (ix2 (rr b r) j) = Ideal.fptosi 8 (GC (PA m c) (RA m c b r) j) := by
  rw [show PA m c = _ from (par_eq m c t0).symm, show RA m c b r = _ from (row_eq m c t0 b r).symm]
  refine (congrFun (whole_23 m c) _).trans ?_
  exact (congrFun (out23 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p15 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (smooth_blk m c hs) (rr b r) j)

theorem tail_23 (c : Dev nD) : (Pipeline.afterTail₀ cfgs (dats m) 0 (V0 m) [hostOps1] c main_v21 : S32x512x4096.Idx → BitVec 8) = shapeCast S32x512x4096 ((dats m 0 c).arrAt 23 cfg0.N : S16384x4096.Idx → BitVec 8) shapeCasts_S16384x4096_S32x512x4096 := by
  unfold Pipeline.afterTail₀
  simp only [hostOps1, List.flatten_cons, List.flatten_nil, List.append_nil, List.cons_append, List.nil_append]
  after_results
  exact congrArg (fun z : S16384x4096.Idx → BitVec 8 => shapeCast S32x512x4096 z shapeCasts_S16384x4096_S32x512x4096) (Pipeline.withArrays_arr (cfgs 0).spec (by decide) c (V0 m c) (fun w => (dats m 0 c).arrAt w (cfgs 0).N) 23)

/-- Result 5 of the reference. -/
theorem res_23 (c : Dev nD) (hs : ∀ j, (m ((c : Thread nD τ).loc main_arg3) : S1024.Idx → EReal) (ix1 j) ≠ (0 : EReal)) : (Pipeline.afterTail₀ cfgs (dats m) 0 (V0 m) [hostOps1] c main_v21 : S32x512x4096.Idx → BitVec 8) = (fun i => Ideal.fptosi 8 (GC (PA m c) (RA m c (i 0) (i 1)) (i 2))) := by
  funext i
  have ei : i = ix3 (i 0) (i 1) (i 2) := by funext a; match a with | ⟨0, _⟩ => rfl | ⟨1, _⟩ => rfl | ⟨2, _⟩ => rfl
  refine (congrFun (tail_23 m c) i).trans (Eq.trans ?_ (at_23 m c hs (i 0) (i 1) (i 2)))
  refine Eq.trans (congrArg (shapeCast S32x512x4096 ((dats m 0 c).arrAt 23 cfg0.N : S16384x4096.Idx → BitVec 8) shapeCasts_S16384x4096_S32x512x4096) ei) ?_
  exact uncast_rows _ _ (i 0) (i 1) (i 2)

theorem ixw24 : ∀ t : Fin cfg0.N, win0_24.index t 0 = 0 ∧ win0_24.index t 1 = 0 := by decide +kernel

theorem whole_24 (c : Dev nD) : ((dats m 0 c).arrAt 24 cfg0.N : S16384x1.Idx → EReal) = (out0_24 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1.Idx → EReal) := by
  refine (dats m 0 c).arrAt_eq_of_covers 24 _ (by decide +kernel) fun t hf y => ?_
  obtain rfl := one t
  have e : (win0_24.blk t0).view.emb y = y := by
    have h0 := (ixw24 t0).1
    have h1 := (ixw24 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_24]
  blk_simp
  exact (congrArg (out0_24 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S16384x1.Idx → EReal) e).symm

/-- What the call leaves in window 24's array. -/
theorem at_24 (c : Dev nD) (hs : ∀ j, (m ((c : Thread nD τ).loc main_arg3) : S1024.Idx → EReal) (ix1 j) ≠ (0 : EReal)) (b : Fin 32) (r : Fin 512) : ((dats m 0 c).arrAt 24 cfg0.N : S16384x1.Idx → EReal) (ix2 (rr b r) 0) = GS (PA m c) (RA m c b r) := by
  rw [show PA m c = _ from (par_eq m c t0).symm, show RA m c b r = _ from (row_eq m c t0 b r).symm]
  refine (congrFun (whole_24 m c) _).trans ?_
  exact (congrFun (out24 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p14 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (smooth_blk m c hs) (rr b r))

theorem tail_24 (c : Dev nD) : (Pipeline.afterTail₀ cfgs (dats m) 0 (V0 m) [hostOps1] c main_v22 : S32x512.Idx → EReal) = shapeCast S32x512 ((dats m 0 c).arrAt 24 cfg0.N : S16384x1.Idx → EReal) shapeCasts_S16384x1_S32x512 := by
  unfold Pipeline.afterTail₀
  simp only [hostOps1, List.flatten_cons, List.flatten_nil, List.append_nil, List.cons_append, List.nil_append]
  after_results
  exact congrArg (fun z : S16384x1.Idx → EReal => shapeCast S32x512 z shapeCasts_S16384x1_S32x512) (Pipeline.withArrays_arr (cfgs 0).spec (by decide) c (V0 m c) (fun w => (dats m 0 c).arrAt w (cfgs 0).N) 24)

/-- Result 6 of the reference. -/
theorem res_24 (c : Dev nD) (hs : ∀ j, (m ((c : Thread nD τ).loc main_arg3) : S1024.Idx → EReal) (ix1 j) ≠ (0 : EReal)) : (Pipeline.afterTail₀ cfgs (dats m) 0 (V0 m) [hostOps1] c main_v22 : S32x512.Idx → EReal) = (fun i => GS (PA m c) (RA m c (i 0) (i 1))) := by
  funext i
  have ei : i = ix2 (i 0) (i 1) := by funext a; match a with | ⟨0, _⟩ => rfl | ⟨1, _⟩ => rfl
  refine (congrFun (tail_24 m c) i).trans (Eq.trans ?_ (at_24 m c hs (i 0) (i 1)))
  refine Eq.trans (congrArg (shapeCast S32x512 ((dats m 0 c).arrAt 24 cfg0.N : S16384x1.Idx → EReal) shapeCasts_S16384x1_S32x512) ei) ?_
  exact uncast_col _ _ (i 0) (i 1)

theorem ixw20 : ∀ t : Fin cfg0.N, win0_20.index t 0 = 0 ∧ win0_20.index t 1 = 0 := by decide +kernel

theorem whole_20 (c : Dev nD) : ((dats m 0 c).arrAt 20 cfg0.N : S32x1.Idx → EReal) = (out0_20 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S32x1.Idx → EReal) := by
  refine (dats m 0 c).arrAt_eq_of_covers 20 _ (by decide +kernel) fun t hf y => ?_
  obtain rfl := one t
  have e : (win0_20.blk t0).view.emb y = y := by
    have h0 := (ixw20 t0).1
    have h1 := (ixw20 t0).2
    funext a
    match a with
    | ⟨0, _⟩ => exact Fin.ext (by blk_simp; first | omega | (rw [h0]; simp) | rfl)
    | ⟨1, _⟩ => exact Fin.ext (by blk_simp; first | omega | (rw [h1]; simp) | rfl)
  rw [after0_20]
  blk_simp
  exact (congrArg (out0_20 (F := Ideal) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) : S32x1.Idx → EReal) e).symm

/-- What the call leaves in window 20's array. -/
theorem at_20 (c : Dev nD) (hs : ∀ j, (m ((c : Thread nD τ).loc main_arg3) : S1024.Idx → EReal) (ix1 j) ≠ (0 : EReal)) (b : Fin 32) : ((dats m 0 c).arrAt 20 cfg0.N : S32x1.Idx → EReal) (ix2 b 0) = SC (PA m c) (RA m c b 0) := by
  rw [show PA m c = _ from (par_eq m c t0).symm, show RA m c b 0 = _ from (row_eq m c t0 b 0).symm]
  refine (congrFun (whole_20 m c) _).trans ?_
  exact (congrFun (out20 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)) _).trans (p1 (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0) (smooth_blk m c hs) b)

theorem tail_20 (c : Dev nD) : (Pipeline.afterTail₀ cfgs (dats m) 0 (V0 m) [hostOps1] c main_v18 : S1x32.Idx → EReal) = shapeCast S1x32 ((dats m 0 c).arrAt 20 cfg0.N : S32x1.Idx → EReal) shapeCasts_S32x1_S1x32 := by
  unfold Pipeline.afterTail₀
  simp only [hostOps1, List.flatten_cons, List.flatten_nil, List.append_nil, List.cons_append, List.nil_append]
  after_results
  exact congrArg (fun z : S32x1.Idx → EReal => shapeCast S1x32 z shapeCasts_S32x1_S1x32) (Pipeline.withArrays_arr (cfgs 0).spec (by decide) c (V0 m c) (fun w => (dats m 0 c).arrAt w (cfgs 0).N) 20)

/-- Result 2 of the reference. -/
theorem res_20 (c : Dev nD) (hs : ∀ j, (m ((c : Thread nD τ).loc main_arg3) : S1024.Idx → EReal) (ix1 j) ≠ (0 : EReal)) : (Pipeline.afterTail₀ cfgs (dats m) 0 (V0 m) [hostOps1] c main_v18 : S1x32.Idx → EReal) = (fun i => SC (PA m c) (RA m c (i 1) 0)) := by
  funext i
  have ei : i = ix2 (i 0) (i 1) := by funext a; match a with | ⟨0, _⟩ => rfl | ⟨1, _⟩ => rfl
  refine (congrFun (tail_20 m c) i).trans (Eq.trans ?_ (at_20 m c hs (i 1)))
  refine Eq.trans (congrArg (shapeCast S1x32 ((dats m 0 c).arrAt 20 cfg0.N : S32x1.Idx → EReal) shapeCasts_S32x1_S1x32) ei) ?_
  exact uncast_score _ _ (i 0) (i 1)

end Cert.Proof.RI

end

end
-- ==== Proof.ResR.lean ====
/-
  The reference's run, its results as the layer of its arguments.
-/
module

public import proofs.«01_k».proof.Proof.ArrR
public import proofs.«01_k».proof.Proof.Goal
public import proofs.«01_k».proof.Proof.HostR
public import proofs.«01_k».proof.Proof.RefSc
public import proofs.«01_k».proof.Proof.RefOut
public import proofs.«01_k».proof.Proof.Args
public import Idealize.ShloMosaic.Lib.Pointwise
public import Idealize.ShloMosaic.Lib.StableHlo.Run
public import Idealize.ShloMosaic.Lib.Pipeline.ValueKit
public import Idealize.ShloMosaic.Lib.ValueLayout

@[expose] public section

set_option maxRecDepth 16384

noncomputable section

namespace Cert.Proof.RI

open Cert.ReferenceIdeal Cert.ReferenceIdeal.Gen

open Idealize.ShloMosaic
open Idealize.ShloMosaic.TcCoe Idealize.ShloMosaic.Tactic
open Idealize.SL.Sem

open Cert.Proof.Model

variable (m : (ℓ : Loc nD τ sig) → Buf (Elt Ideal) ℓ) (ρ : Dev nD → PrngReg)

set_option maxHeartbeats 4000000 in
/-- The reference's run: the results, and the arguments as launched. -/
theorem run_results (hs : ∀ (c : Dev nD) (j : Fin 1024), (m ((c : Thread nD τ).loc main_arg3) : S1024.Idx → EReal) (ix1 j) ≠ (0 : EReal)) :
    θ_run defs (onTc (τ := τ) (main (F := Ideal))) ⟨m, fun _ => 0, ρ⟩ (fun r => ∀ c : Dev nD,
      (r.2.mem ((c.tc : Thread nD τ).loc main_v16) : S32x512x1024.Idx → EReal) = h1F (PA m c) (fun b r => RA m c b r)
      ∧ (r.2.mem ((c.tc : Thread nD τ).loc main_v17) : S32x512x1024.Idx → EReal) = yF (PA m c) (fun b r => RA m c b r)
      ∧ (r.2.mem ((c.tc : Thread nD τ).loc main_v18) : S1x32.Idx → EReal) = scoreF (PA m c) (fun b r => RA m c b r)
      ∧ (r.2.mem ((c.tc : Thread nD τ).loc main_v19) : S32x512x1024.Idx → BitVec 8) = hCodesF (PA m c) (fun b r => RA m c b r)
      ∧ (r.2.mem ((c.tc : Thread nD τ).loc main_v20) : S32x512.Idx → EReal) = hScalesF (PA m c) (fun b r => RA m c b r)
      ∧ (r.2.mem ((c.tc : Thread nD τ).loc main_v21) : S32x512x4096.Idx → BitVec 8) = gCodesF (PA m c) (fun b r => RA m c b r)
      ∧ (r.2.mem ((c.tc : Thread nD τ).loc main_v22) : S32x512.Idx → EReal) = gScalesF (PA m c) (fun b r => RA m c b r)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).2 main_v16 (Pipeline.mem_restRefs_of main_v16 (by decide) (by decide))).trans (res_18 m c (hs c)),
      ((h c).2 main_v17 (Pipeline.mem_restRefs_of main_v17 (by decide) (by decide))).trans (res_19 m c (hs c)),
      ((h c).2 main_v18 (Pipeline.mem_restRefs_of main_v18 (by decide) (by decide))).trans (res_20 m c (hs c)),
      ((h c).2 main_v19 (Pipeline.mem_restRefs_of main_v19 (by decide) (by decide))).trans (res_21 m c (hs c)),
      ((h c).2 main_v20 (Pipeline.mem_restRefs_of main_v20 (by decide) (by decide))).trans (res_22 m c (hs c)),
      ((h c).2 main_v21 (Pipeline.mem_restRefs_of main_v21 (by decide) (by decide))).trans (res_23 m c (hs c)),
      ((h c).2 main_v22 (Pipeline.mem_restRefs_of main_v22 (by decide) (by decide))).trans (res_24 m c (hs c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 9).trans (((dats m 0 c).arrAt_in 9 rfl _).trans ((A_eq m c 9).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      ((h c).1 12).trans (((dats m 0 c).arrAt_in 12 rfl _).trans ((A_eq m c 12).trans (V_main_arg12 m c))),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c))⟩) (run_main m ρ)

end Cert.Proof.RI

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameK
public import proofs.«01_k».proof.Proof.FrameKI
public import proofs.«01_k».proof.Proof.ResK
public import proofs.«01_k».proof.Proof.ResR
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-- The precondition's side conditions. -/
theorem preFacts : Cert.Pre_smooth_nonzero.Facts where
  bcast_S_S1024 := by decide
  reducesTo_S1024_S_d0 := by decide
  h_S_ := by decide

/-- Under the precondition no smoothing factor is zero. -/
theorem smooth_ne (m : (ℓ : Loc Cert.KernelIdeal.nD Cert.KernelIdeal.τ Cert.KernelIdeal.sig) → Buf (Elt Ideal) ℓ) (h : Cert.Pre_KernelIdeal_smooth_nonzero (hPre_smooth_nonzero := preFacts) m)
    (c : Dev Cert.KernelIdeal.nD) (j : Fin 1024) : (m ((c.tc : Thread Cert.KernelIdeal.nD Cert.KernelIdeal.τ).loc Cert.KernelIdeal.main_arg3) : (⟨1, ![1024]⟩ : Shape).Idx → EReal) (ix1 j) ≠ (0 : EReal) := by
  have e := congrFun (h c) (fun a => a.elim0)
  haveI : Subsingleton Cert.Pre_smooth_nonzero.S_.Idx := ⟨fun a b => funext fun i => i.elim0⟩
  have e1 := Host.reduce_andi_all _ _ _ _ _ e (ix1 j)
  intro h0
  have e2 : (Ideal.cmp .une ((m ((c.tc : Thread Cert.KernelIdeal.nD Cert.KernelIdeal.τ).loc Cert.KernelIdeal.main_arg3) : (⟨1, ![1024]⟩ : Shape).Idx → EReal) (ix1 j)) (Ideal.ofBits .f32 0x00000000#32)) = 1#1 := e1
  rw [h0, Ideal.ofBits_zero_f32] at e2
  simp [Ideal.cmp] at e2

/-- The idealized kernel's results are the reference's. -/
theorem algebraic : Cert.algebraic_KernelIdeal_ReferenceIdeal_pre_smooth_nonzero (hKernelIdeal := Cert.KernelIdeal.Gen.facts) (hReferenceIdeal := Cert.ReferenceIdeal.Gen.facts) (hPre_smooth_nonzero := preFacts) := by
  intro m g m' g' hpre hargs
  have hs := smooth_ne m hpre
  have hP : ∀ c : Dev Cert.KernelIdeal.nD, Cert.Proof.RI.PA m' c = Cert.Proof.KI.PA m c := fun c => by
    obtain ⟨e0, e1, e2, e3, e4, e5, e6, e7, e8, e9, e10, e11, e12, e13, e14, e15, e16, e17⟩ := hargs c
    exact Cert.Proof.Model.parOf_congr e3 e4 e5 e6 e7 e8 e9 e10 e11 e12 e13 e14 e15 e16 e17
  have hR : ∀ c : Dev Cert.KernelIdeal.nD, (fun b r => Cert.Proof.RI.RA m' c b r) = Cert.Proof.KI.RA m c := fun c => by
    obtain ⟨e0, e1, e2, e3, e4, e5, e6, e7, e8, e9, e10, e11, e12, e13, e14, e15, e16, e17⟩ := hargs c
    exact Cert.Proof.Model.rowOf_congr e0 e1 e2
  have hs' : ∀ (c : Dev Cert.KernelIdeal.nD) (j : Fin 1024), (m' ((c.tc : Thread Cert.ReferenceIdeal.nD Cert.ReferenceIdeal.τ).loc Cert.ReferenceIdeal.main_arg3) : (⟨1, ![1024]⟩ : Shape).Idx → EReal) (ix1 j) ≠ (0 : EReal) := fun c j => by
    obtain ⟨e0, e1, e2, e3, e4, e5, e6, e7, e8, e9, e10, e11, e12, e13, e14, e15, e16, e17⟩ := hargs c
    exact fun h => hs c j ((congrFun e3 _).symm.trans h)
  refine ⟨fun c => Cert.Proof.Model.h1F (Cert.Proof.KI.PA m c) (Cert.Proof.KI.RA m c), fun c => Cert.Proof.Model.yF (Cert.Proof.KI.PA m c) (Cert.Proof.KI.RA m c), fun c => Cert.Proof.Model.scoreF (Cert.Proof.KI.PA m c) (Cert.Proof.KI.RA m c), fun c => Cert.Proof.Model.hCodesF (Cert.Proof.KI.PA m c) (Cert.Proof.KI.RA m c), fun c => Cert.Proof.Model.hScalesF (Cert.Proof.KI.PA m c) (Cert.Proof.KI.RA m c), fun c => Cert.Proof.Model.gCodesF (Cert.Proof.KI.PA m c) (Cert.Proof.KI.RA m c), fun c => Cert.Proof.Model.gScalesF (Cert.Proof.KI.PA m c) (Cert.Proof.KI.RA m c), Cert.Proof.KI.run_results m g, ?_⟩
  refine (θ_run (Cert.ReferenceIdeal.defs (F := Ideal)) _ _).mono (fun r h c => ?_) (Cert.Proof.RI.run_results m' g' hs')
  obtain ⟨h0, h1, h2, h3, h4, h5, h6, rest⟩ := h c
  exact ⟨h0.trans (congrArg₂ Cert.Proof.Model.h1F (hP c) (hR c)), h1.trans (congrArg₂ Cert.Proof.Model.yF (hP c) (hR c)), h2.trans (congrArg₂ Cert.Proof.Model.scoreF (hP c) (hR c)), h3.trans (congrArg₂ Cert.Proof.Model.hCodesF (hP c) (hR c)), h4.trans (congrArg₂ Cert.Proof.Model.hScalesF (hP c) (hR c)), h5.trans (congrArg₂ Cert.Proof.Model.gCodesF (hP c) (hR c)), h6.trans (congrArg₂ Cert.Proof.Model.gScalesF (hP c) (hR c)), rest⟩

theorem claim : Cert.Claim := ⟨Cert.Kernel.Gen.facts, Cert.KernelIdeal.Gen.facts, Cert.ReferenceIdeal.Gen.facts, preFacts,
  fun m ρ _ => Cert.Proof.K.frame (F := Bits) m ρ, fun m ρ _ => Cert.Proof.KI.frame (F := Ideal) m ρ,
  fun m ρ _ => Cert.Proof.KI.frame (F := Ideal) m ρ,
  fun m ρ _ => Cert.ReferenceIdeal.Gen.frame (F := Ideal) m ρ,
  fun m ρ _ => Cert.ReferenceIdeal.Gen.frame (F := Ideal) m ρ,
  IdealRules.named_const.statement Cert.KernelIdeal.κ "inv_sqrt2" .f32 0x3F3504F3#32 (((Real.sqrt 2)⁻¹ : ℝ) : EReal) rfl,
  algebraic⟩

end Cert.Proof

end
